-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_merge [hPre_finite_merge : Cert.Pre_finite_merge.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_merge.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_merge [hPre_finite_merge : Cert.Pre_finite_merge.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_merge.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Kernel5Ideal_pre_finite_merge [hKernel5Ideal : Cert.Kernel5Ideal.Facts] [hPre_finite_merge : Cert.Pre_finite_merge.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_merge m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Reference5Ideal_pre_finite_merge [hReference5Ideal : Cert.Reference5Ideal.Facts] [hPre_finite_merge : Cert.Pre_finite_merge.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_merge m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "scale" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "never" .f32 0xC3170000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_2)) (v3 : (c : Dev Cert.KernelIdeal.nD) → Buf (Elt Ideal) ((c.tc : Thread Cert.KernelIdeal.nD Cert.KernelIdeal.τ).loc Cert.KernelIdeal.main_v26_3)) (v4 : (c : Dev Cert.KernelIdeal.nD) → Buf (Elt Ideal) ((c.tc : Thread Cert.KernelIdeal.nD Cert.KernelIdeal.τ).loc Cert.KernelIdeal.main_v26_4)) (v5 : (c : Dev Cert.KernelIdeal.nD) → Buf (Elt Ideal) ((c.tc : Thread Cert.KernelIdeal.nD Cert.KernelIdeal.τ).loc Cert.KernelIdeal.main_v26_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_2) = v2 c
          ∧ r.2.mem ((c.tc : Thread Cert.KernelIdeal.nD Cert.KernelIdeal.τ).loc Cert.KernelIdeal.main_v26_3) = v3 c
          ∧ r.2.mem ((c.tc : Thread Cert.KernelIdeal.nD Cert.KernelIdeal.τ).loc Cert.KernelIdeal.main_v26_4) = v4 c
          ∧ r.2.mem ((c.tc : Thread Cert.KernelIdeal.nD Cert.KernelIdeal.τ).loc Cert.KernelIdeal.main_v26_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_v31) = v4 c
          ∧ r.2.mem ((c.tc : Thread Cert.ReferenceIdeal.nD Cert.ReferenceIdeal.τ).loc Cert.ReferenceIdeal.main_v32) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite_merge [hKernel5Ideal : Cert.Kernel5Ideal.Facts] [hReference5Ideal : Cert.Reference5Ideal.Facts] [hPre_finite_merge : Cert.Pre_finite_merge.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_merge m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v57) = v0 c
          ∧ r.2.mem ((c.tc : Thread Cert.Reference5Ideal.nD Cert.Reference5Ideal.τ).loc Cert.Reference5Ideal.main_v72) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_merge : Cert.Pre_finite_merge.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_merge (hKernel5Ideal := hKernel5Ideal) (hPre_finite_merge := hPre_finite_merge)
    ∧ quiescent_Reference5Ideal (hReference5Ideal := hReference5Ideal)
    ∧ quiescent_Reference5Ideal_pre_finite_merge (hReference5Ideal := hReference5Ideal) (hPre_finite_merge := hPre_finite_merge)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_merge (hKernel5Ideal := hKernel5Ideal) (hReference5Ideal := hReference5Ideal) (hPre_finite_merge := hPre_finite_merge)
    ∧ preserves_Kernel6_Kernel6Ideal
    ∧ algebraic_Kernel6Ideal_Reference6Ideal (hKernel6Ideal := hKernel6Ideal) (hReference6Ideal := hReference6Ideal)
-- ==== Pre_finite.lean ====
abbrev S2x4096x11344 : Shape := ⟨3, ![2, 4096, 11344]⟩
abbrev S1024x2048 : Shape := ⟨2, ![1024, 2048]⟩
abbrev S2048x2048 : Shape := ⟨2, ![2048, 2048]⟩
abbrev S2048x512 : Shape := ⟨2, ![2048, 512]⟩
abbrev S512x2048 : Shape := ⟨2, ![512, 2048]⟩
abbrev S2x4096x2048 : Shape := ⟨3, ![2, 4096, 2048]⟩
abbrev S_ : Shape := ⟨0, ![]⟩

class Facts : Prop where
  slices_S2x4096x11344_S2x4096x2048_0_0_0 : S2x4096x11344.Slices ![0, 0, 0] S2x4096x2048
  bcast_S_S2x4096x2048 : S_.BroadcastsInDim S2x4096x2048 (![] : Fin 0 → Fin S2x4096x2048.rank)

variable [Facts]

def fn {F : FTy → Type} [FloatOps F] (main_arg0 : FVec F S2x4096x11344 .f32) (main_arg1 : FVec F S1024x2048 .f32) (main_arg2 : FVec F S1024x2048 .f32) (main_arg3 : FVec F S2048x2048 .f32) (main_arg4 : FVec F S2048x512 .f32) (main_arg5 : FVec F S512x2048 .f32) : IVec S2x4096x2048 1 :=
  let main_v0 : FVec F S2x4096x2048 .f32 := (extractStridedSlice S2x4096x2048 ![0, 0, 0] · slices_S2x4096x11344_S2x4096x2048_0_0_0) main_arg0
  let main_cst : FVec F S_ .f32 := constant S_ .f32 0xFF800000#32
  let main_v1 : FVec F S2x4096x2048 .f32 := broadcastInDim S2x4096x2048 ![] bcast_S_S2x4096x2048 main_cst
  let main_v2 : IVec S2x4096x2048 1 := cmpf .ogt main_v0 main_v1
  let main_cst_0 : FVec F S_ .f32 := constant S_ .f32 0x7F800000#32
  let main_v3 : FVec F S2x4096x2048 .f32 := broadcastInDim S2x4096x2048 ![] bcast_S_S2x4096x2048 main_cst_0
  let main_v4 : IVec S2x4096x2048 1 := cmpf .olt main_v0 main_v3
  let main_v5 : IVec S2x4096x2048 1 := andi main_v2 main_v4
  main_v5
-- ==== Pre_finite_merge.lean ====
abbrev S2x4096x1024 : Shape := ⟨3, ![2, 4096, 1024]⟩
abbrev S1024x2048 : Shape := ⟨2, ![1024, 2048]⟩
abbrev S2048x2048 : Shape := ⟨2, ![2048, 2048]⟩
abbrev S2x4096x11344 : Shape := ⟨3, ![2, 4096, 11344]⟩
abbrev S4096 : Shape := ⟨1, ![4096]⟩
abbrev S2x4096x2048 : Shape := ⟨3, ![2, 4096, 2048]⟩
abbrev S2x256x1024 : Shape := ⟨3, ![2, 256, 1024]⟩
abbrev S2048 : Shape := ⟨1, ![2048]⟩
abbrev S2048x512 : Shape := ⟨2, ![2048, 512]⟩
abbrev S512x2048 : Shape := ⟨2, ![512, 2048]⟩
abbrev S2x256x512 : Shape := ⟨3, ![2, 256, 512]⟩
abbrev S_ : Shape := ⟨0, ![]⟩

class Facts : Prop where
  slices_S2x256x1024_S2x256x512_0_0_0 : S2x256x1024.Slices ![0, 0, 0] S2x256x512
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg10 : FVec F S2048x512 .f32) (main_v14 : IVec S_ 1) (main_v15 : FVec F S2048x512 .f32) : IVec S_ 1 :=
  let main_v16 : IVec S2048x512 1 := cmpf .ogt main_arg10 main_v15
  let main_cst_6 : FVec F S_ .f32 := constant S_ .f32 0x7F800000#32
  let main_v17 : FVec F S2048x512 .f32 := broadcastInDim S2048x512 ![] bcast_S_S2048x512 main_cst_6
  let main_v18 : IVec S2048x512 1 := cmpf .olt main_arg10 main_v17
  let main_v19 : IVec S2048x512 1 := andi main_v16 main_v18
  let main_c_7 : IVec S_ 1 := constantI S_ 1 1#1
  let main_v20 : IVec S_ 1 := (fun x v => Host.reduce IntOp.andi x v reducesTo_S2048x512_S_d0_1 h_S_) main_v19 main_c_7
  let main_v21 : IVec S_ 1 := andi main_v14 main_v20
  main_v21

def fn {F : FTy → Type} [FloatOps F] (main_arg0 : FVec F S2x4096x1024 .f32) (main_arg1 : FVec F S2x4096x1024 .f32) (main_arg2 : FVec F S1024x2048 .f32) (main_arg3 : FVec F S1024x2048 .f32) (main_arg4 : FVec F S2048x2048 .f32) (main_arg5 : FVec F S2x4096x11344 .f32) (main_arg6 : FVec F S4096 .f32) (main_arg7 : FVec F S2x4096x2048 .f32) (main_arg8 : FVec F S2x256x1024 .f32) (main_arg9 : FVec F S2048 .f32) (main_arg10 : FVec F S2048x512 .f32) (main_arg11 : FVec F S512x2048 .f32) (main_arg12 : FVec F S2048 .f32) : IVec S_ 1 :=
  let main_v0 : FVec F S2x256x512 .f32 := (extractStridedSlice S2x256x512 ![0, 0, 0] · slices_S2x256x1024_S2x256x512_0_0_0) main_arg8
  let main_cst : FVec F S_ .f32 := constant S_ .f32 0xFF800000#32
  let main_v1 : FVec F S2x256x512 .f32 := broadcastInDim S2x256x512 ![] bcast_S_S2x256x512 main_cst
  let main_v2 : IVec S2x256x512 1 := cmpf .ogt main_v0 main_v1
  let main_cst_0 : FVec F S_ .f32 := constant S_ .f32 0x7F800000#32
  let main_v3 : FVec F S2x256x512 .f32 := broadcastInDim S2x256x512 ![] bcast_S_S2x256x512 main_cst_0
  let main_v4 : IVec S2x256x512 1 := cmpf .olt main_v0 main_v3
  let main_v5 : IVec S2x256x512 1 := andi main_v2 main_v4
  let main_c : IVec S_ 1 := constantI S_ 1 1#1
  let main_v6 : IVec S_ 1 := (fun x v => Host.reduce IntOp.andi x v reducesTo_S2x256x512_S_d0_1_2 h_S_) main_v5 main_c
  let main_c_1 : IVec S_ 1 := constantI S_ 1 1#1
  let main_v7 : IVec S_ 1 := andi main_c_1 main_v6
  let main_cst_2 : FVec F S_ .f32 := constant S_ .f32 0xFF800000#32
  let main_v8 : FVec F S2048 .f32 := broadcastInDim S2048 ![] bcast_S_S2048 main_cst_2
  let main_v9 : IVec S2048 1 := cmpf .ogt main_arg9 main_v8
  let main_cst_3 : FVec F S_ .f32 := constant S_ .f32 0x7F800000#32
  let main_v10 : FVec F S2048 .f32 := broadcastInDim S2048 ![] bcast_S_S2048 main_cst_3
  let main_v11 : IVec S2048 1 := cmpf .olt main_arg9 main_v10
  let main_v12 : IVec S2048 1 := andi main_v9 main_v11
  let main_c_4 : IVec S_ 1 := constantI S_ 1 1#1
  let main_v13 : IVec S_ 1 := (fun x v => Host.reduce IntOp.andi x v reducesTo_S2048_S_d0 h_S_) main_v12 main_c_4
  let main_v14 : IVec S_ 1 := andi main_v7 main_v13
  let main_cst_5 : FVec F S_ .f32 := constant S_ .f32 0xFF800000#32
  let main_v15 : FVec F S2048x512 .f32 := broadcastInDim S2048x512 ![] bcast_S_S2048x512 main_cst_5
  fn_part1 (F := F) main_arg10 main_v14 main_v15
-- ==== Kernel.lean ====
abbrev S2x4096x11344 : Shape := ⟨3, ![2, 4096, 11344]⟩
abbrev S1024x2048 : Shape := ⟨2, ![1024, 2048]⟩
abbrev S2048x2048 : Shape := ⟨2, ![2048, 2048]⟩
abbrev S2048x512 : Shape := ⟨2, ![2048, 512]⟩
abbrev S512x2048 : Shape := ⟨2, ![512, 2048]⟩
abbrev S8192x11344 : Shape := ⟨2, ![8192, 11344]⟩
abbrev S8192x1024 : Shape := ⟨2, ![8192, 1024]⟩
abbrev S8192x4096 : Shape := ⟨2, ![8192, 4096]⟩
abbrev S8192x9216 : Shape := ⟨2, ![8192, 9216]⟩
abbrev S2x16x256x1024 : Shape := ⟨4, ![2, 16, 256, 1024]⟩
abbrev S2x16x1024x256 : Shape := ⟨4, ![2, 16, 1024, 256]⟩
abbrev S1x2x16x1024x256 : Shape := ⟨5, ![1, 2, 16, 1024, 256]⟩
abbrev S2x2x16x1024x256 : Shape := ⟨5, ![2, 2, 16, 1024, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S256x1024 : Shape := ⟨2, ![256, 1024]⟩
abbrev S4096x1024 : Shape := ⟨2, ![4096, 1024]⟩
abbrev S1x1x16x1024x256 : Shape := ⟨5, ![1, 1, 16, 1024, 256]⟩
abbrev S32x2048 : Shape := ⟨2, ![32, 2048]⟩
abbrev S64x2048 : Shape := ⟨2, ![64, 2048]⟩
abbrev S64x512 : Shape := ⟨2, ![64, 512]⟩
abbrev S16x2048 : Shape := ⟨2, ![16, 2048]⟩
abbrev S2x8x256x256 : Shape := ⟨4, ![2, 8, 256, 256]⟩
abbrev S8x128x256 : Shape := ⟨3, ![8, 128, 256]⟩
abbrev S8x256 : Shape := ⟨2, ![8, 256]⟩
abbrev S256x128 : Shape := ⟨2, ![256, 128]⟩
abbrev S1x1x256x256 : Shape := ⟨4, ![1, 1, 256, 256]⟩
abbrev S1x128x256 : Shape := ⟨3, ![1, 128, 256]⟩
abbrev S128x256 : Shape := ⟨2, ![128, 256]⟩
abbrev S1x1x1x128x256 : Shape := ⟨5, ![1, 1, 1, 128, 256]⟩
abbrev S1x8x256 : Shape := ⟨3, ![1, 8, 256]⟩
abbrev S1 : Shape := ⟨1, ![1]⟩
abbrev S1x1x1 : Shape := ⟨3, ![1, 1, 1]⟩

abbrev nBuf : Space → Nat
  | .hbm => 38
  | .vmem => 32
  | .smem => 0
  | _ => 0

abbrev bufTy : (tb : Table) → Fin (tcTables nBuf tb) → BufTy
  | .hbm, ⟨0, _⟩ => ⟨S2x4096x11344, .f32⟩
  | .hbm, ⟨1, _⟩ => ⟨S1024x2048, .f32⟩
  | .hbm, ⟨2, _⟩ => ⟨S1024x2048, .f32⟩
  | .hbm, ⟨3, _⟩ => ⟨S2048x2048, .f32⟩
  | .hbm, ⟨4, _⟩ => ⟨S2048x512, .f32⟩
  | .hbm, ⟨5, _⟩ => ⟨S512x2048, .f32⟩
  | .hbm, ⟨6, _⟩ => ⟨S8192x11344, .f32⟩
  | .hbm, ⟨7, _⟩ => ⟨S8192x11344, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x1024, .bf16⟩
  | .hbm, ⟨15, _⟩ => ⟨S8192x4096, .bf16⟩
  | .hbm, ⟨16, _⟩ => ⟨S8192x9216, .bf16⟩
  | .hbm, ⟨17, _⟩ => ⟨S2x16x256x1024, .bf16⟩
  | .hbm, ⟨18, _⟩ => ⟨S2x16x1024x256, .bf16⟩
  | .hbm, ⟨19, _⟩ => ⟨S2x16x256x1024, .bf16⟩
  | .hbm, ⟨20, _⟩ => ⟨S2x16x1024x256, .bf16⟩
  | .hbm, ⟨21, _⟩ => ⟨S1x2x16x1024x256, .bf16⟩
  | .hbm, ⟨22, _⟩ => ⟨S1x2x16x1024x256, .bf16⟩
  | .hbm, ⟨23, _⟩ => ⟨S2x2x16x1024x256, .bf16⟩
  | .hbm, ⟨24, _⟩ => ⟨S256, .i32⟩
  | .hbm, ⟨25, _⟩ => ⟨S1x256, .i32⟩
  | .hbm, ⟨26, _⟩ => ⟨S256, .i32⟩
  | .hbm, ⟨27, _⟩ => ⟨S256x1, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S256x256, .bf16⟩
  | .hbm, ⟨32, _⟩ => ⟨S8192x1024, .bf16⟩
  | .hbm, ⟨33, _⟩ => ⟨S1024x2048, .bf16⟩
  | .hbm, ⟨34, _⟩ => ⟨S1024x2048, .bf16⟩
  | .hbm, ⟨35, _⟩ => ⟨S2048x2048, .bf16⟩
  | .hbm, ⟨36, _⟩ => ⟨S2048x512, .bf16⟩
  | .hbm, ⟨37, _⟩ => ⟨S512x2048, .bf16⟩
  | .local _ .vmem, ⟨0, _⟩ => ⟨S256x1024, .bf16⟩
  | .local _ .vmem, ⟨1, _⟩ => ⟨S256x1024, .bf16⟩
  | .local _ .vmem, ⟨2, _⟩ => ⟨S4096x1024, .bf16⟩
  | .local _ .vmem, ⟨3, _⟩ => ⟨S1x1x16x1024x256, .bf16⟩
  | .local _ .vmem, ⟨4, _⟩ => ⟨S256x256, .bf16⟩
  | .local _ .vmem, ⟨5, _⟩ => ⟨S32x2048, .f32⟩
  | .local _ .vmem, ⟨6, _⟩ => ⟨S32x2048, .f32⟩
  | .local _ .vmem, ⟨7, _⟩ => ⟨S32x2048, .f32⟩
  | .local _ .vmem, ⟨8, _⟩ => ⟨S32x2048, .f32⟩
  | .local _ .vmem, ⟨9, _⟩ => ⟨S64x2048, .f32⟩
  | .local _ .vmem, ⟨10, _⟩ => ⟨S64x2048, .f32⟩
  | .local _ .vmem, ⟨11, _⟩ => ⟨S64x512, .f32⟩
  | .local _ .vmem, ⟨12, _⟩ => ⟨S64x512, .f32⟩
  | .local _ .vmem, ⟨13, _⟩ => ⟨S16x2048, .f32⟩
  | .local _ .vmem, ⟨14, _⟩ => ⟨S16x2048, .f32⟩
  | .local _ .vmem, ⟨15, _⟩ => ⟨S256x1024, .bf16⟩
  | .local _ .vmem, ⟨16, _⟩ => ⟨S256x1024, .bf16⟩
  | .local _ .vmem, ⟨17, _⟩ => ⟨S32x2048, .bf16⟩
  | .local _ .vmem, ⟨18, _⟩ => ⟨S32x2048, .bf16⟩
  | .local _ .vmem, ⟨19, _⟩ => ⟨S32x2048, .bf16⟩
  | .local _ .vmem, ⟨20, _⟩ => ⟨S32x2048, .bf16⟩
  | .local _ .vmem, ⟨21, _⟩ => ⟨S64x2048, .bf16⟩
  | .local _ .vmem, ⟨22, _⟩ => ⟨S64x2048, .bf16⟩
  | .local _ .vmem, ⟨23, _⟩ => ⟨S64x512, .bf16⟩
  | .local _ .vmem, ⟨24, _⟩ => ⟨S64x512, .bf16⟩
  | .local _ .vmem, ⟨25, _⟩ => ⟨S16x2048, .bf16⟩
  | .local _ .vmem, ⟨26, _⟩ => ⟨S16x2048, .bf16⟩
  | .local _ .vmem, ⟨27, _⟩ => ⟨S256x1024, .bf16⟩
  | .local _ .vmem, ⟨28, _⟩ => ⟨S2x8x256x256, .f32⟩
  | .local _ .vmem, ⟨29, _⟩ => ⟨S2x8x256x256, .bf16⟩
  | .local _ .vmem, ⟨30, _⟩ => ⟨S2x8x256x256, .bf16⟩
  | .local _ .vmem, ⟨31, _⟩ => ⟨S8x128x256, .f32⟩
  | _, _ => ⟨S2x4096x11344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev main_v26_2 : Ref sig .tc := ⟨.hbm, 34, rfl⟩
abbrev main_v26_3 : Ref sig .tc := ⟨.hbm, 35, rfl⟩
abbrev main_v26_4 : Ref sig .tc := ⟨.hbm, 36, rfl⟩
abbrev main_v26_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c1_i32 : BitVec 32 := 1#32
  let v32 : BitVec 1 := Scalar.cmpi .sge arg1 c1_i32
  let v33 : BitVec 32 := Scalar.extui v32
  let c0_i32 : BitVec 32 := 0#32
  let v34 : BitVec 1 := Scalar.cmpi .ne v33 c0_i32
  v34

def k0_mult1 (i : grid0.Coords) : BitVec 32 :=
  let arg1 : BitVec 32 := BitVec.ofNat 32 (i 1).val
  let c256_i32 : BitVec 32 := 256#32
  let v82 : BitVec 32 := Scalar.muli arg1 c256_i32
  v82
def k0_off1 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v84 : Index := Scalar.indexCast v83
  let c0_55 : Index := 0#32
  ![v84.toNat, 0]
def k0_off2 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v110 : Index := Scalar.indexCast v83
  let c128_72 : Index := 128#32
  ![v110.toNat, 128]
def k0_off3 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v136 : Index := Scalar.indexCast v83
  let c256_89 : Index := 256#32
  ![v136.toNat, 256]
def k0_off4 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v162 : Index := Scalar.indexCast v83
  let c384_106 : Index := 384#32
  ![v162.toNat, 384]
def k0_off5 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v188 : Index := Scalar.indexCast v83
  let c512_123 : Index := 512#32
  ![v188.toNat, 512]
def k0_off6 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v214 : Index := Scalar.indexCast v83
  let c640_140 : Index := 640#32
  ![v214.toNat, 640]
def k0_off7 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v240 : Index := Scalar.indexCast v83
  let c768_157 : Index := 768#32
  ![v240.toNat, 768]
def k0_off8 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v266 : Index := Scalar.indexCast v83
  let c896_174 : Index := 896#32
  ![v266.toNat, 896]
def k0_mult2 (i : grid0.Coords) : BitVec 32 :=
  let arg1 : BitVec 32 := BitVec.ofNat 32 (i 1).val
  let c1_i32_191 : BitVec 32 := 1#32
  let v292 : BitVec 32 := Scalar.subi arg1 c1_i32_191
  let c256_i32_192 : BitVec 32 := 256#32
  let v293 : BitVec 32 := Scalar.muli v292 c256_i32_192
  v293
def k0_off9 (i : grid0.Coords) : Fin 2 → Nat :=
  let arg1 : BitVec 32 := BitVec.ofNat 32 (i 1).val
  let c1_i32_191 : BitVec 32 := 1#32
  let v292 : BitVec 32 := Scalar.subi arg1 c1_i32_191
  let c256_i32_192 : BitVec 32 := 256#32
  let v293 : BitVec 32 := Scalar.muli v292 c256_i32_192
  let v294 : BitVec 32 := v293
  let v295 : Index := Scalar.indexCast v294
  let c0_193 : Index := 0#32
  ![v295.toNat, 0]
def k0_off10 (i : grid0.Coords) : Fin 2 → Nat :=
  let arg1 : BitVec 32 := BitVec.ofNat 32 (i 1).val
  let c1_i32_191 : BitVec 32 := 1#32
  let v292 : BitVec 32 := Scalar.subi arg1 c1_i32_191
  let c256_i32_192 : BitVec 32 := 256#32
  let v293 : BitVec 32 := Scalar.muli v292 c256_i32_192
  let v294 : BitVec 32 := v293
  let v319 : Index := Scalar.indexCast v294
  let c128_209 : Index := 128#32
  ![v319.toNat, 128]
def k0_off11 (i : grid0.Coords) : Fin 2 → Nat :=
  let arg1 : BitVec 32 := BitVec.ofNat 32 (i 1).val
  let c1_i32_191 : BitVec 32 := 1#32
  let v292 : BitVec 32 := Scalar.subi arg1 c1_i32_191
  let c256_i32_192 : BitVec 32 := 256#32
  let v293 : BitVec 32 := Scalar.muli v292 c256_i32_192
  let v294 : BitVec 32 := v293
  let v343 : Index := Scalar.indexCast v294
  let c256_225 : Index := 256#32
  ![v343.toNat, 256]
def k0_off12 (i : grid0.Coords) : Fin 2 → Nat :=
  let arg1 : BitVec 32 := BitVec.ofNat 32 (i 1).val
  let c1_i32_191 : BitVec 32 := 1#32
  let v292 : BitVec 32 := Scalar.subi arg1 c1_i32_191
  let c256_i32_192 : BitVec 32 := 256#32
  let v293 : BitVec 32 := Scalar.muli v292 c256_i32_192
  let v294 : BitVec 32 := v293
  let v367 : Index := Scalar.indexCast v294
  let c384_241 : Index := 384#32
  ![v367.toNat, 384]
def k0_off13 (i : grid0.Coords) : Fin 2 → Nat :=
  let arg1 : BitVec 32 := BitVec.ofNat 32 (i 1).val
  let c1_i32_191 : BitVec 32 := 1#32
  let v292 : BitVec 32 := Scalar.subi arg1 c1_i32_191
  let c256_i32_192 : BitVec 32 := 256#32
  let v293 : BitVec 32 := Scalar.muli v292 c256_i32_192
  let v294 : BitVec 32 := v293
  let v391 : Index := Scalar.indexCast v294
  let c512_257 : Index := 512#32
  ![v391.toNat, 512]
def k0_off14 (i : grid0.Coords) : Fin 2 → Nat :=
  let arg1 : BitVec 32 := BitVec.ofNat 32 (i 1).val
  let c1_i32_191 : BitVec 32 := 1#32
  let v292 : BitVec 32 := Scalar.subi arg1 c1_i32_191
  let c256_i32_192 : BitVec 32 := 256#32
  let v293 : BitVec 32 := Scalar.muli v292 c256_i32_192
  let v294 : BitVec 32 := v293
  let v415 : Index := Scalar.indexCast v294
  let c640_273 : Index := 640#32
  ![v415.toNat, 640]
def k0_off15 (i : grid0.Coords) : Fin 2 → Nat :=
  let arg1 : BitVec 32 := BitVec.ofNat 32 (i 1).val
  let c1_i32_191 : BitVec 32 := 1#32
  let v292 : BitVec 32 := Scalar.subi arg1 c1_i32_191
  let c256_i32_192 : BitVec 32 := 256#32
  let v293 : BitVec 32 := Scalar.muli v292 c256_i32_192
  let v294 : BitVec 32 := v293
  let v439 : Index := Scalar.indexCast v294
  let c768_289 : Index := 768#32
  ![v439.toNat, 768]
def k0_off16 (i : grid0.Coords) : Fin 2 → Nat :=
  let arg1 : BitVec 32 := BitVec.ofNat 32 (i 1).val
  let c1_i32_191 : BitVec 32 := 1#32
  let v292 : BitVec 32 := Scalar.subi arg1 c1_i32_191
  let c256_i32_192 : BitVec 32 := 256#32
  let v293 : BitVec 32 := Scalar.muli v292 c256_i32_192
  let v294 : BitVec 32 := v293
  let v463 : Index := Scalar.indexCast v294
  let c896_305 : Index := 896#32
  ![v463.toNat, 896]
def k0_off17 (i : grid0.Coords) : Fin 5 → Nat :=
  let c0_572 : Index := 0#32
  let c0_573 : Index := 0#32
  let arg1 : BitVec 32 := BitVec.ofNat 32 (i 1).val
  let v779 : Index := Scalar.indexCast arg1
  let c0_574 : Index := 0#32
  let c0_575 : Index := 0#32
  ![0, 0, v779.toNat, 0, 0]
def k0_off18 (i : grid0.Coords) : Fin 5 → Nat :=
  let c0_587 : Index := 0#32
  let c0_588 : Index := 0#32
  let arg1 : BitVec 32 := BitVec.ofNat 32 (i 1).val
  let v791 : Index := Scalar.indexCast arg1
  let c128_589 : Index := 128#32
  let c0_590 : Index := 0#32
  ![0, 0, v791.toNat, 128, 0]
def k0_off19 (i : grid0.Coords) : Fin 5 → Nat :=
  let c0_602 : Index := 0#32
  let c0_603 : Index := 0#32
  let arg1 : BitVec 32 := BitVec.ofNat 32 (i 1).val
  let v803 : Index := Scalar.indexCast arg1
  let c256_604 : Index := 256#32
  let c0_605 : Index := 0#32
  ![0, 0, v803.toNat, 256, 0]
def k0_off20 (i : grid0.Coords) : Fin 5 → Nat :=
  let c0_617 : Index := 0#32
  let c0_618 : Index := 0#32
  let arg1 : BitVec 32 := BitVec.ofNat 32 (i 1).val
  let v815 : Index := Scalar.indexCast arg1
  let c384_619 : Index := 384#32
  let c0_620 : Index := 0#32
  ![0, 0, v815.toNat, 384, 0]
def k0_off21 (i : grid0.Coords) : Fin 5 → Nat :=
  let c0_632 : Index := 0#32
  let c0_633 : Index := 0#32
  let arg1 : BitVec 32 := BitVec.ofNat 32 (i 1).val
  let v827 : Index := Scalar.indexCast arg1
  let c512_634 : Index := 512#32
  let c0_635 : Index := 0#32
  ![0, 0, v827.toNat, 512, 0]
def k0_off22 (i : grid0.Coords) : Fin 5 → Nat :=
  let c0_647 : Index := 0#32
  let c0_648 : Index := 0#32
  let arg1 : BitVec 32 := BitVec.ofNat 32 (i 1).val
  let v839 : Index := Scalar.indexCast arg1
  let c640_649 : Index := 640#32
  let c0_650 : Index := 0#32
  ![0, 0, v839.toNat, 640, 0]
def k0_off23 (i : grid0.Coords) : Fin 5 → Nat :=
  let c0_662 : Index := 0#32
  let c0_663 : Index := 0#32
  let arg1 : BitVec 32 := BitVec.ofNat 32 (i 1).val
  let v851 : Index := Scalar.indexCast arg1
  let c768_664 : Index := 768#32
  let c0_665 : Index := 0#32
  ![0, 0, v851.toNat, 768, 0]
def k0_off24 (i : grid0.Coords) : Fin 5 → Nat :=
  let c0_677 : Index := 0#32
  let c0_678 : Index := 0#32
  let arg1 : BitVec 32 := BitVec.ofNat 32 (i 1).val
  let v863 : Index := Scalar.indexCast arg1
  let c896_679 : Index := 896#32
  let c0_680 : Index := 0#32
  ![0, 0, v863.toNat, 896, 0]
def k0_off25 (i : grid0.Coords) : Fin 5 → Nat :=
  let c0_693 : Index := 0#32
  let c0_694 : Index := 0#32
  let arg1 : BitVec 32 := BitVec.ofNat 32 (i 1).val
  let c1_i32_689 : BitVec 32 := 1#32
  let v873 : BitVec 32 := Scalar.subi arg1 c1_i32_689
  let v876 : Index := Scalar.indexCast v873
  let c0_695 : Index := 0#32
  let c0_696 : Index := 0#32
  ![0, 0, v876.toNat, 0, 0]
def k0_off26 (i : grid0.Coords) : Fin 5 → Nat :=
  let c0_708 : Index := 0#32
  let c0_709 : Index := 0#32
  let arg1 : BitVec 32 := BitVec.ofNat 32 (i 1).val
  let c1_i32_689 : BitVec 32 := 1#32
  let v873 : BitVec 32 := Scalar.subi arg1 c1_i32_689
  let v888 : Index := Scalar.indexCast v873
  let c128_710 : Index := 128#32
  let c0_711 : Index := 0#32
  ![0, 0, v888.toNat, 128, 0]
def k0_off27 (i : grid0.Coords) : Fin 5 → Nat :=
  let c0_723 : Index := 0#32
  let c0_724 : Index := 0#32
  let arg1 : BitVec 32 := BitVec.ofNat 32 (i 1).val
  let c1_i32_689 : BitVec 32 := 1#32
  let v873 : BitVec 32 := Scalar.subi arg1 c1_i32_689
  let v900 : Index := Scalar.indexCast v873
  let c256_725 : Index := 256#32
  let c0_726 : Index := 0#32
  ![0, 0, v900.toNat, 256, 0]
def k0_off28 (i : grid0.Coords) : Fin 5 → Nat :=
  let c0_738 : Index := 0#32
  let c0_739 : Index := 0#32
  let arg1 : BitVec 32 := BitVec.ofNat 32 (i 1).val
  let c1_i32_689 : BitVec 32 := 1#32
  let v873 : BitVec 32 := Scalar.subi arg1 c1_i32_689
  let v912 : Index := Scalar.indexCast v873
  let c384_740 : Index := 384#32
  let c0_741 : Index := 0#32
  ![0, 0, v912.toNat, 384, 0]
def k0_off29 (i : grid0.Coords) : Fin 5 → Nat :=
  let c0_753 : Index := 0#32
  let c0_754 : Index := 0#32
  let arg1 : BitVec 32 := BitVec.ofNat 32 (i 1).val
  let c1_i32_689 : BitVec 32 := 1#32
  let v873 : BitVec 32 := Scalar.subi arg1 c1_i32_689
  let v924 : Index := Scalar.indexCast v873
  let c512_755 : Index := 512#32
  let c0_756 : Index := 0#32
  ![0, 0, v924.toNat, 512, 0]
def k0_off30 (i : grid0.Coords) : Fin 5 → Nat :=
  let c0_768 : Index := 0#32
  let c0_769 : Index := 0#32
  let arg1 : BitVec 32 := BitVec.ofNat 32 (i 1).val
  let c1_i32_689 : BitVec 32 := 1#32
  let v873 : BitVec 32 := Scalar.subi arg1 c1_i32_689
  let v936 : Index := Scalar.indexCast v873
  let c640_770 : Index := 640#32
  let c0_771 : Index := 0#32
  ![0, 0, v936.toNat, 640, 0]
def k0_off31 (i : grid0.Coords) : Fin 5 → Nat :=
  let c0_783 : Index := 0#32
  let c0_784 : Index := 0#32
  let arg1 : BitVec 32 := BitVec.ofNat 32 (i 1).val
  let c1_i32_689 : BitVec 32 := 1#32
  let v873 : BitVec 32 := Scalar.subi arg1 c1_i32_689
  let v948 : Index := Scalar.indexCast v873
  let c768_785 : Index := 768#32
  let c0_786 : Index := 0#32
  ![0, 0, v948.toNat, 768, 0]
def k0_off32 (i : grid0.Coords) : Fin 5 → Nat :=
  let c0_798 : Index := 0#32
  let c0_799 : Index := 0#32
  let arg1 : BitVec 32 := BitVec.ofNat 32 (i 1).val
  let c1_i32_689 : BitVec 32 := 1#32
  let v873 : BitVec 32 := Scalar.subi arg1 c1_i32_689
  let v960 : Index := Scalar.indexCast v873
  let c896_800 : Index := 896#32
  let c0_801 : Index := 0#32
  ![0, 0, v960.toNat, 896, 0]
def k0_mult3 (i : grid0.Coords) : BitVec 32 :=
  let arg1 : BitVec 32 := BitVec.ofNat 32 (i 1).val
  let c256_i32 : BitVec 32 := 256#32
  let v82 : BitVec 32 := Scalar.muli arg1 c256_i32
  v82
def k0_off33 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v84 : Index := Scalar.indexCast v83
  let c0_55 : Index := 0#32
  ![v84.toNat, 0]
def k0_off34 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v110 : Index := Scalar.indexCast v83
  let c128_72 : Index := 128#32
  ![v110.toNat, 128]
def k0_off35 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v136 : Index := Scalar.indexCast v83
  let c256_89 : Index := 256#32
  ![v136.toNat, 256]
def k0_off36 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v162 : Index := Scalar.indexCast v83
  let c384_106 : Index := 384#32
  ![v162.toNat, 384]
def k0_off37 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v188 : Index := Scalar.indexCast v83
  let c512_123 : Index := 512#32
  ![v188.toNat, 512]
def k0_off38 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v214 : Index := Scalar.indexCast v83
  let c640_140 : Index := 640#32
  ![v214.toNat, 640]
def k0_off39 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v240 : Index := Scalar.indexCast v83
  let c768_157 : Index := 768#32
  ![v240.toNat, 768]
def k0_off40 (i : grid0.Coords) : Fin 2 → Nat :=
  let arg1 : BitVec 32 := BitVec.ofNat 32 (i 1).val
  let c256_i32 : BitVec 32 := 256#32
  let v82 : BitVec 32 := Scalar.muli arg1 c256_i32
  let v83 : BitVec 32 := v82
  let v266 : Index := Scalar.indexCast v83
  let c896_174 : Index := 896#32
  ![v266.toNat, 896]
def k0_off41 (i : grid0.Coords) : Fin 5 → Nat :=
  let c0_322 : Index := 0#32
  let c0_323 : Index := 0#32
  let arg1 : BitVec 32 := BitVec.ofNat 32 (i 1).val
  let v447 : Index := Scalar.indexCast arg1
  let c0_324 : Index := 0#32
  let c0_325 : Index := 0#32
  ![0, 0, v447.toNat, 0, 0]
def k0_off42 (i : grid0.Coords) : Fin 5 → Nat :=
  let c0_337 : Index := 0#32
  let c0_338 : Index := 0#32
  let arg1 : BitVec 32 := BitVec.ofNat 32 (i 1).val
  let v459 : Index := Scalar.indexCast arg1
  let c128_339 : Index := 128#32
  let c0_340 : Index := 0#32
  ![0, 0, v459.toNat, 128, 0]
def k0_off43 (i : grid0.Coords) : Fin 5 → Nat :=
  let c0_352 : Index := 0#32
  let c0_353 : Index := 0#32
  let arg1 : BitVec 32 := BitVec.ofNat 32 (i 1).val
  let v471 : Index := Scalar.indexCast arg1
  let c256_354 : Index := 256#32
  let c0_355 : Index := 0#32
  ![0, 0, v471.toNat, 256, 0]
def k0_off44 (i : grid0.Coords) : Fin 5 → Nat :=
  let c0_367 : Index := 0#32
  let c0_368 : Index := 0#32
  let arg1 : BitVec 32 := BitVec.ofNat 32 (i 1).val
  let v483 : Index := Scalar.indexCast arg1
  let c384_369 : Index := 384#32
  let c0_370 : Index := 0#32
  ![0, 0, v483.toNat, 384, 0]
def k0_off45 (i : grid0.Coords) : Fin 5 → Nat :=
  let c0_382 : Index := 0#32
  let c0_383 : Index := 0#32
  let arg1 : BitVec 32 := BitVec.ofNat 32 (i 1).val
  let v495 : Index := Scalar.indexCast arg1
  let c512_384 : Index := 512#32
  let c0_385 : Index := 0#32
  ![0, 0, v495.toNat, 512, 0]
def k0_off46 (i : grid0.Coords) : Fin 5 → Nat :=
  let c0_397 : Index := 0#32
  let c0_398 : Index := 0#32
  let arg1 : BitVec 32 := BitVec.ofNat 32 (i 1).val
  let v507 : Index := Scalar.indexCast arg1
  let c640_399 : Index := 640#32
  let c0_400 : Index := 0#32
  ![0, 0, v507.toNat, 640, 0]
def k0_off47 (i : grid0.Coords) : Fin 5 → Nat :=
  let c0_412 : Index := 0#32
  let c0_413 : Index := 0#32
  let arg1 : BitVec 32 := BitVec.ofNat 32 (i 1).val
  let v519 : Index := Scalar.indexCast arg1
  let c768_414 : Index := 768#32
  let c0_415 : Index := 0#32
  ![0, 0, v519.toNat, 768, 0]
def k0_off48 (i : grid0.Coords) : Fin 5 → Nat :=
  let c0_427 : Index := 0#32
  let c0_428 : Index := 0#32
  let arg1 : BitVec 32 := BitVec.ofNat 32 (i 1).val
  let v531 : Index := Scalar.indexCast arg1
  let c896_429 : Index := 896#32
  let c0_430 : Index := 0#32
  ![0, 0, v531.toNat, 896, 0]
def k0_mult4 (arg22 : BitVec 32) : BitVec 32 :=
  let c256_i32 : BitVec 32 := 256#32
  let v82 : BitVec 32 := Scalar.muli arg22 c256_i32
  v82

def k0_off49 (arg22 : BitVec 32) : Fin 2 → Nat :=
  let c256_i32 : BitVec 32 := 256#32
  let v82 : BitVec 32 := Scalar.muli arg22 c256_i32
  let v83 : BitVec 32 := v82
  let v84 : Index := Scalar.indexCast v83
  let c0_55 : Index := 0#32
  ![v84.toNat, 0]
def k0_off50 (arg22 : BitVec 32) : Fin 2 → Nat :=
  let c256_i32 : BitVec 32 := 256#32
  let v82 : BitVec 32 := Scalar.muli arg22 c256_i32
  let v83 : BitVec 32 := v82
  let v108 : Index := Scalar.indexCast v83
  let c128_71 : Index := 128#32
  ![v108.toNat, 128]
def k0_off51 (arg22 : BitVec 32) : Fin 2 → Nat :=
  let c256_i32 : BitVec 32 := 256#32
  let v82 : BitVec 32 := Scalar.muli arg22 c256_i32
  let v83 : BitVec 32 := v82
  let v132 : Index := Scalar.indexCast v83
  let c256_87 : Index := 256#32
  ![v132.toNat, 256]
def k0_off52 (arg22 : BitVec 32) : Fin 2 → Nat :=
  let c256_i32 : BitVec 32 := 256#32
  let v82 : BitVec 32 := Scalar.muli arg22 c256_i32
  let v83 : BitVec 32 := v82
  let v156 : Index := Scalar.indexCast v83
  let c384_103 : Index := 384#32
  ![v156.toNat, 384]
def k0_off53 (arg22 : BitVec 32) : Fin 2 → Nat :=
  let c256_i32 : BitVec 32 := 256#32
  let v82 : BitVec 32 := Scalar.muli arg22 c256_i32
  let v83 : BitVec 32 := v82
  let v180 : Index := Scalar.indexCast v83
  let c512_119 : Index := 512#32
  ![v180.toNat, 512]
def k0_off54 (arg22 : BitVec 32) : Fin 2 → Nat :=
  let c256_i32 : BitVec 32 := 256#32
  let v82 : BitVec 32 := Scalar.muli arg22 c256_i32
  let v83 : BitVec 32 := v82
  let v204 : Index := Scalar.indexCast v83
  let c640_135 : Index := 640#32
  ![v204.toNat, 640]
def k0_off55 (arg22 : BitVec 32) : Fin 2 → Nat :=
  let c256_i32 : BitVec 32 := 256#32
  let v82 : BitVec 32 := Scalar.muli arg22 c256_i32
  let v83 : BitVec 32 := v82
  let v228 : Index := Scalar.indexCast v83
  let c768_151 : Index := 768#32
  ![v228.toNat, 768]
def k0_off56 (arg22 : BitVec 32) : Fin 2 → Nat :=
  let c256_i32 : BitVec 32 := 256#32
  let v82 : BitVec 32 := Scalar.muli arg22 c256_i32
  let v83 : BitVec 32 := v82
  let v252 : Index := Scalar.indexCast v83
  let c896_167 : Index := 896#32
  ![v252.toNat, 896]
def k0_off57 (arg22 : BitVec 32) : Fin 5 → Nat :=
  let c0_306 : Index := 0#32
  let c0_307 : Index := 0#32
  let v415 : Index := Scalar.indexCast arg22
  let c0_308 : Index := 0#32
  let c0_309 : Index := 0#32
  ![0, 0, v415.toNat, 0, 0]
def k0_off58 (arg22 : BitVec 32) : Fin 5 → Nat :=
  let c0_321 : Index := 0#32
  let c0_322 : Index := 0#32
  let v427 : Index := Scalar.indexCast arg22
  let c128_323 : Index := 128#32
  let c0_324 : Index := 0#32
  ![0, 0, v427.toNat, 128, 0]
def k0_off59 (arg22 : BitVec 32) : Fin 5 → Nat :=
  let c0_336 : Index := 0#32
  let c0_337 : Index := 0#32
  let v439 : Index := Scalar.indexCast arg22
  let c256_338 : Index := 256#32
  let c0_339 : Index := 0#32
  ![0, 0, v439.toNat, 256, 0]
def k0_off60 (arg22 : BitVec 32) : Fin 5 → Nat :=
  let c0_351 : Index := 0#32
  let c0_352 : Index := 0#32
  let v451 : Index := Scalar.indexCast arg22
  let c384_353 : Index := 384#32
  let c0_354 : Index := 0#32
  ![0, 0, v451.toNat, 384, 0]
def k0_off61 (arg22 : BitVec 32) : Fin 5 → Nat :=
  let c0_366 : Index := 0#32
  let c0_367 : Index := 0#32
  let v463 : Index := Scalar.indexCast arg22
  let c512_368 : Index := 512#32
  let c0_369 : Index := 0#32
  ![0, 0, v463.toNat, 512, 0]
def k0_off62 (arg22 : BitVec 32) : Fin 5 → Nat :=
  let c0_381 : Index := 0#32
  let c0_382 : Index := 0#32
  let v475 : Index := Scalar.indexCast arg22
  let c640_383 : Index := 640#32
  let c0_384 : Index := 0#32
  ![0, 0, v475.toNat, 640, 0]
def k0_off63 (arg22 : BitVec 32) : Fin 5 → Nat :=
  let c0_396 : Index := 0#32
  let c0_397 : Index := 0#32
  let v487 : Index := Scalar.indexCast arg22
  let c768_398 : Index := 768#32
  let c0_399 : Index := 0#32
  ![0, 0, v487.toNat, 768, 0]
def k0_off64 (arg22 : BitVec 32) : Fin 5 → Nat :=
  let c0_411 : Index := 0#32
  let c0_412 : Index := 0#32
  let v499 : Index := Scalar.indexCast arg22
  let c896_413 : Index := 896#32
  let c0_414 : Index := 0#32
  ![0, 0, v499.toNat, 896, 0]

def k0_chk1 (arg22 : BitVec 32) : Prop :=
  (256 ∣ (k0_mult4 arg22).toNat) ∧
  (∀ a, (k0_off49 arg22) a + S256x128.size a ≤ S4096x1024.size a) ∧
  (∀ a, (k0_off50 arg22) a + S256x128.size a ≤ S4096x1024.size a) ∧
  (∀ a, (k0_off51 arg22) a + S256x128.size a ≤ S4096x1024.size a) ∧
  (∀ a, (k0_off52 arg22) a + S256x128.size a ≤ S4096x1024.size a) ∧
  (∀ a, (k0_off53 arg22) a + S256x128.size a ≤ S4096x1024.size a) ∧
  (∀ a, (k0_off54 arg22) a + S256x128.size a ≤ S4096x1024.size a) ∧
  (∀ a, (k0_off55 arg22) a + S256x128.size a ≤ S4096x1024.size a) ∧
  (∀ a, (k0_off56 arg22) a + S256x128.size a ≤ S4096x1024.size a) ∧
  (∀ a, (k0_off57 arg22) a + S1x1x1x128x256.size a ≤ S1x1x16x1024x256.size a) ∧
  (∀ a, (k0_off58 arg22) a + S1x1x1x128x256.size a ≤ S1x1x16x1024x256.size a) ∧
  (∀ a, (k0_off59 arg22) a + S1x1x1x128x256.size a ≤ S1x1x16x1024x256.size a) ∧
  (∀ a, (k0_off60 arg22) a + S1x1x1x128x256.size a ≤ S1x1x16x1024x256.size a) ∧
  (∀ a, (k0_off61 arg22) a + S1x1x1x128x256.size a ≤ S1x1x16x1024x256.size a) ∧
  (∀ a, (k0_off62 arg22) a + S1x1x1x128x256.size a ≤ S1x1x16x1024x256.size a) ∧
  (∀ a, (k0_off63 arg22) a + S1x1x1x128x256.size a ≤ S1x1x16x1024x256.size a) ∧
  (∀ a, (k0_off64 arg22) a + S1x1x1x128x256.size a ≤ S1x1x16x1024x256.size a)
theorem k0_mult4_dvd : ∀ (arg22 : BitVec 32) (k0_hw1 : k0_chk1 arg22), 256 ∣ (k0_mult4 arg22).toNat := fun arg22 k0_hw1 => k0_hw1.1
theorem k0_off49_inb : ∀ (arg22 : BitVec 32) (k0_hw1 : k0_chk1 arg22), ∀ a, (k0_off49 arg22) a + S256x128.size a ≤ S4096x1024.size a := fun arg22 k0_hw1 => k0_hw1.2.1
theorem k0_off50_inb : ∀ (arg22 : BitVec 32) (k0_hw1 : k0_chk1 arg22), ∀ a, (k0_off50 arg22) a + S256x128.size a ≤ S4096x1024.size a := fun arg22 k0_hw1 => k0_hw1.2.2.1
theorem k0_off51_inb : ∀ (arg22 : BitVec 32) (k0_hw1 : k0_chk1 arg22), ∀ a, (k0_off51 arg22) a + S256x128.size a ≤ S4096x1024.size a := fun arg22 k0_hw1 => k0_hw1.2.2.2.1
theorem k0_off52_inb : ∀ (arg22 : BitVec 32) (k0_hw1 : k0_chk1 arg22), ∀ a, (k0_off52 arg22) a + S256x128.size a ≤ S4096x1024.size a := fun arg22 k0_hw1 => k0_hw1.2.2.2.2.1
theorem k0_off53_inb : ∀ (arg22 : BitVec 32) (k0_hw1 : k0_chk1 arg22), ∀ a, (k0_off53 arg22) a + S256x128.size a ≤ S4096x1024.size a := fun arg22 k0_hw1 => k0_hw1.2.2.2.2.2.1
theorem k0_off54_inb : ∀ (arg22 : BitVec 32) (k0_hw1 : k0_chk1 arg22), ∀ a, (k0_off54 arg22) a + S256x128.size a ≤ S4096x1024.size a := fun arg22 k0_hw1 => k0_hw1.2.2.2.2.2.2.1
theorem k0_off55_inb : ∀ (arg22 : BitVec 32) (k0_hw1 : k0_chk1 arg22), ∀ a, (k0_off55 arg22) a + S256x128.size a ≤ S4096x1024.size a := fun arg22 k0_hw1 => k0_hw1.2.2.2.2.2.2.2.1
theorem k0_off56_inb : ∀ (arg22 : BitVec 32) (k0_hw1 : k0_chk1 arg22), ∀ a, (k0_off56 arg22) a + S256x128.size a ≤ S4096x1024.size a := fun arg22 k0_hw1 => k0_hw1.2.2.2.2.2.2.2.2.1
theorem k0_off57_inb : ∀ (arg22 : BitVec 32) (k0_hw1 : k0_chk1 arg22), ∀ a, (k0_off57 arg22) a + S1x1x1x128x256.size a ≤ S1x1x16x1024x256.size a := fun arg22 k0_hw1 => k0_hw1.2.2.2.2.2.2.2.2.2.1
theorem k0_off58_inb : ∀ (arg22 : BitVec 32) (k0_hw1 : k0_chk1 arg22), ∀ a, (k0_off58 arg22) a + S1x1x1x128x256.size a ≤ S1x1x16x1024x256.size a := fun arg22 k0_hw1 => k0_hw1.2.2.2.2.2.2.2.2.2.2.1
theorem k0_off59_inb : ∀ (arg22 : BitVec 32) (k0_hw1 : k0_chk1 arg22), ∀ a, (k0_off59 arg22) a + S1x1x1x128x256.size a ≤ S1x1x16x1024x256.size a := fun arg22 k0_hw1 => k0_hw1.2.2.2.2.2.2.2.2.2.2.2.1
theorem k0_off60_inb : ∀ (arg22 : BitVec 32) (k0_hw1 : k0_chk1 arg22), ∀ a, (k0_off60 arg22) a + S1x1x1x128x256.size a ≤ S1x1x16x1024x256.size a := fun arg22 k0_hw1 => k0_hw1.2.2.2.2.2.2.2.2.2.2.2.2.1
theorem k0_off61_inb : ∀ (arg22 : BitVec 32) (k0_hw1 : k0_chk1 arg22), ∀ a, (k0_off61 arg22) a + S1x1x1x128x256.size a ≤ S1x1x16x1024x256.size a := fun arg22 k0_hw1 => k0_hw1.2.2.2.2.2.2.2.2.2.2.2.2.2.1
theorem k0_off62_inb : ∀ (arg22 : BitVec 32) (k0_hw1 : k0_chk1 arg22), ∀ a, (k0_off62 arg22) a + S1x1x1x128x256.size a ≤ S1x1x16x1024x256.size a := fun arg22 k0_hw1 => k0_hw1.2.2.2.2.2.2.2.2.2.2.2.2.2.2.1
theorem k0_off63_inb : ∀ (arg22 : BitVec 32) (k0_hw1 : k0_chk1 arg22), ∀ a, (k0_off63 arg22) a + S1x1x1x128x256.size a ≤ S1x1x16x1024x256.size a := fun arg22 k0_hw1 => k0_hw1.2.2.2.2.2.2.2.2.2.2.2.2.2.2.2.1
theorem k0_off64_inb : ∀ (arg22 : BitVec 32) (k0_hw1 : k0_chk1 arg22), ∀ a, (k0_off64 arg22) a + S1x1x1x128x256.size a ≤ S1x1x16x1024x256.size a := fun arg22 k0_hw1 => k0_hw1.2.2.2.2.2.2.2.2.2.2.2.2.2.2.2.2

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1x16x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "log2e" => some (((Real.log 2)⁻¹ : ℝ) : EReal)
  | "never" => some ⊥
  | "scale" => some (((11863283 / 134217728) * (Real.log 2)⁻¹ : ℝ) : EReal)
  | _ => none
-- ==== ReferenceIdeal.lean ====
abbrev S2x4096x11344 : Shape := ⟨3, ![2, 4096, 11344]⟩
abbrev S1024x2048 : Shape := ⟨2, ![1024, 2048]⟩
abbrev S2048x2048 : Shape := ⟨2, ![2048, 2048]⟩
abbrev S2048x512 : Shape := ⟨2, ![2048, 512]⟩
abbrev S512x2048 : Shape := ⟨2, ![512, 2048]⟩
abbrev S2x4096x1024 : Shape := ⟨3, ![2, 4096, 1024]⟩
abbrev S2x4096x8x128 : Shape := ⟨4, ![2, 4096, 8, 128]⟩
abbrev S4096 : Shape := ⟨1, ![4096]⟩
abbrev S2x8x4096x4096 : Shape := ⟨4, ![2, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x8x128x4096 : Shape := ⟨4, ![2, 8, 128, 4096]⟩
abbrev S8192x1024 : Shape := ⟨2, ![8192, 1024]⟩

abbrev nBuf : Space → Nat
  | .hbm => 80
  | .vmem => 0
  | .smem => 0
  | _ => 0

abbrev bufTy : (tb : Table) → Fin (tcTables nBuf tb) → BufTy
  | .hbm, ⟨0, _⟩ => ⟨S2x4096x11344, .f32⟩
  | .hbm, ⟨1, _⟩ => ⟨S1024x2048, .f32⟩
  | .hbm, ⟨2, _⟩ => ⟨S1024x2048, .f32⟩
  | .hbm, ⟨3, _⟩ => ⟨S2048x2048, .f32⟩
  | .hbm, ⟨4, _⟩ => ⟨S2048x512, .f32⟩
  | .hbm, ⟨5, _⟩ => ⟨S512x2048, .f32⟩
  | .hbm, ⟨6, _⟩ => ⟨S2x4096x1024, .f32⟩
  | .hbm, ⟨7, _⟩ => ⟨S2x4096x8x128, .f32⟩
  | .hbm, ⟨8, _⟩ => ⟨S2x4096x1024, .f32⟩
  | .hbm, ⟨9, _⟩ => ⟨S2x4096x8x128, .f32⟩
  | .hbm, ⟨10, _⟩ => ⟨S2x4096x1024, .f32⟩
  | .hbm, ⟨11, _⟩ => ⟨S2x4096x8x128, .f32⟩
  | .hbm, ⟨12, _⟩ => ⟨S4096, .i32⟩
  | .hbm, ⟨13, _⟩ => ⟨S2x8x4096x4096, .f32⟩
  | .hbm, ⟨14, _⟩ => ⟨S_, .f32⟩
  | .hbm, ⟨15, _⟩ => ⟨S2x8x4096x4096, .f32⟩
  | .hbm, ⟨16, _⟩ => ⟨S2x8x4096x4096, .f32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S2x8x4096x4096, .f32⟩
  | .hbm, ⟨23, _⟩ => ⟨S2x8x4096x4096, .f32⟩
  | .hbm, ⟨24, _⟩ => ⟨S_, .f32⟩
  | .hbm, ⟨25, _⟩ => ⟨S2x8x4096x4096, .f32⟩
  | .hbm, ⟨26, _⟩ => ⟨S2x8x4096x4096, .f32⟩
  | .hbm, ⟨27, _⟩ => ⟨S2x8x4096x4096, .f32⟩
  | .hbm, ⟨28, _⟩ => ⟨S2x8x4096x4096, .f32⟩
  | .hbm, ⟨29, _⟩ => ⟨S2x8x4096x4096, .i1⟩
  | .hbm, ⟨30, _⟩ => ⟨S2x8x4096x4096, .f32⟩
  | .hbm, ⟨31, _⟩ => ⟨S2x8x4096x4096, .f32⟩
  | .hbm, ⟨32, _⟩ => ⟨S2x8x4096x4096, .f32⟩
  | .hbm, ⟨33, _⟩ => ⟨S2x8x4096x4096, .f32⟩
  | .hbm, ⟨34, _⟩ => ⟨S2x8x4096x4096, .f32⟩
  | .hbm, ⟨35, _⟩ => ⟨S2x8x4096x4096, .f32⟩
  | .hbm, ⟨36, _⟩ => ⟨S2x8x4096x4096, .f32⟩
  | .hbm, ⟨37, _⟩ => ⟨S2x8x4096x4096, .f32⟩
  | .hbm, ⟨38, _⟩ => ⟨S2x8x4096x4096, .f32⟩
  | .hbm, ⟨39, _⟩ => ⟨S_, .f32⟩
  | .hbm, ⟨40, _⟩ => ⟨S_, .f32⟩
  | .hbm, ⟨41, _⟩ => ⟨S2x8x4096x4096, .i1⟩
  | .hbm, ⟨42, _⟩ => ⟨S2x8x4096x4096, .f32⟩
  | .hbm, ⟨43, _⟩ => ⟨S2x8x4096x4096, .f32⟩
  | .hbm, ⟨44, _⟩ => ⟨S_, .f32⟩
  | .hbm, ⟨45, _⟩ => ⟨S_, .f32⟩
  | .hbm, ⟨46, _⟩ => ⟨S2x8x4096x4096, .f32⟩
  | .hbm, ⟨47, _⟩ => ⟨S2x8x4096x4096, .f32⟩
  | .hbm, ⟨48, _⟩ => ⟨S2x8x4096x4096, .f32⟩
  | .hbm, ⟨49, _⟩ => ⟨S_, .f32⟩
  | .hbm, ⟨50, _⟩ => ⟨S2x8x4096x4096, .f32⟩
  | .hbm, ⟨51, _⟩ => ⟨S2x8x4096x4096, .f32⟩
  | .hbm, ⟨52, _⟩ => ⟨S2x8x4096x4096, .f32⟩
  | .hbm, ⟨53, _⟩ => ⟨S2x8x4096x4096, .f32⟩
  | .hbm, ⟨54, _⟩ => ⟨S2x8x4096x4096, .i1⟩
  | .hbm, ⟨55, _⟩ => ⟨S2x8x4096x4096, .f32⟩
  | .hbm, ⟨56, _⟩ => ⟨S2x8x4096x4096, .f32⟩
  | .hbm, ⟨57, _⟩ => ⟨S2x8x4096x4096, .f32⟩
  | .hbm, ⟨58, _⟩ => ⟨S2x8x4096x4096, .f32⟩
  | .hbm, ⟨59, _⟩ => ⟨S2x8x4096x4096, .f32⟩
  | .hbm, ⟨60, _⟩ => ⟨S2x8x4096x4096, .f32⟩
  | .hbm, ⟨61, _⟩ => ⟨S2x8x4096x4096, .f32⟩
  | .hbm, ⟨62, _⟩ => ⟨S2x8x4096x4096, .f32⟩
  | .hbm, ⟨63, _⟩ => ⟨S2x8x4096x4096, .f32⟩
  | .hbm, ⟨64, _⟩ => ⟨S2x8x4096x4096, .f32⟩
  | .hbm, ⟨65, _⟩ => ⟨S2x8x4096x4096, .f32⟩
  | .hbm, ⟨66, _⟩ => ⟨S_, .f32⟩
  | .hbm, ⟨67, _⟩ => ⟨S_, .f32⟩
  | .hbm, ⟨68, _⟩ => ⟨S2x8x4096x4096, .i1⟩
  | .hbm, ⟨69, _⟩ => ⟨S2x8x4096x4096, .f32⟩
  | .hbm, ⟨70, _⟩ => ⟨S2x8x4096x4096, .f32⟩
  | .hbm, ⟨71, _⟩ => ⟨S2x8x128x4096, .f32⟩
  | .hbm, ⟨72, _⟩ => ⟨S2x4096x8x128, .f32⟩
  | .hbm, ⟨73, _⟩ => ⟨S8192x1024, .f32⟩
  | .hbm, ⟨74, _⟩ => ⟨S8192x1024, .bf16⟩
  | .hbm, ⟨75, _⟩ => ⟨S1024x2048, .bf16⟩
  | .hbm, ⟨76, _⟩ => ⟨S1024x2048, .bf16⟩
  | .hbm, ⟨77, _⟩ => ⟨S2048x2048, .bf16⟩
  | .hbm, ⟨78, _⟩ => ⟨S2048x512, .bf16⟩
  | .hbm, ⟨79, _⟩ => ⟨S512x2048, .bf16⟩
  | _, _ => ⟨S2x4096x11344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v16 : Ref sig .tc := ⟨.hbm, 38, rfl⟩
abbrev main_cst_0 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v17 : Ref sig .tc := ⟨.hbm, 43, rfl⟩
abbrev main_call2_cst : Ref sig .tc := ⟨.hbm, 44, rfl⟩
abbrev main_call2_v0 : Ref sig .tc := ⟨.hbm, 45, rfl⟩
abbrev main_v18 : Ref sig .tc := ⟨.hbm, 46, rfl⟩
abbrev main_v19 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩

abbrev nD : Nat := 1
abbrev τ : Topo := Topo.v7x

variable {F : FTy → Type} [FloatOps F]
-- ==== Kernel2.lean ====
abbrev S2x4096x2048 : Shape := ⟨3, ![2, 4096, 2048]⟩
abbrev S2048x12288 : Shape := ⟨2, ![2048, 12288]⟩
abbrev S3x12288 : Shape := ⟨2, ![3, 12288]⟩
abbrev S12288 : Shape := ⟨1, ![12288]⟩
abbrev S6144x2048 : Shape := ⟨2, ![6144, 2048]⟩
abbrev S8192x2048 : Shape := ⟨2, ![8192, 2048]⟩
abbrev S1x12288 : Shape := ⟨2, ![1, 12288]⟩
abbrev S8192x6144 : Shape := ⟨2, ![8192, 6144]⟩
abbrev S1024x2048 : Shape := ⟨2, ![1024, 2048]⟩
abbrev S2048x512 : Shape := ⟨2, ![2048, 512]⟩
abbrev S3x512 : Shape := ⟨2, ![3, 512]⟩
abbrev S1x512 : Shape := ⟨2, ![1, 512]⟩
abbrev S64x2048 : Shape := ⟨2, ![64, 2048]⟩
abbrev S1024x512 : Shape := ⟨2, ![1024, 512]⟩
abbrev S2x8x512 : Shape := ⟨3, ![2, 8, 512]⟩
abbrev S1x8x512 : Shape := ⟨3, ![1, 8, 512]⟩
abbrev S8x512 : Shape := ⟨2, ![8, 512]⟩
abbrev S1016x512 : Shape := ⟨2, ![1016, 512]⟩

abbrev nBuf : Space → Nat
  | .hbm => 10
  | .vmem => 23
  | .smem => 0
  | _ => 0

abbrev bufTy : (tb : Table) → Fin (tcTables nBuf tb) → BufTy
  | .hbm, ⟨0, _⟩ => ⟨S2x4096x2048, .f32⟩
  | .hbm, ⟨1, _⟩ => ⟨S2048x12288, .f32⟩
  | .hbm, ⟨2, _⟩ => ⟨S3x12288, .f32⟩
  | .hbm, ⟨3, _⟩ => ⟨S12288, .f32⟩
  | .hbm, ⟨4, _⟩ => ⟨S6144x2048, .f32⟩
  | .hbm, ⟨5, _⟩ => ⟨S8192x2048, .f32⟩
  | .hbm, ⟨6, _⟩ => ⟨S8192x2048, .bf16⟩
  | .hbm, ⟨7, _⟩ => ⟨S1x12288, .f32⟩
  | .hbm, ⟨8, _⟩ => ⟨S8192x6144, .bf16⟩
  | .hbm, ⟨9, _⟩ => ⟨S6144x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S64x2048, .f32⟩
  | .local _ .vmem, ⟨15, _⟩ => ⟨S64x2048, .f32⟩
  | .local _ .vmem, ⟨16, _⟩ => ⟨S1024x512, .bf16⟩
  | .local _ .vmem, ⟨17, _⟩ => ⟨S1024x512, .bf16⟩
  | .local _ .vmem, ⟨18, _⟩ => ⟨S64x2048, .bf16⟩
  | .local _ .vmem, ⟨19, _⟩ => ⟨S64x2048, .bf16⟩
  | .local _ .vmem, ⟨20, _⟩ => ⟨S2048x512, .bf16⟩
  | .local _ .vmem, ⟨21, _⟩ => ⟨S2048x512, .bf16⟩
  | .local _ .vmem, ⟨22, _⟩ => ⟨S2x8x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S2x4096x2048 : Shape := ⟨3, ![2, 4096, 2048]⟩
abbrev S2048x12288 : Shape := ⟨2, ![2048, 12288]⟩
abbrev S3x12288 : Shape := ⟨2, ![3, 12288]⟩
abbrev S12288 : Shape := ⟨1, ![12288]⟩
abbrev S6144x2048 : Shape := ⟨2, ![6144, 2048]⟩
abbrev S2x4096x12288 : Shape := ⟨3, ![2, 4096, 12288]⟩
abbrev S_ : Shape := ⟨0, ![]⟩
abbrev S2x4098x12288 : Shape := ⟨3, ![2, 4098, 12288]⟩
abbrev S1x12288 : Shape := ⟨2, ![1, 12288]⟩
abbrev S1x1x12288 : Shape := ⟨3, ![1, 1, 12288]⟩
abbrev S2x4096x6144 : Shape := ⟨3, ![2, 4096, 6144]⟩
abbrev S8192x6144 : Shape := ⟨2, ![8192, 6144]⟩

abbrev nBuf : Space → Nat
  | .hbm => 55
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x12288, .f32⟩
  | .hbm, ⟨2, _⟩ => ⟨S3x12288, .f32⟩
  | .hbm, ⟨3, _⟩ => ⟨S12288, .f32⟩
  | .hbm, ⟨4, _⟩ => ⟨S6144x2048, .f32⟩
  | .hbm, ⟨5, _⟩ => ⟨S2x4096x12288, .f32⟩
  | .hbm, ⟨6, _⟩ => ⟨S_, .i32⟩
  | .hbm, ⟨7, _⟩ => ⟨S_, .f32⟩
  | .hbm, ⟨8, _⟩ => ⟨S2x4098x12288, .f32⟩
  | .hbm, ⟨9, _⟩ => ⟨S1x12288, .f32⟩
  | .hbm, ⟨10, _⟩ => ⟨S12288, .f32⟩
  | .hbm, ⟨11, _⟩ => ⟨S2x4096x12288, .f32⟩
  | .hbm, ⟨12, _⟩ => ⟨S1x1x12288, .f32⟩
  | .hbm, ⟨13, _⟩ => ⟨S2x4096x12288, .f32⟩
  | .hbm, ⟨14, _⟩ => ⟨S2x4096x12288, .f32⟩
  | .hbm, ⟨15, _⟩ => ⟨S1x1x12288, .f32⟩
  | .hbm, ⟨16, _⟩ => ⟨S2x4096x12288, .f32⟩
  | .hbm, ⟨17, _⟩ => ⟨S2x4096x12288, .f32⟩
  | .hbm, ⟨18, _⟩ => ⟨S1x12288, .f32⟩
  | .hbm, ⟨19, _⟩ => ⟨S12288, .f32⟩
  | .hbm, ⟨20, _⟩ => ⟨S2x4096x12288, .f32⟩
  | .hbm, ⟨21, _⟩ => ⟨S1x1x12288, .f32⟩
  | .hbm, ⟨22, _⟩ => ⟨S2x4096x12288, .f32⟩
  | .hbm, ⟨23, _⟩ => ⟨S2x4096x12288, .f32⟩
  | .hbm, ⟨24, _⟩ => ⟨S2x4096x12288, .f32⟩
  | .hbm, ⟨25, _⟩ => ⟨S1x12288, .f32⟩
  | .hbm, ⟨26, _⟩ => ⟨S12288, .f32⟩
  | .hbm, ⟨27, _⟩ => ⟨S2x4096x12288, .f32⟩
  | .hbm, ⟨28, _⟩ => ⟨S1x1x12288, .f32⟩
  | .hbm, ⟨29, _⟩ => ⟨S2x4096x12288, .f32⟩
  | .hbm, ⟨30, _⟩ => ⟨S2x4096x12288, .f32⟩
  | .hbm, ⟨31, _⟩ => ⟨S2x4096x12288, .f32⟩
  | .hbm, ⟨32, _⟩ => ⟨S2x4096x6144, .f32⟩
  | .hbm, ⟨33, _⟩ => ⟨S2x4096x6144, .f32⟩
  | .hbm, ⟨34, _⟩ => ⟨S2x4096x6144, .f32⟩
  | .hbm, ⟨35, _⟩ => ⟨S2x4096x6144, .f32⟩
  | .hbm, ⟨36, _⟩ => ⟨S_, .f32⟩
  | .hbm, ⟨37, _⟩ => ⟨S2x4096x6144, .f32⟩
  | .hbm, ⟨38, _⟩ => ⟨S2x4096x6144, .f32⟩
  | .hbm, ⟨39, _⟩ => ⟨S2x4096x6144, .f32⟩
  | .hbm, ⟨40, _⟩ => ⟨S_, .f32⟩
  | .hbm, ⟨41, _⟩ => ⟨S2x4096x6144, .f32⟩
  | .hbm, ⟨42, _⟩ => ⟨S2x4096x6144, .f32⟩
  | .hbm, ⟨43, _⟩ => ⟨S2x4096x6144, .f32⟩
  | .hbm, ⟨44, _⟩ => ⟨S_, .f32⟩
  | .hbm, ⟨45, _⟩ => ⟨S2x4096x6144, .f32⟩
  | .hbm, ⟨46, _⟩ => ⟨S2x4096x6144, .f32⟩
  | .hbm, ⟨47, _⟩ => ⟨S_, .f32⟩
  | .hbm, ⟨48, _⟩ => ⟨S2x4096x6144, .f32⟩
  | .hbm, ⟨49, _⟩ => ⟨S2x4096x6144, .f32⟩
  | .hbm, ⟨50, _⟩ => ⟨S2x4096x6144, .f32⟩
  | .hbm, ⟨51, _⟩ => ⟨S2x4096x6144, .f32⟩
  | .hbm, ⟨52, _⟩ => ⟨S8192x6144, .f32⟩
  | .hbm, ⟨53, _⟩ => ⟨S8192x6144, .bf16⟩
  | .hbm, ⟨54, _⟩ => ⟨S6144x2048, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_cst_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]
-- ==== Kernel3.lean ====
abbrev S2x4096x6144 : Shape := ⟨3, ![2, 4096, 6144]⟩
abbrev S6144x2048 : Shape := ⟨2, ![6144, 2048]⟩
abbrev S2x4096x2048 : Shape := ⟨3, ![2, 4096, 2048]⟩
abbrev S2048 : Shape := ⟨1, ![2048]⟩
abbrev S8192x6144 : Shape := ⟨2, ![8192, 6144]⟩
abbrev S8192x2048 : Shape := ⟨2, ![8192, 2048]⟩
abbrev S1x2048 : Shape := ⟨2, ![1, 2048]⟩
abbrev S256x6144 : Shape := ⟨2, ![256, 6144]⟩
abbrev S256x2048 : Shape := ⟨2, ![256, 2048]⟩
abbrev S6 : Shape := ⟨1, ![6]⟩
abbrev S1 : Shape := ⟨1, ![1]⟩
abbrev S_ : Shape := ⟨0, ![]⟩
abbrev S1024x2048 : Shape := ⟨2, ![1024, 2048]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x4096x6144, .f32⟩
  | .hbm, ⟨1, _⟩ => ⟨S6144x2048, .f32⟩
  | .hbm, ⟨2, _⟩ => ⟨S2x4096x2048, .f32⟩
  | .hbm, ⟨3, _⟩ => ⟨S2048, .f32⟩
  | .hbm, ⟨4, _⟩ => ⟨S8192x6144, .f32⟩
  | .hbm, ⟨5, _⟩ => ⟨S8192x6144, .bf16⟩
  | .hbm, ⟨6, _⟩ => ⟨S6144x2048, .bf16⟩
  | .hbm, ⟨7, _⟩ => ⟨S8192x2048, .f32⟩
  | .hbm, ⟨8, _⟩ => ⟨S1x2048, .f32⟩
  | .hbm, ⟨9, _⟩ => ⟨S8192x2048, .f32⟩
  | .local _ .vmem, ⟨0, _⟩ => ⟨S256x6144, .bf16⟩
  | .local _ .vmem, ⟨1, _⟩ => ⟨S256x6144, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S6144x2048, .bf16⟩
  | _, _ => ⟨S2x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x4096x6144 : Shape := ⟨3, ![2, 4096, 6144]⟩
abbrev S6144x2048 : Shape := ⟨2, ![6144, 2048]⟩
abbrev S2x4096x2048 : Shape := ⟨3, ![2, 4096, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x6144, .f32⟩
  | .hbm, ⟨1, _⟩ => ⟨S6144x2048, .f32⟩
  | .hbm, ⟨2, _⟩ => ⟨S2x4096x2048, .f32⟩
  | .hbm, ⟨3, _⟩ => ⟨S2048, .f32⟩
  | .hbm, ⟨4, _⟩ => ⟨S2x4096x2048, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S1x1x2048, .f32⟩
  | .hbm, ⟨20, _⟩ => ⟨S2x4096x2048, .f32⟩
  | .hbm, ⟨21, _⟩ => ⟨S2x4096x2048, .f32⟩
  | .hbm, ⟨22, _⟩ => ⟨S8192x2048, .f32⟩
  | _, _ => ⟨S2x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel4.lean ====
abbrev S2x4096x2048 : Shape := ⟨3, ![2, 4096, 2048]⟩
abbrev S2048x11344 : Shape := ⟨2, ![2048, 11344]⟩
abbrev S8192x2048 : Shape := ⟨2, ![8192, 2048]⟩
abbrev S11344x2048 : Shape := ⟨2, ![11344, 2048]⟩
abbrev S8192x9216 : Shape := ⟨2, ![8192, 9216]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2048x11344, .f32⟩
  | .hbm, ⟨2, _⟩ => ⟨S8192x2048, .f32⟩
  | .hbm, ⟨3, _⟩ => ⟨S8192x2048, .bf16⟩
  | .hbm, ⟨4, _⟩ => ⟨S11344x2048, .f32⟩
  | .hbm, ⟨5, _⟩ => ⟨S8192x9216, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 4], ![false, false]⟩

def k0_mult1 (i : grid0.Coords) : BitVec 32 :=
  let arg0 : BitVec 32 := BitVec.ofNat 32 (i 0).val
  let c8_i32 : BitVec 32 := 8#32
  let v14 : BitVec 1 := Scalar.cmpi .sge arg0 c8_i32
  let c6144_i32 : BitVec 32 := 6144#32
  let c7_i32 : BitVec 32 := 7#32
  let v12 : BitVec 1 := Scalar.cmpi .sge arg0 c7_i32
  let c4096_i32 : BitVec 32 := 4096#32
  let c6_i32 : BitVec 32 := 6#32
  let v10 : BitVec 1 := Scalar.cmpi .sge arg0 c6_i32
  let c3072_i32 : BitVec 32 := 3072#32
  let c5_i32 : BitVec 32 := 5#32
  let v8 : BitVec 1 := Scalar.cmpi .sge arg0 c5_i32
  let c1024_i32 : BitVec 32 := 1024#32
  let c4_i32 : BitVec 32 := 4#32
  let v6 : BitVec 1 := Scalar.cmpi .sge arg0 c4_i32
  let c0_i32 : BitVec 32 := 0#32
  let c3_i32 : BitVec 32 := 3#32
  let v4 : BitVec 1 := Scalar.cmpi .sge arg0 c3_i32
  let c10320_i32 : BitVec 32 := 10320#32
  let c2_i32 : BitVec 32 := 2#32
  let v2 : BitVec 1 := Scalar.cmpi .sge arg0 c2_i32
  let c9296_i32 : BitVec 32 := 9296#32
  let c1_i32 : BitVec 32 := 1#32
  let v0 : BitVec 1 := Scalar.cmpi .sge arg0 c1_i32
  let c8272_i32 : BitVec 32 := 8272#32
  let c7248_i32 : BitVec 32 := 7248#32
  let v1 : BitVec 32 := Scalar.select v0 c8272_i32 c7248_i32
  let v3 : BitVec 32 := Scalar.select v2 c9296_i32 v1
  let v5 : BitVec 32 := Scalar.select v4 c10320_i32 v3
  let v7 : BitVec 32 := Scalar.select v6 c0_i32 v5
  let v9 : BitVec 32 := Scalar.select v8 c1024_i32 v7
  let v11 : BitVec 32 := Scalar.select v10 c3072_i32 v9
  let v13 : BitVec 32 := Scalar.select v12 c4096_i32 v11
  let v15 : BitVec 32 := Scalar.select v14 c6144_i32 v13
  v15
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c8272_i32 : BitVec 32 := 8272#32
  let c7248_i32 : BitVec 32 := 7248#32
  let v1 : BitVec 32 := Scalar.select v0 c8272_i32 c7248_i32
  let c2_i32 : BitVec 32 := 2#32
  let v2 : BitVec 1 := Scalar.cmpi .sge arg0 c2_i32
  let c9296_i32 : BitVec 32 := 9296#32
  let v3 : BitVec 32 := Scalar.select v2 c9296_i32 v1
  let c3_i32 : BitVec 32 := 3#32
  let v4 : BitVec 1 := Scalar.cmpi .sge arg0 c3_i32
  let c10320_i32 : BitVec 32 := 10320#32
  let v5 : BitVec 32 := Scalar.select v4 c10320_i32 v3
  let c4_i32 : BitVec 32 := 4#32
  let v6 : BitVec 1 := Scalar.cmpi .sge arg0 c4_i32
  let c0_i32 : BitVec 32 := 0#32
  let v7 : BitVec 32 := Scalar.select v6 c0_i32 v5
  let c5_i32 : BitVec 32 := 5#32
  let v8 : BitVec 1 := Scalar.cmpi .sge arg0 c5_i32
  let c1024_i32 : BitVec 32 := 1024#32
  let v9 : BitVec 32 := Scalar.select v8 c1024_i32 v7
  let c6_i32 : BitVec 32 := 6#32
  let v10 : BitVec 1 := Scalar.cmpi .sge arg0 c6_i32
  let c3072_i32 : BitVec 32 := 3072#32
  let v11 : BitVec 32 := Scalar.select v10 c3072_i32 v9
  let c7_i32 : BitVec 32 := 7#32
  let v12 : BitVec 1 := Scalar.cmpi .sge arg0 c7_i32
  let c4096_i32 : BitVec 32 := 4096#32
  let v13 : BitVec 32 := Scalar.select v12 c4096_i32 v11
  let c8_i32 : BitVec 32 := 8#32
  let v14 : BitVec 1 := Scalar.cmpi .sge arg0 c8_i32
  let c6144_i32 : BitVec 32 := 6144#32
  let v15 : BitVec 32 := Scalar.select v14 c6144_i32 v13
  let v16 : BitVec 32 := v15
  let c0_i32_0 : BitVec 32 := 0#32
  let c0_i32_1 : BitVec 32 := 0#32
  ![v16.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2x4096x2048 : Shape := ⟨3, ![2, 4096, 2048]⟩
abbrev S2048x11344 : Shape := ⟨2, ![2048, 11344]⟩
abbrev S2x4096x11344 : Shape := ⟨3, ![2, 4096, 11344]⟩
abbrev S8192x11344 : Shape := ⟨2, ![8192, 11344]⟩
abbrev S8192x1024 : Shape := ⟨2, ![8192, 1024]⟩
abbrev S8192x4096 : Shape := ⟨2, ![8192, 4096]⟩
abbrev S8192x9216 : Shape := ⟨2, ![8192, 9216]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x11344, .f32⟩
  | .hbm, ⟨2, _⟩ => ⟨S2x4096x11344, .f32⟩
  | .hbm, ⟨3, _⟩ => ⟨S8192x11344, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x4096, .f32⟩
  | .hbm, ⟨12, _⟩ => ⟨S8192x9216, .f32⟩
  | .hbm, ⟨13, _⟩ => ⟨S8192x9216, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel5.lean ====
abbrev S2x4096x1024 : Shape := ⟨3, ![2, 4096, 1024]⟩
abbrev S1024x2048 : Shape := ⟨2, ![1024, 2048]⟩
abbrev S2048x2048 : Shape := ⟨2, ![2048, 2048]⟩
abbrev S2x4096x11344 : Shape := ⟨3, ![2, 4096, 11344]⟩
abbrev S4096 : Shape := ⟨1, ![4096]⟩
abbrev S2x4096x2048 : Shape := ⟨3, ![2, 4096, 2048]⟩
abbrev S2x256x1024 : Shape := ⟨3, ![2, 256, 1024]⟩
abbrev S2048 : Shape := ⟨1, ![2048]⟩
abbrev S2048x512 : Shape := ⟨2, ![2048, 512]⟩
abbrev S512x2048 : Shape := ⟨2, ![512, 2048]⟩
abbrev S8192x11344 : Shape := ⟨2, ![8192, 11344]⟩
abbrev S8192x4096 : Shape := ⟨2, ![8192, 4096]⟩
abbrev S8192x1024 : Shape := ⟨2, ![8192, 1024]⟩
abbrev S8192x9216 : Shape := ⟨2, ![8192, 9216]⟩
abbrev S8192x2048 : Shape := ⟨2, ![8192, 2048]⟩
abbrev S512x1024 : Shape := ⟨2, ![512, 1024]⟩
abbrev S1x4096 : Shape := ⟨2, ![1, 4096]⟩
abbrev S1x2048 : Shape := ⟨2, ![1, 2048]⟩
abbrev S256x512 : Shape := ⟨2, ![256, 512]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 39
  | .vmem => 27
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024x2048, .f32⟩
  | .hbm, ⟨3, _⟩ => ⟨S1024x2048, .f32⟩
  | .hbm, ⟨4, _⟩ => ⟨S2048x2048, .f32⟩
  | .hbm, ⟨5, _⟩ => ⟨S2x4096x11344, .f32⟩
  | .hbm, ⟨6, _⟩ => ⟨S4096, .f32⟩
  | .hbm, ⟨7, _⟩ => ⟨S2x4096x2048, .f32⟩
  | .hbm, ⟨8, _⟩ => ⟨S2x256x1024, .f32⟩
  | .hbm, ⟨9, _⟩ => ⟨S2048, .f32⟩
  | .hbm, ⟨10, _⟩ => ⟨S2048x512, .f32⟩
  | .hbm, ⟨11, _⟩ => ⟨S512x2048, .f32⟩
  | .hbm, ⟨12, _⟩ => ⟨S2048, .f32⟩
  | .hbm, ⟨13, _⟩ => ⟨S8192x11344, .f32⟩
  | .hbm, ⟨14, _⟩ => ⟨S8192x11344, .bf16⟩
  | .hbm, ⟨15, _⟩ => ⟨S8192x4096, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x9216, .bf16⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S8192x1024, .bf16⟩
  | .hbm, ⟨26, _⟩ => ⟨S1024x2048, .bf16⟩
  | .hbm, ⟨27, _⟩ => ⟨S1024x2048, .bf16⟩
  | .hbm, ⟨28, _⟩ => ⟨S2048x2048, .bf16⟩
  | .hbm, ⟨29, _⟩ => ⟨S8192x2048, .f32⟩
  | .hbm, ⟨30, _⟩ => ⟨S512x1024, .f32⟩
  | .hbm, ⟨31, _⟩ => ⟨S512x1024, .bf16⟩
  | .hbm, ⟨32, _⟩ => ⟨S2048x512, .bf16⟩
  | .hbm, ⟨33, _⟩ => ⟨S512x2048, .bf16⟩
  | .hbm, ⟨34, _⟩ => ⟨S1x4096, .f32⟩
  | .hbm, ⟨35, _⟩ => ⟨S1x2048, .f32⟩
  | .hbm, ⟨36, _⟩ => ⟨S1x2048, .f32⟩
  | .hbm, ⟨37, _⟩ => ⟨S8192x2048, .f32⟩
  | .hbm, ⟨38, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S2048x2048, .bf16⟩
  | .local _ .vmem, ⟨13, _⟩ => ⟨S512x2048, .f32⟩
  | .local _ .vmem, ⟨14, _⟩ => ⟨S512x2048, .f32⟩
  | .local _ .vmem, ⟨15, _⟩ => ⟨S1x2048, .f32⟩
  | .local _ .vmem, ⟨16, _⟩ => ⟨S2048x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S512x2048, .bf16⟩
  | .local _ .vmem, ⟨22, _⟩ => ⟨S1x2048, .f32⟩
  | .local _ .vmem, ⟨23, _⟩ => ⟨S512x2048, .f32⟩
  | .local _ .vmem, ⟨24, _⟩ => ⟨S512x2048, .f32⟩
  | .local _ .vmem, ⟨25, _⟩ => ⟨S512x2048, .bf16⟩
  | .local _ .vmem, ⟨26, _⟩ => ⟨S512x2048, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2048x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S512x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S512x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference5Ideal.lean ====
abbrev S2x4096x1024 : Shape := ⟨3, ![2, 4096, 1024]⟩
abbrev S1024x2048 : Shape := ⟨2, ![1024, 2048]⟩
abbrev S2048x2048 : Shape := ⟨2, ![2048, 2048]⟩
abbrev S2x4096x11344 : Shape := ⟨3, ![2, 4096, 11344]⟩
abbrev S4096 : Shape := ⟨1, ![4096]⟩
abbrev S2x4096x2048 : Shape := ⟨3, ![2, 4096, 2048]⟩
abbrev S2x256x1024 : Shape := ⟨3, ![2, 256, 1024]⟩
abbrev S2048 : Shape := ⟨1, ![2048]⟩
abbrev S2048x512 : Shape := ⟨2, ![2048, 512]⟩
abbrev S512x2048 : Shape := ⟨2, ![512, 2048]⟩
abbrev S2x4096x4096 : Shape := ⟨3, ![2, 4096, 4096]⟩
abbrev S1x1x4096 : Shape := ⟨3, ![1, 1, 4096]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x512 : Shape := ⟨3, ![2, 4096, 512]⟩
abbrev S2x4096x4x128 : Shape := ⟨4, ![2, 4096, 4, 128]⟩
abbrev S2x256x512 : Shape := ⟨3, ![2, 256, 512]⟩
abbrev S2x256x4x128 : Shape := ⟨4, ![2, 256, 4, 128]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S8192x2048 : Shape := ⟨2, ![8192, 2048]⟩

abbrev nBuf : Space → Nat
  | .hbm => 98
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S2x4096x1024, .f32⟩
  | .hbm, ⟨2, _⟩ => ⟨S1024x2048, .f32⟩
  | .hbm, ⟨3, _⟩ => ⟨S1024x2048, .f32⟩
  | .hbm, ⟨4, _⟩ => ⟨S2048x2048, .f32⟩
  | .hbm, ⟨5, _⟩ => ⟨S2x4096x11344, .f32⟩
  | .hbm, ⟨6, _⟩ => ⟨S4096, .f32⟩
  | .hbm, ⟨7, _⟩ => ⟨S2x4096x2048, .f32⟩
  | .hbm, ⟨8, _⟩ => ⟨S2x256x1024, .f32⟩
  | .hbm, ⟨9, _⟩ => ⟨S2048, .f32⟩
  | .hbm, ⟨10, _⟩ => ⟨S2048x512, .f32⟩
  | .hbm, ⟨11, _⟩ => ⟨S512x2048, .f32⟩
  | .hbm, ⟨12, _⟩ => ⟨S2048, .f32⟩
  | .hbm, ⟨13, _⟩ => ⟨S2x4096x4096, .f32⟩
  | .hbm, ⟨14, _⟩ => ⟨S1x1x4096, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S_, .f32⟩
  | .hbm, ⟨20, _⟩ => ⟨S2x4096x4096, .f32⟩
  | .hbm, ⟨21, _⟩ => ⟨S2x4096x4096, .f32⟩
  | .hbm, ⟨22, _⟩ => ⟨S_, .f32⟩
  | .hbm, ⟨23, _⟩ => ⟨S2x4096x4096, .f32⟩
  | .hbm, ⟨24, _⟩ => ⟨S2x4096x4096, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S_, .f32⟩
  | .hbm, ⟨36, _⟩ => ⟨S2x4096, .f32⟩
  | .hbm, ⟨37, _⟩ => ⟨S2x4096x1, .f32⟩
  | .hbm, ⟨38, _⟩ => ⟨S_, .f32⟩
  | .hbm, ⟨39, _⟩ => ⟨S2x4096x1, .f32⟩
  | .hbm, ⟨40, _⟩ => ⟨S2x4096x1, .f32⟩
  | .hbm, ⟨41, _⟩ => ⟨S_, .f32⟩
  | .hbm, ⟨42, _⟩ => ⟨S2x4096x1, .f32⟩
  | .hbm, ⟨43, _⟩ => ⟨S2x4096x1, .f32⟩
  | .hbm, ⟨44, _⟩ => ⟨S2x4096x1, .f32⟩
  | .hbm, ⟨45, _⟩ => ⟨S2x4096x2048, .f32⟩
  | .hbm, ⟨46, _⟩ => ⟨S2x4096x2048, .f32⟩
  | .hbm, ⟨47, _⟩ => ⟨S1x1x2048, .f32⟩
  | .hbm, ⟨48, _⟩ => ⟨S2x4096x2048, .f32⟩
  | .hbm, ⟨49, _⟩ => ⟨S2x4096x2048, .f32⟩
  | .hbm, ⟨50, _⟩ => ⟨S2x4096x512, .f32⟩
  | .hbm, ⟨51, _⟩ => ⟨S2x4096x4x128, .f32⟩
  | .hbm, ⟨52, _⟩ => ⟨S2x256x512, .f32⟩
  | .hbm, ⟨53, _⟩ => ⟨S2x256x512, .f32⟩
  | .hbm, ⟨54, _⟩ => ⟨S2x256x4x128, .f32⟩
  | .hbm, ⟨55, _⟩ => ⟨S2x256x4x128, .f32⟩
  | .hbm, ⟨56, _⟩ => ⟨S2x4x4096x256, .f32⟩
  | .hbm, ⟨57, _⟩ => ⟨S_, .f32⟩
  | .hbm, ⟨58, _⟩ => ⟨S2x4x4096x256, .f32⟩
  | .hbm, ⟨59, _⟩ => ⟨S2x4x4096x256, .f32⟩
  | .hbm, ⟨60, _⟩ => ⟨S_, .f32⟩
  | .hbm, ⟨61, _⟩ => ⟨S2x4x4096, .f32⟩
  | .hbm, ⟨62, _⟩ => ⟨S_, .f32⟩
  | .hbm, ⟨63, _⟩ => ⟨S2x4x4096, .f32⟩
  | .hbm, ⟨64, _⟩ => ⟨S2x4x4096, .f32⟩
  | .hbm, ⟨65, _⟩ => ⟨S2x4x4096x1, .f32⟩
  | .hbm, ⟨66, _⟩ => ⟨S2x4x4096x256, .f32⟩
  | .hbm, ⟨67, _⟩ => ⟨S2x4x4096x256, .f32⟩
  | .hbm, ⟨68, _⟩ => ⟨S2x4x4096x256, .f32⟩
  | .hbm, ⟨69, _⟩ => ⟨S_, .f32⟩
  | .hbm, ⟨70, _⟩ => ⟨S2x4x4096, .f32⟩
  | .hbm, ⟨71, _⟩ => ⟨S2x4x4096x1, .f32⟩
  | .hbm, ⟨72, _⟩ => ⟨S2x4x4096x256, .f32⟩
  | .hbm, ⟨73, _⟩ => ⟨S2x4x4096x256, .f32⟩
  | .hbm, ⟨74, _⟩ => ⟨S2x4x128x4096, .f32⟩
  | .hbm, ⟨75, _⟩ => ⟨S2x4096x4x128, .f32⟩
  | .hbm, ⟨76, _⟩ => ⟨S2x4096x512, .f32⟩
  | .hbm, ⟨77, _⟩ => ⟨S2x4096x2048, .f32⟩
  | .hbm, ⟨78, _⟩ => ⟨S2x4096x2048, .f32⟩
  | .hbm, ⟨79, _⟩ => ⟨S8192x2048, .f32⟩
  | .hbm, ⟨80, _⟩ => ⟨S2x4096x2048, .f32⟩
  | .hbm, ⟨81, _⟩ => ⟨S_, .f32⟩
  | .hbm, ⟨82, _⟩ => ⟨S2x4096, .f32⟩
  | .hbm, ⟨83, _⟩ => ⟨S2x4096x1, .f32⟩
  | .hbm, ⟨84, _⟩ => ⟨S_, .f32⟩
  | .hbm, ⟨85, _⟩ => ⟨S2x4096x1, .f32⟩
  | .hbm, ⟨86, _⟩ => ⟨S2x4096x1, .f32⟩
  | .hbm, ⟨87, _⟩ => ⟨S_, .f32⟩
  | .hbm, ⟨88, _⟩ => ⟨S2x4096x1, .f32⟩
  | .hbm, ⟨89, _⟩ => ⟨S2x4096x1, .f32⟩
  | .hbm, ⟨90, _⟩ => ⟨S2x4096x1, .f32⟩
  | .hbm, ⟨91, _⟩ => ⟨S2x4096x2048, .f32⟩
  | .hbm, ⟨92, _⟩ => ⟨S2x4096x2048, .f32⟩
  | .hbm, ⟨93, _⟩ => ⟨S1x1x2048, .f32⟩
  | .hbm, ⟨94, _⟩ => ⟨S2x4096x2048, .f32⟩
  | .hbm, ⟨95, _⟩ => ⟨S2x4096x2048, .f32⟩
  | .hbm, ⟨96, _⟩ => ⟨S8192x2048, .f32⟩
  | .hbm, ⟨97, _⟩ => ⟨S8192x2048, .bf16⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]
-- ==== Kernel6.lean ====
abbrev S2x4096x2048 : Shape := ⟨3, ![2, 4096, 2048]⟩
abbrev S2048x11344 : Shape := ⟨2, ![2048, 11344]⟩
abbrev S8192x2048 : Shape := ⟨2, ![8192, 2048]⟩
abbrev S11344x2048 : Shape := ⟨2, ![11344, 2048]⟩
abbrev S2x32x1024x256 : Shape := ⟨4, ![2, 32, 1024, 256]⟩
abbrev S1024x2048 : Shape := ⟨2, ![1024, 2048]⟩
abbrev S2048x2048 : Shape := ⟨2, ![2048, 2048]⟩
abbrev S1x8x1024x256 : Shape := ⟨4, ![1, 8, 1024, 256]⟩
abbrev S1024x256 : Shape := ⟨2, ![1024, 256]⟩
abbrev S1x1x1024x256 : Shape := ⟨4, ![1, 1, 1024, 256]⟩

abbrev nBuf : Space → Nat
  | .hbm => 6
  | .vmem => 7
  | .smem => 0
  | _ => 0

abbrev bufTy : (tb : Table) → Fin (tcTables nBuf tb) → BufTy
  | .hbm, ⟨0, _⟩ => ⟨S2x4096x2048, .f32⟩
  | .hbm, ⟨1, _⟩ => ⟨S2048x11344, .f32⟩
  | .hbm, ⟨2, _⟩ => ⟨S8192x2048, .f32⟩
  | .hbm, ⟨3, _⟩ => ⟨S8192x2048, .bf16⟩
  | .hbm, ⟨4, _⟩ => ⟨S11344x2048, .f32⟩
  | .hbm, ⟨5, _⟩ => ⟨S2x32x1024x256, .bf16⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S1x8x1024x256, .bf16⟩
  | .local _ .vmem, ⟨5, _⟩ => ⟨S1x8x1024x256, .bf16⟩
  | .local _ .vmem, ⟨6, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg0 : BitVec 32 := BitVec.ofNat 32 (i 0).val
  let c1_i32 : BitVec 32 := 1#32
  let v0 : BitVec 1 := Scalar.cmpi .sge arg0 c1_i32
  let c5120_i32 : BitVec 32 := 5120#32
  let c2048_i32 : BitVec 32 := 2048#32
  let v1 : BitVec 32 := Scalar.select v0 c5120_i32 c2048_i32
  v1
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c5120_i32 : BitVec 32 := 5120#32
  let c2048_i32 : BitVec 32 := 2048#32
  let v1 : BitVec 32 := Scalar.select v0 c5120_i32 c2048_i32
  let v2 : BitVec 32 := v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x8x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x4096x2048 : Shape := ⟨3, ![2, 4096, 2048]⟩
abbrev S2048x11344 : Shape := ⟨2, ![2048, 11344]⟩
abbrev S2x4096x11344 : Shape := ⟨3, ![2, 4096, 11344]⟩
abbrev S8192x11344 : Shape := ⟨2, ![8192, 11344]⟩
abbrev S8192x1024 : Shape := ⟨2, ![8192, 1024]⟩
abbrev S32x256x1024 : Shape := ⟨3, ![32, 256, 1024]⟩
abbrev S32x1024x256 : Shape := ⟨3, ![32, 1024, 256]⟩
abbrev S1x32x1024x256 : Shape := ⟨4, ![1, 32, 1024, 256]⟩
abbrev S2x32x1024x256 : Shape := ⟨4, ![2, 32, 1024, 256]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048x11344, .f32⟩
  | .hbm, ⟨2, _⟩ => ⟨S2x4096x11344, .f32⟩
  | .hbm, ⟨3, _⟩ => ⟨S8192x11344, .f32⟩
  | .hbm, ⟨4, _⟩ => ⟨S8192x1024, .f32⟩
  | .hbm, ⟨5, _⟩ => ⟨S8192x1024, .f32⟩
  | .hbm, ⟨6, _⟩ => ⟨S32x256x1024, .f32⟩
  | .hbm, ⟨7, _⟩ => ⟨S32x1024x256, .f32⟩
  | .hbm, ⟨8, _⟩ => ⟨S32x256x1024, .f32⟩
  | .hbm, ⟨9, _⟩ => ⟨S32x1024x256, .f32⟩
  | .hbm, ⟨10, _⟩ => ⟨S1x32x1024x256, .f32⟩
  | .hbm, ⟨11, _⟩ => ⟨S1x32x1024x256, .f32⟩
  | .hbm, ⟨12, _⟩ => ⟨S2x32x1024x256, .f32⟩
  | .hbm, ⟨13, _⟩ => ⟨S2x32x1024x256, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Proof.Trip.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The while loop's test on a state. -/
abbrev goes (j : BitVec 32) (live : F .f32) : Prop :=
  Scalar.andi (Scalar.cmpi .sge j 0#32) (Scalar.cmpf .ogt live (Named.named κ "never" 0xC3170000#32 : F .f32)) = 1#1

set_option maxHeartbeats 4000000 in
/-- One trip of the while loop. -/
noncomputable def trip (c : Dev nD) (i : grid0.Coords) (arg3 : Memref sig .tc .vmem S4096x1024 .bf16) (harg3 : arg3.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg5 : Memref sig .tc .vmem S256x256 .bf16) (harg5 : arg5.IsWhole) (arg20 : Memref sig .tc .vmem S2x8x256x256 .bf16) (harg20 : arg20.IsWhole) (arg21 : Memref sig .tc .vmem S8x128x256 .f32) (harg21 : arg21.IsWhole) (arg4 : Memref sig .tc .vmem S1x1x16x1024x256 .bf16) (harg4 : arg4.IsWhole)
    (j : BitVec 32) (hj : k0_chk1 j)
    (xk : Vec F S4096x1024 .bf16) (xq : Vec F S256x1024 .bf16) (xv : Vec F S1x1x16x1024x256 .bf16) (xt : Vec F S256x256 .bf16) (xa : Vec F S8x128x256 .f32)
    (carry : FVec F S8x256 .f32) :
    Σ' (LA : List (View.Piece (Elt F) S8x128x256 .f32)), { C : FVec F S8x256 .f32 //
      ∀ (live : F .f32) (hgo : goes j live) (b : WithBot ℕ) (E : Set ℕ) (K : BitVec 32 × F .f32 × FVec F S8x256 .f32 → sProp 𝕄),
        iprop(owns c.tc arg3 fullShare xk ∗ owns c.tc arg17 fullShare xq ∗ owns c.tc arg4 fullShare xv ∗ owns c.tc arg5 fullShare xt
            ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ owns c.tc arg21 fullShare xa
            ∗ (iprop(owns c.tc arg3 fullShare xk ∗ owns c.tc arg17 fullShare xq ∗ owns c.tc arg4 fullShare xv ∗ owns c.tc arg5 fullShare xt
                ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f)
                ∗ (arg21.view.loc (c : Thread nD τ) ↦[arg21.view.set]{fullShare} arg21.view.writes (Elt F) (harg21.unread xa) LA))
              -∗ wp frame (wpE (defs₀ (F := F)) Variants.nat (c : Thread nD τ) b) E
                  (Prog.op (TpuEff.call (1 : (Λ₀ F).Label) ⟨i, arg3, harg3, arg17, harg17, arg18, harg18, arg19, harg19, arg5, harg5, arg20, harg20, arg21, harg21, arg4, harg4, Scalar.subi j 1#32, k0_pay7 C, C⟩) Prog.ret) K))
          ⊢ wp frame (wpE (defs₀ (F := F)) Variants.nat (c : Thread nD τ) b) E (cc0_while1 i arg3 harg3 arg17 harg17 arg18 harg18 arg19 harg19 arg5 harg5 arg20 harg20 arg21 harg21 arg4 harg4 j live carry) K } := by
  refine ⟨?_, ?_, fun live hgo b E K => ?run⟩
  case run =>
    simp only [cc0_while1_eq_skeleton]; unfold cc0_while1_skel
    simp only [k0_part58_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
    unfold owns
    iintro ⟨⟨%f0, %hf0, H0⟩, ⟨%f1, %hf1, H1⟩, ⟨%f2, %hf2, H2⟩, ⟨%f3, %hf3, H3⟩, ⟨%f4, H4⟩, ⟨%f5, H5⟩, ⟨%f6, H6⟩, ⟨%f7, %hf7, H7⟩, Hk⟩
    obtain rfl := harg3.eq_unread hf0; obtain rfl := harg17.eq_unread hf1; obtain rfl := harg4.eq_unread hf2; obtain rfl := harg5.eq_unread hf3; obtain rfl := harg21.eq_unread hf7
    have hgo' := hgo
    sl_exec (disch := first | sl_exact hgo)
    iapply Hk
    isplitl [H0]
    · iexists _; isplitr; · ipureintro; exact harg3.read_unread _
      iexact H0
    isplitl [H1]
    · iexists _; isplitr; · ipureintro; exact harg17.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexact H7

end Cert.Proof.SB

end
-- ==== Proof.Loop.lean ====
module

public import proofs.«01_k».proof.Proof.Trip
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The variants of the calls: one natural number, the trips still possible. -/
abbrev 𝒱₀ : Variants := Variants.nat

/-- A word that passes the loop's test is not negative. -/
theorem goes_nonneg {j : BitVec 32} {live : F .f32} (h : goes j live) : 0 ≤ j.toInt := by
  by_contra hn
  have h0 : Scalar.cmpi .sge j 0#32 = 0#1 := by
    have : BitVec.sle 0#32 j = false := by
      rw [BitVec.sle_eq_decide]; simpa using hn
    simp [Scalar.cmpi, IntOp.cmpi, this]
  have h1 : Scalar.andi (Scalar.cmpi .sge j 0#32) (Scalar.cmpf .ogt live (Named.named κ "never" 0xC3170000#32 : F .f32)) = 1#1 := h
  rw [h0] at h1
  simp [Scalar.andi, IntOp.andi] at h1

/-- The key tile a trip reads lies inside the arrays: sixteen tiles of 256 keys. -/
theorem chk_of_lt : ∀ n : Fin 16, k0_chk1 (BitVec.ofNat 32 n.val) := by decide

theorem chk_of_toInt {j : BitVec 32} (h0 : 0 ≤ j.toInt) (h1 : j.toInt < 16) : k0_chk1 j := by
  have hj : j = BitVec.ofNat 32 j.toInt.toNat := by
    apply BitVec.eq_of_toInt_eq
    rw [BitVec.toInt_ofNat', Int.toNat_of_nonneg h0]
    rw [Int.bmod_eq_of_le (by omega) (by omega)]
  rw [hj]
  exact chk_of_lt ⟨j.toInt.toNat, by omega⟩

theorem toInt_pred {j : BitVec 32} (h0 : 0 ≤ j.toInt) : (Scalar.subi j 1#32).toInt = j.toInt - 1 := by
  show (j - 1#32).toInt = _
  have := BitVec.toInt_lt (x := j)
  rw [BitVec.toInt_sub, show (1#32 : BitVec 32).toInt = 1 from by decide]
  rw [Int.bmod_eq_of_le (by omega) (by omega)]

section Label

variable (c : Dev nD) (i : grid0.Coords) (arg3 : Memref sig .tc .vmem S4096x1024 .bf16) (harg3 : arg3.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg5 : Memref sig .tc .vmem S256x256 .bf16) (harg5 : arg5.IsWhole) (arg20 : Memref sig .tc .vmem S2x8x256x256 .bf16) (harg20 : arg20.IsWhole) (arg21 : Memref sig .tc .vmem S8x128x256 .f32) (harg21 : arg21.IsWhole) (arg4 : Memref sig .tc .vmem S1x1x16x1024x256 .bf16) (harg4 : arg4.IsWhole)
  (xk : Vec F S4096x1024 .bf16) (xq : Vec F S256x1024 .bf16) (xv : Vec F S1x1x16x1024x256 .bf16) (xt : Vec F S256x256 .bf16)

/-- The eight heads' sums after at most `k` trips that begin at key tile `j`. A trip runs where the loop's test passes. -/
noncomputable def rounds : ℕ → BitVec 32 → F .f32 → FVec F S8x256 .f32 → Vec F S8x128x256 .f32 → Vec F S8x128x256 .f32
  | 0, _, _, _, xa => xa
  | k + 1, j, live, carry, xa =>
    open Classical in
    if h : k0_chk1 j ∧ goes j live then
      rounds k (Scalar.subi j 1#32) (k0_pay7 (trip c i arg3 harg3 arg17 harg17 arg18 harg18 arg19 harg19 arg5 harg5 arg20 harg20 arg21 harg21 arg4 harg4 j h.1 xk xq xv xt xa carry).2.1) (trip c i arg3 harg3 arg17 harg17 arg18 harg18 arg19 harg19 arg5 harg5 arg20 harg20 arg21 harg21 arg4 harg4 j h.1 xk xq xv xt xa carry).2.1
        (arg21.view.read (Elt F) (arg21.view.writes (Elt F) (harg21.unread xa) (trip c i arg3 harg3 arg17 harg17 arg18 harg18 arg19 harg19 arg5 harg5 arg20 harg20 arg21 harg21 arg4 harg4 j h.1 xk xq xv xt xa carry).1))
    else xa

/-- What the loop reads and writes: the keys, the queries, the values and the mask at their contents, the three
    scratch buffers at anything, the heads' sums at `xa`. -/
def held (xa : Vec F S8x128x256 .f32) : sProp 𝕄 :=
  iprop(owns c.tc arg3 fullShare xk ∗ owns c.tc arg17 fullShare xq ∗ owns c.tc arg4 fullShare xv ∗ owns c.tc arg5 fullShare xt
    ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ owns c.tc arg21 fullShare xa)

/-- The loop's specification: it leaves the heads' sums at `rounds`, everything else it reads as it was, and returns
    some state. -/
def spec (k : ℕ) (j : BitVec 32) (live : F .f32) (carry : FVec F S8x256 .f32) (xa : Vec F S8x128x256 .f32) : sWPT 𝕄 (BitVec 32 × F .f32 × FVec F S8x256 .f32) := do
  sWPT.consume (held c arg3 arg17 arg18 arg19 arg5 arg20 arg21 arg4 xk xq xv xt xa)
  let r ← sWPT.arbitrary
  sWPT.produce (held c arg3 arg17 arg18 arg19 arg5 arg20 arg21 arg4 xk xq xv xt (rounds c i arg3 harg3 arg17 harg17 arg18 harg18 arg19 harg19 arg5 harg5 arg20 harg20 arg21 harg21 arg4 harg4 xk xq xv xt k j live carry xa))
  pure r

theorem spec_apply (k : ℕ) (j : BitVec 32) (live : F .f32) (carry : FVec F S8x256 .f32) (xa : Vec F S8x128x256 .f32) (K : BitVec 32 × F .f32 × FVec F S8x256 .f32 → sProp 𝕄) :
    spec c i arg3 harg3 arg17 harg17 arg18 harg18 arg19 harg19 arg5 harg5 arg20 harg20 arg21 harg21 arg4 harg4 xk xq xv xt k j live carry xa K
      = iprop(held c arg3 arg17 arg18 arg19 arg5 arg20 arg21 arg4 xk xq xv xt xa
          ∗ ∀ r : BitVec 32 × F .f32 × FVec F S8x256 .f32, (held c arg3 arg17 arg18 arg19 arg5 arg20 arg21 arg4 xk xq xv xt (rounds c i arg3 harg3 arg17 harg17 arg18 harg18 arg19 harg19 arg5 harg5 arg20 harg20 arg21 harg21 arg4 harg4 xk xq xv xt k j live carry xa) -∗ K r)) := rfl

/-- The loop's body meets its specification, by induction on the trips still possible. -/
theorem spec_le (E : Set ℕ) :
    ∀ (k : ℕ) (j : BitVec 32) (live : F .f32) (carry : FVec F S8x256 .f32) (xa : Vec F S8x128x256 .f32), k ≤ 16 → j.toInt < k → ∀ K,
      spec c i arg3 harg3 arg17 harg17 arg18 harg18 arg19 harg19 arg5 harg5 arg20 harg20 arg21 harg21 arg4 harg4 xk xq xv xt k j live carry xa K
        ⊢ wp frame (wpE (defs₀ (F := F)) 𝒱₀ (c : Thread nD τ) (some k)) E
            (defs₀ (F := F) .tc 1 ⟨i, arg3, harg3, arg17, harg17, arg18, harg18, arg19, harg19, arg5, harg5, arg20, harg20, arg21, harg21, arg4, harg4, j, live, carry⟩) K := by
  intro k
  induction k with
  | zero =>
    intro j live carry xa hk hj K
    rw [spec_apply]
    show _ ⊢ wp frame (wpE (defs₀ (F := F)) 𝒱₀ (c : Thread nD τ) (some 0)) E (cc0_while1 i arg3 harg3 arg17 harg17 arg18 harg18 arg19 harg19 arg5 harg5 arg20 harg20 arg21 harg21 arg4 harg4 j live carry) K
    have hno : ¬ goes j live := fun h => by have := goes_nonneg h; simp at hj; omega
    simp only [cc0_while1_eq_skeleton]; unfold cc0_while1_skel
    have hno' : ¬ Scalar.andi (Scalar.cmpi .sge j 0#32) (Scalar.cmpf .ogt live (Named.named κ "never" 0xC3170000#32 : F .f32)) = 1#1 := hno
    simp only [hno', ↓reduceIte, Prog.pure_eq_ret]
    iintro ⟨H, Hk⟩
    rw [wp_ret]; imodintro
    iapply Hk
    simp only [rounds]; iexact H
  | succ k ih =>
    intro j live carry xa hk hj K
    rw [spec_apply]
    show _ ⊢ wp frame (wpE (defs₀ (F := F)) 𝒱₀ (c : Thread nD τ) (some (k + 1))) E (cc0_while1 i arg3 harg3 arg17 harg17 arg18 harg18 arg19 harg19 arg5 harg5 arg20 harg20 arg21 harg21 arg4 harg4 j live carry) K
    by_cases hgo : goes j live
    · have h0 := goes_nonneg hgo
      have hc : k0_chk1 j := chk_of_toInt h0 (by push_cast at hj; omega)
      have hr : rounds c i arg3 harg3 arg17 harg17 arg18 harg18 arg19 harg19 arg5 harg5 arg20 harg20 arg21 harg21 arg4 harg4 xk xq xv xt (k + 1) j live carry xa
          = rounds c i arg3 harg3 arg17 harg17 arg18 harg18 arg19 harg19 arg5 harg5 arg20 harg20 arg21 harg21 arg4 harg4 xk xq xv xt k (Scalar.subi j 1#32) (k0_pay7 (trip c i arg3 harg3 arg17 harg17 arg18 harg18 arg19 harg19 arg5 harg5 arg20 harg20 arg21 harg21 arg4 harg4 j hc xk xq xv xt xa carry).2.1) (trip c i arg3 harg3 arg17 harg17 arg18 harg18 arg19 harg19 arg5 harg5 arg20 harg20 arg21 harg21 arg4 harg4 j hc xk xq xv xt xa carry).2.1
              (arg21.view.read (Elt F) (arg21.view.writes (Elt F) (harg21.unread xa) (trip c i arg3 harg3 arg17 harg17 arg18 harg18 arg19 harg19 arg5 harg5 arg20 harg20 arg21 harg21 arg4 harg4 j hc xk xq xv xt xa carry).1)) := by
        rw [rounds, dif_pos ⟨hc, hgo⟩]
      rw [hr]
      have hT := (trip c i arg3 harg3 arg17 harg17 arg18 harg18 arg19 harg19 arg5 harg5 arg20 harg20 arg21 harg21 arg4 harg4 j hc xk xq xv xt xa carry).2.2 live hgo (some (k + 1)) E K
      refine BIBase.Entails.trans ?_ hT
      unfold held
      iintro ⟨⟨H0, H1, H2, H3, H4, H5, H6, H7⟩, Hk⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      iapply (wp_call_spec 𝒱₀ (c : Thread nD τ) (some (k + 1)) E
        (spec c i arg3 harg3 arg17 harg17 arg18 harg18 arg19 harg19 arg5 harg5 arg20 harg20 arg21 harg21 arg4 harg4 xk xq xv xt k (Scalar.subi j 1#32) (k0_pay7 (trip c i arg3 harg3 arg17 harg17 arg18 harg18 arg19 harg19 arg5 harg5 arg20 harg20 arg21 harg21 arg4 harg4 j hc xk xq xv xt xa carry).2.1) (trip c i arg3 harg3 arg17 harg17 arg18 harg18 arg19 harg19 arg5 harg5 arg20 harg20 arg21 harg21 arg4 harg4 j hc xk xq xv xt xa carry).2.1
              (arg21.view.read (Elt F) (arg21.view.writes (Elt F) (harg21.unread xa) (trip c i arg3 harg3 arg17 harg17 arg18 harg18 arg19 harg19 arg5 harg5 arg20 harg20 arg21 harg21 arg4 harg4 j hc xk xq xv xt xa carry).1))) k
        (fun u hu => by cases hu; exact Nat.lt_succ_self k)
        (ih _ _ _ _ (by omega) (by rw [toInt_pred h0]; push_cast at hj; omega)))
      rw [spec_apply]; unfold held
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        unfold owns
        iexists _; isplitr; · ipureintro; rfl
        iexact H7
      iintro %r H
      rw [wp_ret]; imodintro
      iapply Hk
      iexact H
    · have hr : rounds c i arg3 harg3 arg17 harg17 arg18 harg18 arg19 harg19 arg5 harg5 arg20 harg20 arg21 harg21 arg4 harg4 xk xq xv xt (k + 1) j live carry xa = xa := by
        rw [rounds, dif_neg (fun h => hgo h.2)]
      rw [hr]
      simp only [cc0_while1_eq_skeleton]; unfold cc0_while1_skel
      have hno' : ¬ Scalar.andi (Scalar.cmpi .sge j 0#32) (Scalar.cmpf .ogt live (Named.named κ "never" 0xC3170000#32 : F .f32)) = 1#1 := hgo
      simp only [hno', ↓reduceIte, Prog.pure_eq_ret]
      iintro ⟨H, Hk⟩
      rw [wp_ret]; imodintro
      iapply Hk
      iexact H

end Label

end Cert.Proof.SB

end
-- ==== Proof.BodyA.lean ====
module

public import proofs.«01_k».proof.Proof.Loop
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A memref whose stores cover it is held at what it reads, whatever was there before. -/
theorem owns_of_writes (c : Thread nD τ) {sp : Space} {s : Shape} {e : EltTy} (m : Memref sig c.2.kind sp s e) (f : Buf (Elt F) (m.view.loc c)) (L : List (View.Piece (Elt F) s e))
    (h : ∀ y, ∃ p ∈ L, y ∈ p.1.set) :
    (m.view.loc c ↦[m.view.set]{fullShare} m.view.writes (Elt F) f L : sProp 𝕄) ⊢ owns c m fullShare (m.view.read (Elt F) (m.view.writes (Elt F) m.view.junk L)) := by
  unfold owns
  iintro H
  iexists _; isplitr
  · ipureintro; exact View.read_writes_of_cover m.view f m.view m.view.junk L h
  iexact H

/-- The same, said of the buffer's contents. -/
theorem reads_of_writes (c : Thread nD τ) {sp : Space} {s : Shape} {e : EltTy} (m : Memref sig c.2.kind sp s e) (f : Buf (Elt F) (m.view.loc c)) (L : List (View.Piece (Elt F) s e))
    (h : ∀ y, ∃ p ∈ L, y ∈ p.1.set) :
    (m.view.loc c ↦[m.view.set]{fullShare} m.view.writes (Elt F) f L : sProp 𝕄)
      ⊢ iprop(∃ g, ⌜m.view.read (Elt F) g = m.view.read (Elt F) (m.view.writes (Elt F) m.view.junk L)⌝ ∗ m.view.loc c ↦[m.view.set]{fullShare} g) :=
  owns_of_writes c m f L h

/-- The first tile the loop may visit lies below the sixteen key tiles. -/
theorem first_lt (i : grid0.Coords) : (Scalar.subi (BitVec.ofNat 32 (i 1).val) 2#32).toInt < (16 : ℕ) := by
  have h : ∀ n : Fin 16, (Scalar.subi (BitVec.ofNat 32 n.val) 2#32).toInt < (16 : ℕ) := by decide
  exact h ⟨(i 1).val, (i 1).isLt⟩

set_option maxHeartbeats 4000000 in
/-- The whole body at a grid point whose query tile is the first: what it leaves in the six outputs, with the proof that it
    runs to its end, the inputs as they were. -/
noncomputable def bodyA (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S64x512 .f32) (harg9 : arg9.IsWhole) (arg10 : Memref sig .tc .vmem S16x2048 .f32) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S64x2048 .bf16) (harg14 : arg14.IsWhole) (arg15 : Memref sig .tc .vmem S64x512 .bf16) (harg15 : arg15.IsWhole) (arg16 : Memref sig .tc .vmem S16x2048 .bf16) (harg16 : arg16.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg20 : Memref sig .tc .vmem S2x8x256x256 .bf16) (harg20 : arg20.IsWhole) (arg21 : Memref sig .tc .vmem S8x128x256 .f32) (harg21 : arg21.IsWhole) (hc0 : ¬k0_cond1 i = 1#1)
    (x0 : Vec F S256x1024 .bf16) (x1 : Vec F S4096x1024 .bf16) (x2 : Vec F S1x1x16x1024x256 .bf16) (x3 : Vec F S256x256 .bf16) (x4 : Vec F S32x2048 .f32) (x5 : Vec F S32x2048 .f32) (x6 : Vec F S64x2048 .f32) (x7 : Vec F S64x512 .f32) (x8 : Vec F S16x2048 .f32) :
    Σ' (O9 : Vec F S256x1024 .bf16), Σ' (O10 : Vec F S32x2048 .bf16), Σ' (O11 : Vec F S32x2048 .bf16), Σ' (O12 : Vec F S64x2048 .bf16), Σ' (O13 : Vec F S64x512 .bf16), { O14 : Vec F S16x2048 .bf16 //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare O9 ∗ owns c.tc arg12 fullShare O10 ∗ owns c.tc arg13 fullShare O11 ∗ owns c.tc arg14 fullShare O12 ∗ owns c.tc arg15 fullShare O13 ∗ owns c.tc arg16 fullShare O14 ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
          ⊢ wp frame (wpE (defs₀ (F := F)) 𝒱₀ (c : Thread nD τ) none) E (cc0_sb_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc0_sb_attention_eq_skeleton]; unfold cc0_sb_attention_skel
    simp only [k0_part43_eq_skeleton, k0_part44_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    -- the loop, through its specification: the scaled queries and the heads' sums are wholly written before it
    ihave Hq := (owns_of_writes (c : Thread nD τ) arg17 _ _ (View.cover_of_tiledL _ ![256, 1024] (by sl_kernel_rfl))) $$ H15
    ihave Ha := (owns_of_writes (c : Thread nD τ) arg21 _ _ (View.cover_of_tiledL _ ![8, 128, 256] (by sl_kernel_rfl))) $$ H19
    iapply (wp_call_spec 𝒱₀ (c : Thread nD τ) none E (spec c i arg3 harg3 arg17 harg17 arg18 harg18 arg19 harg19 arg5 harg5 arg20 harg20 arg21 harg21 arg4 harg4 x1 _ x2 x3 16 _ _ _ _) 16 (fun u hu => nomatch hu)
      (spec_le c i arg3 harg3 arg17 harg17 arg18 harg18 arg19 harg19 arg5 harg5 arg20 harg20 arg21 harg21 arg4 harg4 x1 _ x2 x3 E 16 _ _ _ _ le_rfl (first_lt i)))
    rw [spec_apply]; unfold held owns
    isplitl [H1 Hq H2 H3 H16 H17 H18 Ha]
    · isplitl [H1]
      · iexists _; isplitr; · ipureintro; exact harg3.read_unread _
        iexact H1
      isplitl [Hq]; · iexact Hq
      isplitl [H2]
      · iexists _; isplitr; · ipureintro; exact harg4.read_unread _
        iexact H2
      isplitl [H3]
      · iexists _; isplitr; · ipureintro; exact harg5.read_unread _
        iexact H3
      isplitl [H16]; · iexists _; iexact H16
      isplitl [H17]; · iexists _; iexact H17
      isplitl [H18]; · iexists _; iexact H18
      iexact Ha
    iintro %r ⟨⟨%g1, %hg1, H1⟩, ⟨%g15, %hg15, H15⟩, ⟨%g2, %hg2, H2⟩, ⟨%g3, %hg3, H3⟩, ⟨%g16, H16⟩, ⟨%g17, H17⟩, ⟨%g18, H18⟩, ⟨%g19, %hg19, H19⟩⟩
    obtain rfl := harg21.eq_unread hg19
    sl_exec
    sl_step
    iapply Hk
    isplitl [H0]
    · iexists _; isplitr; · ipureintro; exact harg2.read_unread _
      iexact H0
    isplitl [H1]
    · iexists _; isplitr; · ipureintro; exact hg1
      iexact H1
    isplitl [H2]
    · iexists _; isplitr; · ipureintro; exact hg2
      iexact H2
    isplitl [H3]
    · iexists _; isplitr; · ipureintro; exact hg3
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iapply (reads_of_writes (c : Thread nD τ) arg11 _ _ (View.cover_of_tiledL _ ![256, 128] (by sl_kernel_rfl))) $$ H9
    isplitl [H10]; · iapply (reads_of_writes (c : Thread nD τ) arg12 _ _ (View.cover_of_tiledL _ ![32, 2048] (by sl_kernel_rfl))) $$ H10
    isplitl [H11]; · iapply (reads_of_writes (c : Thread nD τ) arg13 _ _ (View.cover_of_tiledL _ ![32, 2048] (by sl_kernel_rfl))) $$ H11
    isplitl [H12]; · iapply (reads_of_writes (c : Thread nD τ) arg14 _ _ (View.cover_of_tiledL _ ![64, 2048] (by sl_kernel_rfl))) $$ H12
    isplitl [H13]; · iapply (reads_of_writes (c : Thread nD τ) arg15 _ _ (View.cover_of_tiledL _ ![64, 512] (by sl_kernel_rfl))) $$ H13
    isplitl [H14]; · iapply (reads_of_writes (c : Thread nD τ) arg16 _ _ (View.cover_of_tiledL _ ![16, 2048] (by sl_kernel_rfl))) $$ H14
    isplitl [H15]; · iexists _; iexact H15
    isplitl [H16]; · iexists _; iexact H16
    isplitl [H17]; · iexists _; iexact H17
    isplitl [H18]; · iexists _; iexact H18
    iexists _; iexact H19

end Cert.Proof.SB

end
-- ==== Proof.BodyB.lean ====
module

public import proofs.«01_k».proof.Proof.BodyA
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The whole body at a grid point with a query tile above the first: what it leaves in the six outputs, with the proof that it
    runs to its end, the inputs as they were. -/
noncomputable def bodyB (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S64x512 .f32) (harg9 : arg9.IsWhole) (arg10 : Memref sig .tc .vmem S16x2048 .f32) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S64x2048 .bf16) (harg14 : arg14.IsWhole) (arg15 : Memref sig .tc .vmem S64x512 .bf16) (harg15 : arg15.IsWhole) (arg16 : Memref sig .tc .vmem S16x2048 .bf16) (harg16 : arg16.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg20 : Memref sig .tc .vmem S2x8x256x256 .bf16) (harg20 : arg20.IsWhole) (arg21 : Memref sig .tc .vmem S8x128x256 .f32) (harg21 : arg21.IsWhole) (hc0 : k0_cond1 i = 1#1)
    (x0 : Vec F S256x1024 .bf16) (x1 : Vec F S4096x1024 .bf16) (x2 : Vec F S1x1x16x1024x256 .bf16) (x3 : Vec F S256x256 .bf16) (x4 : Vec F S32x2048 .f32) (x5 : Vec F S32x2048 .f32) (x6 : Vec F S64x2048 .f32) (x7 : Vec F S64x512 .f32) (x8 : Vec F S16x2048 .f32) :
    Σ' (O9 : Vec F S256x1024 .bf16), Σ' (O10 : Vec F S32x2048 .bf16), Σ' (O11 : Vec F S32x2048 .bf16), Σ' (O12 : Vec F S64x2048 .bf16), Σ' (O13 : Vec F S64x512 .bf16), { O14 : Vec F S16x2048 .bf16 //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare O9 ∗ owns c.tc arg12 fullShare O10 ∗ owns c.tc arg13 fullShare O11 ∗ owns c.tc arg14 fullShare O12 ∗ owns c.tc arg15 fullShare O13 ∗ owns c.tc arg16 fullShare O14 ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
          ⊢ wp frame (wpE (defs₀ (F := F)) 𝒱₀ (c : Thread nD τ) none) E (cc0_sb_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, ?_, ?_, fun E K => ?run⟩
  case run =>
    simp only [cc0_sb_attention_eq_skeleton]; unfold cc0_sb_attention_skel
    simp only [k0_part43_eq_skeleton, k0_part44_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    -- the loop, through its specification: the scaled queries and the heads' sums are wholly written before it
    ihave Hq := (owns_of_writes (c : Thread nD τ) arg17 _ _ (View.cover_of_tiledL _ ![256, 1024] (by sl_kernel_rfl))) $$ H15
    ihave Ha := (owns_of_writes (c : Thread nD τ) arg21 _ _ (View.cover_of_tiledL _ ![1, 128, 256] (by sl_kernel_rfl))) $$ H19
    iapply (wp_call_spec 𝒱₀ (c : Thread nD τ) none E (spec c i arg3 harg3 arg17 harg17 arg18 harg18 arg19 harg19 arg5 harg5 arg20 harg20 arg21 harg21 arg4 harg4 x1 _ x2 x3 16 _ _ _ _) 16 (fun u hu => nomatch hu)
      (spec_le c i arg3 harg3 arg17 harg17 arg18 harg18 arg19 harg19 arg5 harg5 arg20 harg20 arg21 harg21 arg4 harg4 x1 _ x2 x3 E 16 _ _ _ _ le_rfl (first_lt i)))
    rw [spec_apply]; unfold held owns
    isplitl [H1 Hq H2 H3 H16 H17 H18 Ha]
    · isplitl [H1]
      · iexists _; isplitr; · ipureintro; exact harg3.read_unread _
        iexact H1
      isplitl [Hq]; · iexact Hq
      isplitl [H2]
      · iexists _; isplitr; · ipureintro; exact harg4.read_unread _
        iexact H2
      isplitl [H3]
      · iexists _; isplitr; · ipureintro; exact harg5.read_unread _
        iexact H3
      isplitl [H16]; · iexists _; iexact H16
      isplitl [H17]; · iexists _; iexact H17
      isplitl [H18]; · iexists _; iexact H18
      iexact Ha
    iintro %r ⟨⟨%g1, %hg1, H1⟩, ⟨%g15, %hg15, H15⟩, ⟨%g2, %hg2, H2⟩, ⟨%g3, %hg3, H3⟩, ⟨%g16, H16⟩, ⟨%g17, H17⟩, ⟨%g18, H18⟩, ⟨%g19, %hg19, H19⟩⟩
    obtain rfl := harg21.eq_unread hg19
    sl_exec
    sl_step
    iapply Hk
    isplitl [H0]
    · iexists _; isplitr; · ipureintro; exact harg2.read_unread _
      iexact H0
    isplitl [H1]
    · iexists _; isplitr; · ipureintro; exact hg1
      iexact H1
    isplitl [H2]
    · iexists _; isplitr; · ipureintro; exact hg2
      iexact H2
    isplitl [H3]
    · iexists _; isplitr; · ipureintro; exact hg3
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iapply (reads_of_writes (c : Thread nD τ) arg11 _ _ (View.cover_of_tiledL _ ![256, 128] (by sl_kernel_rfl))) $$ H9
    isplitl [H10]; · iapply (reads_of_writes (c : Thread nD τ) arg12 _ _ (View.cover_of_tiledL _ ![32, 2048] (by sl_kernel_rfl))) $$ H10
    isplitl [H11]; · iapply (reads_of_writes (c : Thread nD τ) arg13 _ _ (View.cover_of_tiledL _ ![32, 2048] (by sl_kernel_rfl))) $$ H11
    isplitl [H12]; · iapply (reads_of_writes (c : Thread nD τ) arg14 _ _ (View.cover_of_tiledL _ ![64, 2048] (by sl_kernel_rfl))) $$ H12
    isplitl [H13]; · iapply (reads_of_writes (c : Thread nD τ) arg15 _ _ (View.cover_of_tiledL _ ![64, 512] (by sl_kernel_rfl))) $$ H13
    isplitl [H14]; · iapply (reads_of_writes (c : Thread nD τ) arg16 _ _ (View.cover_of_tiledL _ ![16, 2048] (by sl_kernel_rfl))) $$ H14
    isplitl [H15]; · iexists _; iexact H15
    isplitl [H16]; · iexists _; iexact H16
    isplitl [H17]; · iexists _; iexact H17
    isplitl [H18]; · iexists _; iexact H18
    iexists _; iexact H19

end Cert.Proof.SB

end
-- ==== Proof.Frame.lean ====
module

public import proofs.«01_k».proof.Proof.BodyB
public import Idealize.ShloMosaic.Lib.Pipeline.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Outs

variable (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S64x512 .f32) (harg9 : arg9.IsWhole) (arg10 : Memref sig .tc .vmem S16x2048 .f32) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S64x2048 .bf16) (harg14 : arg14.IsWhole) (arg15 : Memref sig .tc .vmem S64x512 .bf16) (harg15 : arg15.IsWhole) (arg16 : Memref sig .tc .vmem S16x2048 .bf16) (harg16 : arg16.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg20 : Memref sig .tc .vmem S2x8x256x256 .bf16) (harg20 : arg20.IsWhole) (arg21 : Memref sig .tc .vmem S8x128x256 .f32) (harg21 : arg21.IsWhole)
    (x0 : Vec F S256x1024 .bf16) (x1 : Vec F S4096x1024 .bf16) (x2 : Vec F S1x1x16x1024x256 .bf16) (x3 : Vec F S256x256 .bf16) (x4 : Vec F S32x2048 .f32) (x5 : Vec F S32x2048 .f32) (x6 : Vec F S64x2048 .f32) (x7 : Vec F S64x512 .f32) (x8 : Vec F S16x2048 .f32)

/-- What the body leaves in its six outputs. -/
def outs : Vec F S256x1024 .bf16 × Vec F S32x2048 .bf16 × Vec F S32x2048 .bf16 × Vec F S64x2048 .bf16 × Vec F S64x512 .bf16 × Vec F S16x2048 .bf16 :=
  if hc : k0_cond1 i = 1#1 then ((bodyB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).1, (bodyB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).2.1, (bodyB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).2.2.1, (bodyB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).2.2.2.1, (bodyB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).2.2.2.2.1, (bodyB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).2.2.2.2.2.1)
  else ((bodyA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).1, (bodyA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).2.1, (bodyA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).2.2.1, (bodyA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).2.2.2.1, (bodyA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).2.2.2.2.1, (bodyA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).2.2.2.2.2.1)

/-- The body, at any grid point, runs to its end, leaves its inputs as they were and its outputs at `outs`. -/
theorem body_runs (E : Set ℕ) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare (outs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8).1 ∗ owns c.tc arg12 fullShare (outs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8).2.1 ∗ owns c.tc arg13 fullShare (outs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8).2.2.1 ∗ owns c.tc arg14 fullShare (outs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8).2.2.2.1 ∗ owns c.tc arg15 fullShare (outs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8).2.2.2.2.1 ∗ owns c.tc arg16 fullShare (outs c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8).2.2.2.2.2 ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
      ⊢ wp frame (wpE (defs₀ (F := F)) 𝒱₀ (c : Thread nD τ) none) E (cc0_sb_attention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold outs
  split
  · rename_i hc; exact (bodyB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).2.2.2.2.2.2 E K
  · rename_i hc; exact (bodyA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8).2.2.2.2.2.2 E K

end Outs

variable (m : (ℓ : Loc nD τ sig) → Buf (Elt F) ℓ) (ρ : Dev nD → PrngReg)

/-- Core `c`'s buffers when the kernel is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the kernel: the host operations. -/
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The argument arrays. -/
def argRefs : List (Ref sig .tc) := [main_arg0, main_arg1, main_arg2, main_arg3, main_arg4, main_arg5]

/-- No host operation writes an argument array: the kernel finds each as it was at the start. -/
theorem V_arg (c : Dev nD) : ∀ b ∈ argRefs, V m c b = m ((c : Thread nD τ).loc b) := by
  intro b hb
  refine StableHlo.after_of_forall_not_mem (b := Proc.devRef .tc b) _ _ (List.forall_iff_forall_mem.mp ?_)
  simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert b; decide)

/-- Window `w`'s block at point `t`, of its array as the kernel finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What the six outputs' buffers hold after the body at point `t`. -/
def outsAt (c : Dev nD) (t : Fin (cfg0 (F := F)).N) : Vec F S256x1024 .bf16 × Vec F S32x2048 .bf16 × Vec F S32x2048 .bf16 × Vec F S64x2048 .bf16 × Vec F S64x512 .bf16 × Vec F S16x2048 .bf16 :=
  outs c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) (win0_11.stage ((cfg0 (F := F)).slots t 11)) (hstage0_11 (((cfg0 (F := F)).slots t 11).cast nbuf0_11)) (win0_12.stage ((cfg0 (F := F)).slots t 12)) (hstage0_12 (((cfg0 (F := F)).slots t 12).cast nbuf0_12)) (win0_13.stage ((cfg0 (F := F)).slots t 13)) (hstage0_13 (((cfg0 (F := F)).slots t 13).cast nbuf0_13)) (win0_14.stage ((cfg0 (F := F)).slots t 14)) (hstage0_14 (((cfg0 (F := F)).slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t)

/-- The proof data: each array as the kernel finds it, the inputs' buffers left at their blocks, the outputs' at
    `outsAt`, the scratch at anything, nothing owed. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t).1
    | ⟨10, _⟩ => (outsAt m c t).2.1
    | ⟨11, _⟩ => (outsAt m c t).2.2.1
    | ⟨12, _⟩ => (outsAt m c t).2.2.2.1
    | ⟨13, _⟩ => (outsAt m c t).2.2.2.2.1
    | ⟨14, _⟩ => (outsAt m c t).2.2.2.2.2
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

/-- An input's buffer holds its block whenever the body begins. -/
theorem before_in (c : Dev nD) (w : Fin (cfg0 (F := F)).W) (hw : ((cfg0 (F := F)).win w).isOut = false) (hlive : ∀ i, (cfg0 (F := F)).idle w i = false)
    (hclip : ∀ t t' : Fin (cfg0 (F := F)).N, ((cfg0 (F := F)).win w).index t = ((cfg0 (F := F)).win w).index t' → ((cfg0 (F := F)).win w).clip ((cfg0 (F := F)).grid.coords t) = ((cfg0 (F := F)).win w).clip ((cfg0 (F := F)).grid.coords t'))
    (hkeep : ∀ t, ((cfg0 (F := F)).win w).cut ((cfg0 (F := F)).grid.coords t) ((dats m 0 c).after w t) = (dats m 0 c).blockOf w t) (t : Fin (cfg0 (F := F)).N) (d) :
    (dats m 0 c).before w t d = (dats m 0 c).fetched w t d :=
  (dats m 0 c).before_in_eq_fetched w hw hlive hclip hkeep t d

theorem before_0 (c : Dev nD) (t : Fin (cfg0 (F := F)).N) (d) : (dats m 0 c).before 0 t d = iblk m c 0 t :=
  (before_in m c 0 rfl (fun _ => rfl) (fun _ _ _ => rfl) (fun _ => by unfold Dat.blockOf; dsimp only [dats]; rfl) t d).trans (by unfold Dat.fetched Dat.blockOf iblk; dsimp only [dats]; try rfl)
theorem before_1 (c : Dev nD) (t : Fin (cfg0 (F := F)).N) (d) : (dats m 0 c).before 1 t d = iblk m c 1 t :=
  (before_in m c 1 rfl (fun _ => rfl) (fun _ _ _ => rfl) (fun _ => by unfold Dat.blockOf; dsimp only [dats]; rfl) t d).trans (by unfold Dat.fetched Dat.blockOf iblk; dsimp only [dats]; try rfl)
theorem before_2 (c : Dev nD) (t : Fin (cfg0 (F := F)).N) (d) : (dats m 0 c).before 2 t d = iblk m c 2 t :=
  (before_in m c 2 rfl (fun _ => rfl) (fun _ _ _ => rfl) (fun _ => by unfold Dat.blockOf; dsimp only [dats]; rfl) t d).trans (by unfold Dat.fetched Dat.blockOf iblk; dsimp only [dats]; try rfl)
theorem before_3 (c : Dev nD) (t : Fin (cfg0 (F := F)).N) (d) : (dats m 0 c).before 3 t d = iblk m c 3 t :=
  (before_in m c 3 rfl (fun _ => rfl) (fun _ _ _ => rfl) (fun _ => by unfold Dat.blockOf; dsimp only [dats]; rfl) t d).trans (by unfold Dat.fetched Dat.blockOf iblk; dsimp only [dats]; try rfl)
theorem before_4 (c : Dev nD) (t : Fin (cfg0 (F := F)).N) (d) : (dats m 0 c).before 4 t d = iblk m c 4 t :=
  (before_in m c 4 rfl (fun _ => rfl) (fun _ _ _ => rfl) (fun _ => by unfold Dat.blockOf; dsimp only [dats]; rfl) t d).trans (by unfold Dat.fetched Dat.blockOf iblk; dsimp only [dats]; try rfl)
theorem before_5 (c : Dev nD) (t : Fin (cfg0 (F := F)).N) (d) : (dats m 0 c).before 5 t d = iblk m c 5 t :=
  (before_in m c 5 rfl (fun _ => rfl) (fun _ _ _ => rfl) (fun _ => by unfold Dat.blockOf; dsimp only [dats]; rfl) t d).trans (by unfold Dat.fetched Dat.blockOf iblk; dsimp only [dats]; try rfl)
theorem before_6 (c : Dev nD) (t : Fin (cfg0 (F := F)).N) (d) : (dats m 0 c).before 6 t d = iblk m c 6 t :=
  (before_in m c 6 rfl (fun _ => rfl) (fun _ _ _ => rfl) (fun _ => by unfold Dat.blockOf; dsimp only [dats]; rfl) t d).trans (by unfold Dat.fetched Dat.blockOf iblk; dsimp only [dats]; try rfl)
theorem before_7 (c : Dev nD) (t : Fin (cfg0 (F := F)).N) (d) : (dats m 0 c).before 7 t d = iblk m c 7 t :=
  (before_in m c 7 rfl (fun _ => rfl) (fun _ _ _ => rfl) (fun _ => by unfold Dat.blockOf; dsimp only [dats]; rfl) t d).trans (by unfold Dat.fetched Dat.blockOf iblk; dsimp only [dats]; try rfl)
theorem before_8 (c : Dev nD) (t : Fin (cfg0 (F := F)).N) (d) : (dats m 0 c).before 8 t d = iblk m c 8 t :=
  (before_in m c 8 rfl (fun _ => rfl) (fun _ _ _ => rfl) (fun _ => by unfold Dat.blockOf; dsimp only [dats]; rfl) t d).trans (by unfold Dat.fetched Dat.blockOf iblk; dsimp only [dats]; try rfl)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns c.tc (win0_0.stage ((cfg0 (F := F)).slots t 0)) fullShare ((dats m 0 c).before 0 t d))
    ∗ (∃ d, owns c.tc (win0_1.stage ((cfg0 (F := F)).slots t 1)) fullShare ((dats m 0 c).before 1 t d))
    ∗ (∃ d, owns c.tc (win0_2.stage ((cfg0 (F := F)).slots t 2)) fullShare ((dats m 0 c).before 2 t d))
    ∗ (∃ d, owns c.tc (win0_3.stage ((cfg0 (F := F)).slots t 3)) fullShare ((dats m 0 c).before 3 t d))
    ∗ (∃ d, owns c.tc (win0_4.stage ((cfg0 (F := F)).slots t 4)) fullShare ((dats m 0 c).before 4 t d))
    ∗ (∃ d, owns c.tc (win0_5.stage ((cfg0 (F := F)).slots t 5)) fullShare ((dats m 0 c).before 5 t d))
    ∗ (∃ d, owns c.tc (win0_6.stage ((cfg0 (F := F)).slots t 6)) fullShare ((dats m 0 c).before 6 t d))
    ∗ (∃ d, owns c.tc (win0_7.stage ((cfg0 (F := F)).slots t 7)) fullShare ((dats m 0 c).before 7 t d))
    ∗ (∃ d, owns c.tc (win0_8.stage ((cfg0 (F := F)).slots t 8)) fullShare ((dats m 0 c).before 8 t d))
    ∗ (∃ d, owns c.tc (win0_9.stage ((cfg0 (F := F)).slots t 9)) fullShare ((dats m 0 c).before 9 t d))
    ∗ (∃ d, owns c.tc (win0_10.stage ((cfg0 (F := F)).slots t 10)) fullShare ((dats m 0 c).before 10 t d))
    ∗ (∃ d, owns c.tc (win0_11.stage ((cfg0 (F := F)).slots t 11)) fullShare ((dats m 0 c).before 11 t d))
    ∗ (∃ d, owns c.tc (win0_12.stage ((cfg0 (F := F)).slots t 12)) fullShare ((dats m 0 c).before 12 t d))
    ∗ (∃ d, owns c.tc (win0_13.stage ((cfg0 (F := F)).slots t 13)) fullShare ((dats m 0 c).before 13 t d))
    ∗ (∃ d, owns c.tc (win0_14.stage ((cfg0 (F := F)).slots t 14)) fullShare ((dats m 0 c).before 14 t d)))

/-- and what it returns. -/
def bodyPost (c : Dev nD) (t : Fin (cfg0 (F := F)).N) : sProp 𝕄 :=
  iprop((dats m 0 c).Φ t.succ ∗ (dats m 0 c).owesAt () t.succ
    ∗ owns c.tc (win0_0.stage ((cfg0 (F := F)).slots t 0)) fullShare ((dats m 0 c).after 0 t)
    ∗ owns c.tc (win0_1.stage ((cfg0 (F := F)).slots t 1)) fullShare ((dats m 0 c).after 1 t)
    ∗ owns c.tc (win0_2.stage ((cfg0 (F := F)).slots t 2)) fullShare ((dats m 0 c).after 2 t)
    ∗ owns c.tc (win0_3.stage ((cfg0 (F := F)).slots t 3)) fullShare ((dats m 0 c).after 3 t)
    ∗ owns c.tc (win0_4.stage ((cfg0 (F := F)).slots t 4)) fullShare ((dats m 0 c).after 4 t)
    ∗ owns c.tc (win0_5.stage ((cfg0 (F := F)).slots t 5)) fullShare ((dats m 0 c).after 5 t)
    ∗ owns c.tc (win0_6.stage ((cfg0 (F := F)).slots t 6)) fullShare ((dats m 0 c).after 6 t)
    ∗ owns c.tc (win0_7.stage ((cfg0 (F := F)).slots t 7)) fullShare ((dats m 0 c).after 7 t)
    ∗ owns c.tc (win0_8.stage ((cfg0 (F := F)).slots t 8)) fullShare ((dats m 0 c).after 8 t)
    ∗ owns c.tc (win0_9.stage ((cfg0 (F := F)).slots t 9)) fullShare ((dats m 0 c).after 9 t)
    ∗ owns c.tc (win0_10.stage ((cfg0 (F := F)).slots t 10)) fullShare ((dats m 0 c).after 10 t)
    ∗ owns c.tc (win0_11.stage ((cfg0 (F := F)).slots t 11)) fullShare ((dats m 0 c).after 11 t)
    ∗ owns c.tc (win0_12.stage ((cfg0 (F := F)).slots t 12)) fullShare ((dats m 0 c).after 12 t)
    ∗ owns c.tc (win0_13.stage ((cfg0 (F := F)).slots t 13)) fullShare ((dats m 0 c).after 13 t)
    ∗ owns c.tc (win0_14.stage ((cfg0 (F := F)).slots t 14)) fullShare ((dats m 0 c).after 14 t))

/-- The invariant: the five scratch buffers at anything, and the generator register. -/
theorem PhiA_eq (c : Dev nD) :
    (Pipeline.ΦA spec0 c : sProp 𝕄)
      = iprop(iprop((∃ d, owns c.tc (Memref.whole cc0_scratch0) fullShare d) ∗ (∃ d, owns c.tc (Memref.whole cc0_scratch1) fullShare d) ∗ (∃ d, owns c.tc (Memref.whole cc0_scratch2) fullShare d) ∗ (∃ d, owns c.tc (Memref.whole cc0_scratch3) fullShare d) ∗ (∃ d, owns c.tc (Memref.whole cc0_scratch4) fullShare d)) ∗ (∃ r, prngReg c r)) := by
  unfold Pipeline.ΦA; rw [scopedRest0_eq]; simp only [owns_whole]; try rfl

/-- A memref held at some contents is its buffer held at some contents, -/
theorem points_of_owns (c : Thread nD τ) {sp : Space} {s : Shape} {e : EltTy} (m : Memref sig c.2.kind sp s e) (x : s.Idx → Elt F e) :
    (owns c m fullShare x : sProp 𝕄) ⊢ iprop(∃ f, m.view.loc c ↦[m.view.set]{fullShare} f) := by
  unfold owns
  iintro ⟨%f, %hf, H⟩
  iexists _; iexact H

/-- and back. -/
theorem owns_of_points (c : Thread nD τ) {sp : Space} {s : Shape} {e : EltTy} (m : Memref sig c.2.kind sp s e) :
    (iprop(∃ f, m.view.loc c ↦[m.view.set]{fullShare} f) : sProp 𝕄) ⊢ iprop(∃ x : s.Idx → Elt F e, owns c m fullShare x) := by
  unfold owns
  iintro ⟨%f, H⟩
  iexists _; iexists f; isplitr
  · ipureintro; rfl
  iexact H

set_option maxHeartbeats 4000000 in
/-- The body at any point, between the two. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_runs c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (points_of_owns c.tc (win0_9.stage ((cfg0 (F := F)).slots t 9)) ((dats m 0 c).before 9 t d9)) $$ H9
  isplitl [H10]; · iapply (points_of_owns c.tc (win0_10.stage ((cfg0 (F := F)).slots t 10)) ((dats m 0 c).before 10 t d10)) $$ H10
  isplitl [H11]; · iapply (points_of_owns c.tc (win0_11.stage ((cfg0 (F := F)).slots t 11)) ((dats m 0 c).before 11 t d11)) $$ H11
  isplitl [H12]; · iapply (points_of_owns c.tc (win0_12.stage ((cfg0 (F := F)).slots t 12)) ((dats m 0 c).before 12 t d12)) $$ H12
  isplitl [H13]; · iapply (points_of_owns c.tc (win0_13.stage ((cfg0 (F := F)).slots t 13)) ((dats m 0 c).before 13 t d13)) $$ H13
  isplitl [H14]; · iapply (points_of_owns c.tc (win0_14.stage ((cfg0 (F := F)).slots t 14)) ((dats m 0 c).before 14 t d14)) $$ H14
  isplitl [HS0]; · icases HS0 with ⟨%e0, HS0⟩; iapply (points_of_owns c.tc _ _) $$ HS0
  isplitl [HS1]; · icases HS1 with ⟨%e1, HS1⟩; iapply (points_of_owns c.tc _ _) $$ HS1
  isplitl [HS2]; · icases HS2 with ⟨%e2, HS2⟩; iapply (points_of_owns c.tc _ _) $$ HS2
  isplitl [HS3]; · icases HS3 with ⟨%e3, HS3⟩; iapply (points_of_owns c.tc _ _) $$ HS3
  isplitl [HS4]; · icases HS4 with ⟨%e4, HS4⟩; iapply (points_of_owns c.tc _ _) $$ HS4
  iintro ⟨H0, H1, H2, H3, H4, H5, H6, H7, H8, H9, H10, H11, H12, H13, H14, HS0, HS1, HS2, HS3, HS4⟩
  isplitl [HS0 HS1 HS2 HS3 HS4 Hg]
  · isplitl [HS0 HS1 HS2 HS3 HS4]
    · isplitl [HS0]; · iapply (owns_of_points (c : Thread nD τ) _) $$ HS0
      isplitl [HS1]; · iapply (owns_of_points (c : Thread nD τ) _) $$ HS1
      isplitl [HS2]; · iapply (owns_of_points (c : Thread nD τ) _) $$ HS2
      isplitl [HS3]; · iapply (owns_of_points (c : Thread nD τ) _) $$ HS3
      iapply (owns_of_points (c : Thread nD τ) _) $$ HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The pipeline's obligation of the body, at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

set_option backward.isDefEq.respectTransparency.types false in
/-- Every run of the program ends, with each array the kernel stages at what the pipeline computes from the proof data,
    every other array as the kernel found it, and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- No window's array is the first argument: the host takes the kernel's operands out of it. -/
theorem arr_ne : ∀ w : Fin 15, (spec0 w).arr.view.ref ≠ main_arg0 := by
  decide

/-- The frame: every run ends, with the six arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) arr_ne)).trans (V_arg m c main_arg0 (by decide)),
      ((h.1 c).1 4).trans (((dats m 0 c).arrAt_in 4 rfl _).trans ((A_eq m c 4).trans (V_arg m c main_arg1 (by decide)))),
      ((h.1 c).1 5).trans (((dats m 0 c).arrAt_in 5 rfl _).trans ((A_eq m c 5).trans (V_arg m c main_arg2 (by decide)))),
      ((h.1 c).1 6).trans (((dats m 0 c).arrAt_in 6 rfl _).trans ((A_eq m c 6).trans (V_arg m c main_arg3 (by decide)))),
      ((h.1 c).1 7).trans (((dats m 0 c).arrAt_in 7 rfl _).trans ((A_eq m c 7).trans (V_arg m c main_arg4 (by decide)))),
      ((h.1 c).1 8).trans (((dats m 0 c).arrAt_in 8 rfl _).trans ((A_eq m c 8).trans (V_arg m c main_arg5 (by decide))))⟩, h.2⟩) (run_quiet m ρ)

end Cert.Proof.SB

end
-- ==== Proof.Claims.lean ====
/- The claims proved one by one: each program runs to its end with its arguments unchanged and its semaphores at zero, and
   the named constants mean what the statement says they mean. -/
module

public import proofs.«01_k».proof.Defs
public import proofs.«01_k».proof.Proof.Frame
public import proofs.«01_k».proof.Proof.K.Frame
public import proofs.«01_k».proof.Proof.Gen.ReferenceIdeal.Run
public import Idealize.ShloMosaic.Adequacy

@[expose] public section

noncomputable section

namespace Cert.Proof

open Idealize.ShloMosaic Idealize.SL.Sem

/-- The kernel as compiled: every run ends, arguments unchanged, semaphores at zero. -/
theorem frame_p : Cert.quiescent_Kernel := fun m ρ _ => SBK.frame (F := Bits) m ρ

/-- The idealized kernel: the same. -/
theorem frame_pi : Cert.quiescent_KernelIdeal := fun m ρ _ => SB.frame (F := Ideal) m ρ

/-- The reference: the same. -/
theorem frame_ri : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

/-- The three named constants have the values their table gives. -/
theorem preserves : Cert.preserves_Kernel_KernelIdeal :=
  ⟨IdealRules.named_const.statement Cert.KernelIdeal.κ "scale" .f32 0x3E0293EE#32 (((11863283 / 134217728) * (Real.log 2)⁻¹ : ℝ) : EReal) rfl,
   IdealRules.named_const.statement Cert.KernelIdeal.κ "log2e" .f32 0x3FB8AA3B#32 (((Real.log 2)⁻¹ : ℝ) : EReal) rfl,
   IdealRules.named_const.statement Cert.KernelIdeal.κ "never" .f32 0xC3170000#32 ⊥ rfl⟩

end Cert.Proof

end
-- ==== Proof.Value.Math.lean ====
/- The mathematics of stick-breaking attention over the reals, in the base-2 form the kernel uses. -/
module

public import Mathlib.Data.EReal.Operations
public import Mathlib.Analysis.SpecialFunctions.Pow.Real
public import Mathlib.Algebra.BigOperators.Intervals

@[expose] public section

noncomputable section

namespace Cert.Proof.SB

open Finset

/-- The base-2 softplus: the base-2 logarithm of `1 + 2 ^ z`, in its stable form. -/
def sp2 (z : ℝ) : ℝ := max z 0 + Real.log (1 + (2 : ℝ) ^ (-|z|)) * (Real.log 2)⁻¹

/-- What key `s` costs the keys before it at query `t`: its softplus when it lies before the query. -/
def ell (z : ℕ → ℕ → ℝ) (t s : ℕ) : ℝ := if s < t then sp2 (z t s) else 0

/-- The cost of all keys from `n` on. -/
def cost (z : ℕ → ℕ → ℝ) (t n : ℕ) : ℝ := ∑ s ∈ Ico n 4096, ell z t s

/-- The weight of key `s` at query `t`. -/
def weight (z : ℕ → ℕ → ℝ) (t s : ℕ) : ℝ := if s < t then (2 : ℝ) ^ (z t s - cost z t s) else 0

/-- The weighted values of the keys from `n` on. -/
def total (z : ℕ → ℕ → ℝ) (v : ℕ → EReal) (t n : ℕ) : EReal := ∑ s ∈ Ico n 4096, v s * (weight z t s : EReal)

/-- A finite sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem fin_eq_Ico {M : Type} [AddCommMonoid M] (f : ℕ → M) (n k : ℕ) : ∑ a : Fin k, f (n + a) = ∑ s ∈ Ico n (n + k), f s := by
  rw [Finset.sum_Ico_eq_sum_range, Nat.add_sub_cancel_left, Finset.sum_range]

/-- One tile's costs, from its row `a` on, added to the cost of the keys after the tile. -/
theorem cost_tile (z : ℕ → ℕ → ℝ) (t n : ℕ) (hn : n + 256 ≤ 4096) (a : Fin 256) :
    cost z t (n + 256) + ∑ a' : Fin 256, (if a ≤ a' then ell z t (n + a') else 0) = cost z t (n + a) := by
  have h1 : ∑ a' : Fin 256, (if a ≤ a' then ell z t (n + a') else 0) = ∑ s ∈ Ico n (n + 256), if n + a ≤ s then ell z t s else 0 := by
    rw [← fin_eq_Ico (fun s => if n + a ≤ s then ell z t s else 0)]
    refine sum_congr rfl fun a' _ => ?_
    exact if_congr (by rw [Fin.le_iff_val_le_val]; omega) rfl rfl
  rw [h1, ← sum_filter]
  have h2 : (Ico n (n + 256)).filter (fun s => n + a ≤ s) = Ico (n + a) (n + 256) := by
    ext s; simp only [mem_filter, mem_Ico]; omega
  rw [h2, cost, cost, add_comm, sum_Ico_consecutive _ (by omega) hn]

/-- One tile's weighted values, added to those of the keys after the tile. -/
theorem total_tile (z : ℕ → ℕ → ℝ) (v : ℕ → EReal) (t n : ℕ) (hn : n + 256 ≤ 4096) :
    total z v t (n + 256) + ∑ a : Fin 256, v (n + a) * (weight z t (n + a) : EReal) = total z v t n := by
  rw [fin_eq_Ico (fun s => v s * (weight z t s : EReal)), total, total, add_comm, sum_Ico_consecutive _ (by omega) hn]

/-- Past the query nothing costs, -/
theorem cost_past (z : ℕ → ℕ → ℝ) (t n : ℕ) (h : t ≤ n) : cost z t n = 0 :=
  sum_eq_zero fun s hs => by rw [ell, if_neg (by simp at hs; omega)]

/-- and nothing counts. -/
theorem total_past (z : ℕ → ℕ → ℝ) (v : ℕ → EReal) (t n : ℕ) (h : t ≤ n) : total z v t n = 0 :=
  sum_eq_zero fun s hs => by rw [weight, if_neg (by simp at hs; omega)]; simp

theorem two_rpow (x : ℝ) : (2 : ℝ) ^ (x * (Real.log 2)⁻¹) = Real.exp x := by
  rw [Real.rpow_def_of_pos (by norm_num)]
  have : Real.log 2 ≠ 0 := (Real.log_pos (by norm_num)).ne'
  congr 1; field_simp

/-- The base-2 softplus of `z` over `log 2` is the softplus of `z` over `log 2`. -/
theorem sp2_eq (z : ℝ) : sp2 (z * (Real.log 2)⁻¹) = (max z 0 + Real.log (1 + Real.exp (-|z|))) * (Real.log 2)⁻¹ := by
  have h : (0 : ℝ) < (Real.log 2)⁻¹ := inv_pos.mpr (Real.log_pos (by norm_num))
  rw [sp2, abs_mul, abs_of_pos h, ← neg_mul, two_rpow, add_mul, max_mul_of_nonneg _ _ h.le, zero_mul]

/-- Softplus at `-z` is softplus at `z` less `z`. -/
theorem sp_neg (z : ℝ) : max (-z) 0 + Real.log (1 + Real.exp (-|(-z)|)) = max z 0 + Real.log (1 + Real.exp (-|z|)) - z := by
  rw [abs_neg]
  rcases le_total z 0 with h | h
  · rw [max_eq_left (by linarith), max_eq_right h]; ring
  · rw [max_eq_right (by linarith), max_eq_left h]; ring

end Cert.Proof.SB

end
-- ==== Proof.Value.Head.lean ====
/- One head of one tile of the kernel's loop: its vectors, and what they hold at each index. -/
module

public import proofs.«01_k».proof.Proof.Gen.KernelIdeal.Skeleton
public import Idealize.ShloMosaic.Lib.Pointwise
public import Idealize.ShloMosaic.Lib.WordCmp
public import Idealize.ShloMosaic.PureOps.IdealRules
public import proofs.«01_k».proof.Proof.Value.Math

@[expose] public section

set_option maxRecDepth 16384

noncomputable section

namespace Cert.Proof.SB

open Cert.KernelIdeal Cert.KernelIdeal.Gen
open Idealize.ShloMosaic

section Vectors

variable {F : FTy → Type} [FloatOps F] [Named F]

/-- The running exponent offset of a tile: the row carried in, less the costs of the tile's later keys. -/
def tileC (row : FVec F S1x256 .f32) (tri : Vec F S256x256 .bf16) (l : FVec F S1x1x256x256 .bf16) : FVec F S256x256 .f32 :=
  subf (broadcastTo S256x256 row broadcasts_S1x256_S256x256)
    (matmul dot_S256x256_S256x256_S256x256_1_0_0_1_n_n none (shapeCast S256x256 tri shapeCasts_S256x256_S256x256)
      (shapeCast S256x256 l shapeCasts_S1x1x256x256_S256x256) (constant S256x256 .f32 0x00000000#32))

/-- The weights of a tile none of whose keys is masked. -/
def tileW (c : FVec F S256x256 .f32) (z : FVec F S1x1x256x256 .f32) : FVec F S1x1x256x256 .bf16 :=
  shapeCast S1x1x256x256 (truncf .bf16 (exp2 (addf (shapeCast S256x256 z shapeCasts_S1x1x256x256_S256x256) c)) bitsLt_bf16_f32)
    shapeCasts_S256x256_S1x1x256x256

/-- The weights of the tile on the diagonal. -/
def diagW (c : FVec F S256x256 .f32) (z : FVec F S1x1x256x256 .f32) : FVec F S1x1x256x256 .bf16 :=
  shapeCast S1x1x256x256 (truncf .bf16 (select k0_pay230
    (exp2 (addf (shapeCast S256x256 z shapeCasts_S1x1x256x256_S256x256) c))
    (broadcast S256x256 (Scalar.ofBits .f32 0x00000000#32 : F .f32))) bitsLt_bf16_f32)
    shapeCasts_S256x256_S1x1x256x256

/-- The accumulator with a tile's weighted values added. -/
def tileA (a : Vec F S1x128x256 .f32) (v : Vec F S1x1x1x128x256 .bf16) (w : FVec F S1x1x256x256 .bf16) : FVec F S1x128x256 .f32 :=
  shapeCast S1x128x256 (addf (shapeCast S128x256 a shapeCasts_S1x128x256_S128x256)
    (matmul dot_S128x256_S256x256_S128x256_1_0_0_1_n_n none (shapeCast S128x256 v shapeCasts_S1x1x1x128x256_S128x256)
      (shapeCast S256x256 w shapeCasts_S1x1x256x256_S256x256) (constant S128x256 .f32 0x00000000#32)))
    shapeCasts_S128x256_S1x128x256

end Vectors

/-- The base-2 softplus as the kernel computes it. -/
def lossOf (z : EReal) : EReal :=
  max z 0 + Ideal.log (1 + Ideal.exp2 (0 - max z (-z))) * ((Real.log 2)⁻¹ : ℝ)

theorem one_bits : Ideal.ofBits .f32 0x3F800000#32 = 1 := by
  simp [Ideal.ofBits, Ideal.ieee, -EReal.coe_mul]
  norm_num

theorem log2e_named : Named.named (F := Ideal) κ "log2e" (φ := .f32) 0x3FB8AA3B#32 = (((Real.log 2)⁻¹ : ℝ) : EReal) :=
  IdealRules.named_const.ideal_named_scalar _ _ _ _ rfl

/-- The diagonal tile's mask keeps the keys before the query. -/
theorem select_mask {α : Type} (a b : Fin 256) (x y : α) :
    Scalar.select (IntOp.cmpi .slt (BitVec.ofNat 32 a) (BitVec.ofNat 32 b)) x y = if a < b then x else y := by
  have := Idealize.ShloMosaic.WordCmp.cmpi_slt_ofNat_eq_one_iff (w := 32) (a := a) (b := b) (by have := a.2; omega) (by have := b.2; omega)
  exact if_congr this rfl rfl

theorem pay242_apply (k q : Vec Ideal S256x128 .bf16) (a b : Fin 256) :
    k0_pay242 k q (ix4 0 0 a b) = ∑ d : Fin 128, k (ix2 a d) * q (ix2 b d) := by
  pointwise [k0_pay242, k0_pay241]

theorem pay243_apply (k q : Vec Ideal S256x128 .bf16) (a b : Fin 256) :
    k0_pay243 k q (ix4 0 0 a b) = lossOf (∑ d : Fin 128, k (ix2 a d) * q (ix2 b d)) := by
  pointwise [k0_pay243, k0_pay241, lossOf]
  rw [log2e_named]
  rfl

theorem pay10_apply (k q : Vec Ideal S256x128 .bf16) (a b : Fin 256) :
    k0_pay10 k0_pay230 k q (ix4 0 0 a b) = if a < b then lossOf (∑ d : Fin 128, k (ix2 a d) * q (ix2 b d)) else 0 := by
  pointwise [k0_pay10, k0_pay8, lossOf, k0_pay230]
  rw [log2e_named, select_mask]
  rfl

theorem tileC_apply (row : FVec Ideal S1x256 .f32) (tri : Vec Ideal S256x256 .bf16) (l : FVec Ideal S1x1x256x256 .bf16) (a b : Fin 256) :
    tileC row tri l (ix2 a b) = row (ix2 0 b) - ∑ a' : Fin 256, tri (ix2 a a') * l (ix4 0 0 a' b) := by
  pointwise [tileC]

theorem tileW_apply (c : FVec Ideal S256x256 .f32) (z : FVec Ideal S1x1x256x256 .f32) (a b : Fin 256) :
    tileW c z (ix4 0 0 a b) = Ideal.exp2 (z (ix4 0 0 a b) + c (ix2 a b)) := by
  pointwise [tileW]
  rfl

theorem diagW_apply (c : FVec Ideal S256x256 .f32) (z : FVec Ideal S1x1x256x256 .f32) (a b : Fin 256) :
    diagW c z (ix4 0 0 a b) = if a < b then Ideal.exp2 (z (ix4 0 0 a b) + c (ix2 a b)) else 0 := by
  pointwise [diagW, k0_pay230]
  rw [select_mask]
  rfl

theorem tileA_apply (a : Vec Ideal S1x128x256 .f32) (v : Vec Ideal S1x1x1x128x256 .bf16) (w : FVec Ideal S1x1x256x256 .bf16)
    (e : Fin 128) (b : Fin 256) :
    tileA a v w (ix3 0 e b) = a (ix3 0 e b) + ∑ k : Fin 256, v (ix5 0 0 0 e k) * w (ix4 0 0 k b) := by
  pointwise [tileA]

/-! At real logits. -/

theorem max_zero_coe (z : ℝ) : max (z : EReal) 0 = ((max z 0 : ℝ) : EReal) := by
  rw [← EReal.coe_zero]; exact (EReal.coe_strictMono.monotone.map_max).symm

theorem max_neg_coe (z : ℝ) : max (z : EReal) (-z) = ((|z| : ℝ) : EReal) := by
  rw [← EReal.coe_neg]; exact (EReal.coe_strictMono.monotone.map_max).symm

theorem exp2_coe' (z : ℝ) : Ideal.exp2 (z : EReal) = (((2 : ℝ) ^ z : ℝ) : EReal) := Ideal.exp2_coe ..

/-- The kernel's softplus at a real. -/
theorem lossOf_coe (z : ℝ) : lossOf z = (sp2 z : ℝ) := by
  have h : (0 : ℝ) < (2 : ℝ) ^ (-|z|) := Real.rpow_pos_of_pos (by norm_num) _
  rw [lossOf, max_zero_coe, max_neg_coe, zero_sub, ← EReal.coe_neg, exp2_coe', ← EReal.coe_one, ← EReal.coe_add, Ideal.log_coe,
    if_neg (by linarith), ← EReal.coe_mul, ← EReal.coe_add, sp2]

/-- The offset a tile gives its key `a`: the cost of every key from it on, negated. -/
theorem offset_tile (z : ℕ → ℕ → ℝ) (t n : ℕ) (hn : n + 256 ≤ 4096) (a : Fin 256) (r : EReal) (tri g : Fin 256 → EReal)
    (hr : r = ((-cost z t (n + 256) : ℝ) : EReal)) (htri : ∀ a', tri a' = if a ≤ a' then 1 else 0)
    (hg : ∀ a', g a' = (ell z t (n + a') : ℝ)) :
    r - ∑ a' : Fin 256, tri a' * g a' = ((-cost z t (n + a) : ℝ) : EReal) := by
  have h : ∑ a' : Fin 256, tri a' * g a' = ((∑ a' : Fin 256, if a ≤ a' then ell z t (n + a') else 0 : ℝ) : EReal) := by
    rw [coe_sum]
    refine Finset.sum_congr rfl fun a' _ => ?_
    rw [htri, hg]
    split_ifs <;> simp
  rw [h, hr, ← EReal.coe_sub, ← cost_tile z t n hn a]
  congr 1
  ring

/-- The weight of a key before the query. -/
theorem weight_tile (z : ℕ → ℕ → ℝ) (t s : ℕ) (h : s < t) :
    Ideal.exp2 ((z t s : EReal) + ((-cost z t s : ℝ) : EReal)) = (weight z t s : ℝ) := by
  rw [← EReal.coe_add, exp2_coe', weight, if_pos h, sub_eq_add_neg]

end Cert.Proof.SB

end
-- ==== Proof.Value.Reads.lean ====
/- What one turn of the loop leaves in the carry and in the accumulator, index by index. -/
module

public import proofs.«01_k».proof.Proof.Trip
public import proofs.«01_k».proof.Proof.Value.Head
public import Idealize.ShloMosaic.Lib.Pipeline.ReadBack
public import Idealize.ShloMosaic.Lib.WholeRead
public import Idealize.ShloMosaic.Lib.Pipeline.FrameBody
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The logit of key `a` of tile `n` against query `b`, in head `h`. -/
def zAt (xk : Vec Ideal S4096x1024 .bf16) (xq : Vec Ideal S256x1024 .bf16) (n : Fin 16) (h : Fin 8) (a b : Fin 256) : EReal :=
  ∑ d : Fin 128, xk (ix2 ⟨256 * n.val + a.val, by omega⟩ ⟨128 * h.val + d.val, by omega⟩) * xq (ix2 b ⟨128 * h.val + d.val, by omega⟩)

section Reads

variable (arg3 : Memref sig .tc .vmem S4096x1024 .bf16) (harg3 : arg3.IsWhole) (arg17 : Memref sig .tc .vmem S256x1024 .bf16) (harg17 : arg17.IsWhole)
  (arg5 : Memref sig .tc .vmem S256x256 .bf16) (harg5 : arg5.IsWhole) (arg4 : Memref sig .tc .vmem S1x1x16x1024x256 .bf16) (harg4 : arg4.IsWhole)
  (arg21 : Memref sig .tc .vmem S8x128x256 .f32) (harg21 : arg21.IsWhole)

/-- The rows of a key tile that one head reads. -/
theorem readK (xk : Vec Ideal S4096x1024 .bf16) (off : Fin 2 → ℕ) (inb : ∀ a, off a + S256x128.size a ≤ S4096x1024.size a)
    (n : Fin 16) (h : Fin 8) (hoff : off = ![256 * n.val, 128 * h.val]) (a : Fin 256) (d : Fin 128) :
    View.readAt (Elt Ideal) arg3.view (Rect.unit (s := S4096x1024) off S256x128.size inb).toLoadRect (harg3.unread xk) (ix2 a d)
      = xk (ix2 ⟨256 * n.val + a.val, by omega⟩ ⟨128 * h.val + d.val, by omega⟩) := by
  subst hoff
  rw [harg3.readAt_unread]
  pointwise []

/-- The columns of the query tile that one head reads. -/
theorem readQ (xq : Vec Ideal S256x1024 .bf16) (off : Fin 2 → ℕ) (inb : ∀ a, off a + S256x128.size a ≤ S256x1024.size a)
    (h : Fin 8) (hoff : off = ![0, 128 * h.val]) (b : Fin 256) (d : Fin 128) :
    View.readAt (Elt Ideal) arg17.view (Rect.unit (s := S256x1024) off S256x128.size inb).toLoadRect (harg17.unread xq) (ix2 b d)
      = xq (ix2 b ⟨128 * h.val + d.val, by omega⟩) := by
  subst hoff
  rw [harg17.readAt_unread]
  pointwise []

/-- The triangle is read whole. -/
theorem readT (xt : Vec Ideal S256x256 .bf16) (inb : ∀ a, (![0, 0] : Fin 2 → ℕ) a + S256x256.size a ≤ S256x256.size a) (a b : Fin 256) :
    View.readAt (Elt Ideal) arg5.view (Rect.unit (s := S256x256) ![0, 0] S256x256.size inb).toLoadRect (harg5.unread xt) (ix2 a b) = xt (ix2 a b) := by
  rw [harg5.readAt_unread]
  pointwise []

/-- The part of a value tile that one head reads. -/
theorem readV (xv : Vec Ideal S1x1x16x1024x256 .bf16) (off : Fin 5 → ℕ) (inb : ∀ a, off a + S1x1x1x128x256.size a ≤ S1x1x16x1024x256.size a)
    (n : Fin 16) (h : Fin 8) (hoff : off = ![0, 0, n.val, 128 * h.val, 0]) (e : Fin 128) (a : Fin 256) :
    View.readAt (Elt Ideal) arg4.view (Rect.unit (s := S1x1x16x1024x256) off S1x1x1x128x256.size inb).toLoadRect (harg4.unread xv) (ix5 0 0 0 e a)
      = xv (ix5 0 0 n ⟨128 * h.val + e.val, by omega⟩ a) := by
  subst hoff
  rw [harg4.readAt_unread]
  pointwise []

/-- One head's part of the accumulator. -/
theorem readA (xa : Vec Ideal S8x128x256 .f32) (off : Fin 3 → ℕ) (inb : ∀ a, off a + S1x128x256.size a ≤ S8x128x256.size a)
    (h : Fin 8) (hoff : off = ![h.val, 0, 0]) (e : Fin 128) (b : Fin 256) :
    View.readAt (Elt Ideal) arg21.view (Rect.unit (s := S8x128x256) off S1x128x256.size inb).toLoadRect (harg21.unread xa) (ix3 0 e b) = xa (ix3 h e b) := by
  subst hoff
  rw [harg21.readAt_unread]
  pointwise []

/-- The exponent offset of key `a` of tile `n`, from the offset carried in. -/
def cAt (r : EReal) (xt : Vec Ideal S256x256 .bf16) (xk : Vec Ideal S4096x1024 .bf16) (xq : Vec Ideal S256x1024 .bf16)
    (n : Fin 16) (h : Fin 8) (a b : Fin 256) : EReal :=
  r - ∑ a' : Fin 256, xt (ix2 a a') * lossOf (zAt xk xq n h a' b)

/-- A tile's logits. -/
theorem logits_read (xk : Vec Ideal S4096x1024 .bf16) (xq : Vec Ideal S256x1024 .bf16)
    (off : Fin 2 → ℕ) (inb : ∀ a, off a + S256x128.size a ≤ S4096x1024.size a)
    (offq : Fin 2 → ℕ) (inbq : ∀ a, offq a + S256x128.size a ≤ S256x1024.size a)
    (n : Fin 16) (h : Fin 8) (hoff : off = ![256 * n.val, 128 * h.val]) (hq : offq = ![0, 128 * h.val]) (a b : Fin 256) :
    ∑ d : Fin 128, View.readAt (Elt Ideal) arg3.view (Rect.unit (s := S4096x1024) off S256x128.size inb).toLoadRect (harg3.unread xk) (ix2 a d)
        * View.readAt (Elt Ideal) arg17.view (Rect.unit (s := S256x1024) offq S256x128.size inbq).toLoadRect (harg17.unread xq) (ix2 b d)
      = zAt xk xq n h a b :=
  Finset.sum_congr rfl fun d _ => by rw [readK arg3 harg3 xk off inb n h hoff, readQ arg17 harg17 xq offq inbq h hq]

/-- A tile's offsets. -/
theorem offsets_read (xk : Vec Ideal S4096x1024 .bf16) (xq : Vec Ideal S256x1024 .bf16) (xt : Vec Ideal S256x256 .bf16)
    (off : Fin 2 → ℕ) (inb : ∀ a, off a + S256x128.size a ≤ S4096x1024.size a)
    (offq : Fin 2 → ℕ) (inbq : ∀ a, offq a + S256x128.size a ≤ S256x1024.size a)
    (inbt : ∀ a, (![0, 0] : Fin 2 → ℕ) a + S256x256.size a ≤ S256x256.size a)
    (n : Fin 16) (h : Fin 8) (hoff : off = ![256 * n.val, 128 * h.val]) (hq : offq = ![0, 128 * h.val])
    (row : FVec Ideal S1x256 .f32) (a b : Fin 256) :
    tileC row (View.readAt (Elt Ideal) arg5.view (Rect.unit (s := S256x256) ![0, 0] S256x256.size inbt).toLoadRect (harg5.unread xt))
      (k0_pay243 (View.readAt (Elt Ideal) arg3.view (Rect.unit (s := S4096x1024) off S256x128.size inb).toLoadRect (harg3.unread xk))
        (View.readAt (Elt Ideal) arg17.view (Rect.unit (s := S256x1024) offq S256x128.size inbq).toLoadRect (harg17.unread xq))) (ix2 a b)
      = cAt (row (ix2 0 b)) xt xk xq n h a b := by
  rw [tileC_apply, cAt]
  congr 1
  refine Finset.sum_congr rfl fun a' _ => ?_
  rw [readT arg5 harg5, pay243_apply, logits_read arg3 harg3 arg17 harg17 xk xq off inb offq inbq n h hoff hq]

/-- A tile's weights. -/
theorem weights_read (xk : Vec Ideal S4096x1024 .bf16) (xq : Vec Ideal S256x1024 .bf16)
    (off : Fin 2 → ℕ) (inb : ∀ a, off a + S256x128.size a ≤ S4096x1024.size a)
    (offq : Fin 2 → ℕ) (inbq : ∀ a, offq a + S256x128.size a ≤ S256x1024.size a)
    (n : Fin 16) (h : Fin 8) (hoff : off = ![256 * n.val, 128 * h.val]) (hq : offq = ![0, 128 * h.val])
    (c : FVec Ideal S256x256 .f32) (a b : Fin 256) :
    tileW c (k0_pay242 (View.readAt (Elt Ideal) arg3.view (Rect.unit (s := S4096x1024) off S256x128.size inb).toLoadRect (harg3.unread xk))
        (View.readAt (Elt Ideal) arg17.view (Rect.unit (s := S256x1024) offq S256x128.size inbq).toLoadRect (harg17.unread xq))) (ix4 0 0 a b)
      = Ideal.exp2 (zAt xk xq n h a b + c (ix2 a b)) := by
  rw [tileW_apply, pay242_apply, logits_read arg3 harg3 arg17 harg17 xk xq off inb offq inbq n h hoff hq]

/-- The accumulator after a tile. -/
theorem acc_read (xv : Vec Ideal S1x1x16x1024x256 .bf16) (off : Fin 5 → ℕ) (inb : ∀ a, off a + S1x1x1x128x256.size a ≤ S1x1x16x1024x256.size a)
    (n : Fin 16) (h : Fin 8) (hoff : off = ![0, 0, n.val, 128 * h.val, 0])
    (acc : Vec Ideal S1x128x256 .f32) (w : FVec Ideal S1x1x256x256 .bf16) (e : Fin 128) (b : Fin 256) :
    tileA acc (View.readAt (Elt Ideal) arg4.view (Rect.unit (s := S1x1x16x1024x256) off S1x1x1x128x256.size inb).toLoadRect (harg4.unread xv)) w
      (ix3 0 e b)
      = acc (ix3 0 e b) + ∑ a : Fin 256, xv (ix5 0 0 n ⟨128 * h.val + e.val, by omega⟩ a) * w (ix4 0 0 a b) := by
  rw [tileA_apply]
  congr 1
  exact Finset.sum_congr rfl fun a _ => by rw [readV arg4 harg4 xv off inb n h hoff]

end Reads

end Cert.Proof.SB

end
-- ==== Proof.Value.TripValue.lean ====
/- What one turn of the loop leaves in the carry and in the accumulator, index by index. -/
module

public import proofs.«01_k».proof.Proof.Trip
public import proofs.«01_k».proof.Proof.Value.Reads
public import Idealize.ShloMosaic.Lib.Pipeline.ReadBack
public import Idealize.ShloMosaic.Lib.WholeRead
public import Idealize.ShloMosaic.Lib.Pipeline.FrameBody
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! Where the loop's loads of the key and value tiles begin, for tile `n` and each head. -/

theorem off49 : ∀ n : Fin 16, k0_off49 (BitVec.ofNat 32 n.val) = ![256 * n.val, 128 * (0 : Fin 8).val] := by decide
theorem off50 : ∀ n : Fin 16, k0_off50 (BitVec.ofNat 32 n.val) = ![256 * n.val, 128 * (1 : Fin 8).val] := by decide
theorem off51 : ∀ n : Fin 16, k0_off51 (BitVec.ofNat 32 n.val) = ![256 * n.val, 128 * (2 : Fin 8).val] := by decide
theorem off52 : ∀ n : Fin 16, k0_off52 (BitVec.ofNat 32 n.val) = ![256 * n.val, 128 * (3 : Fin 8).val] := by decide
theorem off53 : ∀ n : Fin 16, k0_off53 (BitVec.ofNat 32 n.val) = ![256 * n.val, 128 * (4 : Fin 8).val] := by decide
theorem off54 : ∀ n : Fin 16, k0_off54 (BitVec.ofNat 32 n.val) = ![256 * n.val, 128 * (5 : Fin 8).val] := by decide
theorem off55 : ∀ n : Fin 16, k0_off55 (BitVec.ofNat 32 n.val) = ![256 * n.val, 128 * (6 : Fin 8).val] := by decide
theorem off56 : ∀ n : Fin 16, k0_off56 (BitVec.ofNat 32 n.val) = ![256 * n.val, 128 * (7 : Fin 8).val] := by decide
theorem off57 : ∀ n : Fin 16, k0_off57 (BitVec.ofNat 32 n.val) = ![0, 0, n.val, 128 * (0 : Fin 8).val, 0] := by decide
theorem off58 : ∀ n : Fin 16, k0_off58 (BitVec.ofNat 32 n.val) = ![0, 0, n.val, 128 * (1 : Fin 8).val, 0] := by decide
theorem off59 : ∀ n : Fin 16, k0_off59 (BitVec.ofNat 32 n.val) = ![0, 0, n.val, 128 * (2 : Fin 8).val, 0] := by decide
theorem off60 : ∀ n : Fin 16, k0_off60 (BitVec.ofNat 32 n.val) = ![0, 0, n.val, 128 * (3 : Fin 8).val, 0] := by decide
theorem off61 : ∀ n : Fin 16, k0_off61 (BitVec.ofNat 32 n.val) = ![0, 0, n.val, 128 * (4 : Fin 8).val, 0] := by decide
theorem off62 : ∀ n : Fin 16, k0_off62 (BitVec.ofNat 32 n.val) = ![0, 0, n.val, 128 * (5 : Fin 8).val, 0] := by decide
theorem off63 : ∀ n : Fin 16, k0_off63 (BitVec.ofNat 32 n.val) = ![0, 0, n.val, 128 * (6 : Fin 8).val, 0] := by decide
theorem off64 : ∀ n : Fin 16, k0_off64 (BitVec.ofNat 32 n.val) = ![0, 0, n.val, 128 * (7 : Fin 8).val, 0] := by decide

/-- Eight rows on top of one another, read at a row. -/
theorem cat8 (v : Fin 8 → FVec Ideal S1x256 .f32) (hc) (h : Fin 8) (b : Fin 256) :
    concatenate S8x256 0 [⟨S1x256, v 0⟩, ⟨S1x256, v 1⟩, ⟨S1x256, v 2⟩, ⟨S1x256, v 3⟩, ⟨S1x256, v 4⟩, ⟨S1x256, v 5⟩, ⟨S1x256, v 6⟩, ⟨S1x256, v 7⟩] hc
      (ix2 h b) = v h (ix2 0 b) := by
  fin_cases h <;> pointwise []

/-- The first row of a tile. -/
theorem slice_top (c : FVec Ideal S256x256 .f32) (hs) (b : Fin 256) : extractStridedSlice S1x256 ![0, 0] c hs (ix2 0 b) = c (ix2 0 b) := by
  pointwise []

/-- A row of the carry. -/
theorem slice_row (c : FVec Ideal S8x256 .f32) (h : Fin 8) (hs) (b : Fin 256) :
    extractStridedSlice S1x256 ![h.val, 0] c hs (ix2 0 b) = c (ix2 h b) := by
  pointwise []

set_option maxHeartbeats 1000000 in
/-- What one turn leaves in the carry: each head's row, less the costs of the tile's keys. -/
theorem trip_carry (c : Dev nD) (i : grid0.Coords) (arg3 : Memref sig .tc .vmem S4096x1024 .bf16) (harg3 : arg3.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg5 : Memref sig .tc .vmem S256x256 .bf16) (harg5 : arg5.IsWhole) (arg20 : Memref sig .tc .vmem S2x8x256x256 .bf16) (harg20 : arg20.IsWhole) (arg21 : Memref sig .tc .vmem S8x128x256 .f32) (harg21 : arg21.IsWhole) (arg4 : Memref sig .tc .vmem S1x1x16x1024x256 .bf16) (harg4 : arg4.IsWhole)
    (j : BitVec 32) (hj : k0_chk1 j) (xk : Vec Ideal S4096x1024 .bf16) (xq : Vec Ideal S256x1024 .bf16) (xv : Vec Ideal S1x1x16x1024x256 .bf16)
    (xt : Vec Ideal S256x256 .bf16) (xa : Vec Ideal S8x128x256 .f32) (carry : FVec Ideal S8x256 .f32)
    (n : Fin 16) (hn : j = BitVec.ofNat 32 n.val) (h : Fin 8) (b : Fin 256) :
    (trip (F := Ideal) c i arg3 harg3 arg17 harg17 arg18 harg18 arg19 harg19 arg5 harg5 arg20 harg20 arg21 harg21 arg4 harg4 j hj xk xq xv xt xa carry).2.1 (ix2 h b) = cAt (carry (ix2 h b)) xt xk xq n h 0 b := by
  subst hn
  unfold trip
  dsimp only
  simp (disch := decide) only [trip.sl.H4_8, trip.sl.H5_8, trip.sl.cst_122, trip.sl.cst_314, trip.sl.cst_76, trip.sl.r, trip.sl.r_1, trip.sl.r_2, trip.sl.r_3, trip.sl.r_4, trip.sl.r_5, trip.sl.r_6, trip.sl.r_7, trip.sl.r_8, trip.sl.r_9, trip.sl.v279, trip.sl.v284, trip.sl.v285, trip.sl.v286, trip.sl.v287, trip.sl.v288, trip.sl.v290, trip.sl.v291, trip.sl.v292, trip.sl.v293, trip.sl.v295, trip.sl.v296, trip.sl.v297, trip.sl.v298, trip.sl.v299, trip.sl.v300, trip.sl.v301, trip.sl.v302, trip.sl.v303, trip.sl.v304, trip.sl.v305, trip.sl.v306, trip.sl.v307, trip.sl.v308, trip.sl.v309, trip.sl.v310, trip.sl.v313, trip.sl.v314, trip.sl.v315, trip.sl.v316, trip.sl.v317, trip.sl.v318, trip.sl.v319, trip.sl.v320, trip.sl.v321, trip.sl.v322, trip.sl.v323, trip.sl.v324, trip.sl.v325, trip.sl.v326, trip.sl.v327, trip.sl.v330, trip.sl.v331, trip.sl.v332, trip.sl.v333, trip.sl.v334, trip.sl.v335, trip.sl.v336, trip.sl.v337, trip.sl.v338, trip.sl.v339, trip.sl.v340, trip.sl.v341, trip.sl.v342, trip.sl.v343, trip.sl.v344, trip.sl.v347, trip.sl.v348, trip.sl.v349, trip.sl.v350, trip.sl.v351, trip.sl.v352, trip.sl.v353, trip.sl.v354, trip.sl.v355, trip.sl.v356, trip.sl.v357, trip.sl.v358, trip.sl.v359, trip.sl.v360, trip.sl.v361, trip.sl.v364, trip.sl.v365, trip.sl.v366, trip.sl.v367, trip.sl.v368, trip.sl.v369, trip.sl.v370, trip.sl.v371, trip.sl.v372, trip.sl.v373, trip.sl.v374, trip.sl.v375, trip.sl.v376, trip.sl.v377, trip.sl.v378, trip.sl.v381, trip.sl.v382, trip.sl.v383, trip.sl.v384, trip.sl.v385, trip.sl.v386, trip.sl.v387, trip.sl.v388, trip.sl.v389, trip.sl.v390, trip.sl.v391, trip.sl.v392, trip.sl.v393, trip.sl.v394, trip.sl.v395, trip.sl.v398, trip.sl.v399, trip.sl.v400, trip.sl.v401, trip.sl.v402, trip.sl.v403, trip.sl.v404, trip.sl.v405, trip.sl.v406, trip.sl.v407, trip.sl.v408, trip.sl.v409, trip.sl.v410, trip.sl.v411, trip.sl.v412, trip.sl.v82, ↓ View.readCov_skip, ↓ View.readCov_cons_toLoadRect]
  refine (cat8 ![_, _, _, _, _, _, _, _] _ h b).trans ?_
  fin_cases h
  · exact (slice_top _ slices_S256x256_o0_0_S1x256 b).trans ((offsets_read arg3 harg3 arg17 harg17 arg5 harg5 xk xq xt _ _ _ _ _ n 0 (off49 n) rfl
      (extractStridedSlice S1x256 ![0, 0] carry _) 0 b).trans (congrArg (cAt · xt xk xq n 0 0 b) (slice_row carry 0 _ b)))
  · exact (slice_top _ slices_S256x256_o0_0_S1x256 b).trans ((offsets_read arg3 harg3 arg17 harg17 arg5 harg5 xk xq xt _ _ _ _ _ n 1 (off50 n) rfl
      (extractStridedSlice S1x256 ![1, 0] carry _) 0 b).trans (congrArg (cAt · xt xk xq n 1 0 b) (slice_row carry 1 _ b)))
  · exact (slice_top _ slices_S256x256_o0_0_S1x256 b).trans ((offsets_read arg3 harg3 arg17 harg17 arg5 harg5 xk xq xt _ _ _ _ _ n 2 (off51 n) rfl
      (extractStridedSlice S1x256 ![2, 0] carry _) 0 b).trans (congrArg (cAt · xt xk xq n 2 0 b) (slice_row carry 2 _ b)))
  · exact (slice_top _ slices_S256x256_o0_0_S1x256 b).trans ((offsets_read arg3 harg3 arg17 harg17 arg5 harg5 xk xq xt _ _ _ _ _ n 3 (off52 n) rfl
      (extractStridedSlice S1x256 ![3, 0] carry _) 0 b).trans (congrArg (cAt · xt xk xq n 3 0 b) (slice_row carry 3 _ b)))
  · exact (slice_top _ slices_S256x256_o0_0_S1x256 b).trans ((offsets_read arg3 harg3 arg17 harg17 arg5 harg5 xk xq xt _ _ _ _ _ n 4 (off53 n) rfl
      (extractStridedSlice S1x256 ![4, 0] carry _) 0 b).trans (congrArg (cAt · xt xk xq n 4 0 b) (slice_row carry 4 _ b)))
  · exact (slice_top _ slices_S256x256_o0_0_S1x256 b).trans ((offsets_read arg3 harg3 arg17 harg17 arg5 harg5 xk xq xt _ _ _ _ _ n 5 (off54 n) rfl
      (extractStridedSlice S1x256 ![5, 0] carry _) 0 b).trans (congrArg (cAt · xt xk xq n 5 0 b) (slice_row carry 5 _ b)))
  · exact (slice_top _ slices_S256x256_o0_0_S1x256 b).trans ((offsets_read arg3 harg3 arg17 harg17 arg5 harg5 xk xq xt _ _ _ _ _ n 6 (off55 n) rfl
      (extractStridedSlice S1x256 ![6, 0] carry _) 0 b).trans (congrArg (cAt · xt xk xq n 6 0 b) (slice_row carry 6 _ b)))
  · exact (slice_top _ slices_S256x256_o0_0_S1x256 b).trans ((offsets_read arg3 harg3 arg17 harg17 arg5 harg5 xk xq xt _ _ _ _ _ n 7 (off56 n) rfl
      (extractStridedSlice S1x256 ![7, 0] carry _) 0 b).trans (congrArg (cAt · xt xk xq n 7 0 b) (slice_row carry 7 _ b)))

/-- One head's part of the accumulator after a turn. -/
theorem head_acc (arg3 : Memref sig .tc .vmem S4096x1024 .bf16) (harg3 : arg3.IsWhole) (arg17 : Memref sig .tc .vmem S256x1024 .bf16) (harg17 : arg17.IsWhole)
    (arg5 : Memref sig .tc .vmem S256x256 .bf16) (harg5 : arg5.IsWhole) (arg4 : Memref sig .tc .vmem S1x1x16x1024x256 .bf16) (harg4 : arg4.IsWhole)
    (arg21 : Memref sig .tc .vmem S8x128x256 .f32) (harg21 : arg21.IsWhole)
    (xk : Vec Ideal S4096x1024 .bf16) (xq : Vec Ideal S256x1024 .bf16) (xv : Vec Ideal S1x1x16x1024x256 .bf16)
    (xt : Vec Ideal S256x256 .bf16) (xa : Vec Ideal S8x128x256 .f32) (carry : FVec Ideal S8x256 .f32) (n : Fin 16) (h : Fin 8)
    (off : Fin 2 → ℕ) (inb : ∀ a, off a + S256x128.size a ≤ S4096x1024.size a)
    (offq : Fin 2 → ℕ) (inbq : ∀ a, offq a + S256x128.size a ≤ S256x1024.size a)
    (inbt : ∀ a, (![0, 0] : Fin 2 → ℕ) a + S256x256.size a ≤ S256x256.size a)
    (offv : Fin 5 → ℕ) (inbv : ∀ a, offv a + S1x1x1x128x256.size a ≤ S1x1x16x1024x256.size a)
    (offa : Fin 3 → ℕ) (inba : ∀ a, offa a + S1x128x256.size a ≤ S8x128x256.size a) (hs)
    (hoff : off = ![256 * n.val, 128 * h.val]) (hq : offq = ![0, 128 * h.val]) (hv : offv = ![0, 0, n.val, 128 * h.val, 0])
    (ha : offa = ![h.val, 0, 0]) (e : Fin 128) (b : Fin 256) :
    tileA (View.readAt (Elt Ideal) arg21.view (Rect.unit (s := S8x128x256) offa S1x128x256.size inba).toLoadRect (harg21.unread xa))
      (View.readAt (Elt Ideal) arg4.view (Rect.unit (s := S1x1x16x1024x256) offv S1x1x1x128x256.size inbv).toLoadRect (harg4.unread xv))
      (tileW
        (tileC (extractStridedSlice S1x256 ![h.val, 0] carry hs)
          (View.readAt (Elt Ideal) arg5.view (Rect.unit (s := S256x256) ![0, 0] S256x256.size inbt).toLoadRect (harg5.unread xt))
          (k0_pay243 (View.readAt (Elt Ideal) arg3.view (Rect.unit (s := S4096x1024) off S256x128.size inb).toLoadRect (harg3.unread xk))
            (View.readAt (Elt Ideal) arg17.view (Rect.unit (s := S256x1024) offq S256x128.size inbq).toLoadRect (harg17.unread xq))))
        (k0_pay242 (View.readAt (Elt Ideal) arg3.view (Rect.unit (s := S4096x1024) off S256x128.size inb).toLoadRect (harg3.unread xk))
          (View.readAt (Elt Ideal) arg17.view (Rect.unit (s := S256x1024) offq S256x128.size inbq).toLoadRect (harg17.unread xq))))
      (ix3 0 e b)
      = xa (ix3 h e b) + ∑ a : Fin 256, xv (ix5 0 0 n ⟨128 * h.val + e.val, by omega⟩ a)
          * Ideal.exp2 (zAt xk xq n h a b + cAt (carry (ix2 h b)) xt xk xq n h a b) := by
  rw [acc_read arg4 harg4 xv offv inbv n h hv, readA arg21 harg21 xa offa inba h ha]
  congr 1
  refine Finset.sum_congr rfl fun a _ => ?_
  rw [weights_read arg3 harg3 arg17 harg17 xk xq off inb offq inbq n h hoff hq,
    offsets_read arg3 harg3 arg17 harg17 arg5 harg5 xk xq xt off inb offq inbq inbt n h hoff hq, slice_row]

/-- Where a head's store lies in the accumulator. -/
theorem emb_head (k : Fin 8) (off : Fin 3 → ℕ) (inb : ∀ a, off a + S1x128x256.size a ≤ S8x128x256.size a) (h : off = ![k.val, 0, 0]) (e : Fin 128) (b : Fin 256) :
    (Rect.unit (s := S8x128x256) off S1x128x256.size inb).emb (ix3 0 e b) = ix3 k e b := by
  subst h
  refine Rect.emb_eq_of_coords _ _ _ fun a => ?_
  fin_cases a <;> simp [ix3, Shape.Idx.norm]

/-- Eight stores, one per head, read back at a head. -/
theorem acc8 (v : View sig .tc .vmem S8x128x256 .f32) (f : v.ty.Contents (Elt Ideal)) (p : Fin 8 → FVec Ideal S1x128x256 .f32)
    (i0 : ∀ a, (![0, 0, 0] : Fin 3 → ℕ) a + S1x128x256.size a ≤ S8x128x256.size a) (i1 : ∀ a, (![1, 0, 0] : Fin 3 → ℕ) a + S1x128x256.size a ≤ S8x128x256.size a) (i2 : ∀ a, (![2, 0, 0] : Fin 3 → ℕ) a + S1x128x256.size a ≤ S8x128x256.size a) (i3 : ∀ a, (![3, 0, 0] : Fin 3 → ℕ) a + S1x128x256.size a ≤ S8x128x256.size a) (i4 : ∀ a, (![4, 0, 0] : Fin 3 → ℕ) a + S1x128x256.size a ≤ S8x128x256.size a) (i5 : ∀ a, (![5, 0, 0] : Fin 3 → ℕ) a + S1x128x256.size a ≤ S8x128x256.size a) (i6 : ∀ a, (![6, 0, 0] : Fin 3 → ℕ) a + S1x128x256.size a ≤ S8x128x256.size a) (i7 : ∀ a, (![7, 0, 0] : Fin 3 → ℕ) a + S1x128x256.size a ≤ S8x128x256.size a)
    (L : List (View.Piece (Elt Ideal) S8x128x256 .f32)) (h : Fin 8) (e : Fin 128) (b : Fin 256) :
    v.read (Elt Ideal) (v.writes (Elt Ideal) f (⟨Rect.unit (s := S8x128x256) ![7, 0, 0] S1x128x256.size i7, p 7⟩ :: ⟨Rect.unit (s := S8x128x256) ![6, 0, 0] S1x128x256.size i6, p 6⟩ :: ⟨Rect.unit (s := S8x128x256) ![5, 0, 0] S1x128x256.size i5, p 5⟩ :: ⟨Rect.unit (s := S8x128x256) ![4, 0, 0] S1x128x256.size i4, p 4⟩ :: ⟨Rect.unit (s := S8x128x256) ![3, 0, 0] S1x128x256.size i3, p 3⟩ :: ⟨Rect.unit (s := S8x128x256) ![2, 0, 0] S1x128x256.size i2, p 2⟩ :: ⟨Rect.unit (s := S8x128x256) ![1, 0, 0] S1x128x256.size i1, p 1⟩ :: ⟨Rect.unit (s := S8x128x256) ![0, 0, 0] S1x128x256.size i0, p 0⟩ :: L)) (ix3 h e b) = p h (ix3 0 e b) := by
  have hit : ∀ (k : Fin 8) (off : Fin 3 → ℕ) (inb : ∀ a, off a + S1x128x256.size a ≤ S8x128x256.size a) (w : FVec Ideal S1x128x256 .f32) (L : List (View.Piece (Elt Ideal) S8x128x256 .f32)),
      off = ![k.val, 0, 0] → v.read (Elt Ideal) (v.writes (Elt Ideal) f (⟨Rect.unit (s := S8x128x256) off S1x128x256.size inb, w⟩ :: L)) (ix3 k e b) = w (ix3 0 e b) := by
    intro k off inb w L h
    exact View.read_writes_cons_hit v f (Rect.unit (s := S8x128x256) off S1x128x256.size inb) w L (ix3 0 e b) (ix3 k e b) (emb_head k off inb h e b)
  have miss : ∀ (k h : Fin 8) (off : Fin 3 → ℕ) (inb : ∀ a, off a + S1x128x256.size a ≤ S8x128x256.size a) (w : FVec Ideal S1x128x256 .f32) (L : List (View.Piece (Elt Ideal) S8x128x256 .f32)),
      off = ![k.val, 0, 0] → h ≠ k → v.read (Elt Ideal) (v.writes (Elt Ideal) f (⟨Rect.unit (s := S8x128x256) off S1x128x256.size inb, w⟩ :: L)) (ix3 h e b)
        = v.read (Elt Ideal) (v.writes (Elt Ideal) f L) (ix3 h e b) := by
    intro k h off inb w L ho hne
    subst ho
    exact View.read_writes_cons_miss_of_axis v f _ L _ 0 k.val 1 rfl rfl rfl (by
      have : h.val ≠ k.val := fun h' => hne (Fin.ext h')
      show h.val < k.val ∨ k.val + 1 ≤ h.val
      omega)
  fin_cases h
  · exact (miss 7 0 _ _ _ _ rfl (by decide)).trans ((miss 6 0 _ _ _ _ rfl (by decide)).trans ((miss 5 0 _ _ _ _ rfl (by decide)).trans ((miss 4 0 _ _ _ _ rfl (by decide)).trans ((miss 3 0 _ _ _ _ rfl (by decide)).trans ((miss 2 0 _ _ _ _ rfl (by decide)).trans ((miss 1 0 _ _ _ _ rfl (by decide)).trans (hit 0 _ _ _ _ rfl)))))))
  · exact (miss 7 1 _ _ _ _ rfl (by decide)).trans ((miss 6 1 _ _ _ _ rfl (by decide)).trans ((miss 5 1 _ _ _ _ rfl (by decide)).trans ((miss 4 1 _ _ _ _ rfl (by decide)).trans ((miss 3 1 _ _ _ _ rfl (by decide)).trans ((miss 2 1 _ _ _ _ rfl (by decide)).trans (hit 1 _ _ _ _ rfl))))))
  · exact (miss 7 2 _ _ _ _ rfl (by decide)).trans ((miss 6 2 _ _ _ _ rfl (by decide)).trans ((miss 5 2 _ _ _ _ rfl (by decide)).trans ((miss 4 2 _ _ _ _ rfl (by decide)).trans ((miss 3 2 _ _ _ _ rfl (by decide)).trans (hit 2 _ _ _ _ rfl)))))
  · exact (miss 7 3 _ _ _ _ rfl (by decide)).trans ((miss 6 3 _ _ _ _ rfl (by decide)).trans ((miss 5 3 _ _ _ _ rfl (by decide)).trans ((miss 4 3 _ _ _ _ rfl (by decide)).trans (hit 3 _ _ _ _ rfl))))
  · exact (miss 7 4 _ _ _ _ rfl (by decide)).trans ((miss 6 4 _ _ _ _ rfl (by decide)).trans ((miss 5 4 _ _ _ _ rfl (by decide)).trans (hit 4 _ _ _ _ rfl)))
  · exact (miss 7 5 _ _ _ _ rfl (by decide)).trans ((miss 6 5 _ _ _ _ rfl (by decide)).trans (hit 5 _ _ _ _ rfl))
  · exact (miss 7 6 _ _ _ _ rfl (by decide)).trans (hit 6 _ _ _ _ rfl)
  · exact hit 7 _ _ _ _ rfl

set_option maxHeartbeats 1000000 in
/-- What one turn leaves in the accumulator: each head's sums, with the tile's weighted values added. -/
theorem trip_acc (c : Dev nD) (i : grid0.Coords) (arg3 : Memref sig .tc .vmem S4096x1024 .bf16) (harg3 : arg3.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg5 : Memref sig .tc .vmem S256x256 .bf16) (harg5 : arg5.IsWhole) (arg20 : Memref sig .tc .vmem S2x8x256x256 .bf16) (harg20 : arg20.IsWhole) (arg21 : Memref sig .tc .vmem S8x128x256 .f32) (harg21 : arg21.IsWhole) (arg4 : Memref sig .tc .vmem S1x1x16x1024x256 .bf16) (harg4 : arg4.IsWhole)
    (j : BitVec 32) (hj : k0_chk1 j) (xk : Vec Ideal S4096x1024 .bf16) (xq : Vec Ideal S256x1024 .bf16) (xv : Vec Ideal S1x1x16x1024x256 .bf16)
    (xt : Vec Ideal S256x256 .bf16) (xa : Vec Ideal S8x128x256 .f32) (carry : FVec Ideal S8x256 .f32)
    (n : Fin 16) (hn : j = BitVec.ofNat 32 n.val) (h : Fin 8) (e : Fin 128) (b : Fin 256) :
    arg21.view.read (Elt Ideal) (arg21.view.writes (Elt Ideal) (harg21.unread xa)
        (trip (F := Ideal) c i arg3 harg3 arg17 harg17 arg18 harg18 arg19 harg19 arg5 harg5 arg20 harg20 arg21 harg21 arg4 harg4 j hj xk xq xv xt xa carry).1) (ix3 h e b)
      = xa (ix3 h e b) + ∑ a : Fin 256, xv (ix5 0 0 n ⟨128 * h.val + e.val, by omega⟩ a)
          * Ideal.exp2 (zAt xk xq n h a b + cAt (carry (ix2 h b)) xt xk xq n h a b) := by
  subst hn
  unfold trip
  dsimp only
  simp (disch := decide) only [trip.sl.H4_8, trip.sl.H5_8, trip.sl.H6_8, trip.sl.cst_122, trip.sl.cst_314, trip.sl.cst_76, trip.sl.r, trip.sl.r_1, trip.sl.r_2, trip.sl.r_3, trip.sl.r_4, trip.sl.r_5, trip.sl.r_6, trip.sl.r_7, trip.sl.r_8, trip.sl.r_9, trip.sl.v279, trip.sl.v284, trip.sl.v285, trip.sl.v286, trip.sl.v287, trip.sl.v288, trip.sl.v290, trip.sl.v291, trip.sl.v292, trip.sl.v293, trip.sl.v295, trip.sl.v296, trip.sl.v297, trip.sl.v298, trip.sl.v299, trip.sl.v300, trip.sl.v301, trip.sl.v302, trip.sl.v303, trip.sl.v304, trip.sl.v305, trip.sl.v306, trip.sl.v307, trip.sl.v308, trip.sl.v309, trip.sl.v310, trip.sl.v313, trip.sl.v314, trip.sl.v315, trip.sl.v316, trip.sl.v317, trip.sl.v318, trip.sl.v319, trip.sl.v320, trip.sl.v321, trip.sl.v322, trip.sl.v323, trip.sl.v324, trip.sl.v325, trip.sl.v326, trip.sl.v327, trip.sl.v330, trip.sl.v331, trip.sl.v332, trip.sl.v333, trip.sl.v334, trip.sl.v335, trip.sl.v336, trip.sl.v337, trip.sl.v338, trip.sl.v339, trip.sl.v340, trip.sl.v341, trip.sl.v342, trip.sl.v343, trip.sl.v344, trip.sl.v347, trip.sl.v348, trip.sl.v349, trip.sl.v350, trip.sl.v351, trip.sl.v352, trip.sl.v353, trip.sl.v354, trip.sl.v355, trip.sl.v356, trip.sl.v357, trip.sl.v358, trip.sl.v359, trip.sl.v360, trip.sl.v361, trip.sl.v364, trip.sl.v365, trip.sl.v366, trip.sl.v367, trip.sl.v368, trip.sl.v369, trip.sl.v370, trip.sl.v371, trip.sl.v372, trip.sl.v373, trip.sl.v374, trip.sl.v375, trip.sl.v376, trip.sl.v377, trip.sl.v378, trip.sl.v381, trip.sl.v382, trip.sl.v383, trip.sl.v384, trip.sl.v385, trip.sl.v386, trip.sl.v387, trip.sl.v388, trip.sl.v389, trip.sl.v390, trip.sl.v391, trip.sl.v392, trip.sl.v393, trip.sl.v394, trip.sl.v395, trip.sl.v398, trip.sl.v399, trip.sl.v400, trip.sl.v401, trip.sl.v402, trip.sl.v403, trip.sl.v404, trip.sl.v405, trip.sl.v406, trip.sl.v407, trip.sl.v408, trip.sl.v409, trip.sl.v410, trip.sl.v411, trip.sl.v412, trip.sl.v414, trip.sl.v417, trip.sl.v418, trip.sl.v419, trip.sl.v420, trip.sl.v421, trip.sl.v424, trip.sl.v425, trip.sl.v426, trip.sl.v429, trip.sl.v430, trip.sl.v431, trip.sl.v432, trip.sl.v433, trip.sl.v436, trip.sl.v437, trip.sl.v438, trip.sl.v441, trip.sl.v442, trip.sl.v443, trip.sl.v444, trip.sl.v445, trip.sl.v448, trip.sl.v449, trip.sl.v450, trip.sl.v453, trip.sl.v454, trip.sl.v455, trip.sl.v456, trip.sl.v457, trip.sl.v460, trip.sl.v461, trip.sl.v462, trip.sl.v465, trip.sl.v466, trip.sl.v467, trip.sl.v468, trip.sl.v469, trip.sl.v472, trip.sl.v473, trip.sl.v474, trip.sl.v477, trip.sl.v478, trip.sl.v479, trip.sl.v480, trip.sl.v481, trip.sl.v484, trip.sl.v485, trip.sl.v486, trip.sl.v490, trip.sl.v497, trip.sl.v502, trip.sl.v82, ↓ View.readCov_skip, ↓ View.readCov_cons_toLoadRect]
  refine (acc8 _ _ ![_, _, _, _, _, _, _, _] _ _ _ _ _ _ _ _ [] h e b).trans ?_
  fin_cases h
  · exact head_acc arg3 harg3 arg17 harg17 arg5 harg5 arg4 harg4 arg21 harg21 xk xq xv xt xa carry n 0 _ _ _ _ _ _ _ _ _ _ (off49 n) rfl (off57 n) rfl e b
  · exact head_acc arg3 harg3 arg17 harg17 arg5 harg5 arg4 harg4 arg21 harg21 xk xq xv xt xa carry n 1 _ _ _ _ _ _ _ _ _ _ (off50 n) rfl (off58 n) rfl e b
  · exact head_acc arg3 harg3 arg17 harg17 arg5 harg5 arg4 harg4 arg21 harg21 xk xq xv xt xa carry n 2 _ _ _ _ _ _ _ _ _ _ (off51 n) rfl (off59 n) rfl e b
  · exact head_acc arg3 harg3 arg17 harg17 arg5 harg5 arg4 harg4 arg21 harg21 xk xq xv xt xa carry n 3 _ _ _ _ _ _ _ _ _ _ (off52 n) rfl (off60 n) rfl e b
  · exact head_acc arg3 harg3 arg17 harg17 arg5 harg5 arg4 harg4 arg21 harg21 xk xq xv xt xa carry n 4 _ _ _ _ _ _ _ _ _ _ (off53 n) rfl (off61 n) rfl e b
  · exact head_acc arg3 harg3 arg17 harg17 arg5 harg5 arg4 harg4 arg21 harg21 xk xq xv xt xa carry n 5 _ _ _ _ _ _ _ _ _ _ (off54 n) rfl (off62 n) rfl e b
  · exact head_acc arg3 harg3 arg17 harg17 arg5 harg5 arg4 harg4 arg21 harg21 xk xq xv xt xa carry n 6 _ _ _ _ _ _ _ _ _ _ (off55 n) rfl (off63 n) rfl e b
  · exact head_acc arg3 harg3 arg17 harg17 arg5 harg5 arg4 harg4 arg21 harg21 xk xq xv xt xa carry n 7 _ _ _ _ _ _ _ _ _ _ (off56 n) rfl (off64 n) rfl e b

end Cert.Proof.SB

end
-- ==== Proof.Value.Rounds.lean ====
/- The whole loop: it runs down to the first key tile, and leaves the weighted values of every key. -/
module

public import proofs.«01_k».proof.Proof.Loop
public import proofs.«01_k».proof.Proof.Value.TripValue
public import Idealize.ShloMosaic.Lib.Pipeline.ReadBack
public import Idealize.ShloMosaic.Lib.WholeRead
public import Idealize.ShloMosaic.Lib.Pipeline.FrameBody
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The value of key `s` in lane `e` of head `h`. -/
def vOf (xv : Vec Ideal S1x1x16x1024x256 .bf16) (h : Fin 8) (e : Fin 128) (s : ℕ) : EReal :=
  if hs : s < 4096 then xv (ix5 0 0 ⟨s / 256, by omega⟩ ⟨128 * h.val + e.val, by omega⟩ ⟨s % 256, by omega⟩) else 0

theorem vOf_tile (xv : Vec Ideal S1x1x16x1024x256 .bf16) (h : Fin 8) (e : Fin 128) (n : Fin 16) (a : Fin 256) :
    xv (ix5 0 0 n ⟨128 * h.val + e.val, by omega⟩ a) = vOf xv h e (256 * n.val + a.val) := by
  have h0 : 256 * n.val + a.val < 4096 := by omega
  have h1 : (⟨(256 * n.val + a.val) / 256, by omega⟩ : Fin 16) = n := Fin.ext (by show (256 * n.val + a.val) / 256 = n.val; omega)
  have h2 : (⟨(256 * n.val + a.val) % 256, by omega⟩ : Fin 256) = a := Fin.ext (by show (256 * n.val + a.val) % 256 = a.val; omega)
  rw [vOf, dif_pos h0, h1, h2]

/-- What a grid point's keys, queries and triangle hold: real logits, and ones from the diagonal on. -/
structure Good (xk : Vec Ideal S4096x1024 .bf16) (xq : Vec Ideal S256x1024 .bf16) (xt : Vec Ideal S256x256 .bf16)
    (q : ℕ) (z : Fin 8 → ℕ → ℕ → ℝ) : Prop where
  logit : ∀ (n : Fin 16) (h : Fin 8) (a b : Fin 256), zAt xk xq n h a b = (z h (256 * q + b.val) (256 * n.val + a.val) : ℝ)
  tri : ∀ a a' : Fin 256, xt (ix2 a a') = if a ≤ a' then 1 else 0

/-- The carry and the accumulator once the keys from `k` on are done. -/
def Inv (xv : Vec Ideal S1x1x16x1024x256 .bf16) (q : ℕ) (z : Fin 8 → ℕ → ℕ → ℝ) (k : ℕ) (carry : FVec Ideal S8x256 .f32) (xa : Vec Ideal S8x128x256 .f32) : Prop :=
  (∀ (h : Fin 8) (b : Fin 256), carry (ix2 h b) = ((-cost (z h) (256 * q + b.val) k : ℝ) : EReal)) ∧
  ∀ (h : Fin 8) (e : Fin 128) (b : Fin 256), xa (ix3 h e b) = total (z h) (vOf xv h e) (256 * q + b.val) k

/-- A tile wholly before the queries: the offsets, -/
theorem cAt_before {xk xq xt q z} (G : Good xk xq xt q z) (n : Fin 16) (hn : n.val < q) (h : Fin 8) (b a : Fin 256) (r : EReal)
    (hr : r = ((-cost (z h) (256 * q + b.val) (256 * (n.val + 1)) : ℝ) : EReal)) :
    cAt r xt xk xq n h a b = ((-cost (z h) (256 * q + b.val) (256 * n.val + a.val) : ℝ) : EReal) := by
  refine offset_tile (z h) (256 * q + b.val) (256 * n.val) (by omega) a r _ _ hr (fun a' => G.tri a a') fun a' => ?_
  rw [G.logit, lossOf_coe, ell, if_pos (by omega)]

/-- and the sums. -/
theorem acc_before {xk xq xt q z} (G : Good xk xq xt q z) (xv : Vec Ideal S1x1x16x1024x256 .bf16) (n : Fin 16) (hn : n.val < q) (h : Fin 8) (e : Fin 128) (b : Fin 256) (r acc : EReal)
    (hr : r = ((-cost (z h) (256 * q + b.val) (256 * (n.val + 1)) : ℝ) : EReal)) (hacc : acc = total (z h) (vOf xv h e) (256 * q + b.val) (256 * (n.val + 1))) :
    acc + ∑ a : Fin 256, xv (ix5 0 0 n ⟨128 * h.val + e.val, by omega⟩ a) * Ideal.exp2 (zAt xk xq n h a b + cAt r xt xk xq n h a b)
      = total (z h) (vOf xv h e) (256 * q + b.val) (256 * n.val) := by
  rw [hacc, ← total_tile (z h) (vOf xv h e) (256 * q + b.val) (256 * n.val) (by omega)]
  congr 1
  refine Finset.sum_congr rfl fun a _ => ?_
  rw [vOf_tile xv h e n a, cAt_before G n hn h b a r hr, G.logit, weight_tile _ _ _ (by omega)]

/-- One turn, from the keys after its tile to its tile. -/
theorem trip_inv (c : Dev nD) (i : grid0.Coords) (arg3 : Memref sig .tc .vmem S4096x1024 .bf16) (harg3 : arg3.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg5 : Memref sig .tc .vmem S256x256 .bf16) (harg5 : arg5.IsWhole) (arg20 : Memref sig .tc .vmem S2x8x256x256 .bf16) (harg20 : arg20.IsWhole) (arg21 : Memref sig .tc .vmem S8x128x256 .f32) (harg21 : arg21.IsWhole) (arg4 : Memref sig .tc .vmem S1x1x16x1024x256 .bf16) (harg4 : arg4.IsWhole)
    (j : BitVec 32) (hj : k0_chk1 j) (xk : Vec Ideal S4096x1024 .bf16) (xq : Vec Ideal S256x1024 .bf16) (xv : Vec Ideal S1x1x16x1024x256 .bf16)
    (xt : Vec Ideal S256x256 .bf16) (xa : Vec Ideal S8x128x256 .f32) (carry : FVec Ideal S8x256 .f32)
    (q : ℕ) (z : Fin 8 → ℕ → ℕ → ℝ) (G : Good xk xq xt q z)
    (n : Fin 16) (hn : j = BitVec.ofNat 32 n.val) (hq : n.val < q) (I : Inv xv q z (256 * (n.val + 1)) carry xa) :
    Inv xv q z (256 * n.val) (trip (F := Ideal) c i arg3 harg3 arg17 harg17 arg18 harg18 arg19 harg19 arg5 harg5 arg20 harg20 arg21 harg21 arg4 harg4 j hj xk xq xv xt xa carry).2.1
      (arg21.view.read (Elt Ideal) (arg21.view.writes (Elt Ideal) (harg21.unread xa)
        (trip (F := Ideal) c i arg3 harg3 arg17 harg17 arg18 harg18 arg19 harg19 arg5 harg5 arg20 harg20 arg21 harg21 arg4 harg4 j hj xk xq xv xt xa carry).1)) := by
  constructor
  · intro h b
    rw [trip_carry (hn := hn)]
    exact cAt_before G n hq h b 0 _ (I.1 h b)
  · intro h e b
    rw [trip_acc (hn := hn)]
    exact acc_before G xv n hq h e b _ _ (I.1 h b) (I.2 h e b)

/-- The loop's liveness measure is above the least value as soon as one row is a real. -/
theorem pay7_lower (carry : FVec Ideal S8x256 .f32) (hc : ⊥ < carry (ix2 0 0)) : (⊥ : EReal) < k0_pay7 carry := by
  pointwise [k0_pay7]
  exact (Finset.lt_fold_max _).mpr (Or.inr ⟨(0, 0), Finset.mem_univ _, hc⟩)

theorem Inv.live {xv q z k carry xa} (I : Inv xv q z k carry xa) : (⊥ : EReal) < k0_pay7 carry :=
  pay7_lower carry (by rw [I.1 0 0]; exact EReal.bot_lt_coe _)

theorem never_named : Named.named (F := Ideal) κ "never" (φ := .f32) 0xC3170000#32 = (⊥ : EReal) :=
  IdealRules.named_const.ideal_named_scalar _ _ _ _ rfl

theorem goes_of (j : BitVec 32) (live : EReal) (hj : 0 ≤ j.toInt) (hl : ⊥ < live) : goes (F := Ideal) j live := by
  have h0 : Scalar.cmpi .sge j 0#32 = 1#1 := by
    show BitVec.ofBool (decide ((0#32 : BitVec 32).toInt ≤ j.toInt)) = 1#1
    rw [decide_eq_true (by simpa using hj)]; rfl
  have h1 : Scalar.cmpf (F := Ideal) (φ := .f32) .ogt live (Named.named κ "never" 0xC3170000#32) = 1#1 := by
    rw [never_named]
    show Ideal.cmp .ogt live ⊥ = 1#1
    simp [Ideal.cmp, hl]
  show Scalar.andi (Scalar.cmpi .sge j 0#32) (Scalar.cmpf (F := Ideal) (φ := .f32) .ogt live (Named.named κ "never" 0xC3170000#32)) = 1#1
  rw [h0, h1]; rfl

/-- The whole loop, begun at the tile below key `256 m`, leaves the weighted values of every key. -/
theorem rounds_value (c : Dev nD) (i : grid0.Coords) (arg3 : Memref sig .tc .vmem S4096x1024 .bf16) (harg3 : arg3.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg5 : Memref sig .tc .vmem S256x256 .bf16) (harg5 : arg5.IsWhole) (arg20 : Memref sig .tc .vmem S2x8x256x256 .bf16) (harg20 : arg20.IsWhole) (arg21 : Memref sig .tc .vmem S8x128x256 .f32) (harg21 : arg21.IsWhole) (arg4 : Memref sig .tc .vmem S1x1x16x1024x256 .bf16) (harg4 : arg4.IsWhole)
    (xk : Vec Ideal S4096x1024 .bf16) (xq : Vec Ideal S256x1024 .bf16) (xv : Vec Ideal S1x1x16x1024x256 .bf16) (xt : Vec Ideal S256x256 .bf16)
    (q : ℕ) (z : Fin 8 → ℕ → ℕ → ℝ) (G : Good xk xq xt q z) :
    ∀ (k m : ℕ) (j : BitVec 32) (live : EReal) (carry : FVec Ideal S8x256 .f32) (xa : Vec Ideal S8x128x256 .f32),
      m ≤ k → m ≤ q → m ≤ 16 → (j.toInt = (m : ℤ) - 1 ∨ (m = 0 ∧ j.toInt < 0)) → ⊥ < live → Inv xv q z (256 * m) carry xa →
      ∀ (h : Fin 8) (e : Fin 128) (b : Fin 256),
        rounds (F := Ideal) c i arg3 harg3 arg17 harg17 arg18 harg18 arg19 harg19 arg5 harg5 arg20 harg20 arg21 harg21 arg4 harg4 xk xq xv xt k j live carry xa (ix3 h e b) = total (z h) (vOf xv h e) (256 * q + b.val) 0 := by
  intro k
  induction k with
  | zero =>
    intro m j live carry xa hk _ _ _ _ I h e b
    obtain rfl : m = 0 := by omega
    rw [rounds]
    exact I.2 h e b
  | succ k ih =>
    intro m j live carry xa hk hq h16 hj hl I h e b
    rw [rounds]
    rcases Nat.eq_zero_or_pos m with rfl | hm
    · rw [dif_neg (fun hh => by have := goes_nonneg hh.2; omega)]
      exact I.2 h e b
    · have hj' : j.toInt = (m : ℤ) - 1 := by omega
      have hn : j = BitVec.ofNat 32 (m - 1) := by
        apply BitVec.eq_of_toInt_eq
        rw [BitVec.toInt_ofNat', Int.bmod_eq_of_le (by omega) (by omega)]
        omega
      have hc : k0_chk1 j ∧ goes (F := Ideal) j live := ⟨chk_of_toInt (by omega) (by omega), goes_of j live (by omega) hl⟩
      rw [dif_pos hc]
      have hI := trip_inv c i arg3 harg3 arg17 harg17 arg18 harg18 arg19 harg19 arg5 harg5 arg20 harg20 arg21 harg21 arg4 harg4 j hc.1 xk xq xv xt xa carry q z G ⟨m - 1, by omega⟩ hn (by show m - 1 < q; omega)
        (by show Inv xv q z (256 * (m - 1 + 1)) carry xa; rwa [Nat.sub_add_cancel hm])
      exact ih (m - 1) _ _ _ _ (by omega) (by omega) (by omega) (Or.inl (by rw [toInt_pred (by omega)]; omega)) hI.live hI h e b

end Cert.Proof.SB

end
-- ==== Proof.Value.Tiles.lean ====
/- A tile of a grid point's first part: the tile on the diagonal, and the tile before it. -/
module

public import proofs.«01_k».proof.Proof.Loop
public import proofs.«01_k».proof.Proof.Value.Rounds
public import Idealize.ShloMosaic.Lib.Pipeline.ReadBack
public import Idealize.ShloMosaic.Lib.WholeRead
public import Idealize.ShloMosaic.Lib.Pipeline.FrameBody
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The exponent offset of key `a` of the tile on the diagonal, from the offset carried in. -/
def dAt (r : EReal) (xt : Vec Ideal S256x256 .bf16) (xk : Vec Ideal S4096x1024 .bf16) (xq : Vec Ideal S256x1024 .bf16)
    (n : Fin 16) (h : Fin 8) (a b : Fin 256) : EReal :=
  r - ∑ a' : Fin 256, xt (ix2 a a') * (if a' < b then lossOf (zAt xk xq n h a' b) else 0)

/-- The tile on the diagonal, met first: the offsets, -/
theorem dAt_diag {xk xq xt q z} (G : Good xk xq xt q z) (n : Fin 16) (hn : n.val = q) (h : Fin 8) (b a : Fin 256) :
    dAt 0 xt xk xq n h a b = ((-cost (z h) (256 * q + b.val) (256 * q + a.val) : ℝ) : EReal) := by
  refine offset_tile (z h) (256 * q + b.val) (256 * q) (by omega) a 0 _ _ ?_ (fun a' => G.tri a a') fun a' => ?_
  · rw [cost_past _ _ _ (by omega)]; simp
  · rw [G.logit, lossOf_coe, ell, hn]
    by_cases hlt : a' < b
    · rw [if_pos hlt, if_pos (by have : a'.val < b.val := hlt; omega)]
    · rw [if_neg hlt, if_neg (by have : ¬ a'.val < b.val := hlt; omega)]; simp

/-- and the sums. -/
theorem acc_diag {xk xq xt q z} (G : Good xk xq xt q z) (xv : Vec Ideal S1x1x16x1024x256 .bf16) (n : Fin 16) (hn : n.val = q) (h : Fin 8) (e : Fin 128) (b : Fin 256) :
    0 + ∑ a : Fin 256, xv (ix5 0 0 n ⟨128 * h.val + e.val, by omega⟩ a)
        * (if a < b then Ideal.exp2 (zAt xk xq n h a b + dAt 0 xt xk xq n h a b) else 0)
      = total (z h) (vOf xv h e) (256 * q + b.val) (256 * q) := by
  rw [← total_tile (z h) (vOf xv h e) (256 * q + b.val) (256 * q) (by omega), total_past _ _ _ _ (by omega : 256 * q + b.val ≤ 256 * q + 256)]
  congr 1
  refine Finset.sum_congr rfl fun a _ => ?_
  rw [vOf_tile xv h e n a, dAt_diag G n hn h b a, G.logit, hn]
  by_cases hlt : a < b
  · rw [if_pos hlt, weight_tile _ _ _ (by have : a.val < b.val := hlt; omega)]
  · rw [if_neg hlt, weight, if_neg (by have : ¬ a.val < b.val := hlt; omega)]; simp

/-- Key `a` of tile `n`, among the keys, -/
def keyOf (n : Fin 16) (a : Fin 256) : Fin 4096 := ⟨256 * n.val + a.val, by omega⟩

/-- and feature `d` of head `h`, among the columns. -/
def colOf (h : Fin 8) (d : Fin 128) : Fin 1024 := ⟨128 * h.val + d.val, by omega⟩

section Tiles

variable (arg5 : Memref sig .tc .vmem S256x256 .bf16) (harg5 : arg5.IsWhole) (arg4 : Memref sig .tc .vmem S1x1x16x1024x256 .bf16) (harg4 : arg4.IsWhole)
  (xk : Vec Ideal S4096x1024 .bf16) (xq : Vec Ideal S256x1024 .bf16) (xt : Vec Ideal S256x256 .bf16) (xv : Vec Ideal S1x1x16x1024x256 .bf16)
  (n : Fin 16) (h : Fin 8) (kk qq : Vec Ideal S256x128 .bf16)
  (hk : ∀ (a : Fin 256) (d : Fin 128), kk (ix2 a d) = xk (ix2 (keyOf n a) (colOf h d)))
  (hq : ∀ (b : Fin 256) (d : Fin 128), qq (ix2 b d) = xq (ix2 b (colOf h d)))

include hk hq

theorem logits_of (a b : Fin 256) : ∑ d : Fin 128, kk (ix2 a d) * qq (ix2 b d) = zAt xk xq n h a b :=
  Finset.sum_congr rfl fun d _ => congrArg₂ (· * ·) (hk a d) (hq b d)

/-- The offsets of a tile before the queries. -/
theorem offsets_of (inbt : ∀ a, (![0, 0] : Fin 2 → ℕ) a + S256x256.size a ≤ S256x256.size a) (row : FVec Ideal S1x256 .f32) (a b : Fin 256) :
    tileC row (View.readAt (Elt Ideal) arg5.view (Rect.unit (s := S256x256) ![0, 0] S256x256.size inbt).toLoadRect (harg5.unread xt))
      (k0_pay243 kk qq) (ix2 a b) = cAt (row (ix2 0 b)) xt xk xq n h a b := by
  rw [tileC_apply, cAt]
  congr 1
  exact Finset.sum_congr rfl fun a' _ => by rw [readT arg5 harg5, pay243_apply, logits_of xk xq n h kk qq hk hq]

/-- The offsets of the tile on the diagonal. -/
theorem offsets_diag (inbt : ∀ a, (![0, 0] : Fin 2 → ℕ) a + S256x256.size a ≤ S256x256.size a) (row : FVec Ideal S1x256 .f32) (hrow : ∀ b, row (ix2 0 b) = 0) (a b : Fin 256) :
    tileC row (View.readAt (Elt Ideal) arg5.view (Rect.unit (s := S256x256) ![0, 0] S256x256.size inbt).toLoadRect (harg5.unread xt))
      (k0_pay10 k0_pay230 kk qq) (ix2 a b) = dAt 0 xt xk xq n h a b := by
  rw [tileC_apply, dAt, hrow]
  congr 1
  exact Finset.sum_congr rfl fun a' _ => by rw [readT arg5 harg5, pay10_apply, logits_of xk xq n h kk qq hk hq]

/-- The sums after the tile on the diagonal. -/
theorem sums_diag (inbt : ∀ a, (![0, 0] : Fin 2 → ℕ) a + S256x256.size a ≤ S256x256.size a) (row : FVec Ideal S1x256 .f32) (hrow : ∀ b, row (ix2 0 b) = 0)
    (offv : Fin 5 → ℕ) (inbv : ∀ a, offv a + S1x1x1x128x256.size a ≤ S1x1x16x1024x256.size a) (hv : offv = ![0, 0, n.val, 128 * h.val, 0])
    (acc : Vec Ideal S1x128x256 .f32) (hacc : ∀ e b, acc (ix3 0 e b) = 0) (e : Fin 128) (b : Fin 256) :
    tileA acc (View.readAt (Elt Ideal) arg4.view (Rect.unit (s := S1x1x16x1024x256) offv S1x1x1x128x256.size inbv).toLoadRect (harg4.unread xv))
      (diagW (tileC row (View.readAt (Elt Ideal) arg5.view (Rect.unit (s := S256x256) ![0, 0] S256x256.size inbt).toLoadRect (harg5.unread xt))
        (k0_pay10 k0_pay230 kk qq)) (k0_pay242 kk qq)) (ix3 0 e b)
      = 0 + ∑ a : Fin 256, xv (ix5 0 0 n ⟨128 * h.val + e.val, by omega⟩ a)
        * (if a < b then Ideal.exp2 (zAt xk xq n h a b + dAt 0 xt xk xq n h a b) else 0) := by
  rw [acc_read arg4 harg4 xv offv inbv n h hv, hacc]
  congr 1
  refine Finset.sum_congr rfl fun a _ => ?_
  rw [diagW_apply, pay242_apply, logits_of xk xq n h kk qq hk hq, offsets_diag arg5 harg5 xk xq xt n h kk qq hk hq inbt row hrow]

/-- The sums after a tile before the queries. -/
theorem sums_of (inbt : ∀ a, (![0, 0] : Fin 2 → ℕ) a + S256x256.size a ≤ S256x256.size a) (row : FVec Ideal S1x256 .f32)
    (offv : Fin 5 → ℕ) (inbv : ∀ a, offv a + S1x1x1x128x256.size a ≤ S1x1x16x1024x256.size a) (hv : offv = ![0, 0, n.val, 128 * h.val, 0])
    (acc : Vec Ideal S1x128x256 .f32) (e : Fin 128) (b : Fin 256) :
    tileA acc (View.readAt (Elt Ideal) arg4.view (Rect.unit (s := S1x1x16x1024x256) offv S1x1x1x128x256.size inbv).toLoadRect (harg4.unread xv))
      (tileW (tileC row (View.readAt (Elt Ideal) arg5.view (Rect.unit (s := S256x256) ![0, 0] S256x256.size inbt).toLoadRect (harg5.unread xt))
        (k0_pay243 kk qq)) (k0_pay242 kk qq)) (ix3 0 e b)
      = acc (ix3 0 e b) + ∑ a : Fin 256, xv (ix5 0 0 n ⟨128 * h.val + e.val, by omega⟩ a)
        * Ideal.exp2 (zAt xk xq n h a b + cAt (row (ix2 0 b)) xt xk xq n h a b) := by
  rw [acc_read arg4 harg4 xv offv inbv n h hv]
  congr 1
  refine Finset.sum_congr rfl fun a _ => ?_
  rw [tileW_apply, pay242_apply, logits_of xk xq n h kk qq hk hq, offsets_of arg5 harg5 xk xq xt n h kk qq hk hq inbt row]

end Tiles

/-- The scaled queries, as the scratch buffer holds them once written, read in part. -/
theorem readScaled (v : View sig .tc .vmem S256x1024 .bf16) (f : v.ty.Contents (Elt Ideal)) (Z : Vec Ideal S256x1024 .bf16)
    (inbW : ∀ a, (![0, 0] : Fin 2 → ℕ) a + S256x1024.size a ≤ S256x1024.size a)
    (off : Fin 2 → ℕ) (inb : ∀ a, off a + S256x128.size a ≤ S256x1024.size a) (h : Fin 8) (hoff : off = ![0, 128 * h.val]) (b : Fin 256) (d : Fin 128) :
    View.ld Z (Rect.unit (s := S256x1024) off S256x128.size inb) (ix2 b d)
      = v.read (Elt Ideal) (v.writes (Elt Ideal) f [⟨Rect.unit (s := S256x1024) ![0, 0] S256x1024.size inbW, Z⟩]) (ix2 b ⟨128 * h.val + d.val, by omega⟩) := by
  subst hoff
  refine Eq.trans ?_ (View.read_writes_cons_hit v f (Rect.unit (s := S256x1024) ![0, 0] S256x1024.size inbW) Z [] (ix2 b ⟨128 * h.val + d.val, by omega⟩) _ ?_).symm
  · pointwise []
  · refine Rect.emb_eq_of_coords _ _ _ fun a => ?_
    fin_cases a <;> simp [ix2, Shape.Idx.norm]

/-- The carry begins at zero, -/
theorem zero_row (h : Fin 8) (hs) (b : Fin 256) : extractStridedSlice S1x256 ![h.val, 0] (k0_pay233 (F := Ideal)) hs (ix2 0 b) = 0 := by
  pointwise [k0_pay233]

/-- and so does the accumulator. -/
theorem zero_acc (off : Fin 3 → ℕ) (inb : ∀ a, off a + S1x128x256.size a ≤ S8x128x256.size a) (e : Fin 128) (b : Fin 256) :
    View.ld (Val := Elt Ideal) (e' := .f32) (k0_pay232 (F := Ideal)) (Rect.unit (s := S8x128x256) off S1x128x256.size inb) (ix3 0 e b) = 0 := by
  pointwise [k0_pay232]

/-- Eight stores, one per head's columns, read back at a head. -/
theorem cols8 (v : View sig .tc .vmem S256x1024 .bf16) (f : v.ty.Contents (Elt Ideal)) (p : Fin 8 → FVec Ideal S256x128 .bf16)
    (i0 : ∀ a, (![0, 0] : Fin 2 → ℕ) a + S256x128.size a ≤ S256x1024.size a) (i1 : ∀ a, (![0, 128] : Fin 2 → ℕ) a + S256x128.size a ≤ S256x1024.size a) (i2 : ∀ a, (![0, 256] : Fin 2 → ℕ) a + S256x128.size a ≤ S256x1024.size a) (i3 : ∀ a, (![0, 384] : Fin 2 → ℕ) a + S256x128.size a ≤ S256x1024.size a) (i4 : ∀ a, (![0, 512] : Fin 2 → ℕ) a + S256x128.size a ≤ S256x1024.size a) (i5 : ∀ a, (![0, 640] : Fin 2 → ℕ) a + S256x128.size a ≤ S256x1024.size a) (i6 : ∀ a, (![0, 768] : Fin 2 → ℕ) a + S256x128.size a ≤ S256x1024.size a) (i7 : ∀ a, (![0, 896] : Fin 2 → ℕ) a + S256x128.size a ≤ S256x1024.size a)
    (L : List (View.Piece (Elt Ideal) S256x1024 .bf16)) (h : Fin 8) (b : Fin 256) (e : Fin 128) :
    v.read (Elt Ideal) (v.writes (Elt Ideal) f (⟨Rect.unit (s := S256x1024) ![0, 896] S256x128.size i7, p 7⟩ :: ⟨Rect.unit (s := S256x1024) ![0, 768] S256x128.size i6, p 6⟩ :: ⟨Rect.unit (s := S256x1024) ![0, 640] S256x128.size i5, p 5⟩ :: ⟨Rect.unit (s := S256x1024) ![0, 512] S256x128.size i4, p 4⟩ :: ⟨Rect.unit (s := S256x1024) ![0, 384] S256x128.size i3, p 3⟩ :: ⟨Rect.unit (s := S256x1024) ![0, 256] S256x128.size i2, p 2⟩ :: ⟨Rect.unit (s := S256x1024) ![0, 128] S256x128.size i1, p 1⟩ :: ⟨Rect.unit (s := S256x1024) ![0, 0] S256x128.size i0, p 0⟩ :: L)) (ix2 b (colOf h e)) = p h (ix2 b e) := by
  have hit : ∀ (k : Fin 8) (off : Fin 2 → ℕ) (inb : ∀ a, off a + S256x128.size a ≤ S256x1024.size a) (w : FVec Ideal S256x128 .bf16) (L : List (View.Piece (Elt Ideal) S256x1024 .bf16)),
      off = ![0, 128 * k.val] → v.read (Elt Ideal) (v.writes (Elt Ideal) f (⟨Rect.unit (s := S256x1024) off S256x128.size inb, w⟩ :: L)) (ix2 b (colOf k e)) = w (ix2 b e) := by
    intro k off inb w L h
    refine View.read_writes_cons_hit v f (Rect.unit (s := S256x1024) off S256x128.size inb) w L (ix2 b e) (ix2 b (colOf k e)) ?_
    subst h
    refine Rect.emb_eq_of_coords _ _ _ fun a => ?_
    fin_cases a <;> simp [ix2, Shape.Idx.norm, colOf]
  have miss : ∀ (k h : Fin 8) (off : Fin 2 → ℕ) (inb : ∀ a, off a + S256x128.size a ≤ S256x1024.size a) (w : FVec Ideal S256x128 .bf16) (L : List (View.Piece (Elt Ideal) S256x1024 .bf16)),
      off = ![0, 128 * k.val] → h ≠ k → v.read (Elt Ideal) (v.writes (Elt Ideal) f (⟨Rect.unit (s := S256x1024) off S256x128.size inb, w⟩ :: L)) (ix2 b (colOf h e))
        = v.read (Elt Ideal) (v.writes (Elt Ideal) f L) (ix2 b (colOf h e)) := by
    intro k h off inb w L ho hne
    subst ho
    exact View.read_writes_cons_miss_of_axis v f _ L _ 1 (128 * k.val) 128 rfl rfl rfl (by
      have : h.val ≠ k.val := fun h' => hne (Fin.ext h')
      show 128 * h.val + e.val < 128 * k.val ∨ 128 * k.val + 128 ≤ 128 * h.val + e.val
      omega)
  fin_cases h
  · exact (miss 7 0 _ _ _ _ rfl (by decide)).trans ((miss 6 0 _ _ _ _ rfl (by decide)).trans ((miss 5 0 _ _ _ _ rfl (by decide)).trans ((miss 4 0 _ _ _ _ rfl (by decide)).trans ((miss 3 0 _ _ _ _ rfl (by decide)).trans ((miss 2 0 _ _ _ _ rfl (by decide)).trans ((miss 1 0 _ _ _ _ rfl (by decide)).trans (hit 0 _ _ _ _ rfl)))))))
  · exact (miss 7 1 _ _ _ _ rfl (by decide)).trans ((miss 6 1 _ _ _ _ rfl (by decide)).trans ((miss 5 1 _ _ _ _ rfl (by decide)).trans ((miss 4 1 _ _ _ _ rfl (by decide)).trans ((miss 3 1 _ _ _ _ rfl (by decide)).trans ((miss 2 1 _ _ _ _ rfl (by decide)).trans (hit 1 _ _ _ _ rfl))))))
  · exact (miss 7 2 _ _ _ _ rfl (by decide)).trans ((miss 6 2 _ _ _ _ rfl (by decide)).trans ((miss 5 2 _ _ _ _ rfl (by decide)).trans ((miss 4 2 _ _ _ _ rfl (by decide)).trans ((miss 3 2 _ _ _ _ rfl (by decide)).trans (hit 2 _ _ _ _ rfl)))))
  · exact (miss 7 3 _ _ _ _ rfl (by decide)).trans ((miss 6 3 _ _ _ _ rfl (by decide)).trans ((miss 5 3 _ _ _ _ rfl (by decide)).trans ((miss 4 3 _ _ _ _ rfl (by decide)).trans (hit 3 _ _ _ _ rfl))))
  · exact (miss 7 4 _ _ _ _ rfl (by decide)).trans ((miss 6 4 _ _ _ _ rfl (by decide)).trans ((miss 5 4 _ _ _ _ rfl (by decide)).trans (hit 4 _ _ _ _ rfl)))
  · exact (miss 7 5 _ _ _ _ rfl (by decide)).trans ((miss 6 5 _ _ _ _ rfl (by decide)).trans (hit 5 _ _ _ _ rfl))
  · exact (miss 7 6 _ _ _ _ rfl (by decide)).trans (hit 6 _ _ _ _ rfl)
  · exact hit 7 _ _ _ _ rfl

/-- A head's sums, turned about for storing. -/
theorem turned (arg21 : Memref sig .tc .vmem S8x128x256 .f32) (harg21 : arg21.IsWhole) (xa : Vec Ideal S8x128x256 .f32)
    (offa : Fin 3 → ℕ) (inba : ∀ a, offa a + S1x128x256.size a ≤ S8x128x256.size a) (h : Fin 8) (ha : offa = ![h.val, 0, 0]) (b : Fin 256) (e : Fin 128) :
    k0_pay238 (View.readAt (Elt Ideal) arg21.view (Rect.unit (s := S8x128x256) offa S1x128x256.size inba).toLoadRect (harg21.unread xa)) (ix2 b e) = xa (ix3 h e b) := by
  have : ∀ v : Vec Ideal S1x128x256 .f32, k0_pay238 v (ix2 b e) = v (ix3 0 e b) := by
    intro v
    pointwise [k0_pay238]
  rw [this, readA arg21 harg21 xa offa inba h ha]

section Two

variable (arg5 : Memref sig .tc .vmem S256x256 .bf16) (harg5 : arg5.IsWhole) (arg4 : Memref sig .tc .vmem S1x1x16x1024x256 .bf16) (harg4 : arg4.IsWhole)
  (xk : Vec Ideal S4096x1024 .bf16) (xq : Vec Ideal S256x1024 .bf16) (xt : Vec Ideal S256x256 .bf16) (xv : Vec Ideal S1x1x16x1024x256 .bf16)
  (n n' : Fin 16) (h : Fin 8) (kk kk' qq : Vec Ideal S256x128 .bf16)
  (hk : ∀ (a : Fin 256) (d : Fin 128), kk (ix2 a d) = xk (ix2 (keyOf n a) (colOf h d)))
  (hk' : ∀ (a : Fin 256) (d : Fin 128), kk' (ix2 a d) = xk (ix2 (keyOf n' a) (colOf h d)))
  (hq : ∀ (b : Fin 256) (d : Fin 128), qq (ix2 b d) = xq (ix2 b (colOf h d)))

include hk hk' hq

/-- The sums after the tile on the diagonal and the tile before it. -/
theorem second (inbt : ∀ a, (![0, 0] : Fin 2 → ℕ) a + S256x256.size a ≤ S256x256.size a) (row row' : FVec Ideal S1x256 .f32) (hrow : ∀ b, row (ix2 0 b) = 0)
    {carry : FVec Ideal S8x256 .f32} (hrow' : ∀ b, row' (ix2 0 b) = carry (ix2 h b))
    (offv : Fin 5 → ℕ) (inbv : ∀ a, offv a + S1x1x1x128x256.size a ≤ S1x1x16x1024x256.size a) (hv : offv = ![0, 0, n.val, 128 * h.val, 0])
    (offv' : Fin 5 → ℕ) (inbv' : ∀ a, offv' a + S1x1x1x128x256.size a ≤ S1x1x16x1024x256.size a) (hv' : offv' = ![0, 0, n'.val, 128 * h.val, 0])
    (acc : Vec Ideal S1x128x256 .f32) (hacc : ∀ e b, acc (ix3 0 e b) = 0) (e : Fin 128) (b : Fin 256) :
    tileA (tileA acc (View.readAt (Elt Ideal) arg4.view (Rect.unit (s := S1x1x16x1024x256) offv S1x1x1x128x256.size inbv).toLoadRect (harg4.unread xv))
        (diagW (tileC row (View.readAt (Elt Ideal) arg5.view (Rect.unit (s := S256x256) ![0, 0] S256x256.size inbt).toLoadRect (harg5.unread xt))
          (k0_pay10 k0_pay230 kk qq)) (k0_pay242 kk qq)))
      (View.readAt (Elt Ideal) arg4.view (Rect.unit (s := S1x1x16x1024x256) offv' S1x1x1x128x256.size inbv').toLoadRect (harg4.unread xv))
      (tileW (tileC row' (View.readAt (Elt Ideal) arg5.view (Rect.unit (s := S256x256) ![0, 0] S256x256.size inbt).toLoadRect (harg5.unread xt))
        (k0_pay243 kk' qq)) (k0_pay242 kk' qq)) (ix3 0 e b)
      = (0 + ∑ a : Fin 256, xv (ix5 0 0 n ⟨128 * h.val + e.val, by omega⟩ a)
          * (if a < b then Ideal.exp2 (zAt xk xq n h a b + dAt 0 xt xk xq n h a b) else 0))
        + ∑ a : Fin 256, xv (ix5 0 0 n' ⟨128 * h.val + e.val, by omega⟩ a)
          * Ideal.exp2 (zAt xk xq n' h a b + cAt (carry (ix2 h b)) xt xk xq n' h a b) := by
  rw [sums_of arg5 harg5 arg4 harg4 xk xq xt xv n' h kk' qq hk' hq inbt row' offv' inbv' hv' _ e b, hrow' b,
    sums_diag arg5 harg5 arg4 harg4 xk xq xt xv n h kk qq hk hq inbt row hrow offv inbv hv acc hacc e b]

end Two

end Cert.Proof.SB

end
-- ==== Proof.Value.FirstTile.lean ====
/- A grid point whose query tile is the first: what its straight part leaves in the carry and in the accumulator. -/
module

public import proofs.«01_k».proof.Proof.Frame
public import proofs.«01_k».proof.Proof.Value.Tiles
public import Idealize.ShloMosaic.Lib.Pipeline.ReadBack
public import Idealize.ShloMosaic.Lib.WholeRead
public import Idealize.ShloMosaic.Lib.Pipeline.FrameBody
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The query tile of a grid point, which is also the key tile on its diagonal. -/
def here (i : grid0.Coords) : Fin 16 := ⟨(i 1).val, (i 1).isLt⟩

/-! Where the loads of the key and value tile on the diagonal begin, for each head. -/

theorem off33 : ∀ i : grid0.Coords, k0_off33 i = ![256 * (here i).val, 128 * (0 : Fin 8).val] := by decide +kernel
theorem off34 : ∀ i : grid0.Coords, k0_off34 i = ![256 * (here i).val, 128 * (1 : Fin 8).val] := by decide +kernel
theorem off35 : ∀ i : grid0.Coords, k0_off35 i = ![256 * (here i).val, 128 * (2 : Fin 8).val] := by decide +kernel
theorem off36 : ∀ i : grid0.Coords, k0_off36 i = ![256 * (here i).val, 128 * (3 : Fin 8).val] := by decide +kernel
theorem off37 : ∀ i : grid0.Coords, k0_off37 i = ![256 * (here i).val, 128 * (4 : Fin 8).val] := by decide +kernel
theorem off38 : ∀ i : grid0.Coords, k0_off38 i = ![256 * (here i).val, 128 * (5 : Fin 8).val] := by decide +kernel
theorem off39 : ∀ i : grid0.Coords, k0_off39 i = ![256 * (here i).val, 128 * (6 : Fin 8).val] := by decide +kernel
theorem off40 : ∀ i : grid0.Coords, k0_off40 i = ![256 * (here i).val, 128 * (7 : Fin 8).val] := by decide +kernel
theorem off41 : ∀ i : grid0.Coords, k0_off41 i = ![0, 0, (here i).val, 128 * (0 : Fin 8).val, 0] := by decide +kernel
theorem off42 : ∀ i : grid0.Coords, k0_off42 i = ![0, 0, (here i).val, 128 * (1 : Fin 8).val, 0] := by decide +kernel
theorem off43 : ∀ i : grid0.Coords, k0_off43 i = ![0, 0, (here i).val, 128 * (2 : Fin 8).val, 0] := by decide +kernel
theorem off44 : ∀ i : grid0.Coords, k0_off44 i = ![0, 0, (here i).val, 128 * (3 : Fin 8).val, 0] := by decide +kernel
theorem off45 : ∀ i : grid0.Coords, k0_off45 i = ![0, 0, (here i).val, 128 * (4 : Fin 8).val, 0] := by decide +kernel
theorem off46 : ∀ i : grid0.Coords, k0_off46 i = ![0, 0, (here i).val, 128 * (5 : Fin 8).val, 0] := by decide +kernel
theorem off47 : ∀ i : grid0.Coords, k0_off47 i = ![0, 0, (here i).val, 128 * (6 : Fin 8).val, 0] := by decide +kernel
theorem off48 : ∀ i : grid0.Coords, k0_off48 i = ![0, 0, (here i).val, 128 * (7 : Fin 8).val, 0] := by decide +kernel

set_option maxHeartbeats 1000000 in
/-- The carry after the tile on the diagonal. -/
theorem carryA (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg17 : Memref sig .tc .vmem S256x1024 .bf16) (arg18 : Memref sig .tc .vmem S2x8x256x256 .f32) (arg19 : Memref sig .tc .vmem S2x8x256x256 .bf16) (arg20 : Memref sig .tc .vmem S2x8x256x256 .bf16) (arg21 : Memref sig .tc .vmem S8x128x256 .f32) (hc0 : ¬k0_cond1 i = 1#1) (x0 : Vec Ideal S256x1024 .bf16) (x1 : Vec Ideal S4096x1024 .bf16) (x2 : Vec Ideal S1x1x16x1024x256 .bf16) (x3 : Vec Ideal S256x256 .bf16) (h : Fin 8) (b : Fin 256) :
    bodyA.sl.v444 (F := Ideal) c i arg2 harg2 arg3 harg3 arg5 harg5 arg17 arg19 hc0 x0 x1 x3 (ix2 h b)
      = dAt 0 x3 x1 (View.read (Elt Ideal) arg17.view (arg17.view.writes (Elt Ideal) arg17.view.junk (bodyA.sl.H15_1 c arg2 harg2 x0))) (here i) h 0 b := by
  simp (disch := decide) only [bodyA.sl.H15_1, bodyA.sl.H16_8, bodyA.sl.H17_8, bodyA.sl.H18_8, bodyA.sl.cst_197, bodyA.sl.cst_202, bodyA.sl.cst_330, bodyA.sl.r, bodyA.sl.r_1, bodyA.sl.r_2, bodyA.sl.r_3, bodyA.sl.r_4, bodyA.sl.r_5, bodyA.sl.r_6, bodyA.sl.r_7, bodyA.sl.r_8, bodyA.sl.r_9, bodyA.sl.v82, bodyA.sl.v87, bodyA.sl.v113, bodyA.sl.v139, bodyA.sl.v165, bodyA.sl.v185, bodyA.sl.v191, bodyA.sl.v217, bodyA.sl.v243, bodyA.sl.v269, bodyA.sl.v289, bodyA.sl.v290, bodyA.sl.v291, bodyA.sl.v292, bodyA.sl.v294, bodyA.sl.v295, bodyA.sl.v296, bodyA.sl.v297, bodyA.sl.v298, bodyA.sl.v299, bodyA.sl.v300, bodyA.sl.v301, bodyA.sl.v302, bodyA.sl.v303, bodyA.sl.v304, bodyA.sl.v305, bodyA.sl.v306, bodyA.sl.v308, bodyA.sl.v309, bodyA.sl.v310, bodyA.sl.v311, bodyA.sl.v314, bodyA.sl.v315, bodyA.sl.v316, bodyA.sl.v317, bodyA.sl.v318, bodyA.sl.v319, bodyA.sl.v320, bodyA.sl.v321, bodyA.sl.v322, bodyA.sl.v324, bodyA.sl.v325, bodyA.sl.v326, bodyA.sl.v327, bodyA.sl.v328, bodyA.sl.v329, bodyA.sl.v330, bodyA.sl.v333, bodyA.sl.v334, bodyA.sl.v335, bodyA.sl.v336, bodyA.sl.v337, bodyA.sl.v338, bodyA.sl.v339, bodyA.sl.v340, bodyA.sl.v341, bodyA.sl.v343, bodyA.sl.v344, bodyA.sl.v345, bodyA.sl.v346, bodyA.sl.v347, bodyA.sl.v348, bodyA.sl.v349, bodyA.sl.v352, bodyA.sl.v353, bodyA.sl.v354, bodyA.sl.v355, bodyA.sl.v356, bodyA.sl.v357, bodyA.sl.v358, bodyA.sl.v359, bodyA.sl.v360, bodyA.sl.v362, bodyA.sl.v363, bodyA.sl.v364, bodyA.sl.v365, bodyA.sl.v366, bodyA.sl.v367, bodyA.sl.v368, bodyA.sl.v371, bodyA.sl.v372, bodyA.sl.v373, bodyA.sl.v374, bodyA.sl.v375, bodyA.sl.v376, bodyA.sl.v377, bodyA.sl.v378, bodyA.sl.v379, bodyA.sl.v381, bodyA.sl.v382, bodyA.sl.v383, bodyA.sl.v384, bodyA.sl.v385, bodyA.sl.v386, bodyA.sl.v387, bodyA.sl.v390, bodyA.sl.v391, bodyA.sl.v392, bodyA.sl.v393, bodyA.sl.v394, bodyA.sl.v395, bodyA.sl.v396, bodyA.sl.v397, bodyA.sl.v398, bodyA.sl.v400, bodyA.sl.v401, bodyA.sl.v402, bodyA.sl.v403, bodyA.sl.v404, bodyA.sl.v405, bodyA.sl.v406, bodyA.sl.v409, bodyA.sl.v410, bodyA.sl.v411, bodyA.sl.v412, bodyA.sl.v413, bodyA.sl.v414, bodyA.sl.v415, bodyA.sl.v416, bodyA.sl.v417, bodyA.sl.v419, bodyA.sl.v420, bodyA.sl.v421, bodyA.sl.v422, bodyA.sl.v423, bodyA.sl.v424, bodyA.sl.v425, bodyA.sl.v428, bodyA.sl.v429, bodyA.sl.v430, bodyA.sl.v431, bodyA.sl.v432, bodyA.sl.v433, bodyA.sl.v434, bodyA.sl.v435, bodyA.sl.v436, bodyA.sl.v438, bodyA.sl.v439, bodyA.sl.v440, bodyA.sl.v441, bodyA.sl.v442, bodyA.sl.v443, bodyA.sl.v444, ↓ View.readCov_skip, ↓ View.readCov_cons_toLoadRect, ↓ View.readCov_fill]
  refine (cat8 ![_, _, _, _, _, _, _, _] _ h b).trans ?_
  fin_cases h
  · exact (slice_top _ slices_S256x256_o0_0_S1x256 b).trans (offsets_diag arg5 harg5 x1 _ x3 (here i) 0 _ _ (fun a d => readK arg3 harg3 x1 _ _ (here i) 0 (off33 i) a d) (fun b d => readScaled arg17.view arg17.view.junk _ _ _ _ 0 rfl b d) _ _ (zero_row 0 _) 0 b)
  · exact (slice_top _ slices_S256x256_o0_0_S1x256 b).trans (offsets_diag arg5 harg5 x1 _ x3 (here i) 1 _ _ (fun a d => readK arg3 harg3 x1 _ _ (here i) 1 (off34 i) a d) (fun b d => readScaled arg17.view arg17.view.junk _ _ _ _ 1 rfl b d) _ _ (zero_row 1 _) 0 b)
  · exact (slice_top _ slices_S256x256_o0_0_S1x256 b).trans (offsets_diag arg5 harg5 x1 _ x3 (here i) 2 _ _ (fun a d => readK arg3 harg3 x1 _ _ (here i) 2 (off35 i) a d) (fun b d => readScaled arg17.view arg17.view.junk _ _ _ _ 2 rfl b d) _ _ (zero_row 2 _) 0 b)
  · exact (slice_top _ slices_S256x256_o0_0_S1x256 b).trans (offsets_diag arg5 harg5 x1 _ x3 (here i) 3 _ _ (fun a d => readK arg3 harg3 x1 _ _ (here i) 3 (off36 i) a d) (fun b d => readScaled arg17.view arg17.view.junk _ _ _ _ 3 rfl b d) _ _ (zero_row 3 _) 0 b)
  · exact (slice_top _ slices_S256x256_o0_0_S1x256 b).trans (offsets_diag arg5 harg5 x1 _ x3 (here i) 4 _ _ (fun a d => readK arg3 harg3 x1 _ _ (here i) 4 (off37 i) a d) (fun b d => readScaled arg17.view arg17.view.junk _ _ _ _ 4 rfl b d) _ _ (zero_row 4 _) 0 b)
  · exact (slice_top _ slices_S256x256_o0_0_S1x256 b).trans (offsets_diag arg5 harg5 x1 _ x3 (here i) 5 _ _ (fun a d => readK arg3 harg3 x1 _ _ (here i) 5 (off38 i) a d) (fun b d => readScaled arg17.view arg17.view.junk _ _ _ _ 5 rfl b d) _ _ (zero_row 5 _) 0 b)
  · exact (slice_top _ slices_S256x256_o0_0_S1x256 b).trans (offsets_diag arg5 harg5 x1 _ x3 (here i) 6 _ _ (fun a d => readK arg3 harg3 x1 _ _ (here i) 6 (off39 i) a d) (fun b d => readScaled arg17.view arg17.view.junk _ _ _ _ 6 rfl b d) _ _ (zero_row 6 _) 0 b)
  · exact (slice_top _ slices_S256x256_o0_0_S1x256 b).trans (offsets_diag arg5 harg5 x1 _ x3 (here i) 7 _ _ (fun a d => readK arg3 harg3 x1 _ _ (here i) 7 (off40 i) a d) (fun b d => readScaled arg17.view arg17.view.junk _ _ _ _ 7 rfl b d) _ _ (zero_row 7 _) 0 b)

set_option maxHeartbeats 1000000 in
/-- The accumulator after the tile on the diagonal. -/
theorem accA (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg17 : Memref sig .tc .vmem S256x1024 .bf16) (arg18 : Memref sig .tc .vmem S2x8x256x256 .f32) (arg19 : Memref sig .tc .vmem S2x8x256x256 .bf16) (arg20 : Memref sig .tc .vmem S2x8x256x256 .bf16) (arg21 : Memref sig .tc .vmem S8x128x256 .f32) (hc0 : ¬k0_cond1 i = 1#1) (x0 : Vec Ideal S256x1024 .bf16) (x1 : Vec Ideal S4096x1024 .bf16) (x2 : Vec Ideal S1x1x16x1024x256 .bf16) (x3 : Vec Ideal S256x256 .bf16)
    (i7 : ∀ a, (![7, 0, 0] : Fin 3 → ℕ) a + S1x128x256.size a ≤ S8x128x256.size a) (iv : ∀ a, k0_off48 i a + S1x1x1x128x256.size a ≤ S1x1x16x1024x256.size a) (h : Fin 8) (e : Fin 128) (b : Fin 256) :
    (View.read (Elt Ideal) arg21.view (arg21.view.writes (Elt Ideal) arg21.view.junk (⟨Rect.unit (s := S8x128x256) ![7, 0, 0] S1x128x256.size i7, (k0_pay236 (bodyA.sl.v529 c i arg2 harg2 arg3 harg3 arg4 harg4 arg5 harg5 arg17 arg18 arg19 arg20 arg21 hc0 x0 x1 x2 x3) (View.readAt (Elt Ideal) arg4.view (Rect.unit (s := S1x1x16x1024x256) (k0_off48 i) S1x1x1x128x256.size iv).toLoadRect (harg4.unread x2)) (bodyA.sl.v534 c i arg2 harg2 arg3 harg3 arg5 harg5 arg17 arg18 arg19 arg20 hc0 x0 x1 x3))⟩ :: bodyA.sl.H19_8 (F := Ideal) c i arg2 harg2 arg3 harg3 arg4 harg4 arg5 harg5 arg17 arg18 arg19 arg20 arg21 hc0 x0 x1 x2 x3))) (ix3 h e b)
      = 0 + ∑ a : Fin 256, x2 (ix5 0 0 (here i) ⟨128 * h.val + e.val, by omega⟩ a)
        * (if a < b then Ideal.exp2 (zAt x1 (View.read (Elt Ideal) arg17.view (arg17.view.writes (Elt Ideal) arg17.view.junk (bodyA.sl.H15_1 c arg2 harg2 x0))) (here i) h a b + dAt 0 x3 x1 (View.read (Elt Ideal) arg17.view (arg17.view.writes (Elt Ideal) arg17.view.junk (bodyA.sl.H15_1 c arg2 harg2 x0))) (here i) h a b) else 0) := by
  simp (disch := decide) only [bodyA.sl.H15_1, bodyA.sl.H16_8, bodyA.sl.H17_8, bodyA.sl.H18_8, bodyA.sl.H19_1, bodyA.sl.H19_2, bodyA.sl.H19_3, bodyA.sl.H19_4, bodyA.sl.H19_5, bodyA.sl.H19_6, bodyA.sl.H19_7, bodyA.sl.H19_8, bodyA.sl.cst_197, bodyA.sl.cst_202, bodyA.sl.cst_330, bodyA.sl.r, bodyA.sl.r_1, bodyA.sl.r_2, bodyA.sl.r_3, bodyA.sl.r_4, bodyA.sl.r_5, bodyA.sl.r_6, bodyA.sl.r_7, bodyA.sl.r_8, bodyA.sl.r_9, bodyA.sl.v82, bodyA.sl.v87, bodyA.sl.v113, bodyA.sl.v139, bodyA.sl.v165, bodyA.sl.v185, bodyA.sl.v191, bodyA.sl.v217, bodyA.sl.v243, bodyA.sl.v269, bodyA.sl.v289, bodyA.sl.v290, bodyA.sl.v291, bodyA.sl.v292, bodyA.sl.v294, bodyA.sl.v295, bodyA.sl.v296, bodyA.sl.v297, bodyA.sl.v298, bodyA.sl.v299, bodyA.sl.v300, bodyA.sl.v301, bodyA.sl.v302, bodyA.sl.v303, bodyA.sl.v304, bodyA.sl.v305, bodyA.sl.v306, bodyA.sl.v308, bodyA.sl.v309, bodyA.sl.v310, bodyA.sl.v311, bodyA.sl.v314, bodyA.sl.v315, bodyA.sl.v316, bodyA.sl.v317, bodyA.sl.v318, bodyA.sl.v319, bodyA.sl.v320, bodyA.sl.v321, bodyA.sl.v322, bodyA.sl.v324, bodyA.sl.v325, bodyA.sl.v326, bodyA.sl.v327, bodyA.sl.v328, bodyA.sl.v329, bodyA.sl.v330, bodyA.sl.v333, bodyA.sl.v334, bodyA.sl.v335, bodyA.sl.v336, bodyA.sl.v337, bodyA.sl.v338, bodyA.sl.v339, bodyA.sl.v340, bodyA.sl.v341, bodyA.sl.v343, bodyA.sl.v344, bodyA.sl.v345, bodyA.sl.v346, bodyA.sl.v347, bodyA.sl.v348, bodyA.sl.v349, bodyA.sl.v352, bodyA.sl.v353, bodyA.sl.v354, bodyA.sl.v355, bodyA.sl.v356, bodyA.sl.v357, bodyA.sl.v358, bodyA.sl.v359, bodyA.sl.v360, bodyA.sl.v362, bodyA.sl.v363, bodyA.sl.v364, bodyA.sl.v365, bodyA.sl.v366, bodyA.sl.v367, bodyA.sl.v368, bodyA.sl.v371, bodyA.sl.v372, bodyA.sl.v373, bodyA.sl.v374, bodyA.sl.v375, bodyA.sl.v376, bodyA.sl.v377, bodyA.sl.v378, bodyA.sl.v379, bodyA.sl.v381, bodyA.sl.v382, bodyA.sl.v383, bodyA.sl.v384, bodyA.sl.v385, bodyA.sl.v386, bodyA.sl.v387, bodyA.sl.v390, bodyA.sl.v391, bodyA.sl.v392, bodyA.sl.v393, bodyA.sl.v394, bodyA.sl.v395, bodyA.sl.v396, bodyA.sl.v397, bodyA.sl.v398, bodyA.sl.v400, bodyA.sl.v401, bodyA.sl.v402, bodyA.sl.v403, bodyA.sl.v404, bodyA.sl.v405, bodyA.sl.v406, bodyA.sl.v409, bodyA.sl.v410, bodyA.sl.v411, bodyA.sl.v412, bodyA.sl.v413, bodyA.sl.v414, bodyA.sl.v415, bodyA.sl.v416, bodyA.sl.v417, bodyA.sl.v419, bodyA.sl.v420, bodyA.sl.v421, bodyA.sl.v422, bodyA.sl.v423, bodyA.sl.v424, bodyA.sl.v425, bodyA.sl.v428, bodyA.sl.v429, bodyA.sl.v430, bodyA.sl.v431, bodyA.sl.v432, bodyA.sl.v433, bodyA.sl.v434, bodyA.sl.v435, bodyA.sl.v436, bodyA.sl.v438, bodyA.sl.v439, bodyA.sl.v440, bodyA.sl.v441, bodyA.sl.v442, bodyA.sl.v443, bodyA.sl.v444, bodyA.sl.v445, bodyA.sl.v446, bodyA.sl.v449, bodyA.sl.v450, bodyA.sl.v451, bodyA.sl.v452, bodyA.sl.v453, bodyA.sl.v456, bodyA.sl.v457, bodyA.sl.v458, bodyA.sl.v461, bodyA.sl.v462, bodyA.sl.v463, bodyA.sl.v464, bodyA.sl.v465, bodyA.sl.v468, bodyA.sl.v469, bodyA.sl.v470, bodyA.sl.v473, bodyA.sl.v474, bodyA.sl.v475, bodyA.sl.v476, bodyA.sl.v477, bodyA.sl.v480, bodyA.sl.v481, bodyA.sl.v482, bodyA.sl.v485, bodyA.sl.v486, bodyA.sl.v487, bodyA.sl.v488, bodyA.sl.v489, bodyA.sl.v492, bodyA.sl.v493, bodyA.sl.v494, bodyA.sl.v497, bodyA.sl.v498, bodyA.sl.v499, bodyA.sl.v500, bodyA.sl.v501, bodyA.sl.v504, bodyA.sl.v505, bodyA.sl.v506, bodyA.sl.v509, bodyA.sl.v510, bodyA.sl.v511, bodyA.sl.v512, bodyA.sl.v513, bodyA.sl.v516, bodyA.sl.v517, bodyA.sl.v518, bodyA.sl.v521, bodyA.sl.v522, bodyA.sl.v523, bodyA.sl.v524, bodyA.sl.v529, bodyA.sl.v534, ↓ View.readCov_skip, ↓ View.readCov_cons_toLoadRect, ↓ View.readCov_fill]
  refine (acc8 _ _ ![_, _, _, _, _, _, _, _] _ _ _ _ _ _ _ _ [_] h e b).trans ?_
  fin_cases h
  · exact sums_diag arg5 harg5 arg4 harg4 x1 _ x3 x2 (here i) 0 _ _ (fun a d => readK arg3 harg3 x1 _ _ (here i) 0 (off33 i) a d) (fun b d => readScaled arg17.view arg17.view.junk _ _ _ _ 0 rfl b d) _ _ (zero_row 0 _) _ _ (off41 i) _ (zero_acc _ _) e b
  · exact sums_diag arg5 harg5 arg4 harg4 x1 _ x3 x2 (here i) 1 _ _ (fun a d => readK arg3 harg3 x1 _ _ (here i) 1 (off34 i) a d) (fun b d => readScaled arg17.view arg17.view.junk _ _ _ _ 1 rfl b d) _ _ (zero_row 1 _) _ _ (off42 i) _ (zero_acc _ _) e b
  · exact sums_diag arg5 harg5 arg4 harg4 x1 _ x3 x2 (here i) 2 _ _ (fun a d => readK arg3 harg3 x1 _ _ (here i) 2 (off35 i) a d) (fun b d => readScaled arg17.view arg17.view.junk _ _ _ _ 2 rfl b d) _ _ (zero_row 2 _) _ _ (off43 i) _ (zero_acc _ _) e b
  · exact sums_diag arg5 harg5 arg4 harg4 x1 _ x3 x2 (here i) 3 _ _ (fun a d => readK arg3 harg3 x1 _ _ (here i) 3 (off36 i) a d) (fun b d => readScaled arg17.view arg17.view.junk _ _ _ _ 3 rfl b d) _ _ (zero_row 3 _) _ _ (off44 i) _ (zero_acc _ _) e b
  · exact sums_diag arg5 harg5 arg4 harg4 x1 _ x3 x2 (here i) 4 _ _ (fun a d => readK arg3 harg3 x1 _ _ (here i) 4 (off37 i) a d) (fun b d => readScaled arg17.view arg17.view.junk _ _ _ _ 4 rfl b d) _ _ (zero_row 4 _) _ _ (off45 i) _ (zero_acc _ _) e b
  · exact sums_diag arg5 harg5 arg4 harg4 x1 _ x3 x2 (here i) 5 _ _ (fun a d => readK arg3 harg3 x1 _ _ (here i) 5 (off38 i) a d) (fun b d => readScaled arg17.view arg17.view.junk _ _ _ _ 5 rfl b d) _ _ (zero_row 5 _) _ _ (off46 i) _ (zero_acc _ _) e b
  · exact sums_diag arg5 harg5 arg4 harg4 x1 _ x3 x2 (here i) 6 _ _ (fun a d => readK arg3 harg3 x1 _ _ (here i) 6 (off39 i) a d) (fun b d => readScaled arg17.view arg17.view.junk _ _ _ _ 6 rfl b d) _ _ (zero_row 6 _) _ _ (off47 i) _ (zero_acc _ _) e b
  · exact sums_diag arg5 harg5 arg4 harg4 x1 _ x3 x2 (here i) 7 _ _ (fun a d => readK arg3 harg3 x1 _ _ (here i) 7 (off40 i) a d) (fun b d => readScaled arg17.view arg17.view.junk _ _ _ _ 7 rfl b d) _ _ (zero_row 7 _) _ _ (off48 i) _ (zero_acc _ _) e b

/-- What the straight part leaves when the query tile is the first: the invariant at the first key. -/
theorem invA (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg17 : Memref sig .tc .vmem S256x1024 .bf16) (arg18 : Memref sig .tc .vmem S2x8x256x256 .f32) (arg19 : Memref sig .tc .vmem S2x8x256x256 .bf16) (arg20 : Memref sig .tc .vmem S2x8x256x256 .bf16) (arg21 : Memref sig .tc .vmem S8x128x256 .f32) (hc0 : ¬k0_cond1 i = 1#1) (x0 : Vec Ideal S256x1024 .bf16) (x1 : Vec Ideal S4096x1024 .bf16) (x2 : Vec Ideal S1x1x16x1024x256 .bf16) (x3 : Vec Ideal S256x256 .bf16)
    (i7 : ∀ a, (![7, 0, 0] : Fin 3 → ℕ) a + S1x128x256.size a ≤ S8x128x256.size a) (iv : ∀ a, k0_off48 i a + S1x1x1x128x256.size a ≤ S1x1x16x1024x256.size a) (z : Fin 8 → ℕ → ℕ → ℝ) (hi : (i 1).val = 0)
    (G : Good x1 (View.read (Elt Ideal) arg17.view (arg17.view.writes (Elt Ideal) arg17.view.junk (bodyA.sl.H15_1 c arg2 harg2 x0))) x3 (i 1).val z) :
    Inv x2 (i 1).val z (256 * 0) (bodyA.sl.v444 (F := Ideal) c i arg2 harg2 arg3 harg3 arg5 harg5 arg17 arg19 hc0 x0 x1 x3)
      (View.read (Elt Ideal) arg21.view (arg21.view.writes (Elt Ideal) arg21.view.junk (⟨Rect.unit (s := S8x128x256) ![7, 0, 0] S1x128x256.size i7, (k0_pay236 (bodyA.sl.v529 c i arg2 harg2 arg3 harg3 arg4 harg4 arg5 harg5 arg17 arg18 arg19 arg20 arg21 hc0 x0 x1 x2 x3) (View.readAt (Elt Ideal) arg4.view (Rect.unit (s := S1x1x16x1024x256) (k0_off48 i) S1x1x1x128x256.size iv).toLoadRect (harg4.unread x2)) (bodyA.sl.v534 c i arg2 harg2 arg3 harg3 arg5 harg5 arg17 arg18 arg19 arg20 hc0 x0 x1 x3))⟩ :: bodyA.sl.H19_8 (F := Ideal) c i arg2 harg2 arg3 harg3 arg4 harg4 arg5 harg5 arg17 arg18 arg19 arg20 arg21 hc0 x0 x1 x2 x3))) := by
  have hz : 256 * 0 = 256 * (i 1).val := by rw [hi]
  constructor
  · intro h b
    rw [carryA c i arg2 harg2 arg3 harg3 arg4 harg4 arg5 harg5 arg17 arg18 arg19 arg20 arg21 hc0 x0 x1 x2 x3 h b, dAt_diag G (here i) rfl h b 0, hz]; rfl
  · intro h e b
    rw [accA, acc_diag G x2 (here i) rfl h e b, hz]

theorem inb48 : ∀ i : grid0.Coords, ∀ a, k0_off48 i a + S1x1x1x128x256.size a ≤ S1x1x16x1024x256.size a := by decide +kernel

/-- No tile lies before the first. -/
theorem before_first (i : grid0.Coords) (hi : (i 1).val = 0) : (Scalar.subi (BitVec.ofNat 32 (i 1).val) 2#32).toInt < 0 := by
  rw [hi]; decide

set_option maxHeartbeats 1000000 in
/-- What a grid point whose query tile is the first leaves of the attention. -/
theorem bodyA_value (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S64x512 .f32) (harg9 : arg9.IsWhole) (arg10 : Memref sig .tc .vmem S16x2048 .f32) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S64x2048 .bf16) (harg14 : arg14.IsWhole) (arg15 : Memref sig .tc .vmem S64x512 .bf16) (harg15 : arg15.IsWhole) (arg16 : Memref sig .tc .vmem S16x2048 .bf16) (harg16 : arg16.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg20 : Memref sig .tc .vmem S2x8x256x256 .bf16) (harg20 : arg20.IsWhole) (arg21 : Memref sig .tc .vmem S8x128x256 .f32) (harg21 : arg21.IsWhole) (hc0 : ¬k0_cond1 i = 1#1) (x0 : Vec Ideal S256x1024 .bf16) (x1 : Vec Ideal S4096x1024 .bf16) (x2 : Vec Ideal S1x1x16x1024x256 .bf16) (x3 : Vec Ideal S256x256 .bf16) (x4 : Vec Ideal S32x2048 .f32) (x5 : Vec Ideal S32x2048 .f32) (x6 : Vec Ideal S64x2048 .f32) (x7 : Vec Ideal S64x512 .f32) (x8 : Vec Ideal S16x2048 .f32)
    (z : Fin 8 → ℕ → ℕ → ℝ) (hi : (i 1).val = 0)
    (G : Good x1 (View.read (Elt Ideal) arg17.view (arg17.view.writes (Elt Ideal) arg17.view.junk (bodyA.sl.H15_1 c arg2 harg2 x0))) x3 (i 1).val z) (h : Fin 8) (b : Fin 256) (e : Fin 128) :
    (bodyA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8).1 (ix2 b (colOf h e)) = total (z h) (vOf x2 h e) (256 * (i 1).val + b.val) 0 := by
  refine (cols8 arg11.view arg11.view.junk ![_, _, _, _, _, _, _, _] _ _ _ _ _ _ _ _ [] h b e).trans ?_
  refine Eq.trans ?_ (rounds_value c i arg3 harg3 arg17 harg17 arg18 harg18 arg19 harg19 arg5 harg5 arg20 harg20 arg21 harg21 arg4 harg4 x1 _ x2 x3 (i 1).val z G 16 0 (Scalar.subi (BitVec.ofNat 32 (i 1).val) 2#32) _ _ _ (by omega) (by omega) (by omega) (Or.inr ⟨rfl, before_first i hi⟩) (Inv.live (invA c i arg2 harg2 arg3 harg3 arg4 harg4 arg5 harg5 arg17 arg18 arg19 arg20 arg21 hc0 x0 x1 x2 x3 (by decide) (inb48 i) z hi G)) (invA c i arg2 harg2 arg3 harg3 arg4 harg4 arg5 harg5 arg17 arg18 arg19 arg20 arg21 hc0 x0 x1 x2 x3 (by decide) (inb48 i) z hi G) h e b)
  fin_cases h
  · exact turned arg21 harg21 _ _ _ 0 rfl b e
  · exact turned arg21 harg21 _ _ _ 1 rfl b e
  · exact turned arg21 harg21 _ _ _ 2 rfl b e
  · exact turned arg21 harg21 _ _ _ 3 rfl b e
  · exact turned arg21 harg21 _ _ _ 4 rfl b e
  · exact turned arg21 harg21 _ _ _ 5 rfl b e
  · exact turned arg21 harg21 _ _ _ 6 rfl b e
  · exact turned arg21 harg21 _ _ _ 7 rfl b e

end Cert.Proof.SB

end
-- ==== Proof.Value.LaterTiles.lean ====
/- A grid point whose query tile is not the first: what its straight part, of two tiles, leaves in the carry and in the
   accumulator. -/
module

public import proofs.«01_k».proof.Proof.Frame
public import proofs.«01_k».proof.Proof.Value.FirstTile
public import Idealize.ShloMosaic.Lib.Pipeline.ReadBack
public import Idealize.ShloMosaic.Lib.WholeRead
public import Idealize.ShloMosaic.Lib.Pipeline.FrameBody
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The key tile before the diagonal's. -/
def before (i : grid0.Coords) : Fin 16 := ⟨(i 1).val - 1, by have h : (i 1).val < 16 := (i 1).isLt; omega⟩

/-! Where the loads of the key and value tiles begin, for each head: the tile on the diagonal, -/

theorem off1 : ∀ i : grid0.Coords, k0_off1 i = ![256 * (here i).val, 128 * (0 : Fin 8).val] := by decide +kernel
theorem off2 : ∀ i : grid0.Coords, k0_off2 i = ![256 * (here i).val, 128 * (1 : Fin 8).val] := by decide +kernel
theorem off3 : ∀ i : grid0.Coords, k0_off3 i = ![256 * (here i).val, 128 * (2 : Fin 8).val] := by decide +kernel
theorem off4 : ∀ i : grid0.Coords, k0_off4 i = ![256 * (here i).val, 128 * (3 : Fin 8).val] := by decide +kernel
theorem off5 : ∀ i : grid0.Coords, k0_off5 i = ![256 * (here i).val, 128 * (4 : Fin 8).val] := by decide +kernel
theorem off6 : ∀ i : grid0.Coords, k0_off6 i = ![256 * (here i).val, 128 * (5 : Fin 8).val] := by decide +kernel
theorem off7 : ∀ i : grid0.Coords, k0_off7 i = ![256 * (here i).val, 128 * (6 : Fin 8).val] := by decide +kernel
theorem off8 : ∀ i : grid0.Coords, k0_off8 i = ![256 * (here i).val, 128 * (7 : Fin 8).val] := by decide +kernel
theorem off17 : ∀ i : grid0.Coords, k0_off17 i = ![0, 0, (here i).val, 128 * (0 : Fin 8).val, 0] := by decide +kernel
theorem off18 : ∀ i : grid0.Coords, k0_off18 i = ![0, 0, (here i).val, 128 * (1 : Fin 8).val, 0] := by decide +kernel
theorem off19 : ∀ i : grid0.Coords, k0_off19 i = ![0, 0, (here i).val, 128 * (2 : Fin 8).val, 0] := by decide +kernel
theorem off20 : ∀ i : grid0.Coords, k0_off20 i = ![0, 0, (here i).val, 128 * (3 : Fin 8).val, 0] := by decide +kernel
theorem off21 : ∀ i : grid0.Coords, k0_off21 i = ![0, 0, (here i).val, 128 * (4 : Fin 8).val, 0] := by decide +kernel
theorem off22 : ∀ i : grid0.Coords, k0_off22 i = ![0, 0, (here i).val, 128 * (5 : Fin 8).val, 0] := by decide +kernel
theorem off23 : ∀ i : grid0.Coords, k0_off23 i = ![0, 0, (here i).val, 128 * (6 : Fin 8).val, 0] := by decide +kernel
theorem off24 : ∀ i : grid0.Coords, k0_off24 i = ![0, 0, (here i).val, 128 * (7 : Fin 8).val, 0] := by decide +kernel

/-! and the tile before it. -/

theorem off9 : ∀ i : grid0.Coords, 0 < (i 1).val → k0_off9 i = ![256 * (before i).val, 128 * (0 : Fin 8).val] := by decide +kernel
theorem off10 : ∀ i : grid0.Coords, 0 < (i 1).val → k0_off10 i = ![256 * (before i).val, 128 * (1 : Fin 8).val] := by decide +kernel
theorem off11 : ∀ i : grid0.Coords, 0 < (i 1).val → k0_off11 i = ![256 * (before i).val, 128 * (2 : Fin 8).val] := by decide +kernel
theorem off12 : ∀ i : grid0.Coords, 0 < (i 1).val → k0_off12 i = ![256 * (before i).val, 128 * (3 : Fin 8).val] := by decide +kernel
theorem off13 : ∀ i : grid0.Coords, 0 < (i 1).val → k0_off13 i = ![256 * (before i).val, 128 * (4 : Fin 8).val] := by decide +kernel
theorem off14 : ∀ i : grid0.Coords, 0 < (i 1).val → k0_off14 i = ![256 * (before i).val, 128 * (5 : Fin 8).val] := by decide +kernel
theorem off15 : ∀ i : grid0.Coords, 0 < (i 1).val → k0_off15 i = ![256 * (before i).val, 128 * (6 : Fin 8).val] := by decide +kernel
theorem off16 : ∀ i : grid0.Coords, 0 < (i 1).val → k0_off16 i = ![256 * (before i).val, 128 * (7 : Fin 8).val] := by decide +kernel
theorem off25 : ∀ i : grid0.Coords, 0 < (i 1).val → k0_off25 i = ![0, 0, (before i).val, 128 * (0 : Fin 8).val, 0] := by decide +kernel
theorem off26 : ∀ i : grid0.Coords, 0 < (i 1).val → k0_off26 i = ![0, 0, (before i).val, 128 * (1 : Fin 8).val, 0] := by decide +kernel
theorem off27 : ∀ i : grid0.Coords, 0 < (i 1).val → k0_off27 i = ![0, 0, (before i).val, 128 * (2 : Fin 8).val, 0] := by decide +kernel
theorem off28 : ∀ i : grid0.Coords, 0 < (i 1).val → k0_off28 i = ![0, 0, (before i).val, 128 * (3 : Fin 8).val, 0] := by decide +kernel
theorem off29 : ∀ i : grid0.Coords, 0 < (i 1).val → k0_off29 i = ![0, 0, (before i).val, 128 * (4 : Fin 8).val, 0] := by decide +kernel
theorem off30 : ∀ i : grid0.Coords, 0 < (i 1).val → k0_off30 i = ![0, 0, (before i).val, 128 * (5 : Fin 8).val, 0] := by decide +kernel
theorem off31 : ∀ i : grid0.Coords, 0 < (i 1).val → k0_off31 i = ![0, 0, (before i).val, 128 * (6 : Fin 8).val, 0] := by decide +kernel
theorem off32 : ∀ i : grid0.Coords, 0 < (i 1).val → k0_off32 i = ![0, 0, (before i).val, 128 * (7 : Fin 8).val, 0] := by decide +kernel

set_option maxHeartbeats 1000000 in
/-- The carry after the tile on the diagonal. -/
theorem midB (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg17 : Memref sig .tc .vmem S256x1024 .bf16) (arg18 : Memref sig .tc .vmem S2x8x256x256 .f32) (arg19 : Memref sig .tc .vmem S2x8x256x256 .bf16) (arg20 : Memref sig .tc .vmem S2x8x256x256 .bf16) (arg21 : Memref sig .tc .vmem S8x128x256 .f32) (hc0 : k0_cond1 i = 1#1) (x0 : Vec Ideal S256x1024 .bf16) (x1 : Vec Ideal S4096x1024 .bf16) (x2 : Vec Ideal S1x1x16x1024x256 .bf16) (x3 : Vec Ideal S256x256 .bf16) (h : Fin 8) (b : Fin 256) :
    bodyB.sl.v639 (F := Ideal) c i arg2 harg2 arg3 harg3 arg5 harg5 arg17 arg19 hc0 x0 x1 x3 (ix2 h b)
      = dAt 0 x3 x1 (View.read (Elt Ideal) arg17.view (arg17.view.writes (Elt Ideal) arg17.view.junk (bodyB.sl.H15_1 c arg2 harg2 x0))) (here i) h 0 b := by
  simp (disch := decide) only [bodyB.sl.H15_1, bodyB.sl.H16_16, bodyB.sl.H17_16, bodyB.sl.H18_16, bodyB.sl.cst_280, bodyB.sl.cst_332, bodyB.sl.cst_343, bodyB.sl.cst_580, bodyB.sl.r, bodyB.sl.r_1, bodyB.sl.r_10, bodyB.sl.r_11, bodyB.sl.r_12, bodyB.sl.r_13, bodyB.sl.r_14, bodyB.sl.r_15, bodyB.sl.r_16, bodyB.sl.r_17, bodyB.sl.r_18, bodyB.sl.r_19, bodyB.sl.r_2, bodyB.sl.r_20, bodyB.sl.r_3, bodyB.sl.r_4, bodyB.sl.r_5, bodyB.sl.r_6, bodyB.sl.r_7, bodyB.sl.r_8, bodyB.sl.r_9, bodyB.sl.v113, bodyB.sl.v139, bodyB.sl.v165, bodyB.sl.v185, bodyB.sl.v191, bodyB.sl.v217, bodyB.sl.v243, bodyB.sl.v269, bodyB.sl.v289, bodyB.sl.v292, bodyB.sl.v293, bodyB.sl.v490, bodyB.sl.v495, bodyB.sl.v496, bodyB.sl.v497, bodyB.sl.v498, bodyB.sl.v499, bodyB.sl.v500, bodyB.sl.v501, bodyB.sl.v503, bodyB.sl.v504, bodyB.sl.v505, bodyB.sl.v506, bodyB.sl.v508, bodyB.sl.v509, bodyB.sl.v510, bodyB.sl.v511, bodyB.sl.v512, bodyB.sl.v513, bodyB.sl.v514, bodyB.sl.v515, bodyB.sl.v516, bodyB.sl.v517, bodyB.sl.v519, bodyB.sl.v520, bodyB.sl.v521, bodyB.sl.v522, bodyB.sl.v523, bodyB.sl.v524, bodyB.sl.v525, bodyB.sl.v527, bodyB.sl.v528, bodyB.sl.v529, bodyB.sl.v530, bodyB.sl.v531, bodyB.sl.v532, bodyB.sl.v533, bodyB.sl.v534, bodyB.sl.v535, bodyB.sl.v536, bodyB.sl.v538, bodyB.sl.v539, bodyB.sl.v540, bodyB.sl.v541, bodyB.sl.v542, bodyB.sl.v543, bodyB.sl.v544, bodyB.sl.v547, bodyB.sl.v548, bodyB.sl.v549, bodyB.sl.v550, bodyB.sl.v551, bodyB.sl.v552, bodyB.sl.v553, bodyB.sl.v554, bodyB.sl.v555, bodyB.sl.v557, bodyB.sl.v558, bodyB.sl.v559, bodyB.sl.v560, bodyB.sl.v561, bodyB.sl.v562, bodyB.sl.v563, bodyB.sl.v566, bodyB.sl.v567, bodyB.sl.v568, bodyB.sl.v569, bodyB.sl.v570, bodyB.sl.v571, bodyB.sl.v572, bodyB.sl.v573, bodyB.sl.v574, bodyB.sl.v576, bodyB.sl.v577, bodyB.sl.v578, bodyB.sl.v579, bodyB.sl.v580, bodyB.sl.v581, bodyB.sl.v582, bodyB.sl.v585, bodyB.sl.v586, bodyB.sl.v587, bodyB.sl.v588, bodyB.sl.v589, bodyB.sl.v590, bodyB.sl.v591, bodyB.sl.v592, bodyB.sl.v593, bodyB.sl.v595, bodyB.sl.v596, bodyB.sl.v597, bodyB.sl.v598, bodyB.sl.v599, bodyB.sl.v600, bodyB.sl.v601, bodyB.sl.v604, bodyB.sl.v605, bodyB.sl.v606, bodyB.sl.v607, bodyB.sl.v608, bodyB.sl.v609, bodyB.sl.v610, bodyB.sl.v611, bodyB.sl.v612, bodyB.sl.v614, bodyB.sl.v615, bodyB.sl.v616, bodyB.sl.v617, bodyB.sl.v618, bodyB.sl.v619, bodyB.sl.v620, bodyB.sl.v623, bodyB.sl.v624, bodyB.sl.v625, bodyB.sl.v626, bodyB.sl.v627, bodyB.sl.v628, bodyB.sl.v629, bodyB.sl.v630, bodyB.sl.v631, bodyB.sl.v633, bodyB.sl.v634, bodyB.sl.v635, bodyB.sl.v636, bodyB.sl.v637, bodyB.sl.v638, bodyB.sl.v639, bodyB.sl.v82, bodyB.sl.v87, ↓ View.readCov_skip, ↓ View.readCov_cons_toLoadRect, ↓ View.readCov_fill]
  refine (cat8 ![_, _, _, _, _, _, _, _] _ h b).trans ?_
  fin_cases h
  · exact (slice_top _ slices_S256x256_o0_0_S1x256 b).trans (offsets_diag arg5 harg5 x1 _ x3 (here i) 0 _ _ (fun a d => readK arg3 harg3 x1 _ _ (here i) 0 (off1 i) a d) (fun b d => readScaled arg17.view arg17.view.junk _ _ _ _ 0 rfl b d) _ _ (zero_row 0 _) 0 b)
  · exact (slice_top _ slices_S256x256_o0_0_S1x256 b).trans (offsets_diag arg5 harg5 x1 _ x3 (here i) 1 _ _ (fun a d => readK arg3 harg3 x1 _ _ (here i) 1 (off2 i) a d) (fun b d => readScaled arg17.view arg17.view.junk _ _ _ _ 1 rfl b d) _ _ (zero_row 1 _) 0 b)
  · exact (slice_top _ slices_S256x256_o0_0_S1x256 b).trans (offsets_diag arg5 harg5 x1 _ x3 (here i) 2 _ _ (fun a d => readK arg3 harg3 x1 _ _ (here i) 2 (off3 i) a d) (fun b d => readScaled arg17.view arg17.view.junk _ _ _ _ 2 rfl b d) _ _ (zero_row 2 _) 0 b)
  · exact (slice_top _ slices_S256x256_o0_0_S1x256 b).trans (offsets_diag arg5 harg5 x1 _ x3 (here i) 3 _ _ (fun a d => readK arg3 harg3 x1 _ _ (here i) 3 (off4 i) a d) (fun b d => readScaled arg17.view arg17.view.junk _ _ _ _ 3 rfl b d) _ _ (zero_row 3 _) 0 b)
  · exact (slice_top _ slices_S256x256_o0_0_S1x256 b).trans (offsets_diag arg5 harg5 x1 _ x3 (here i) 4 _ _ (fun a d => readK arg3 harg3 x1 _ _ (here i) 4 (off5 i) a d) (fun b d => readScaled arg17.view arg17.view.junk _ _ _ _ 4 rfl b d) _ _ (zero_row 4 _) 0 b)
  · exact (slice_top _ slices_S256x256_o0_0_S1x256 b).trans (offsets_diag arg5 harg5 x1 _ x3 (here i) 5 _ _ (fun a d => readK arg3 harg3 x1 _ _ (here i) 5 (off6 i) a d) (fun b d => readScaled arg17.view arg17.view.junk _ _ _ _ 5 rfl b d) _ _ (zero_row 5 _) 0 b)
  · exact (slice_top _ slices_S256x256_o0_0_S1x256 b).trans (offsets_diag arg5 harg5 x1 _ x3 (here i) 6 _ _ (fun a d => readK arg3 harg3 x1 _ _ (here i) 6 (off7 i) a d) (fun b d => readScaled arg17.view arg17.view.junk _ _ _ _ 6 rfl b d) _ _ (zero_row 6 _) 0 b)
  · exact (slice_top _ slices_S256x256_o0_0_S1x256 b).trans (offsets_diag arg5 harg5 x1 _ x3 (here i) 7 _ _ (fun a d => readK arg3 harg3 x1 _ _ (here i) 7 (off8 i) a d) (fun b d => readScaled arg17.view arg17.view.junk _ _ _ _ 7 rfl b d) _ _ (zero_row 7 _) 0 b)

set_option maxHeartbeats 1000000 in
/-- The carry after the tile before it. -/
theorem carryB (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg17 : Memref sig .tc .vmem S256x1024 .bf16) (arg18 : Memref sig .tc .vmem S2x8x256x256 .f32) (arg19 : Memref sig .tc .vmem S2x8x256x256 .bf16) (arg20 : Memref sig .tc .vmem S2x8x256x256 .bf16) (arg21 : Memref sig .tc .vmem S8x128x256 .f32) (hc0 : k0_cond1 i = 1#1) (x0 : Vec Ideal S256x1024 .bf16) (x1 : Vec Ideal S4096x1024 .bf16) (x2 : Vec Ideal S1x1x16x1024x256 .bf16) (x3 : Vec Ideal S256x256 .bf16) (hi : 0 < (i 1).val) (h : Fin 8) (b : Fin 256) :
    bodyB.sl.v776 (F := Ideal) c i arg2 harg2 arg3 harg3 arg5 harg5 arg17 arg19 hc0 x0 x1 x3 (ix2 h b)
      = cAt (dAt 0 x3 x1 (View.read (Elt Ideal) arg17.view (arg17.view.writes (Elt Ideal) arg17.view.junk (bodyB.sl.H15_1 c arg2 harg2 x0))) (here i) h 0 b) x3 x1 (View.read (Elt Ideal) arg17.view (arg17.view.writes (Elt Ideal) arg17.view.junk (bodyB.sl.H15_1 c arg2 harg2 x0))) (before i) h 0 b := by
  rw [← midB c i arg2 harg2 arg3 harg3 arg4 harg4 arg5 harg5 arg17 arg18 arg19 arg20 arg21 hc0 x0 x1 x2 x3 h b]
  simp (disch := decide) only [bodyB.sl.H15_1, bodyB.sl.H16_16, bodyB.sl.H17_16, bodyB.sl.H18_16, bodyB.sl.cst_280, bodyB.sl.cst_332, bodyB.sl.cst_343, bodyB.sl.cst_580, bodyB.sl.r, bodyB.sl.r_1, bodyB.sl.r_10, bodyB.sl.r_11, bodyB.sl.r_12, bodyB.sl.r_13, bodyB.sl.r_14, bodyB.sl.r_15, bodyB.sl.r_16, bodyB.sl.r_17, bodyB.sl.r_18, bodyB.sl.r_19, bodyB.sl.r_2, bodyB.sl.r_20, bodyB.sl.r_3, bodyB.sl.r_4, bodyB.sl.r_5, bodyB.sl.r_6, bodyB.sl.r_7, bodyB.sl.r_8, bodyB.sl.r_9, bodyB.sl.v113, bodyB.sl.v139, bodyB.sl.v165, bodyB.sl.v185, bodyB.sl.v191, bodyB.sl.v217, bodyB.sl.v243, bodyB.sl.v269, bodyB.sl.v289, bodyB.sl.v292, bodyB.sl.v293, bodyB.sl.v490, bodyB.sl.v495, bodyB.sl.v496, bodyB.sl.v497, bodyB.sl.v498, bodyB.sl.v499, bodyB.sl.v500, bodyB.sl.v501, bodyB.sl.v503, bodyB.sl.v504, bodyB.sl.v505, bodyB.sl.v506, bodyB.sl.v508, bodyB.sl.v509, bodyB.sl.v510, bodyB.sl.v511, bodyB.sl.v512, bodyB.sl.v513, bodyB.sl.v514, bodyB.sl.v515, bodyB.sl.v516, bodyB.sl.v517, bodyB.sl.v519, bodyB.sl.v520, bodyB.sl.v521, bodyB.sl.v522, bodyB.sl.v523, bodyB.sl.v524, bodyB.sl.v525, bodyB.sl.v527, bodyB.sl.v528, bodyB.sl.v529, bodyB.sl.v530, bodyB.sl.v531, bodyB.sl.v532, bodyB.sl.v533, bodyB.sl.v534, bodyB.sl.v535, bodyB.sl.v536, bodyB.sl.v538, bodyB.sl.v539, bodyB.sl.v540, bodyB.sl.v541, bodyB.sl.v542, bodyB.sl.v543, bodyB.sl.v544, bodyB.sl.v547, bodyB.sl.v548, bodyB.sl.v549, bodyB.sl.v550, bodyB.sl.v551, bodyB.sl.v552, bodyB.sl.v553, bodyB.sl.v554, bodyB.sl.v555, bodyB.sl.v557, bodyB.sl.v558, bodyB.sl.v559, bodyB.sl.v560, bodyB.sl.v561, bodyB.sl.v562, bodyB.sl.v563, bodyB.sl.v566, bodyB.sl.v567, bodyB.sl.v568, bodyB.sl.v569, bodyB.sl.v570, bodyB.sl.v571, bodyB.sl.v572, bodyB.sl.v573, bodyB.sl.v574, bodyB.sl.v576, bodyB.sl.v577, bodyB.sl.v578, bodyB.sl.v579, bodyB.sl.v580, bodyB.sl.v581, bodyB.sl.v582, bodyB.sl.v585, bodyB.sl.v586, bodyB.sl.v587, bodyB.sl.v588, bodyB.sl.v589, bodyB.sl.v590, bodyB.sl.v591, bodyB.sl.v592, bodyB.sl.v593, bodyB.sl.v595, bodyB.sl.v596, bodyB.sl.v597, bodyB.sl.v598, bodyB.sl.v599, bodyB.sl.v600, bodyB.sl.v601, bodyB.sl.v604, bodyB.sl.v605, bodyB.sl.v606, bodyB.sl.v607, bodyB.sl.v608, bodyB.sl.v609, bodyB.sl.v610, bodyB.sl.v611, bodyB.sl.v612, bodyB.sl.v614, bodyB.sl.v615, bodyB.sl.v616, bodyB.sl.v617, bodyB.sl.v618, bodyB.sl.v619, bodyB.sl.v620, bodyB.sl.v623, bodyB.sl.v624, bodyB.sl.v625, bodyB.sl.v626, bodyB.sl.v627, bodyB.sl.v628, bodyB.sl.v629, bodyB.sl.v630, bodyB.sl.v631, bodyB.sl.v633, bodyB.sl.v634, bodyB.sl.v635, bodyB.sl.v636, bodyB.sl.v637, bodyB.sl.v638, bodyB.sl.v640, bodyB.sl.v643, bodyB.sl.v644, bodyB.sl.v645, bodyB.sl.v646, bodyB.sl.v647, bodyB.sl.v648, bodyB.sl.v649, bodyB.sl.v650, bodyB.sl.v651, bodyB.sl.v652, bodyB.sl.v653, bodyB.sl.v654, bodyB.sl.v655, bodyB.sl.v656, bodyB.sl.v657, bodyB.sl.v660, bodyB.sl.v661, bodyB.sl.v662, bodyB.sl.v663, bodyB.sl.v664, bodyB.sl.v665, bodyB.sl.v666, bodyB.sl.v667, bodyB.sl.v668, bodyB.sl.v669, bodyB.sl.v670, bodyB.sl.v671, bodyB.sl.v672, bodyB.sl.v673, bodyB.sl.v674, bodyB.sl.v677, bodyB.sl.v678, bodyB.sl.v679, bodyB.sl.v680, bodyB.sl.v681, bodyB.sl.v682, bodyB.sl.v683, bodyB.sl.v684, bodyB.sl.v685, bodyB.sl.v686, bodyB.sl.v687, bodyB.sl.v688, bodyB.sl.v689, bodyB.sl.v690, bodyB.sl.v691, bodyB.sl.v694, bodyB.sl.v695, bodyB.sl.v696, bodyB.sl.v697, bodyB.sl.v698, bodyB.sl.v699, bodyB.sl.v700, bodyB.sl.v701, bodyB.sl.v702, bodyB.sl.v703, bodyB.sl.v704, bodyB.sl.v705, bodyB.sl.v706, bodyB.sl.v707, bodyB.sl.v708, bodyB.sl.v711, bodyB.sl.v712, bodyB.sl.v713, bodyB.sl.v714, bodyB.sl.v715, bodyB.sl.v716, bodyB.sl.v717, bodyB.sl.v718, bodyB.sl.v719, bodyB.sl.v720, bodyB.sl.v721, bodyB.sl.v722, bodyB.sl.v723, bodyB.sl.v724, bodyB.sl.v725, bodyB.sl.v728, bodyB.sl.v729, bodyB.sl.v730, bodyB.sl.v731, bodyB.sl.v732, bodyB.sl.v733, bodyB.sl.v734, bodyB.sl.v735, bodyB.sl.v736, bodyB.sl.v737, bodyB.sl.v738, bodyB.sl.v739, bodyB.sl.v740, bodyB.sl.v741, bodyB.sl.v742, bodyB.sl.v745, bodyB.sl.v746, bodyB.sl.v747, bodyB.sl.v748, bodyB.sl.v749, bodyB.sl.v750, bodyB.sl.v751, bodyB.sl.v752, bodyB.sl.v753, bodyB.sl.v754, bodyB.sl.v755, bodyB.sl.v756, bodyB.sl.v757, bodyB.sl.v758, bodyB.sl.v759, bodyB.sl.v762, bodyB.sl.v763, bodyB.sl.v764, bodyB.sl.v765, bodyB.sl.v766, bodyB.sl.v767, bodyB.sl.v768, bodyB.sl.v769, bodyB.sl.v770, bodyB.sl.v771, bodyB.sl.v772, bodyB.sl.v773, bodyB.sl.v774, bodyB.sl.v775, bodyB.sl.v776, bodyB.sl.v82, bodyB.sl.v87, ↓ View.readCov_skip, ↓ View.readCov_cons_toLoadRect, ↓ View.readCov_fill]
  refine (cat8 ![_, _, _, _, _, _, _, _] _ h b).trans ?_
  fin_cases h
  · exact (slice_top _ slices_S256x256_o0_0_S1x256 b).trans ((offsets_of arg5 harg5 x1 _ x3 (before i) 0 _ _ (fun a d => readK arg3 harg3 x1 _ _ (before i) 0 (off9 i hi) a d) (fun b d => readScaled arg17.view arg17.view.junk _ _ _ _ 0 rfl b d) _ _ 0 b).trans (congrArg (cAt · x3 x1 _ (before i) 0 0 b) (slice_row _ 0 _ b)))
  · exact (slice_top _ slices_S256x256_o0_0_S1x256 b).trans ((offsets_of arg5 harg5 x1 _ x3 (before i) 1 _ _ (fun a d => readK arg3 harg3 x1 _ _ (before i) 1 (off10 i hi) a d) (fun b d => readScaled arg17.view arg17.view.junk _ _ _ _ 1 rfl b d) _ _ 0 b).trans (congrArg (cAt · x3 x1 _ (before i) 1 0 b) (slice_row _ 1 _ b)))
  · exact (slice_top _ slices_S256x256_o0_0_S1x256 b).trans ((offsets_of arg5 harg5 x1 _ x3 (before i) 2 _ _ (fun a d => readK arg3 harg3 x1 _ _ (before i) 2 (off11 i hi) a d) (fun b d => readScaled arg17.view arg17.view.junk _ _ _ _ 2 rfl b d) _ _ 0 b).trans (congrArg (cAt · x3 x1 _ (before i) 2 0 b) (slice_row _ 2 _ b)))
  · exact (slice_top _ slices_S256x256_o0_0_S1x256 b).trans ((offsets_of arg5 harg5 x1 _ x3 (before i) 3 _ _ (fun a d => readK arg3 harg3 x1 _ _ (before i) 3 (off12 i hi) a d) (fun b d => readScaled arg17.view arg17.view.junk _ _ _ _ 3 rfl b d) _ _ 0 b).trans (congrArg (cAt · x3 x1 _ (before i) 3 0 b) (slice_row _ 3 _ b)))
  · exact (slice_top _ slices_S256x256_o0_0_S1x256 b).trans ((offsets_of arg5 harg5 x1 _ x3 (before i) 4 _ _ (fun a d => readK arg3 harg3 x1 _ _ (before i) 4 (off13 i hi) a d) (fun b d => readScaled arg17.view arg17.view.junk _ _ _ _ 4 rfl b d) _ _ 0 b).trans (congrArg (cAt · x3 x1 _ (before i) 4 0 b) (slice_row _ 4 _ b)))
  · exact (slice_top _ slices_S256x256_o0_0_S1x256 b).trans ((offsets_of arg5 harg5 x1 _ x3 (before i) 5 _ _ (fun a d => readK arg3 harg3 x1 _ _ (before i) 5 (off14 i hi) a d) (fun b d => readScaled arg17.view arg17.view.junk _ _ _ _ 5 rfl b d) _ _ 0 b).trans (congrArg (cAt · x3 x1 _ (before i) 5 0 b) (slice_row _ 5 _ b)))
  · exact (slice_top _ slices_S256x256_o0_0_S1x256 b).trans ((offsets_of arg5 harg5 x1 _ x3 (before i) 6 _ _ (fun a d => readK arg3 harg3 x1 _ _ (before i) 6 (off15 i hi) a d) (fun b d => readScaled arg17.view arg17.view.junk _ _ _ _ 6 rfl b d) _ _ 0 b).trans (congrArg (cAt · x3 x1 _ (before i) 6 0 b) (slice_row _ 6 _ b)))
  · exact (slice_top _ slices_S256x256_o0_0_S1x256 b).trans ((offsets_of arg5 harg5 x1 _ x3 (before i) 7 _ _ (fun a d => readK arg3 harg3 x1 _ _ (before i) 7 (off16 i hi) a d) (fun b d => readScaled arg17.view arg17.view.junk _ _ _ _ 7 rfl b d) _ _ 0 b).trans (congrArg (cAt · x3 x1 _ (before i) 7 0 b) (slice_row _ 7 _ b)))

set_option maxHeartbeats 2000000 in
/-- The accumulator after both tiles. -/
theorem accB (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg17 : Memref sig .tc .vmem S256x1024 .bf16) (arg18 : Memref sig .tc .vmem S2x8x256x256 .f32) (arg19 : Memref sig .tc .vmem S2x8x256x256 .bf16) (arg20 : Memref sig .tc .vmem S2x8x256x256 .bf16) (arg21 : Memref sig .tc .vmem S8x128x256 .f32) (hc0 : k0_cond1 i = 1#1) (x0 : Vec Ideal S256x1024 .bf16) (x1 : Vec Ideal S4096x1024 .bf16) (x2 : Vec Ideal S1x1x16x1024x256 .bf16) (x3 : Vec Ideal S256x256 .bf16)
    (hi : 0 < (i 1).val) (i7 : ∀ a, (![7, 0, 0] : Fin 3 → ℕ) a + S1x128x256.size a ≤ S8x128x256.size a) (iv : ∀ a, k0_off32 i a + S1x1x1x128x256.size a ≤ S1x1x16x1024x256.size a) (h : Fin 8) (e : Fin 128) (b : Fin 256) :
    (View.read (Elt Ideal) arg21.view (arg21.view.writes (Elt Ideal) arg21.view.junk (⟨Rect.unit (s := S8x128x256) ![7, 0, 0] S1x128x256.size i7, (k0_pay234 (bodyB.sl.v958 c i arg2 harg2 arg3 harg3 arg4 harg4 arg5 harg5 arg17 arg18 arg19 arg20 arg21 hc0 x0 x1 x2 x3) (View.readAt (Elt Ideal) arg4.view (Rect.unit (s := S1x1x16x1024x256) (k0_off32 i) S1x1x1x128x256.size iv).toLoadRect (harg4.unread x2)) (bodyB.sl.v963 c i arg2 harg2 arg3 harg3 arg5 harg5 arg17 arg18 arg19 arg20 hc0 x0 x1 x3))⟩ :: bodyB.sl.H19_16 (F := Ideal) c i arg2 harg2 arg3 harg3 arg4 harg4 arg5 harg5 arg17 arg18 arg19 arg20 arg21 hc0 x0 x1 x2 x3))) (ix3 h e b)
      = (0 + ∑ a : Fin 256, x2 (ix5 0 0 (here i) ⟨128 * h.val + e.val, by omega⟩ a)
          * (if a < b then Ideal.exp2 (zAt x1 (View.read (Elt Ideal) arg17.view (arg17.view.writes (Elt Ideal) arg17.view.junk (bodyB.sl.H15_1 c arg2 harg2 x0))) (here i) h a b + dAt 0 x3 x1 (View.read (Elt Ideal) arg17.view (arg17.view.writes (Elt Ideal) arg17.view.junk (bodyB.sl.H15_1 c arg2 harg2 x0))) (here i) h a b) else 0))
        + ∑ a : Fin 256, x2 (ix5 0 0 (before i) ⟨128 * h.val + e.val, by omega⟩ a)
          * Ideal.exp2 (zAt x1 (View.read (Elt Ideal) arg17.view (arg17.view.writes (Elt Ideal) arg17.view.junk (bodyB.sl.H15_1 c arg2 harg2 x0))) (before i) h a b + cAt (dAt 0 x3 x1 (View.read (Elt Ideal) arg17.view (arg17.view.writes (Elt Ideal) arg17.view.junk (bodyB.sl.H15_1 c arg2 harg2 x0))) (here i) h 0 b) x3 x1 (View.read (Elt Ideal) arg17.view (arg17.view.writes (Elt Ideal) arg17.view.junk (bodyB.sl.H15_1 c arg2 harg2 x0))) (before i) h a b) := by
  rw [← midB c i arg2 harg2 arg3 harg3 arg4 harg4 arg5 harg5 arg17 arg18 arg19 arg20 arg21 hc0 x0 x1 x2 x3 h b]
  simp (disch := decide) only [bodyB.sl.H15_1, bodyB.sl.H16_16, bodyB.sl.H17_16, bodyB.sl.H18_16, bodyB.sl.H19_1, bodyB.sl.H19_10, bodyB.sl.H19_11, bodyB.sl.H19_12, bodyB.sl.H19_13, bodyB.sl.H19_14, bodyB.sl.H19_15, bodyB.sl.H19_16, bodyB.sl.H19_2, bodyB.sl.H19_3, bodyB.sl.H19_4, bodyB.sl.H19_5, bodyB.sl.H19_6, bodyB.sl.H19_7, bodyB.sl.H19_8, bodyB.sl.H19_9, bodyB.sl.cst_280, bodyB.sl.cst_332, bodyB.sl.cst_343, bodyB.sl.cst_580, bodyB.sl.r, bodyB.sl.r_1, bodyB.sl.r_10, bodyB.sl.r_11, bodyB.sl.r_12, bodyB.sl.r_13, bodyB.sl.r_14, bodyB.sl.r_15, bodyB.sl.r_16, bodyB.sl.r_17, bodyB.sl.r_18, bodyB.sl.r_19, bodyB.sl.r_2, bodyB.sl.r_20, bodyB.sl.r_3, bodyB.sl.r_4, bodyB.sl.r_5, bodyB.sl.r_6, bodyB.sl.r_7, bodyB.sl.r_8, bodyB.sl.r_9, bodyB.sl.v113, bodyB.sl.v139, bodyB.sl.v165, bodyB.sl.v185, bodyB.sl.v191, bodyB.sl.v217, bodyB.sl.v243, bodyB.sl.v269, bodyB.sl.v289, bodyB.sl.v292, bodyB.sl.v293, bodyB.sl.v490, bodyB.sl.v495, bodyB.sl.v496, bodyB.sl.v497, bodyB.sl.v498, bodyB.sl.v499, bodyB.sl.v500, bodyB.sl.v501, bodyB.sl.v503, bodyB.sl.v504, bodyB.sl.v505, bodyB.sl.v506, bodyB.sl.v508, bodyB.sl.v509, bodyB.sl.v510, bodyB.sl.v511, bodyB.sl.v512, bodyB.sl.v513, bodyB.sl.v514, bodyB.sl.v515, bodyB.sl.v516, bodyB.sl.v517, bodyB.sl.v519, bodyB.sl.v520, bodyB.sl.v521, bodyB.sl.v522, bodyB.sl.v523, bodyB.sl.v524, bodyB.sl.v525, bodyB.sl.v527, bodyB.sl.v528, bodyB.sl.v529, bodyB.sl.v530, bodyB.sl.v531, bodyB.sl.v532, bodyB.sl.v533, bodyB.sl.v534, bodyB.sl.v535, bodyB.sl.v536, bodyB.sl.v538, bodyB.sl.v539, bodyB.sl.v540, bodyB.sl.v541, bodyB.sl.v542, bodyB.sl.v543, bodyB.sl.v544, bodyB.sl.v547, bodyB.sl.v548, bodyB.sl.v549, bodyB.sl.v550, bodyB.sl.v551, bodyB.sl.v552, bodyB.sl.v553, bodyB.sl.v554, bodyB.sl.v555, bodyB.sl.v557, bodyB.sl.v558, bodyB.sl.v559, bodyB.sl.v560, bodyB.sl.v561, bodyB.sl.v562, bodyB.sl.v563, bodyB.sl.v566, bodyB.sl.v567, bodyB.sl.v568, bodyB.sl.v569, bodyB.sl.v570, bodyB.sl.v571, bodyB.sl.v572, bodyB.sl.v573, bodyB.sl.v574, bodyB.sl.v576, bodyB.sl.v577, bodyB.sl.v578, bodyB.sl.v579, bodyB.sl.v580, bodyB.sl.v581, bodyB.sl.v582, bodyB.sl.v585, bodyB.sl.v586, bodyB.sl.v587, bodyB.sl.v588, bodyB.sl.v589, bodyB.sl.v590, bodyB.sl.v591, bodyB.sl.v592, bodyB.sl.v593, bodyB.sl.v595, bodyB.sl.v596, bodyB.sl.v597, bodyB.sl.v598, bodyB.sl.v599, bodyB.sl.v600, bodyB.sl.v601, bodyB.sl.v604, bodyB.sl.v605, bodyB.sl.v606, bodyB.sl.v607, bodyB.sl.v608, bodyB.sl.v609, bodyB.sl.v610, bodyB.sl.v611, bodyB.sl.v612, bodyB.sl.v614, bodyB.sl.v615, bodyB.sl.v616, bodyB.sl.v617, bodyB.sl.v618, bodyB.sl.v619, bodyB.sl.v620, bodyB.sl.v623, bodyB.sl.v624, bodyB.sl.v625, bodyB.sl.v626, bodyB.sl.v627, bodyB.sl.v628, bodyB.sl.v629, bodyB.sl.v630, bodyB.sl.v631, bodyB.sl.v633, bodyB.sl.v634, bodyB.sl.v635, bodyB.sl.v636, bodyB.sl.v637, bodyB.sl.v638, bodyB.sl.v640, bodyB.sl.v643, bodyB.sl.v644, bodyB.sl.v645, bodyB.sl.v646, bodyB.sl.v647, bodyB.sl.v648, bodyB.sl.v649, bodyB.sl.v650, bodyB.sl.v651, bodyB.sl.v652, bodyB.sl.v653, bodyB.sl.v654, bodyB.sl.v655, bodyB.sl.v656, bodyB.sl.v657, bodyB.sl.v660, bodyB.sl.v661, bodyB.sl.v662, bodyB.sl.v663, bodyB.sl.v664, bodyB.sl.v665, bodyB.sl.v666, bodyB.sl.v667, bodyB.sl.v668, bodyB.sl.v669, bodyB.sl.v670, bodyB.sl.v671, bodyB.sl.v672, bodyB.sl.v673, bodyB.sl.v674, bodyB.sl.v677, bodyB.sl.v678, bodyB.sl.v679, bodyB.sl.v680, bodyB.sl.v681, bodyB.sl.v682, bodyB.sl.v683, bodyB.sl.v684, bodyB.sl.v685, bodyB.sl.v686, bodyB.sl.v687, bodyB.sl.v688, bodyB.sl.v689, bodyB.sl.v690, bodyB.sl.v691, bodyB.sl.v694, bodyB.sl.v695, bodyB.sl.v696, bodyB.sl.v697, bodyB.sl.v698, bodyB.sl.v699, bodyB.sl.v700, bodyB.sl.v701, bodyB.sl.v702, bodyB.sl.v703, bodyB.sl.v704, bodyB.sl.v705, bodyB.sl.v706, bodyB.sl.v707, bodyB.sl.v708, bodyB.sl.v711, bodyB.sl.v712, bodyB.sl.v713, bodyB.sl.v714, bodyB.sl.v715, bodyB.sl.v716, bodyB.sl.v717, bodyB.sl.v718, bodyB.sl.v719, bodyB.sl.v720, bodyB.sl.v721, bodyB.sl.v722, bodyB.sl.v723, bodyB.sl.v724, bodyB.sl.v725, bodyB.sl.v728, bodyB.sl.v729, bodyB.sl.v730, bodyB.sl.v731, bodyB.sl.v732, bodyB.sl.v733, bodyB.sl.v734, bodyB.sl.v735, bodyB.sl.v736, bodyB.sl.v737, bodyB.sl.v738, bodyB.sl.v739, bodyB.sl.v740, bodyB.sl.v741, bodyB.sl.v742, bodyB.sl.v745, bodyB.sl.v746, bodyB.sl.v747, bodyB.sl.v748, bodyB.sl.v749, bodyB.sl.v750, bodyB.sl.v751, bodyB.sl.v752, bodyB.sl.v753, bodyB.sl.v754, bodyB.sl.v755, bodyB.sl.v756, bodyB.sl.v757, bodyB.sl.v758, bodyB.sl.v759, bodyB.sl.v762, bodyB.sl.v763, bodyB.sl.v764, bodyB.sl.v765, bodyB.sl.v766, bodyB.sl.v767, bodyB.sl.v768, bodyB.sl.v769, bodyB.sl.v770, bodyB.sl.v771, bodyB.sl.v772, bodyB.sl.v773, bodyB.sl.v774, bodyB.sl.v775, bodyB.sl.v776, bodyB.sl.v777, bodyB.sl.v778, bodyB.sl.v781, bodyB.sl.v782, bodyB.sl.v783, bodyB.sl.v784, bodyB.sl.v785, bodyB.sl.v788, bodyB.sl.v789, bodyB.sl.v790, bodyB.sl.v793, bodyB.sl.v794, bodyB.sl.v795, bodyB.sl.v796, bodyB.sl.v797, bodyB.sl.v800, bodyB.sl.v801, bodyB.sl.v802, bodyB.sl.v805, bodyB.sl.v806, bodyB.sl.v807, bodyB.sl.v808, bodyB.sl.v809, bodyB.sl.v812, bodyB.sl.v813, bodyB.sl.v814, bodyB.sl.v817, bodyB.sl.v818, bodyB.sl.v819, bodyB.sl.v82, bodyB.sl.v820, bodyB.sl.v821, bodyB.sl.v824, bodyB.sl.v825, bodyB.sl.v826, bodyB.sl.v829, bodyB.sl.v830, bodyB.sl.v831, bodyB.sl.v832, bodyB.sl.v833, bodyB.sl.v836, bodyB.sl.v837, bodyB.sl.v838, bodyB.sl.v841, bodyB.sl.v842, bodyB.sl.v843, bodyB.sl.v844, bodyB.sl.v845, bodyB.sl.v848, bodyB.sl.v849, bodyB.sl.v850, bodyB.sl.v853, bodyB.sl.v854, bodyB.sl.v855, bodyB.sl.v856, bodyB.sl.v857, bodyB.sl.v860, bodyB.sl.v861, bodyB.sl.v862, bodyB.sl.v865, bodyB.sl.v866, bodyB.sl.v867, bodyB.sl.v868, bodyB.sl.v869, bodyB.sl.v87, bodyB.sl.v872, bodyB.sl.v874, bodyB.sl.v875, bodyB.sl.v876, bodyB.sl.v878, bodyB.sl.v879, bodyB.sl.v880, bodyB.sl.v881, bodyB.sl.v882, bodyB.sl.v885, bodyB.sl.v886, bodyB.sl.v887, bodyB.sl.v890, bodyB.sl.v891, bodyB.sl.v892, bodyB.sl.v893, bodyB.sl.v894, bodyB.sl.v897, bodyB.sl.v898, bodyB.sl.v899, bodyB.sl.v902, bodyB.sl.v903, bodyB.sl.v904, bodyB.sl.v905, bodyB.sl.v906, bodyB.sl.v909, bodyB.sl.v910, bodyB.sl.v911, bodyB.sl.v914, bodyB.sl.v915, bodyB.sl.v916, bodyB.sl.v917, bodyB.sl.v918, bodyB.sl.v921, bodyB.sl.v922, bodyB.sl.v923, bodyB.sl.v926, bodyB.sl.v927, bodyB.sl.v928, bodyB.sl.v929, bodyB.sl.v930, bodyB.sl.v933, bodyB.sl.v934, bodyB.sl.v935, bodyB.sl.v938, bodyB.sl.v939, bodyB.sl.v940, bodyB.sl.v941, bodyB.sl.v942, bodyB.sl.v945, bodyB.sl.v946, bodyB.sl.v947, bodyB.sl.v950, bodyB.sl.v951, bodyB.sl.v952, bodyB.sl.v953, bodyB.sl.v954, bodyB.sl.v957, bodyB.sl.v958, bodyB.sl.v963, ↓ View.readCov_skip, ↓ View.readCov_cons_toLoadRect, ↓ View.readCov_fill]
  refine (acc8 _ _ ![_, _, _, _, _, _, _, _] _ _ _ _ _ _ _ _ _ h e b).trans ?_
  fin_cases h
  · exact second arg5 harg5 arg4 harg4 x1 _ x3 x2 (here i) (before i) 0 _ _ _ (fun a d => readK arg3 harg3 x1 _ _ (here i) 0 (off1 i) a d) (fun a d => readK arg3 harg3 x1 _ _ (before i) 0 (off9 i hi) a d) (fun b d => readScaled arg17.view arg17.view.junk _ _ _ _ 0 rfl b d) _ _ _ (zero_row 0 _) (slice_row _ 0 _) _ _ (off17 i) _ _ (off25 i hi) _ (zero_acc _ _) e b
  · exact second arg5 harg5 arg4 harg4 x1 _ x3 x2 (here i) (before i) 1 _ _ _ (fun a d => readK arg3 harg3 x1 _ _ (here i) 1 (off2 i) a d) (fun a d => readK arg3 harg3 x1 _ _ (before i) 1 (off10 i hi) a d) (fun b d => readScaled arg17.view arg17.view.junk _ _ _ _ 1 rfl b d) _ _ _ (zero_row 1 _) (slice_row _ 1 _) _ _ (off18 i) _ _ (off26 i hi) _ (zero_acc _ _) e b
  · exact second arg5 harg5 arg4 harg4 x1 _ x3 x2 (here i) (before i) 2 _ _ _ (fun a d => readK arg3 harg3 x1 _ _ (here i) 2 (off3 i) a d) (fun a d => readK arg3 harg3 x1 _ _ (before i) 2 (off11 i hi) a d) (fun b d => readScaled arg17.view arg17.view.junk _ _ _ _ 2 rfl b d) _ _ _ (zero_row 2 _) (slice_row _ 2 _) _ _ (off19 i) _ _ (off27 i hi) _ (zero_acc _ _) e b
  · exact second arg5 harg5 arg4 harg4 x1 _ x3 x2 (here i) (before i) 3 _ _ _ (fun a d => readK arg3 harg3 x1 _ _ (here i) 3 (off4 i) a d) (fun a d => readK arg3 harg3 x1 _ _ (before i) 3 (off12 i hi) a d) (fun b d => readScaled arg17.view arg17.view.junk _ _ _ _ 3 rfl b d) _ _ _ (zero_row 3 _) (slice_row _ 3 _) _ _ (off20 i) _ _ (off28 i hi) _ (zero_acc _ _) e b
  · exact second arg5 harg5 arg4 harg4 x1 _ x3 x2 (here i) (before i) 4 _ _ _ (fun a d => readK arg3 harg3 x1 _ _ (here i) 4 (off5 i) a d) (fun a d => readK arg3 harg3 x1 _ _ (before i) 4 (off13 i hi) a d) (fun b d => readScaled arg17.view arg17.view.junk _ _ _ _ 4 rfl b d) _ _ _ (zero_row 4 _) (slice_row _ 4 _) _ _ (off21 i) _ _ (off29 i hi) _ (zero_acc _ _) e b
  · exact second arg5 harg5 arg4 harg4 x1 _ x3 x2 (here i) (before i) 5 _ _ _ (fun a d => readK arg3 harg3 x1 _ _ (here i) 5 (off6 i) a d) (fun a d => readK arg3 harg3 x1 _ _ (before i) 5 (off14 i hi) a d) (fun b d => readScaled arg17.view arg17.view.junk _ _ _ _ 5 rfl b d) _ _ _ (zero_row 5 _) (slice_row _ 5 _) _ _ (off22 i) _ _ (off30 i hi) _ (zero_acc _ _) e b
  · exact second arg5 harg5 arg4 harg4 x1 _ x3 x2 (here i) (before i) 6 _ _ _ (fun a d => readK arg3 harg3 x1 _ _ (here i) 6 (off7 i) a d) (fun a d => readK arg3 harg3 x1 _ _ (before i) 6 (off15 i hi) a d) (fun b d => readScaled arg17.view arg17.view.junk _ _ _ _ 6 rfl b d) _ _ _ (zero_row 6 _) (slice_row _ 6 _) _ _ (off23 i) _ _ (off31 i hi) _ (zero_acc _ _) e b
  · exact second arg5 harg5 arg4 harg4 x1 _ x3 x2 (here i) (before i) 7 _ _ _ (fun a d => readK arg3 harg3 x1 _ _ (here i) 7 (off8 i) a d) (fun a d => readK arg3 harg3 x1 _ _ (before i) 7 (off16 i hi) a d) (fun b d => readScaled arg17.view arg17.view.junk _ _ _ _ 7 rfl b d) _ _ _ (zero_row 7 _) (slice_row _ 7 _) _ _ (off24 i) _ _ (off32 i hi) _ (zero_acc _ _) e b

/-- What the straight part leaves: the invariant at the first key of the tile before the diagonal's. -/
theorem invB (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg17 : Memref sig .tc .vmem S256x1024 .bf16) (arg18 : Memref sig .tc .vmem S2x8x256x256 .f32) (arg19 : Memref sig .tc .vmem S2x8x256x256 .bf16) (arg20 : Memref sig .tc .vmem S2x8x256x256 .bf16) (arg21 : Memref sig .tc .vmem S8x128x256 .f32) (hc0 : k0_cond1 i = 1#1) (x0 : Vec Ideal S256x1024 .bf16) (x1 : Vec Ideal S4096x1024 .bf16) (x2 : Vec Ideal S1x1x16x1024x256 .bf16) (x3 : Vec Ideal S256x256 .bf16)
    (hi : 0 < (i 1).val) (i7 : ∀ a, (![7, 0, 0] : Fin 3 → ℕ) a + S1x128x256.size a ≤ S8x128x256.size a) (iv : ∀ a, k0_off32 i a + S1x1x1x128x256.size a ≤ S1x1x16x1024x256.size a) (z : Fin 8 → ℕ → ℕ → ℝ)
    (G : Good x1 (View.read (Elt Ideal) arg17.view (arg17.view.writes (Elt Ideal) arg17.view.junk (bodyB.sl.H15_1 c arg2 harg2 x0))) x3 (i 1).val z) :
    Inv x2 (i 1).val z (256 * ((i 1).val - 1)) (bodyB.sl.v776 (F := Ideal) c i arg2 harg2 arg3 harg3 arg5 harg5 arg17 arg19 hc0 x0 x1 x3)
      (View.read (Elt Ideal) arg21.view (arg21.view.writes (Elt Ideal) arg21.view.junk (⟨Rect.unit (s := S8x128x256) ![7, 0, 0] S1x128x256.size i7, (k0_pay234 (bodyB.sl.v958 c i arg2 harg2 arg3 harg3 arg4 harg4 arg5 harg5 arg17 arg18 arg19 arg20 arg21 hc0 x0 x1 x2 x3) (View.readAt (Elt Ideal) arg4.view (Rect.unit (s := S1x1x16x1024x256) (k0_off32 i) S1x1x1x128x256.size iv).toLoadRect (harg4.unread x2)) (bodyB.sl.v963 c i arg2 harg2 arg3 harg3 arg5 harg5 arg17 arg18 arg19 arg20 hc0 x0 x1 x3))⟩ :: bodyB.sl.H19_16 (F := Ideal) c i arg2 harg2 arg3 harg3 arg4 harg4 arg5 harg5 arg17 arg18 arg19 arg20 arg21 hc0 x0 x1 x2 x3))) := by
  have hn : (before i).val < (i 1).val := by show (i 1).val - 1 < _; omega
  have hs : 256 * ((before i).val + 1) = 256 * (i 1).val := by show 256 * ((i 1).val - 1 + 1) = _; omega
  have hd : ∀ (h : Fin 8) (b : Fin 256), dAt 0 x3 x1 (View.read (Elt Ideal) arg17.view (arg17.view.writes (Elt Ideal) arg17.view.junk (bodyB.sl.H15_1 c arg2 harg2 x0))) (here i) h 0 b
      = ((-cost (z h) (256 * (i 1).val + b.val) (256 * ((before i).val + 1)) : ℝ) : EReal) := by
    intro h b
    rw [dAt_diag G (here i) rfl h b 0, hs]; rfl
  constructor
  · intro h b
    rw [carryB c i arg2 harg2 arg3 harg3 arg4 harg4 arg5 harg5 arg17 arg18 arg19 arg20 arg21 hc0 x0 x1 x2 x3 hi h b, cAt_before G (before i) hn h b 0 _ (hd h b)]; rfl
  · intro h e b
    rw [accB c i arg2 harg2 arg3 harg3 arg4 harg4 arg5 harg5 arg17 arg18 arg19 arg20 arg21 hc0 x0 x1 x2 x3 hi i7 iv h e b]
    refine acc_before G x2 (before i) hn h e b _ _ (hd h b) ?_
    rw [acc_diag G x2 (here i) rfl h e b, hs]

theorem inb32 : ∀ i : grid0.Coords, 0 < (i 1).val → ∀ a, k0_off32 i a + S1x1x1x128x256.size a ≤ S1x1x16x1024x256.size a := by decide +kernel

/-- The loop begins two tiles before the diagonal. -/
theorem before_tile (i : grid0.Coords) (hi : 0 < (i 1).val) : (Scalar.subi (BitVec.ofNat 32 (i 1).val) 2#32).toInt = (((i 1).val - 1 : ℕ) : ℤ) - 1 := by
  have h : ∀ n : Fin 16, 0 < n.val → (Scalar.subi (BitVec.ofNat 32 n.val) 2#32).toInt = ((n.val - 1 : ℕ) : ℤ) - 1 := by decide
  exact h ⟨(i 1).val, (i 1).isLt⟩ hi

set_option maxHeartbeats 1000000 in
/-- What a grid point whose query tile is not the first leaves of the attention. -/
theorem bodyB_value (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S64x512 .f32) (harg9 : arg9.IsWhole) (arg10 : Memref sig .tc .vmem S16x2048 .f32) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S64x2048 .bf16) (harg14 : arg14.IsWhole) (arg15 : Memref sig .tc .vmem S64x512 .bf16) (harg15 : arg15.IsWhole) (arg16 : Memref sig .tc .vmem S16x2048 .bf16) (harg16 : arg16.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg20 : Memref sig .tc .vmem S2x8x256x256 .bf16) (harg20 : arg20.IsWhole) (arg21 : Memref sig .tc .vmem S8x128x256 .f32) (harg21 : arg21.IsWhole) (hc0 : k0_cond1 i = 1#1) (x0 : Vec Ideal S256x1024 .bf16) (x1 : Vec Ideal S4096x1024 .bf16) (x2 : Vec Ideal S1x1x16x1024x256 .bf16) (x3 : Vec Ideal S256x256 .bf16) (x4 : Vec Ideal S32x2048 .f32) (x5 : Vec Ideal S32x2048 .f32) (x6 : Vec Ideal S64x2048 .f32) (x7 : Vec Ideal S64x512 .f32) (x8 : Vec Ideal S16x2048 .f32)
    (z : Fin 8 → ℕ → ℕ → ℝ) (hi : 0 < (i 1).val)
    (G : Good x1 (View.read (Elt Ideal) arg17.view (arg17.view.writes (Elt Ideal) arg17.view.junk (bodyB.sl.H15_1 c arg2 harg2 x0))) x3 (i 1).val z) (h : Fin 8) (b : Fin 256) (e : Fin 128) :
    (bodyB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8).1 (ix2 b (colOf h e)) = total (z h) (vOf x2 h e) (256 * (i 1).val + b.val) 0 := by
  refine (cols8 arg11.view arg11.view.junk ![_, _, _, _, _, _, _, _] _ _ _ _ _ _ _ _ [] h b e).trans ?_
  refine Eq.trans ?_ (rounds_value c i arg3 harg3 arg17 harg17 arg18 harg18 arg19 harg19 arg5 harg5 arg20 harg20 arg21 harg21 arg4 harg4 x1 _ x2 x3 (i 1).val z G 16 ((i 1).val - 1) (Scalar.subi (BitVec.ofNat 32 (i 1).val) 2#32) _ _ _ (by have h : (i 1).val < 16 := (i 1).isLt; omega) (by omega) (by have h : (i 1).val < 16 := (i 1).isLt; omega) (Or.inl (before_tile i hi)) (Inv.live (invB c i arg2 harg2 arg3 harg3 arg4 harg4 arg5 harg5 arg17 arg18 arg19 arg20 arg21 hc0 x0 x1 x2 x3 hi (by decide) (inb32 i hi) z G)) (invB c i arg2 harg2 arg3 harg3 arg4 harg4 arg5 harg5 arg17 arg18 arg19 arg20 arg21 hc0 x0 x1 x2 x3 hi (by decide) (inb32 i hi) z G) h e b)
  fin_cases h
  · exact turned arg21 harg21 _ _ _ 0 rfl b e
  · exact turned arg21 harg21 _ _ _ 1 rfl b e
  · exact turned arg21 harg21 _ _ _ 2 rfl b e
  · exact turned arg21 harg21 _ _ _ 3 rfl b e
  · exact turned arg21 harg21 _ _ _ 4 rfl b e
  · exact turned arg21 harg21 _ _ _ 5 rfl b e
  · exact turned arg21 harg21 _ _ _ 6 rfl b e
  · exact turned arg21 harg21 _ _ _ 7 rfl b e

end Cert.Proof.SB

end
-- ==== Proof.Value.Outs.lean ====
/- What a grid point leaves in its six outputs, as a function of its nine inputs. -/
module

public import proofs.«01_k».proof.Proof.Frame
public import proofs.«01_k».proof.Proof.Value.LaterTiles
public import Idealize.ShloMosaic.Lib.Pipeline.ReadBack
public import Idealize.ShloMosaic.Lib.WholeRead
public import Idealize.ShloMosaic.Lib.Pipeline.FrameBody
public import Idealize.ShloMosaic.Lib.Tactic
public import Idealize.ShloMosaic.Lib.WordCmp

@[expose] public section

set_option maxRecDepth 16384

noncomputable section

namespace Cert.Proof.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem scale_named : Named.named (F := Ideal) κ "scale" (φ := .f32) 0x3E0293EE#32 = (((11863283 / 134217728) * (Real.log 2)⁻¹ : ℝ) : EReal) :=
  IdealRules.named_const.ideal_named_scalar _ _ _ _ rfl

/-- The second part is taken exactly where the query tile is not the first. -/
theorem cond_iff : ∀ i : grid0.Coords, k0_cond1 i = 1#1 ↔ 0 < (i 1).val := by decide +kernel

/-- A whole array rounded into another is that array: rounding does nothing at the extended reals. -/
theorem rider {s : Shape} (vo : View sig .tc .vmem s .bf16) (f : vo.ty.Contents (Elt Ideal)) (mi : Memref sig .tc .vmem s .f32) (hmi : mi.IsWhole)
    (x : Vec Ideal s .f32) (off : Fin s.rank → ℕ) (h0 : off = fun _ => 0) (inb inb' : ∀ a, off a + s.size a ≤ s.size a) :
    vo.read (Elt Ideal) (vo.writes (Elt Ideal) f [⟨Rect.unit (s := s) off s.size inb,
      truncf (F := Ideal) .bf16 (View.readAt (Elt Ideal) mi.view (Rect.unit (s := s) off s.size inb').toLoadRect (hmi.unread x)) bitsLt_bf16_f32⟩])
      = (x : s.Idx → EReal) := by
  subst h0
  refine (View.read_writes_whole vo f _).trans (funext fun y => ?_)
  show View.readAt (Elt Ideal) mi.view (Rect.unit (s := s) (fun _ => 0) s.size inb').toLoadRect (hmi.unread x) y = x y
  rw [View.readAt_eq_ld, hmi.read_unread]
  exact congrFun (View.ld_unit_zero rfl inb' x) y

/-- The queries, scaled. -/
theorem scaledA (c : Dev nD) (arg2 : Memref sig .tc .vmem S256x1024 .bf16) (harg2 : arg2.IsWhole) (v : View sig .tc .vmem S256x1024 .bf16)
    (f : v.ty.Contents (Elt Ideal)) (x0 : Vec Ideal S256x1024 .bf16) (b : Fin 256) (k : Fin 1024) :
    v.read (Elt Ideal) (v.writes (Elt Ideal) f (bodyA.sl.H15_1 (F := Ideal) c arg2 harg2 x0)) (ix2 b k)
      = x0 (ix2 b k) * (((11863283 / 134217728) * (Real.log 2)⁻¹ : ℝ) : EReal) := by
  refine (View.read_writes_cons_hit v f (Rect.unit (s := S256x1024) ![0, 0] S256x1024.size (by decide)) _ [] (ix2 b k) (ix2 b k)
    (Rect.emb_eq_of_coords _ _ _ fun a => by fin_cases a <;> simp [ix2, Shape.Idx.norm])).trans ?_
  refine Eq.trans (b := View.readAt (Elt Ideal) arg2.view (Rect.unit (s := S256x1024) ![0, 0] S256x1024.size (by decide)).toLoadRect (harg2.unread x0) (ix2 b k)
    * Named.named (F := Ideal) κ "scale" (φ := .f32) 0x3E0293EE#32) ?_ ?_
  · have : ∀ X : Vec Ideal S256x1024 .bf16, k0_pay231 X (ix2 b k) = X (ix2 b k) * Named.named (F := Ideal) κ "scale" (φ := .f32) 0x3E0293EE#32 := by
      intro X
      pointwise [k0_pay231]
    exact this _
  · refine congrArg₂ (· * ·) ?_ scale_named
    show View.ld (arg2.view.read (Elt Ideal) (harg2.unread x0)) (Rect.unit (s := S256x1024) ![0, 0] S256x1024.size (by decide)) (ix2 b k) = _
    rw [harg2.read_unread]
    exact congrFun (View.ld_unit_zero (by decide) _ x0) (ix2 b k)

theorem scaledB (c : Dev nD) (arg2 : Memref sig .tc .vmem S256x1024 .bf16) (harg2 : arg2.IsWhole) (v : View sig .tc .vmem S256x1024 .bf16)
    (f : v.ty.Contents (Elt Ideal)) (x0 : Vec Ideal S256x1024 .bf16) (b : Fin 256) (k : Fin 1024) :
    v.read (Elt Ideal) (v.writes (Elt Ideal) f (bodyB.sl.H15_1 (F := Ideal) c arg2 harg2 x0)) (ix2 b k)
      = x0 (ix2 b k) * (((11863283 / 134217728) * (Real.log 2)⁻¹ : ℝ) : EReal) :=
  scaledA c arg2 harg2 v f x0 b k

/-- The attention a grid point leaves, from real logits and the triangle of ones. -/
theorem outs_attention (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S64x512 .f32) (harg9 : arg9.IsWhole) (arg10 : Memref sig .tc .vmem S16x2048 .f32) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S64x2048 .bf16) (harg14 : arg14.IsWhole) (arg15 : Memref sig .tc .vmem S64x512 .bf16) (harg15 : arg15.IsWhole) (arg16 : Memref sig .tc .vmem S16x2048 .bf16) (harg16 : arg16.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg20 : Memref sig .tc .vmem S2x8x256x256 .bf16) (harg20 : arg20.IsWhole) (arg21 : Memref sig .tc .vmem S8x128x256 .f32) (harg21 : arg21.IsWhole) (x0 : Vec Ideal S256x1024 .bf16) (x1 : Vec Ideal S4096x1024 .bf16) (x2 : Vec Ideal S1x1x16x1024x256 .bf16) (x3 : Vec Ideal S256x256 .bf16) (x4 : Vec Ideal S32x2048 .f32) (x5 : Vec Ideal S32x2048 .f32) (x6 : Vec Ideal S64x2048 .f32) (x7 : Vec Ideal S64x512 .f32) (x8 : Vec Ideal S16x2048 .f32)
    (z : Fin 8 → ℕ → ℕ → ℝ)
    (hz : ∀ (n : Fin 16) (h : Fin 8) (a b : Fin 256), ∑ d : Fin 128, x1 (ix2 (keyOf n a) (colOf h d))
        * (x0 (ix2 b (colOf h d)) * (((11863283 / 134217728) * (Real.log 2)⁻¹ : ℝ) : EReal)) = (z h (256 * (i 1).val + b.val) (256 * n.val + a.val) : ℝ))
    (ht : ∀ a a' : Fin 256, x3 (ix2 a a') = if a ≤ a' then 1 else 0) (h : Fin 8) (b : Fin 256) (e : Fin 128) :
    (outs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8).1 (ix2 b (colOf h e)) = total (z h) (vOf x2 h e) (256 * (i 1).val + b.val) 0 := by
  unfold outs
  by_cases hc : k0_cond1 i = 1#1
  · rw [dif_pos hc]
    refine bodyB_value c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 z ((cond_iff i).1 hc) ⟨fun n h a b => ?_, ht⟩ h b e
    refine Eq.trans (Finset.sum_congr rfl fun d _ => ?_) (hz n h a b)
    exact congrArg (x1 (ix2 (keyOf n a) (colOf h d)) * ·) (scaledB c arg2 harg2 arg17.view _ x0 b (colOf h d))
  · rw [dif_neg hc]
    refine bodyA_value c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc x0 x1 x2 x3 x4 x5 x6 x7 x8 z (Nat.eq_zero_of_not_pos fun h => hc ((cond_iff i).2 h)) ⟨fun n h a b => ?_, ht⟩ h b e
    refine Eq.trans (Finset.sum_congr rfl fun d _ => ?_) (hz n h a b)
    exact congrArg (x1 (ix2 (keyOf n a) (colOf h d)) * ·) (scaledA c arg2 harg2 arg17.view _ x0 b (colOf h d))

/-- The rounded weight 1. -/
theorem outs_rider1 (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S64x512 .f32) (harg9 : arg9.IsWhole) (arg10 : Memref sig .tc .vmem S16x2048 .f32) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S64x2048 .bf16) (harg14 : arg14.IsWhole) (arg15 : Memref sig .tc .vmem S64x512 .bf16) (harg15 : arg15.IsWhole) (arg16 : Memref sig .tc .vmem S16x2048 .bf16) (harg16 : arg16.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg20 : Memref sig .tc .vmem S2x8x256x256 .bf16) (harg20 : arg20.IsWhole) (arg21 : Memref sig .tc .vmem S8x128x256 .f32) (harg21 : arg21.IsWhole) (x0 : Vec Ideal S256x1024 .bf16) (x1 : Vec Ideal S4096x1024 .bf16) (x2 : Vec Ideal S1x1x16x1024x256 .bf16) (x3 : Vec Ideal S256x256 .bf16) (x4 : Vec Ideal S32x2048 .f32) (x5 : Vec Ideal S32x2048 .f32) (x6 : Vec Ideal S64x2048 .f32) (x7 : Vec Ideal S64x512 .f32) (x8 : Vec Ideal S16x2048 .f32) :
    (outs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8).2.1 = x4 := by
  unfold outs
  by_cases hc : k0_cond1 i = 1#1
  · rw [dif_pos hc]
    exact rider arg12.view arg12.view.junk arg6 harg6 x4 ![0, 0] (by decide) _ _
  · rw [dif_neg hc]
    exact rider arg12.view arg12.view.junk arg6 harg6 x4 ![0, 0] (by decide) _ _

/-- The rounded weight 2. -/
theorem outs_rider2 (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S64x512 .f32) (harg9 : arg9.IsWhole) (arg10 : Memref sig .tc .vmem S16x2048 .f32) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S64x2048 .bf16) (harg14 : arg14.IsWhole) (arg15 : Memref sig .tc .vmem S64x512 .bf16) (harg15 : arg15.IsWhole) (arg16 : Memref sig .tc .vmem S16x2048 .bf16) (harg16 : arg16.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg20 : Memref sig .tc .vmem S2x8x256x256 .bf16) (harg20 : arg20.IsWhole) (arg21 : Memref sig .tc .vmem S8x128x256 .f32) (harg21 : arg21.IsWhole) (x0 : Vec Ideal S256x1024 .bf16) (x1 : Vec Ideal S4096x1024 .bf16) (x2 : Vec Ideal S1x1x16x1024x256 .bf16) (x3 : Vec Ideal S256x256 .bf16) (x4 : Vec Ideal S32x2048 .f32) (x5 : Vec Ideal S32x2048 .f32) (x6 : Vec Ideal S64x2048 .f32) (x7 : Vec Ideal S64x512 .f32) (x8 : Vec Ideal S16x2048 .f32) :
    (outs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8).2.2.1 = x5 := by
  unfold outs
  by_cases hc : k0_cond1 i = 1#1
  · rw [dif_pos hc]
    exact rider arg13.view arg13.view.junk arg7 harg7 x5 ![0, 0] (by decide) _ _
  · rw [dif_neg hc]
    exact rider arg13.view arg13.view.junk arg7 harg7 x5 ![0, 0] (by decide) _ _

/-- The rounded weight 3. -/
theorem outs_rider3 (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S64x512 .f32) (harg9 : arg9.IsWhole) (arg10 : Memref sig .tc .vmem S16x2048 .f32) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S64x2048 .bf16) (harg14 : arg14.IsWhole) (arg15 : Memref sig .tc .vmem S64x512 .bf16) (harg15 : arg15.IsWhole) (arg16 : Memref sig .tc .vmem S16x2048 .bf16) (harg16 : arg16.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg20 : Memref sig .tc .vmem S2x8x256x256 .bf16) (harg20 : arg20.IsWhole) (arg21 : Memref sig .tc .vmem S8x128x256 .f32) (harg21 : arg21.IsWhole) (x0 : Vec Ideal S256x1024 .bf16) (x1 : Vec Ideal S4096x1024 .bf16) (x2 : Vec Ideal S1x1x16x1024x256 .bf16) (x3 : Vec Ideal S256x256 .bf16) (x4 : Vec Ideal S32x2048 .f32) (x5 : Vec Ideal S32x2048 .f32) (x6 : Vec Ideal S64x2048 .f32) (x7 : Vec Ideal S64x512 .f32) (x8 : Vec Ideal S16x2048 .f32) :
    (outs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8).2.2.2.1 = x6 := by
  unfold outs
  by_cases hc : k0_cond1 i = 1#1
  · rw [dif_pos hc]
    exact rider arg14.view arg14.view.junk arg8 harg8 x6 ![0, 0] (by decide) _ _
  · rw [dif_neg hc]
    exact rider arg14.view arg14.view.junk arg8 harg8 x6 ![0, 0] (by decide) _ _

/-- The rounded weight 4. -/
theorem outs_rider4 (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S64x512 .f32) (harg9 : arg9.IsWhole) (arg10 : Memref sig .tc .vmem S16x2048 .f32) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S64x2048 .bf16) (harg14 : arg14.IsWhole) (arg15 : Memref sig .tc .vmem S64x512 .bf16) (harg15 : arg15.IsWhole) (arg16 : Memref sig .tc .vmem S16x2048 .bf16) (harg16 : arg16.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg20 : Memref sig .tc .vmem S2x8x256x256 .bf16) (harg20 : arg20.IsWhole) (arg21 : Memref sig .tc .vmem S8x128x256 .f32) (harg21 : arg21.IsWhole) (x0 : Vec Ideal S256x1024 .bf16) (x1 : Vec Ideal S4096x1024 .bf16) (x2 : Vec Ideal S1x1x16x1024x256 .bf16) (x3 : Vec Ideal S256x256 .bf16) (x4 : Vec Ideal S32x2048 .f32) (x5 : Vec Ideal S32x2048 .f32) (x6 : Vec Ideal S64x2048 .f32) (x7 : Vec Ideal S64x512 .f32) (x8 : Vec Ideal S16x2048 .f32) :
    (outs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8).2.2.2.2.1 = x7 := by
  unfold outs
  by_cases hc : k0_cond1 i = 1#1
  · rw [dif_pos hc]
    exact rider arg15.view arg15.view.junk arg9 harg9 x7 ![0, 0] (by decide) _ _
  · rw [dif_neg hc]
    exact rider arg15.view arg15.view.junk arg9 harg9 x7 ![0, 0] (by decide) _ _

/-- The rounded weight 5. -/
theorem outs_rider5 (c : Dev nD) (i : grid0.Coords) (arg2 : Memref sig .tc .vmem S256x1024 .bf16) (harg2 : arg2.IsWhole) (arg3 : Memref sig .tc .vmem S4096x1024 .bf16) (harg3 : arg3.IsWhole) (arg4 : Memref sig .tc .vmem S1x1x16x1024x256 .bf16) (harg4 : arg4.IsWhole) (arg5 : Memref sig .tc .vmem S256x256 .bf16) (harg5 : arg5.IsWhole) (arg6 : Memref sig .tc .vmem S32x2048 .f32) (harg6 : arg6.IsWhole) (arg7 : Memref sig .tc .vmem S32x2048 .f32) (harg7 : arg7.IsWhole) (arg8 : Memref sig .tc .vmem S64x2048 .f32) (harg8 : arg8.IsWhole) (arg9 : Memref sig .tc .vmem S64x512 .f32) (harg9 : arg9.IsWhole) (arg10 : Memref sig .tc .vmem S16x2048 .f32) (harg10 : arg10.IsWhole) (arg11 : Memref sig .tc .vmem S256x1024 .bf16) (harg11 : arg11.IsWhole) (arg12 : Memref sig .tc .vmem S32x2048 .bf16) (harg12 : arg12.IsWhole) (arg13 : Memref sig .tc .vmem S32x2048 .bf16) (harg13 : arg13.IsWhole) (arg14 : Memref sig .tc .vmem S64x2048 .bf16) (harg14 : arg14.IsWhole) (arg15 : Memref sig .tc .vmem S64x512 .bf16) (harg15 : arg15.IsWhole) (arg16 : Memref sig .tc .vmem S16x2048 .bf16) (harg16 : arg16.IsWhole) (arg17 : Memref sig .tc .vmem S256x1024 .bf16) (harg17 : arg17.IsWhole) (arg18 : Memref sig .tc .vmem S2x8x256x256 .f32) (harg18 : arg18.IsWhole) (arg19 : Memref sig .tc .vmem S2x8x256x256 .bf16) (harg19 : arg19.IsWhole) (arg20 : Memref sig .tc .vmem S2x8x256x256 .bf16) (harg20 : arg20.IsWhole) (arg21 : Memref sig .tc .vmem S8x128x256 .f32) (harg21 : arg21.IsWhole) (x0 : Vec Ideal S256x1024 .bf16) (x1 : Vec Ideal S4096x1024 .bf16) (x2 : Vec Ideal S1x1x16x1024x256 .bf16) (x3 : Vec Ideal S256x256 .bf16) (x4 : Vec Ideal S32x2048 .f32) (x5 : Vec Ideal S32x2048 .f32) (x6 : Vec Ideal S64x2048 .f32) (x7 : Vec Ideal S64x512 .f32) (x8 : Vec Ideal S16x2048 .f32) :
    (outs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8).2.2.2.2.2 = x8 := by
  unfold outs
  by_cases hc : k0_cond1 i = 1#1
  · rw [dif_pos hc]
    exact rider arg16.view arg16.view.junk arg10 harg10 x8 ![0, 0] (by decide) _ _
  · rw [dif_neg hc]
    exact rider arg16.view arg16.view.junk arg10 harg10 x8 ![0, 0] (by decide) _ _

end Cert.Proof.SB

end
-- ==== Proof.Value.Host.lean ====
module

public import proofs.«01_k».proof.Proof.Value.Outs
public import Idealize.ShloMosaic.Lib.Claim
public import Idealize.ShloMosaic.Lib.Pipeline.ValueKit
public import Idealize.ShloMosaic.Lib.StableHlo.ReadAt
public import Idealize.ShloMosaic.Lib.Pointwise

@[expose] public section

set_option maxRecDepth 16384

noncomputable section

namespace Cert.Proof.SB

open Cert.KernelIdeal Cert.KernelIdeal.Gen
open Idealize.ShloMosaic Idealize.ShloMosaic.TcCoe
open Idealize.SL.Sem
open Idealize.ShloMosaic.Pipeline (Dat Cfg Window)

variable (m : (ℓ : Loc nD τ sig) → Buf (Elt Ideal) ℓ)

/-- The projected rows, as the program finds them. -/
abbrev uIn (c : Dev nD) : Vec Ideal S2x4096x11344 .f32 := m ((c : Thread nD τ).loc main_arg0)

theorem ix3_congr {n₀ n₁ n₂ : ℕ} {x x' : Fin n₀} {y y' : Fin n₁} {z z' : Fin n₂} (hx : x.val = x'.val) (hy : y.val = y'.val) (hz : z.val = z'.val) :
    ix3 x y z = ix3 x' y' z' := by
  obtain rfl := Fin.ext hx; obtain rfl := Fin.ext hy; obtain rfl := Fin.ext hz; rfl

/-- A query in the array of attention inputs. -/
theorem v10_query (c : Dev nD) (B : Fin 2) (t : Fin 4096) (k : Fin 1024) :
    (V m c main_v10 : Vec Ideal S8192x9216 .bf16) (ix2 ⟨4096 * B.val + t.val, by omega⟩ ⟨4096 + k.val, by omega⟩) = uIn m c (ix3 B t ⟨k.val, by omega⟩) := by
  unfold_abbrev_sides
  after_reads_at
  change StableHlo.upto hostOps0 (fun b => m (c, b)) 3 (Proc.tc.devRef main_v2) _ = _
  after_reads_at
  exact congrArg (uIn m c) (ix3_congr (by show _ / 4096 = _; omega) (by show _ % 4096 = _; omega) rfl)

/-- A key. -/
theorem v10_key (c : Dev nD) (B : Fin 2) (t : Fin 4096) (k : Fin 1024) :
    (V m c main_v10 : Vec Ideal S8192x9216 .bf16) (ix2 ⟨4096 * B.val + t.val, by omega⟩ ⟨5120 + k.val, by omega⟩) = uIn m c (ix3 B t ⟨1024 + k.val, by omega⟩) := by
  unfold_abbrev_sides
  after_reads_at
  rw [dif_neg (by omega), dif_neg (by omega), dif_pos (by omega)]
  change StableHlo.upto hostOps0 (fun b => m (c, b)) 4 (Proc.tc.devRef main_v3) _ = _
  after_reads_at
  exact congrArg (uIn m c) (ix3_congr (by show _ / 4096 = _; omega) (by show _ % 4096 = _; omega) (by show 1024 + (5120 + k.val - 4096 - 1024) = 1024 + k.val; omega))

/-- A value, in the array of transposed value tiles. -/
theorem v17_value (c : Dev nD) (B : Fin 2) (n : Fin 16) (k : Fin 1024) (a : Fin 256) :
    (V m c main_v17 : Vec Ideal S2x2x16x1024x256 .bf16) (ix5 0 B n k a) = uIn m c (ix3 B (keyOf n a) ⟨2048 + k.val, by omega⟩) := by
  unfold_abbrev_sides
  after_reads_at
  exact congrArg (uIn m c) (ix3_congr (by show (_ : ℕ) / 4096 = B.val; omega) (by show (_ : ℕ) % 4096 = 256 * n.val + a.val; omega) rfl)

/-- The triangle of ones. -/
theorem v25_tri (c : Dev nD) (a a' : Fin 256) :
    (V m c main_v25 : Vec Ideal S256x256 .bf16) (ix2 a a') = (if a ≤ a' then 1 else 0 : EReal) := by
  unfold_abbrev_sides
  after_reads_at
  rw [WordCmp.cmpi_sge_ofNat (by have := a'.2; omega) (by have := a.2; omega)]
  by_cases h : a ≤ a'
  · rw [if_pos h, decide_eq_true (show a.val ≤ a'.val from h)]
    show (((BitVec.ofBool true).toNat : ℝ) : EReal) = 1
    simp
  · rw [if_neg h, decide_eq_false (show ¬ a.val ≤ a'.val from h)]
    show (((BitVec.ofBool false).toNat : ℝ) : EReal) = 0
    simp

/-! ## The blocks a grid point is given -/

/-- The batch of a grid point. -/
def batch (t : Fin (cfg0 (F := Ideal)).N) : Fin 2 := ⟨(grid0.coords t 0).val, (grid0.coords t 0).isLt⟩

theorem idx0 : ∀ t : Fin grid0.N, win0_0.index t = ![16 * (grid0.coords t 0).val + (grid0.coords t 1).val, 4] := by decide +kernel
theorem idx1 : ∀ t : Fin grid0.N, win0_1.index t = ![(grid0.coords t 0).val, 5] := by decide +kernel
theorem idx2 : ∀ t : Fin grid0.N, win0_2.index t = ![0, (grid0.coords t 0).val, 0, 0, 0] := by decide +kernel
theorem idx3 : ∀ t : Fin grid0.N, win0_3.index t = ![0, 0] := by decide +kernel
theorem idx4 : ∀ t : Fin grid0.N, win0_4.index t = ![(grid0.coords t 0).val * 16 + (grid0.coords t 1).val, 0] := by decide +kernel
theorem idx5 : ∀ t : Fin grid0.N, win0_5.index t = ![(grid0.coords t 0).val * 16 + (grid0.coords t 1).val, 0] := by decide +kernel
theorem idx6 : ∀ t : Fin grid0.N, win0_6.index t = ![(grid0.coords t 0).val * 16 + (grid0.coords t 1).val, 0] := by decide +kernel
theorem idx7 : ∀ t : Fin grid0.N, win0_7.index t = ![(grid0.coords t 0).val * 16 + (grid0.coords t 1).val, 0] := by decide +kernel
theorem idx8 : ∀ t : Fin grid0.N, win0_8.index t = ![(grid0.coords t 0).val * 16 + (grid0.coords t 1).val, 0] := by decide +kernel

theorem blk0 (c : Dev nD) (t : Fin (cfg0 (F := Ideal)).N) (b : Fin 256) (k : Fin 1024) :
    (iblk m c 0 t : Vec Ideal S256x1024 .bf16) (ix2 b k) = uIn m c (ix3 (batch t) (keyOf (here (grid0.coords t)) b) ⟨k.val, by omega⟩) := by
  rw [← v10_query m c]
  blk_ext [iblk, idx0 t]
  show (16 * (grid0.coords t 0).val + (grid0.coords t 1).val) * 256 + b.val = 4096 * (grid0.coords t 0).val + (256 * (grid0.coords t 1).val + b.val)
  omega

theorem blk1 (c : Dev nD) (t : Fin (cfg0 (F := Ideal)).N) (s : Fin 4096) (k : Fin 1024) :
    (iblk m c 1 t : Vec Ideal S4096x1024 .bf16) (ix2 s k) = uIn m c (ix3 (batch t) s ⟨1024 + k.val, by omega⟩) := by
  rw [← v10_key m c]
  blk_ext [iblk, idx1 t]
  show (grid0.coords t 0).val * 4096 + s.val = 4096 * (grid0.coords t 0).val + s.val
  omega

theorem blk2 (c : Dev nD) (t : Fin (cfg0 (F := Ideal)).N) (n : Fin 16) (k : Fin 1024) (a : Fin 256) :
    (iblk m c 2 t : Vec Ideal S1x1x16x1024x256 .bf16) (ix5 0 0 n k a) = uIn m c (ix3 (batch t) (keyOf n a) ⟨2048 + k.val, by omega⟩) := by
  rw [← v17_value m c]
  blk_ext [iblk, idx2 t]
  rfl

theorem blk3 (c : Dev nD) (t : Fin (cfg0 (F := Ideal)).N) (a a' : Fin 256) :
    (iblk m c 3 t : Vec Ideal S256x256 .bf16) (ix2 a a') = (if a ≤ a' then 1 else 0 : EReal) := by
  rw [← v25_tri m c]
  blk_ext [iblk, idx3 t]

end Cert.Proof.SB

end
-- ==== Proof.Value.Spec.lean ====
/- Stick-breaking attention over the reals, read off the projected array `u`; and a reversed cumulative sum as one. -/
module

public import proofs.«01_k».proof.Proof.Value.Math
public import Idealize.ShloMosaic.Lib.Claim
public import Idealize.ShloMosaic.Lib.Pointwise

@[expose] public section

noncomputable section

namespace Cert.Proof.SB

open Idealize.ShloMosaic Finset

/-- The projected array, a batch of rows. -/
abbrev Projected := (⟨3, ![2, 4096, 11344]⟩ : Shape).Idx → EReal

/-- Its entry at row `t` and column `k` of batch `B` (zero outside). -/
def entry (u : Projected) (B : Fin 2) (t k : ℕ) : EReal :=
  if h : t < 4096 ∧ k < 11344 then u (ix3 B ⟨t, h.1⟩ ⟨k, h.2⟩) else 0

/-- The queries and the keys, the first 2048 columns, are real numbers. -/
def Real2048 (u : Projected) : Prop := ∀ (B : Fin 2) (t : Fin 4096) (k : Fin 2048), u (ix3 B t ⟨k.val, by omega⟩) ≠ ⊤ ∧ u (ix3 B t ⟨k.val, by omega⟩) ≠ ⊥

/-- Head `h`'s logit of query `t` and key `s`: their product, by the float nearest to `128 ^ (-1/2)`. -/
def logit (u : Projected) (B : Fin 2) (h : Fin 8) (t s : ℕ) : ℝ :=
  (∑ d : Fin 128, (entry u B t (128 * h.val + d.val)).toReal * (entry u B s (1024 + (128 * h.val + d.val))).toReal) * (11863283 / 134217728)

/-- The same in base 2. -/
def logit2 (u : Projected) (B : Fin 2) (h : Fin 8) (t s : ℕ) : ℝ := logit u B h t s * (Real.log 2)⁻¹

/-- Lane `e` of head `h`'s value at key `s`. -/
def value (u : Projected) (B : Fin 2) (h : Fin 8) (e : Fin 128) (s : ℕ) : EReal := entry u B s (2048 + (128 * h.val + e.val))

theorem entry_eq (u : Projected) (B : Fin 2) (t : Fin 4096) (k : Fin 11344) : u (ix3 B t k) = entry u B t.val k.val := by
  rw [entry, dif_pos ⟨t.isLt, k.isLt⟩]

theorem Real2048.coe {u : Projected} (hu : Real2048 u) (B : Fin 2) (t k : ℕ) (ht : t < 4096) (hk : k < 2048) :
    entry u B t k = ((entry u B t k).toReal : EReal) := by
  have := hu B ⟨t, ht⟩ ⟨k, hk⟩
  rw [entry, dif_pos ⟨ht, by omega⟩]
  exact (EReal.coe_toReal this.1 this.2).symm

/-- The softplus. -/
def sp (z : ℝ) : ℝ := max z 0 + Real.log (1 + Real.exp (-|z|))

/-- The reference's weight is the kernel's: breaking the stick in base e and in base 2 is the same. -/
theorem weight_exp (z : ℕ → ℕ → ℝ) (t s : ℕ) (h : s < t) :
    Real.exp (-sp (-z t s) + ((∑ r ∈ Ico s 4096, if r < t then -sp (z t r) else 0) - (-sp (z t s))))
      = weight (fun t s => z t s * (Real.log 2)⁻¹) t s := by
  have hc : cost (fun t s => z t s * (Real.log 2)⁻¹) t s = -(∑ r ∈ Ico s 4096, if r < t then -sp (z t r) else 0) * (Real.log 2)⁻¹ := by
    rw [cost, ← Finset.sum_neg_distrib, Finset.sum_mul]
    refine Finset.sum_congr rfl fun r _ => ?_
    rw [ell]
    split
    · rw [sp2_eq, sp]; ring
    · ring
  rw [weight, if_pos h, hc, ← sub_mul, two_rpow]
  congr 1
  have := sp_neg (z t s)
  simp only [sp]
  rw [this]; ring

/-- A left fold by addition is a sum. -/
theorem foldl_sum {n : ℕ} (f : Fin n → EReal) (a : EReal) : (List.finRange n).foldl (fun r k => r + f k) a = a + ∑ k, f k := by
  rw [← List.sum_ofFn, List.ofFn_eq_map]
  generalize List.finRange n = l
  induction l generalizing a with
  | nil => simp
  | cons x l ih => simp only [List.foldl_cons, List.map_cons, List.sum_cons]; rw [ih, add_assoc]

/-- The reversed cumulative sum along the last axis: entry `s` holds the sum of the entries from `s` on. -/
theorem cumsum_from (x : FVec Ideal ⟨4, ![2, 8, 4096, 4096]⟩ .f32) (init : FVec Ideal ⟨0, ![]⟩ .f32) (hinit : ∀ i, init i = 0)
    (h : (⟨4, ![2, 8, 4096, 4096]⟩ : Shape).ReduceWindows ![1, 1, 1, 4096] ![1, 1, 1, 1] ![0, 0, 0, 0] ![0, 0, 0, 4095] ⟨4, ![2, 8, 4096, 4096]⟩)
    (hu : 0 < (⟨0, ![]⟩ : Shape).numel) (B : Fin 2) (hd : Fin 8) (t s : Fin 4096) (f : ℕ → EReal)
    (hf : ∀ r : Fin 4096, x (ix4 B hd t r) = f r.val) :
    Host.reduceWindowAdd (s := ⟨4, ![2, 8, 4096, 4096]⟩) ![1, 1, 1, 4096] ![1, 1, 1, 1] ![0, 0, 0, 0] ![0, 0, 0, 4095] x init h hu (ix4 B hd t s)
      = ∑ r ∈ Ico s.val 4096, f r := by
  unfold Host.reduceWindowAdd
  rw [Ideal.hostReduceWindowAdd_def, Ideal.hostReduceWindowAdd, Host.reduceWindow]
  dsimp only
  rw [foldl_sum, hinit, zero_add]
  refine (Finset.sum_congr rfl fun k _ => dite_congr (Eq.refl _) (fun _ => Eq.refl _) fun _ => Eq.refl _).trans ?_
  refine (Equiv.sum_comp (Shape.rowMajor ⟨4, ![1, 1, 1, 4096]⟩).symm (fun w : (⟨4, ![1, 1, 1, 4096]⟩ : Shape).Idx =>
    if hin : ∀ a : Fin 4, (![0, 0, 0, 0] : Fin 4 → ℕ) a ≤ (ix4 B hd t s a).val * (![1, 1, 1, 1] : Fin 4 → ℕ) a + (w a).val
        ∧ (ix4 B hd t s a).val * (![1, 1, 1, 1] : Fin 4 → ℕ) a + (w a).val - (![0, 0, 0, 0] : Fin 4 → ℕ) a < (![2, 8, 4096, 4096] : Fin 4 → ℕ) a
    then x (fun a => ⟨_, (hin a).2⟩) else (0 : EReal))).trans ?_
  rw [sum_idx4]
  simp only [Fin.sum_univ_one, Finset.univ_unique, Finset.sum_singleton]
  have key : ∀ k : Fin 4096, (if hin : ∀ a : Fin 4, (![0, 0, 0, 0] : Fin 4 → ℕ) a ≤ (ix4 B hd t s a).val * (![1, 1, 1, 1] : Fin 4 → ℕ) a + ((ix4 (0 : Fin 1) (0 : Fin 1) (0 : Fin 1) k : (⟨4, ![1, 1, 1, 4096]⟩ : Shape).Idx) a).val
        ∧ (ix4 B hd t s a).val * (![1, 1, 1, 1] : Fin 4 → ℕ) a + ((ix4 (0 : Fin 1) (0 : Fin 1) (0 : Fin 1) k : (⟨4, ![1, 1, 1, 4096]⟩ : Shape).Idx) a).val - (![0, 0, 0, 0] : Fin 4 → ℕ) a < (![2, 8, 4096, 4096] : Fin 4 → ℕ) a
      then x (fun a => ⟨_, (hin a).2⟩) else (0 : EReal)) = if s.val + k.val < 4096 then f (s.val + k.val) else 0 := by
    intro k
    by_cases hk : s.val + k.val < 4096
    · rw [if_pos hk, dif_pos]
      · refine (congrArg x (funext fun a => Fin.ext ?_)).trans (hf ⟨s.val + k.val, hk⟩)
        match a with
        | ⟨0, _⟩ => show B.val * 1 + 0 - 0 = B.val; omega
        | ⟨1, _⟩ => show hd.val * 1 + 0 - 0 = hd.val; omega
        | ⟨2, _⟩ => show t.val * 1 + 0 - 0 = t.val; omega
        | ⟨3, _⟩ => show s.val * 1 + k.val - 0 = s.val + k.val; omega
      · intro a
        match a with
        | ⟨0, _⟩ => show 0 ≤ B.val * 1 + 0 ∧ B.val * 1 + 0 - 0 < 2; omega
        | ⟨1, _⟩ => show 0 ≤ hd.val * 1 + 0 ∧ hd.val * 1 + 0 - 0 < 8; omega
        | ⟨2, _⟩ => show 0 ≤ t.val * 1 + 0 ∧ t.val * 1 + 0 - 0 < 4096; omega
        | ⟨3, _⟩ => show 0 ≤ s.val * 1 + k.val ∧ s.val * 1 + k.val - 0 < 4096; omega
    · rw [if_neg hk, dif_neg]
      intro hin
      have h3 : 0 ≤ s.val * 1 + k.val ∧ s.val * 1 + k.val - 0 < 4096 := hin 3
      omega
  refine (Finset.sum_congr rfl fun k _ => key k).trans ?_
  rw [Finset.sum_fin_eq_sum_range, Finset.sum_Ico_eq_sum_range]
  have hs := s.isLt
  rw [← Finset.sum_subset (Finset.range_subset_range.2 (show 4096 - s.val ≤ 4096 by omega))]
  · refine Finset.sum_congr rfl fun k hk => ?_
    have := Finset.mem_range.1 hk
    rw [dif_pos (show k < 4096 by omega), if_pos (show s.val + k < 4096 by omega)]
  · intro k hk hn
    have := Finset.mem_range.1 hk
    have h2 : ¬ k < 4096 - s.val := fun h => hn (Finset.mem_range.2 h)
    rw [dif_pos this, if_neg (show ¬ s.val + k < 4096 by omega)]

end Cert.Proof.SB

end
-- ==== Proof.Value.Final.lean ====
/- The arrays the kernel leaves: the attention of every row, and the five rounded weights. -/
module

public import proofs.«01_k».proof.Proof.Value.Host
public import proofs.«01_k».proof.Proof.Value.Spec

@[expose] public section

set_option maxRecDepth 16384

noncomputable section

namespace Cert.Proof.SB

open Cert.KernelIdeal Cert.KernelIdeal.Gen
open Idealize.ShloMosaic Idealize.ShloMosaic.TcCoe
open Idealize.SL.Sem
open Idealize.ShloMosaic.Pipeline (Dat Cfg Window)

variable (m : (ℓ : Loc nD τ sig) → Buf (Elt Ideal) ℓ)

/-- The kernel's logits, their scale folded into the queries, are the reference's in base 2. -/
theorem logits_fold (u : Projected) (hu : Real2048 u) (B : Fin 2) (h : Fin 8) (t s : Fin 4096) :
    ∑ d : Fin 128, u (ix3 B s ⟨1024 + (colOf h d).val, by omega⟩) * (u (ix3 B t ⟨(colOf h d).val, by omega⟩) * (((11863283 / 134217728) * (Real.log 2)⁻¹ : ℝ) : EReal))
      = (logit2 u B h t.val s.val : EReal) := by
  rw [logit2, logit, mul_assoc, Finset.sum_mul, coe_sum]
  refine Finset.sum_congr rfl fun d _ => ?_
  rw [EReal.coe_mul (_ * _), EReal.coe_mul (entry u B t.val _).toReal, ← hu.coe B t.val _ t.isLt (by omega), ← hu.coe B s.val _ s.isLt (by omega)]
  refine Eq.trans (congrArg₂ (fun x y : EReal => x * (y * (((11863283 / 134217728) * (Real.log 2)⁻¹ : ℝ) : EReal)))
    (entry_eq u B s ⟨1024 + (colOf h d).val, by omega⟩) (entry_eq u B t ⟨(colOf h d).val, by omega⟩)) ?_
  show entry u B s.val (1024 + (128 * h.val + d.val)) * (entry u B t.val (128 * h.val + d.val) * _) = _
  rw [← mul_assoc, mul_comm (entry u B s.val _)]

/-- What a grid point writes of the attention. -/
theorem point_attention (c : Dev nD) (hu : Real2048 (uIn m c)) (t : Fin (cfg0 (F := Ideal)).N) (h : Fin 8) (b : Fin 256) (e : Fin 128) :
    (outsAt m c t).1 (ix2 b (colOf h e))
      = total (logit2 (uIn m c) (batch t) h) (value (uIn m c) (batch t) h e) (keyOf (here (grid0.coords t)) b).val 0 := by
  unfold outsAt
  refine (outs_attention c (grid0.coords t) _ _ _ _ _ _ _ _ _ _ _ _ _ _ _ _ _ _ _ _ _ _ _ _ _ _ _ _ _ _ _ _ _ _ _ _ _ _ _ _ _ _ _ _ _ _ _ _ _
    (logit2 (uIn m c) (batch t)) (fun n h a b => ?_) (fun a a' => blk3 m c t a a') h b e).trans ?_
  · refine Eq.trans (Finset.sum_congr rfl fun d _ => ?_) (logits_fold (uIn m c) hu (batch t) h (keyOf (here (grid0.coords t)) b) (keyOf n a))
    exact congrArg₂ (fun x y : EReal => x * (y * (((11863283 / 134217728) * (Real.log 2)⁻¹ : ℝ) : EReal))) (blk1 m c t _ _) (blk0 m c t _ _)
  · refine congrArg (fun v => total (logit2 (uIn m c) (batch t) h) v _ 0) (funext fun s => ?_)
    rw [vOf, value, entry]
    by_cases hs : s < 4096
    · rw [dif_pos hs, dif_pos ⟨hs, by omega⟩]
      refine (blk2 m c t _ _ _).trans (congrArg (uIn m c) (ix3_congr rfl ?_ rfl))
      show 256 * (s / 256) + s % 256 = s
      omega
    · rw [dif_neg hs, dif_neg fun h => hs h.1]

theorem idx9 : ∀ t : Fin grid0.N, win0_9.index t = ![16 * (grid0.coords t 0).val + (grid0.coords t 1).val, 0] := by decide +kernel
theorem idx10 : ∀ t : Fin grid0.N, win0_10.index t = ![(grid0.coords t 0).val * 16 + (grid0.coords t 1).val, 0] := by decide +kernel
theorem idx11 : ∀ t : Fin grid0.N, win0_11.index t = ![(grid0.coords t 0).val * 16 + (grid0.coords t 1).val, 0] := by decide +kernel
theorem idx12 : ∀ t : Fin grid0.N, win0_12.index t = ![(grid0.coords t 0).val * 16 + (grid0.coords t 1).val, 0] := by decide +kernel
theorem idx13 : ∀ t : Fin grid0.N, win0_13.index t = ![(grid0.coords t 0).val * 16 + (grid0.coords t 1).val, 0] := by decide +kernel
theorem idx14 : ∀ t : Fin grid0.N, win0_14.index t = ![(grid0.coords t 0).val * 16 + (grid0.coords t 1).val, 0] := by decide +kernel

/-- The attention at row `r`, lane `l`. -/
def attentionAt (u : Projected) (r : Fin 8192) (l : Fin 1024) : EReal :=
  total (logit2 u ⟨r.val / 4096, by omega⟩ ⟨l.val / 128, by omega⟩)
    (value u ⟨r.val / 4096, by omega⟩ ⟨l.val / 128, by omega⟩ ⟨l.val % 128, by omega⟩) (r.val % 4096) 0

/-- The attention of every row. -/
def attention (u : Projected) : (⟨2, ![8192, 1024]⟩ : Shape).Idx → EReal := fun i => attentionAt u (i 0) (i 1)

/-- The attention at a row of a batch and a lane of a head. -/
theorem attentionAt_eq (u : Projected) (B : Fin 2) (t : Fin 4096) (h : Fin 8) (e : Fin 128) (r : Fin 8192) (l : Fin 1024)
    (hr : r.val = 4096 * B.val + t.val) (hl : l.val = 128 * h.val + e.val) :
    attentionAt u r l = total (logit2 u B h) (value u B h e) t.val 0 := by
  have hB : (⟨r.val / 4096, by omega⟩ : Fin 2) = B := Fin.ext (by show r.val / 4096 = B.val; omega)
  have hh : (⟨l.val / 128, by omega⟩ : Fin 8) = h := Fin.ext (by show l.val / 128 = h.val; omega)
  have he : (⟨l.val % 128, by omega⟩ : Fin 128) = e := Fin.ext (by show l.val % 128 = e.val; omega)
  have ht : r.val % 4096 = t.val := by omega
  rw [attentionAt, hB, hh, he, ht]

/-- The same, at the rows and lanes of the whole array. -/
theorem point_block (c : Dev nD) (hu : Real2048 (uIn m c)) (t : Fin (cfg0 (F := Ideal)).N) (y : S256x1024.Idx) (r : Fin 8192) (l : Fin 1024)
    (hr : r.val = (16 * (grid0.coords t 0).val + (grid0.coords t 1).val) * 256 + (y 0).val) (hl : l.val = (y 1).val) :
    (outsAt m c t).1 y = attentionAt (uIn m c) r l := by
  obtain ⟨b, k, rfl⟩ : ∃ (b : Fin 256) (k : Fin 1024), y = ix2 b k := ⟨y 0, y 1, eq_ix2 y⟩
  have hk : k = colOf ⟨k.val / 128, by omega⟩ ⟨k.val % 128, by omega⟩ := Fin.ext (by show k.val = 128 * (k.val / 128) + k.val % 128; omega)
  rw [attentionAt_eq (uIn m c) (batch t) (keyOf (here (grid0.coords t)) b) ⟨k.val / 128, by omega⟩ ⟨k.val % 128, by omega⟩ r l
    (hr.trans (by show (16 * (grid0.coords t 0).val + (grid0.coords t 1).val) * 256 + b.val = 4096 * (grid0.coords t 0).val + (256 * (grid0.coords t 1).val + b.val); omega))
    (hl.trans (by show k.val = 128 * (k.val / 128) + k.val % 128; omega)), ← point_attention m c hu t, ← hk]

/-- The first array: the attention. -/
theorem final_attention (c : Dev nD) (hu : Real2048 (uIn m c)) : (dats m 0 c).arrAt 9 (cfg0 (F := Ideal)).N = attention (uIn m c) := by
  refine (dats m 0 c).arrAt_eq_of_covers 9 _ (by decide +kernel) fun t hf y => ?_
  blk_simp
  refine point_block m c hu t y _ _ ?_ ?_
  · blk_simp [idx9 t]
  · blk_simp [idx9 t]

/-- The rounded weight 1. -/
theorem final_rider1 (c : Dev nD) : (dats m 0 c).arrAt 10 (cfg0 (F := Ideal)).N = m ((c : Thread nD τ).loc main_arg1) := by
  refine (dats m 0 c).arrAt_eq_of_covers 10 _ (by decide +kernel) fun t hf y => ?_
  blk_simp
  refine (congrFun (outs_rider1 (x4 := iblk m c 4 t) ..) y : (outsAt m c t).2.1 y = iblk m c 4 t y).trans ?_
  refine (congrFun (V_arg m c main_arg1 (by simp [argRefs])) ((win0_4.blk t).view.emb y)).trans (congrArg (m ((c : Thread nD τ).loc main_arg1)) (funext fun a => Fin.ext ?_))
  blk_simp [idx4 t, idx10 t]

/-- The rounded weight 2. -/
theorem final_rider2 (c : Dev nD) : (dats m 0 c).arrAt 11 (cfg0 (F := Ideal)).N = m ((c : Thread nD τ).loc main_arg2) := by
  refine (dats m 0 c).arrAt_eq_of_covers 11 _ (by decide +kernel) fun t hf y => ?_
  blk_simp
  refine (congrFun (outs_rider2 (x5 := iblk m c 5 t) ..) y : (outsAt m c t).2.2.1 y = iblk m c 5 t y).trans ?_
  refine (congrFun (V_arg m c main_arg2 (by simp [argRefs])) ((win0_5.blk t).view.emb y)).trans (congrArg (m ((c : Thread nD τ).loc main_arg2)) (funext fun a => Fin.ext ?_))
  blk_simp [idx5 t, idx11 t]

/-- The rounded weight 3. -/
theorem final_rider3 (c : Dev nD) : (dats m 0 c).arrAt 12 (cfg0 (F := Ideal)).N = m ((c : Thread nD τ).loc main_arg3) := by
  refine (dats m 0 c).arrAt_eq_of_covers 12 _ (by decide +kernel) fun t hf y => ?_
  blk_simp
  refine (congrFun (outs_rider3 (x6 := iblk m c 6 t) ..) y : (outsAt m c t).2.2.2.1 y = iblk m c 6 t y).trans ?_
  refine (congrFun (V_arg m c main_arg3 (by simp [argRefs])) ((win0_6.blk t).view.emb y)).trans (congrArg (m ((c : Thread nD τ).loc main_arg3)) (funext fun a => Fin.ext ?_))
  blk_simp [idx6 t, idx12 t]

/-- The rounded weight 4. -/
theorem final_rider4 (c : Dev nD) : (dats m 0 c).arrAt 13 (cfg0 (F := Ideal)).N = m ((c : Thread nD τ).loc main_arg4) := by
  refine (dats m 0 c).arrAt_eq_of_covers 13 _ (by decide +kernel) fun t hf y => ?_
  blk_simp
  refine (congrFun (outs_rider4 (x7 := iblk m c 7 t) ..) y : (outsAt m c t).2.2.2.2.1 y = iblk m c 7 t y).trans ?_
  refine (congrFun (V_arg m c main_arg4 (by simp [argRefs])) ((win0_7.blk t).view.emb y)).trans (congrArg (m ((c : Thread nD τ).loc main_arg4)) (funext fun a => Fin.ext ?_))
  blk_simp [idx7 t, idx13 t]

/-- The rounded weight 5. -/
theorem final_rider5 (c : Dev nD) : (dats m 0 c).arrAt 14 (cfg0 (F := Ideal)).N = m ((c : Thread nD τ).loc main_arg5) := by
  refine (dats m 0 c).arrAt_eq_of_covers 14 _ (by decide +kernel) fun t hf y => ?_
  blk_simp
  refine (congrFun (outs_rider5 (x8 := iblk m c 8 t) ..) y : (outsAt m c t).2.2.2.2.2 y = iblk m c 8 t y).trans ?_
  refine (congrFun (V_arg m c main_arg5 (by simp [argRefs])) ((win0_8.blk t).view.emb y)).trans (congrArg (m ((c : Thread nD τ).loc main_arg5)) (funext fun a => Fin.ext ?_))
  blk_simp [idx8 t, idx14 t]

end Cert.Proof.SB

end
-- ==== Proof.Value.Ref.lean ====
/- The reference's attention: entry by entry the weighted values of the keys before each query. -/
module

public import proofs.«01_k».proof.Proof.Value.Spec
public import proofs.«01_k».proof.Proof.Gen.ReferenceIdeal.Run
public import Idealize.ShloMosaic.Lib.Pointwise
public import Idealize.ShloMosaic.Lib.WordCmp

@[expose] public section

set_option maxRecDepth 16384

noncomputable section

namespace Cert.Proof.SB.Ref

open Cert.ReferenceIdeal Cert.ReferenceIdeal.Gen Cert.ReferenceIdeal.Value
open Idealize.ShloMosaic Idealize.ShloMosaic.TcCoe
open Idealize.SL.Sem
open Cert.Proof.SB

/-- A score per batch, head, query and key. -/
abbrev Scores := FVec Ideal S2x8x4096x4096 .f32

/-- A constant at every place. -/
def const (w : BitVec 32) : Scores := broadcastInDim S2x8x4096x4096 ![] bcast_S_S2x8x4096x4096 (constant S_ .f32 w)

/-- The logits. -/
def scores (u : FVec Ideal S2x4096x11344 .f32) : Scores :=
  mulf (Host.dotGeneral dot_S2x4096x8x128_S2x4096x8x128_S2x8x4096x4096_3_3_1_1_02_02 none
    (shapeCast _ (extractStridedSlice S2x4096x1024 ![0, 0, 0] u slices_S2x4096x11344_S2x4096x1024_0_0_0) shapeCasts_S2x4096x1024_S2x4096x8x128)
    (shapeCast _ (extractStridedSlice S2x4096x1024 ![0, 0, 1024] u slices_S2x4096x11344_S2x4096x1024_0_0_1024) shapeCasts_S2x4096x1024_S2x4096x8x128))
    (const 0x3DB504F3#32)

/-- Where the key lies before the query. -/
def mask : IVec S2x8x4096x4096 1 :=
  broadcastInDim S2x8x4096x4096 ![2, 3] bcast_S4096x4096_S2x8x4096x4096_2_3
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- The softplus, as the host writes it. -/
def softplus (x : Scores) : Scores :=
  select (cmpf .une (subf x (const 0x00000000#32)) (subf x (const 0x00000000#32))) (addf x (const 0x00000000#32))
    (addf (maximumf x (const 0x00000000#32)) (Host.log1p (Host.exp (Host.negf (Host.absf (subf x (const 0x00000000#32)))))))

/-- The logarithms of what the keys before the query leave of the stick. -/
def keeps (z : Scores) : Scores := select mask (Host.negf (softplus (Host.negf (Host.negf z)))) (const 0x00000000#32)

/-- The weights, where `l` holds the logarithms `keeps` and `a` their sums from each key on. -/
def weights (z a l : Scores) : Scores :=
  select mask (Host.exp (addf (Host.negf (softplus (Host.negf z))) (subf a l))) (const 0x00000000#32)

/-- The sums from each key on. -/
def sums (l : Scores) : Scores :=
  Host.reduceWindowAdd ![1, 1, 1, 4096] ![1, 1, 1, 1] ![0, 0, 0, 0] ![0, 0, 0, 4095] l (constant S_ .f32 0x00000000#32)

/-- The values of the keys by the weights, laid out a row per query. -/
def attend (u : FVec Ideal S2x4096x11344 .f32) (w : Scores) : FVec Ideal S8192x1024 .bf16 :=
  truncf .bf16 (shapeCast _ (transpose S2x4096x8x128 [0, 3, 1, 2] (Host.dotGeneral dot_S2x4096x8x128_S2x8x4096x4096_S2x8x128x4096_1_3_3_2_02_01 none
    (shapeCast _ (extractStridedSlice S2x4096x1024 ![0, 0, 2048] u slices_S2x4096x11344_S2x4096x1024_0_0_2048) shapeCasts_S2x4096x1024_S2x4096x8x128) w)))
    bitsLt_bf16_f32

theorem result_eq (m : (ℓ : Loc nD τ sig) → Buf (Elt Ideal) ℓ) (c : Dev nD) :
    res_main_v27 m c = attend (m ((c.tc : Thread nD τ).loc main_arg0))
      (weights (scores (m ((c.tc : Thread nD τ).loc main_arg0))) (sums (keeps (scores (m ((c.tc : Thread nD τ).loc main_arg0)))))
        (keeps (scores (m ((c.tc : Thread nD τ).loc main_arg0))))) := by
  unfold res_main_v27
  rfl

/-! Entry by entry. -/

theorem mask_at (B : Fin 2) (h : Fin 8) (t s : Fin 4096) : mask (ix4 B h t s) = BitVec.ofBool (decide (s.val < t.val)) := by
  unfold mask
  pointwise []
  exact WordCmp.cmpi_slt_ofNat (by have := s.isLt; norm_num; omega) (by have := t.isLt; norm_num; omega)

theorem scale_bits : Ideal.ofBits .f32 0x3DB504F3#32 = ((11863283 / 134217728 : ℝ) : EReal) := by
  simp [Ideal.ofBits, Ideal.ieee, -EReal.coe_mul]
  norm_num

theorem scores_at (u : FVec Ideal S2x4096x11344 .f32) (hu : Real2048 u) (B : Fin 2) (h : Fin 8) (t s : Fin 4096) :
    scores u (ix4 B h t s) = (logit u B h t.val s.val : EReal) := by
  unfold scores const
  pointwise []
  rw [scale_bits, logit, EReal.coe_mul, coe_sum]
  congr 1
  refine Finset.sum_congr rfl fun d _ => ?_
  rw [EReal.coe_mul, ← hu.coe B t.val _ t.isLt (by omega), ← hu.coe B s.val _ s.isLt (by omega), Nat.mul_comm 128]
  exact congrArg₂ (· * ·) (entry_eq u B t ⟨h.val * 128 + d.val, by omega⟩) (entry_eq u B s ⟨1024 + (h.val * 128 + d.val), by omega⟩)

theorem softplus_at (x : Scores) (i : S2x8x4096x4096.Idx) (r : ℝ) (hr : x i = (r : EReal)) : softplus x i = (sp r : EReal) := by
  unfold softplus const
  pointwise []
  rw [if_neg (fun h => h rfl), hr]
  have h0 : max (r : EReal) 0 = ((max r 0 : ℝ) : EReal) := by rw [← EReal.coe_zero]; exact (EReal.coe_strictMono.monotone.map_max).symm
  have h1 : FloatOps.absf (F := Ideal) (φ := .f32) (r : EReal) = ((|r| : ℝ) : EReal) :=
    (congrArg (max (r : EReal)) (EReal.coe_neg r).symm).trans (EReal.coe_strictMono.monotone.map_max).symm
  have h2 : (0 : ℝ) < Real.exp (-|r|) := Real.exp_pos _
  rw [h0, h1, ← EReal.coe_neg, Ideal.exp_coe, Ideal.log1p, ← EReal.coe_one, ← EReal.coe_add, Ideal.log_coe, if_neg (by linarith), ← EReal.coe_add, sp]

theorem neg_at (x : Scores) (i : S2x8x4096x4096.Idx) : Host.negf x i = -x i := rfl

theorem zero_at (i : S2x8x4096x4096.Idx) : const 0x00000000#32 i = ((0 : ℝ) : EReal) := by
  unfold const
  pointwise []
  rfl

theorem keeps_at (u : FVec Ideal S2x4096x11344 .f32) (hu : Real2048 u) (B : Fin 2) (h : Fin 8) (t s : Fin 4096) :
    keeps (scores u) (ix4 B h t s) = ((if s.val < t.val then -sp (logit u B h t.val s.val) else 0 : ℝ) : EReal) := by
  have hz := scores_at u hu B h t s
  have hp := softplus_at (Host.negf (Host.negf (scores u))) (ix4 B h t s) (logit u B h t.val s.val) (by rw [neg_at, neg_at, hz, neg_neg])
  show Scalar.select (mask (ix4 B h t s)) _ _ = _
  rw [mask_at, neg_at, hp, zero_at]
  by_cases hs : s.val < t.val
  · rw [if_pos hs, decide_eq_true hs, EReal.coe_neg]; rfl
  · rw [if_neg hs, decide_eq_false hs]; rfl

theorem sums_at (u : FVec Ideal S2x4096x11344 .f32) (hu : Real2048 u) (B : Fin 2) (h : Fin 8) (t s : Fin 4096) :
    sums (keeps (scores u)) (ix4 B h t s)
      = ((∑ r ∈ Finset.Ico s.val 4096, if r < t.val then -sp (logit u B h t.val r) else 0 : ℝ) : EReal) := by
  rw [coe_sum]
  refine cumsum_from _ _ (fun i => ?_) _ _ B h t s (fun r => ((if r < t.val then -sp (logit u B h t.val r) else 0 : ℝ) : EReal)) (keeps_at u hu B h t)
  simp [constant]

theorem weights_at (u : FVec Ideal S2x4096x11344 .f32) (hu : Real2048 u) (B : Fin 2) (h : Fin 8) (t s : Fin 4096) :
    weights (scores u) (sums (keeps (scores u))) (keeps (scores u)) (ix4 B h t s) = (weight (logit2 u B h) t.val s.val : EReal) := by
  have hz := scores_at u hu B h t s
  have hp := softplus_at (Host.negf (scores u)) (ix4 B h t s) (-logit u B h t.val s.val) (by rw [neg_at, hz, EReal.coe_neg])
  show Scalar.select (mask (ix4 B h t s)) (Ideal.exp (Host.negf (softplus (Host.negf (scores u))) (ix4 B h t s)
    + (sums (keeps (scores u)) (ix4 B h t s) - keeps (scores u) (ix4 B h t s)))) _ = _
  rw [mask_at, neg_at, hp, zero_at, sums_at u hu, keeps_at u hu]
  by_cases hs : s.val < t.val
  · rw [if_pos hs, decide_eq_true hs, ← EReal.coe_neg, ← EReal.coe_sub, ← EReal.coe_add, Ideal.exp_coe,
      weight_exp (logit u B h) t.val s.val hs]
    rfl
  · have h0 : weight (logit2 u B h) t.val s.val = 0 := if_neg hs
    rw [h0, decide_eq_false hs]; rfl

theorem attend_at (u : FVec Ideal S2x4096x11344 .f32) (w : Scores) (B : Fin 2) (t : Fin 4096) (h : Fin 8) (e : Fin 128) :
    attend u w (ix2 ⟨4096 * B.val + t.val, by omega⟩ ⟨128 * h.val + e.val, by omega⟩)
      = ∑ s : Fin 4096, value u B h e s.val * w (ix4 B h t s) := by
  unfold attend
  pointwise []
  refine Finset.sum_congr rfl fun s _ => ?_
  rw [value, Nat.mul_comm 128]
  exact congrArg (· * w (ix4 B h t s)) (entry_eq u B s ⟨2048 + (h.val * 128 + e.val), by omega⟩)

/-- The reference's result: at query `t` of batch `B`, in lane `e` of head `h`, the weighted values of all the keys. -/
theorem result_at (m : (ℓ : Loc nD τ sig) → Buf (Elt Ideal) ℓ) (c : Dev nD) (hu : Real2048 (m ((c.tc : Thread nD τ).loc main_arg0)))
    (B : Fin 2) (t : Fin 4096) (h : Fin 8) (e : Fin 128) :
    res_main_v27 m c (ix2 ⟨4096 * B.val + t.val, by omega⟩ ⟨128 * h.val + e.val, by omega⟩)
      = total (logit2 (m ((c.tc : Thread nD τ).loc main_arg0)) B h) (value (m ((c.tc : Thread nD τ).loc main_arg0)) B h e) t.val 0 := by
  rw [result_eq]
  refine (attend_at _ _ B t h e).trans ?_
  rw [total, ← Finset.range_eq_Ico, Finset.sum_range]
  exact Finset.sum_congr rfl fun s _ => congrArg _ (weights_at _ hu B h t s)

end Cert.Proof.SB.Ref

end
-- ==== Proof.Value.Algebraic.lean ====
/- The idealized kernel and the reference leave the same arrays, wherever the queries and keys are real numbers. -/
module

public import proofs.«01_k».proof.Defs
public import proofs.«01_k».proof.Proof.Value.Final
public import proofs.«01_k».proof.Proof.Value.Ref
public import Idealize.ShloMosaic.Lib.Pointwise

@[expose] public section

set_option maxRecDepth 16384

noncomputable section

namespace Cert.Proof

open Idealize.ShloMosaic Idealize.ShloMosaic.TcCoe Idealize.SL.Sem

/-- The side conditions of the precondition's operations. -/
theorem facts_finite : Cert.Pre_finite.Facts where
  slices_S2x4096x11344_S2x4096x2048_0_0_0 := by decide
  bcast_S_S2x4096x2048 := by decide

attribute [local instance] facts_finite

/-- The precondition in plain terms. -/
theorem real_of_finite (u : FVec Ideal ⟨3, ![2, 4096, 11344]⟩ .f32) (a1 a2 : FVec Ideal ⟨2, ![1024, 2048]⟩ .f32) (a3 : FVec Ideal ⟨2, ![2048, 2048]⟩ .f32)
    (a4 : FVec Ideal ⟨2, ![2048, 512]⟩ .f32) (a5 : FVec Ideal ⟨2, ![512, 2048]⟩ .f32)
    (h : ∀ i, Cert.Pre_finite.fn u a1 a2 a3 a4 a5 i = 1#1) : SB.Real2048 u := by
  intro B t k
  have key : Cert.Pre_finite.fn u a1 a2 a3 a4 a5 (ix3 B t k)
      = IntOp.andi (FloatOps.cmpf .ogt (u (ix3 B t ⟨k.val, by omega⟩)) (Ideal.ofBits .f32 0xFF800000#32))
          (FloatOps.cmpf .olt (u (ix3 B t ⟨k.val, by omega⟩)) (Ideal.ofBits .f32 0x7F800000#32)) := by
    unfold Cert.Pre_finite.fn
    clean_types
    pointwise []
  have h1 := key.symm.trans (h (ix3 B t k))
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h1
  generalize u (ix3 B t ⟨k.val, by omega⟩) = x at h1 ⊢
  change IntOp.andi (Ideal.cmp .ogt x ⊥) (Ideal.cmp .olt x ⊤) = 1#1 at h1
  constructor <;> rintro rfl <;> revert h1 <;> simp [Ideal.cmp, IntOp.andi]

namespace SB

open Cert.KernelIdeal Cert.KernelIdeal.Gen

/-- The idealized kernel's run: the six arrays it leaves, its arguments unchanged. -/
theorem run_value (m : (ℓ : Loc nD τ sig) → Buf (Elt Ideal) ℓ) (ρ : Dev nD → PrngReg) (hu : ∀ c : Dev nD, Real2048 (uIn m c)) :
    θ_run defs (onTc (τ := τ) (main (F := Ideal))) ⟨m, fun _ => 0, ρ⟩ (fun r => ∀ c : Dev nD,
      r.2.mem ((c.tc : Thread nD τ).loc main_v26_0) = attention (uIn m c)
      ∧ r.2.mem ((c.tc : Thread nD τ).loc main_v26_1) = m ((c.tc : Thread nD τ).loc main_arg1)
      ∧ r.2.mem ((c.tc : Thread nD τ).loc main_v26_2) = m ((c.tc : Thread nD τ).loc main_arg2)
      ∧ r.2.mem ((c.tc : Thread nD τ).loc main_v26_3) = m ((c.tc : Thread nD τ).loc main_arg3)
      ∧ r.2.mem ((c.tc : Thread nD τ).loc main_v26_4) = m ((c.tc : Thread nD τ).loc main_arg4)
      ∧ r.2.mem ((c.tc : Thread nD τ).loc main_v26_5) = m ((c.tc : Thread nD τ).loc main_arg5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h c).1 9).trans (final_attention m c (hu c)), ((h c).1 10).trans (final_rider1 m c), ((h c).1 11).trans (final_rider2 m c),
      ((h c).1 12).trans (final_rider3 m c), ((h c).1 13).trans (final_rider4 m c), ((h c).1 14).trans (final_rider5 m c),
      ((h c).2 main_arg0 (Pipeline.mem_restRefs_of main_arg0 (by decide) arr_ne)).trans (V_arg m c main_arg0 (by decide)),
      ((h c).1 4).trans (((dats m 0 c).arrAt_in 4 rfl _).trans ((A_eq m c 4).trans (V_arg m c main_arg1 (by decide)))),
      ((h c).1 5).trans (((dats m 0 c).arrAt_in 5 rfl _).trans ((A_eq m c 5).trans (V_arg m c main_arg2 (by decide)))),
      ((h c).1 6).trans (((dats m 0 c).arrAt_in 6 rfl _).trans ((A_eq m c 6).trans (V_arg m c main_arg3 (by decide)))),
      ((h c).1 7).trans (((dats m 0 c).arrAt_in 7 rfl _).trans ((A_eq m c 7).trans (V_arg m c main_arg4 (by decide)))),
      ((h c).1 8).trans (((dats m 0 c).arrAt_in 8 rfl _).trans ((A_eq m c 8).trans (V_arg m c main_arg5 (by decide))))⟩) (run_main m ρ)

/-- The reference's first result, as one array. -/
theorem ref_attention (m : (ℓ : Loc Cert.ReferenceIdeal.nD Cert.ReferenceIdeal.τ Cert.ReferenceIdeal.sig) → Buf (Elt Ideal) ℓ) (c : Dev Cert.ReferenceIdeal.nD)
    (u : Projected) (he : m ((c.tc : Thread Cert.ReferenceIdeal.nD Cert.ReferenceIdeal.τ).loc Cert.ReferenceIdeal.main_arg0) = u) (hu : Real2048 u) :
    Cert.ReferenceIdeal.Value.res_main_v27 m c = attention u := by
  subst he
  refine funext fun y => ?_
  obtain ⟨r, l, rfl⟩ : ∃ (r : Fin 8192) (l : Fin 1024), y = ix2 r l := ⟨y 0, y 1, eq_ix2 y⟩
  have hr : r = ⟨4096 * (⟨r.val / 4096, by omega⟩ : Fin 2).val + (⟨r.val % 4096, by omega⟩ : Fin 4096).val, by show 4096 * (r.val / 4096) + r.val % 4096 < 8192; omega⟩ :=
    Fin.ext (by show r.val = 4096 * (r.val / 4096) + r.val % 4096; omega)
  have hl : l = ⟨128 * (⟨l.val / 128, by omega⟩ : Fin 8).val + (⟨l.val % 128, by omega⟩ : Fin 128).val, by show 128 * (l.val / 128) + l.val % 128 < 1024; omega⟩ :=
    Fin.ext (by show l.val = 128 * (l.val / 128) + l.val % 128; omega)
  exact (congrArg (Cert.ReferenceIdeal.Value.res_main_v27 m c) (congrArg₂ ix2 hr hl)).trans (Ref.result_at m c hu _ _ _ _)

end SB

/-- The claim: from arguments that agree, with real queries and keys, the two leave the same six arrays. -/
theorem algebraic [Cert.KernelIdeal.Facts] [Cert.ReferenceIdeal.Facts] : Cert.algebraic_KernelIdeal_ReferenceIdeal_pre_finite (hPre_finite := facts_finite) := fun m g m' g' hpre hm =>
  have hu : ∀ c : Dev Cert.KernelIdeal.nD, SB.Real2048 (SB.uIn m c) := fun c => real_of_finite _ _ _ _ _ _ (congrFun (hpre c))
  ⟨fun c => SB.attention (SB.uIn m c), _, _, _, _, _, SB.run_value m g hu,
    (θ_run Cert.ReferenceIdeal.defs _ _).mono (fun r h c => ⟨(h c).1.trans (SB.ref_attention m' c (SB.uIn m c) (hm c).1 (hu c)),
      (h c).2.1.trans (hm c).2.1, (h c).2.2.1.trans (hm c).2.2.1, (h c).2.2.2.1.trans (hm c).2.2.2.1, (h c).2.2.2.2.1.trans (hm c).2.2.2.2.1,
      (h c).2.2.2.2.2.1.trans (hm c).2.2.2.2.2, (h c).2.2.2.2.2.2⟩) (Cert.ReferenceIdeal.Value.run (F := Ideal) m' g')⟩

end Cert.Proof

end
-- ==== Proof.Rows.Down.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Adequacy
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.WholeRead
public import Idealize.ShloMosaic.Lib.Pointwise

@[expose] public section
set_option maxRecDepth 16384
noncomputable section
namespace Cert.Proof.Down

open Cert.Kernel3Ideal Cert.Kernel3Ideal.Gen
open Idealize.ShloMosaic Idealize.ShloMosaic.TcCoe
open Idealize.SL.Sem
open Idealize.ShloMosaic.Pipeline (Dat Cfg Window)

theorem hz : (![0, 0] : Fin 2 → ℕ) = fun _ => 0 := by funext a; fin_cases a <;> rfl

/-- The weights, as the first grid point copies them into the scratch: six blocks of rows. -/
def chunks (c : Dev nD) (f : HbBuf0 (F := Ideal) c hbM0_0) : List (View.Piece (Elt Ideal) S6144x2048 .bf16) :=
  [⟨Rect.unit ![5120, 0] S1024x2048.size inb_S6144x2048_S1024x2048_5120_0, kernelRun0_A.sl.dma0_5 c f⟩,
   ⟨Rect.unit ![4096, 0] S1024x2048.size inb_S6144x2048_S1024x2048_4096_0, kernelRun0_A.sl.dma0_4 c f⟩,
   ⟨Rect.unit ![3072, 0] S1024x2048.size inb_S6144x2048_S1024x2048_3072_0, kernelRun0_A.sl.dma0_3 c f⟩,
   ⟨Rect.unit ![2048, 0] S1024x2048.size inb_S6144x2048_S1024x2048_2048_0, kernelRun0_A.sl.dma0_2 c f⟩,
   ⟨Rect.unit ![1024, 0] S1024x2048.size inb_S6144x2048_S1024x2048_1024_0, kernelRun0_A.sl.dma0_1 c f⟩,
   ⟨Rect.unit ![0, 0] S1024x2048.size inb_S6144x2048_S1024x2048_0_0, kernelRun0_A.sl.dma0 c f⟩]

/-- Together they are the weights. -/
theorem canon_chunks (c : Dev nD) (f : HbBuf0 (F := Ideal) c hbM0_0) : View.canon (chunks c f) = (f : S6144x2048.Idx → EReal) := by
  refine funext fun y => ?_
  refine View.canon_append_of_piecesOf (f : S6144x2048.Idx → EReal) [] (chunks c f)
    ⟨fun x => rfl, fun x => rfl, fun x => rfl, fun x => rfl, fun x => rfl, fun x => rfl, trivial⟩ y ?_
  exact View.cover_of_tiledL (chunks c f) S1024x2048.size (by sl_kernel_rfl) y

/-- After the first grid point the scratch holds the weights. -/
theorem scratch_A (c : Dev nD) (i : grid0.Coords) (arg1 : Memref sig .tc .vmem S256x6144 .bf16) (harg1 : arg1.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S6144x2048 .bf16) (harg6 : arg6.IsWhole) (hc0 : cond0_0 i) (hc1 : ¬cond0_1 i)
    (x0 : Vec Ideal S256x6144 .bf16) (x1 : Vec Ideal S256x2048 .f32) (x2 : Vec Ideal S1x2048 .f32) (f : HbBuf0 (F := Ideal) c hbM0_0) :
    sout0_A_0 c i arg1 harg1 arg3 harg3 arg4 harg4 arg5 harg5 arg6 harg6 hc0 hc1 x0 x1 x2 f = (f : S6144x2048.Idx → EReal) := by
  unfold sout0_A_0
  rw [View.read_writes_junk_eq_canon]
  exact canon_chunks c f

/-- Row `b` of a block of inputs plus its products with the weights. -/
def fed (x : Vec Ideal S256x2048 .f32) (a : Vec Ideal S256x6144 .bf16) (w : Vec Ideal S6144x2048 .bf16) (b : Fin 256) (l : Fin 2048) : EReal :=
  x (ix2 b l) + ∑ k : Fin 6144, a (ix2 b k) * w (ix2 k l)

/-- The root-mean-square normalisation of a row, scaled lane by lane. -/
def normed (f : Fin 2048 → EReal) (g : Fin 2048 → EReal) (l : Fin 2048) : EReal :=
  f l * Ideal.rsqrt (Ideal.div (∑ k : Fin 2048, f k * f k) (Ideal.ofBits .f32 0x45000000#32) + Ideal.ofBits .f32 0x358637BD#32) * g l

/-- A later point's computation. -/
theorem pay2_at (x : Vec Ideal S256x2048 .f32) (a : Vec Ideal S256x6144 .bf16) (w : Vec Ideal S6144x2048 .bf16) (g : Vec Ideal S1x2048 .f32) (b : Fin 256) (l : Fin 2048) :
    k0_pay2 x a w g (ix2 b l) = normed (fed x a w b) (fun l => g (ix2 0 l)) l := by
  unfold normed fed
  pointwise [k0_pay2]

/-- The first point's last step, on the last block of columns. -/
theorem pay1_at (x : Vec Ideal S256x2048 .f32) (a : Vec Ideal S256x1024 .bf16) (w : Vec Ideal S1024x2048 .bf16) (g : Vec Ideal S1x2048 .f32) (b : Fin 256) (l : Fin 2048) :
    k0_pay1 x a w g (ix2 b l) = normed (fun l => x (ix2 b l) + ∑ k : Fin 1024, a (ix2 b k) * w (ix2 k l)) (fun l => g (ix2 0 l)) l := by
  unfold normed
  pointwise [k0_pay1]

/-- The later points' result. -/
theorem out_B (c : Dev nD) (i : grid0.Coords) (arg1 : Memref sig .tc .vmem S256x6144 .bf16) (harg1 : arg1.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S6144x2048 .bf16) (harg6 : arg6.IsWhole) (hc0 : ¬cond0_0 i) (hc1 : cond0_1 i)
    (x0 : Vec Ideal S256x6144 .bf16) (x1 : Vec Ideal S256x2048 .f32) (x2 : Vec Ideal S1x2048 .f32) (xs : Vec Ideal S6144x2048 .bf16) (f : HbBuf0 (F := Ideal) c hbM0_0) :
    out0_B_3 c i arg1 harg1 arg3 harg3 arg4 harg4 arg5 harg5 arg6 harg6 hc0 hc1 x0 x1 x2 xs f = k0_pay2 x1 x0 xs x2 := by
  unfold out0_B_3
  rw [View.read_writes_junk_eq_canon]
  unfold kernelRun0_B
  dsimp only
  sl_unfold_words
  rw [View.canon_unit_zero hz]
  simp only [View.readAt_eq_ld, harg1.read_unread, harg3.read_unread, harg4.read_unread, harg6.read_unread,
    View.ld_unit_zero (S := S256x2048) hz, View.ld_unit_zero (S := S256x6144) hz, View.ld_unit_zero (S := S6144x2048) hz, View.ld_unit_zero (S := S1x2048) hz]

/-- A block of columns of the inputs. -/
def cols (a : Vec Ideal S256x6144 .bf16) (q : Fin 6) : Vec Ideal S256x1024 .bf16 := fun y => a (ix2 (y 0) ⟨1024 * q.val + (y 1).val, by have := (y 1).isLt; simp at this; omega⟩)
/-- A block of rows of the weights. -/
def part (w : Vec Ideal S6144x2048 .bf16) (q : Fin 6) : Vec Ideal S1024x2048 .bf16 := fun y => w (ix2 ⟨1024 * q.val + (y 0).val, by have := (y 0).isLt; simp at this; omega⟩ (y 1))

theorem ld_cols (a : Vec Ideal S256x6144 .bf16) (q : Fin 6) (h : ∀ i, (![0, 1024 * q.val] : Fin 2 → ℕ) i + S256x1024.size i ≤ S256x6144.size i) :
    View.ld a (Rect.unit ![0, 1024 * q.val] S256x1024.size h) = cols a q := funext fun y =>
  congrArg a (funext fun i => Fin.ext (by
    fin_cases i
    · show 0 + 1 * (y 0).val = (y 0).val
      omega
    · show 1024 * q.val + 1 * (y 1).val = 1024 * q.val + (y 1).val
      omega))

theorem ld_part (w : Vec Ideal S6144x2048 .bf16) (q : Fin 6) (h : ∀ i, (![1024 * q.val, 0] : Fin 2 → ℕ) i + S1024x2048.size i ≤ S6144x2048.size i) :
    View.ld w (Rect.unit ![1024 * q.val, 0] S1024x2048.size h) = part w q := funext fun y =>
  congrArg w (funext fun i => Fin.ext (by
    fin_cases i
    · show 1024 * q.val + 1 * (y 0).val = 1024 * q.val + (y 0).val
      omega
    · show 0 + 1 * (y 1).val = (y 1).val
      omega))

/-- The first point's result: the same products, block of columns by block of columns. -/
theorem out_A (c : Dev nD) (i : grid0.Coords) (arg1 : Memref sig .tc .vmem S256x6144 .bf16) (harg1 : arg1.IsWhole) (arg3 : Memref sig .tc .vmem S256x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S6144x2048 .bf16) (harg6 : arg6.IsWhole) (hc0 : cond0_0 i) (hc1 : ¬cond0_1 i)
    (x0 : Vec Ideal S256x6144 .bf16) (x1 : Vec Ideal S256x2048 .f32) (x2 : Vec Ideal S1x2048 .f32) (f : HbBuf0 (F := Ideal) c hbM0_0) :
    out0_A_3 c i arg1 harg1 arg3 harg3 arg4 harg4 arg5 harg5 arg6 harg6 hc0 hc1 x0 x1 x2 f
      = k0_pay1 (k0_pay5 (k0_pay3 x1 (cols x0 0) (part f 0) (cols x0 1) (part f 1)) (k0_pay4 (cols x0 2)) (part f 2) (cols x0 3) (part f 3) (cols x0 4) (part f 4))
          (k0_pay6 (cols x0 5)) (part f 5) x2 := by
  have hw := canon_chunks c f
  unfold chunks at hw
  simp only [kernelRun0_A.sl.dma0_5, kernelRun0_A.sl.dma0_4, kernelRun0_A.sl.dma0_3, kernelRun0_A.sl.dma0_2, kernelRun0_A.sl.dma0_1, kernelRun0_A.sl.dma0] at hw
  unfold out0_A_3
  rw [View.read_writes_junk_eq_canon]
  unfold kernelRun0_A
  dsimp only
  sl_unfold_words
  rw [View.canon_unit_zero hz]
  simp only [View.readAt_eq_ld, harg1.read_unread, harg3.read_unread, harg4.read_unread, View.readCov_eq_canon', hw,
    View.ld_unit_zero (S := S256x2048) hz, View.ld_unit_zero (S := S1x2048) hz]
  have c0 : View.ld x0 (Rect.unit ![0, 0] ![256, 1024] inb_S256x6144_S256x1024_0_0) = cols x0 0 := ld_cols x0 0 _
  have c1 : View.ld x0 (Rect.unit ![0, 1024] ![256, 1024] inb_S256x6144_S256x1024_0_1024) = cols x0 1 := ld_cols x0 1 _
  have c2 : View.ld x0 (Rect.unit ![0, 2048] ![256, 1024] inb_S256x6144_S256x1024_0_2048) = cols x0 2 := ld_cols x0 2 _
  have c3 : View.ld x0 (Rect.unit ![0, 3072] ![256, 1024] inb_S256x6144_S256x1024_0_3072) = cols x0 3 := ld_cols x0 3 _
  have c4 : View.ld x0 (Rect.unit ![0, 4096] ![256, 1024] inb_S256x6144_S256x1024_0_4096) = cols x0 4 := ld_cols x0 4 _
  have c5 : View.ld x0 (Rect.unit ![0, 5120] ![256, 1024] inb_S256x6144_S256x1024_0_5120) = cols x0 5 := ld_cols x0 5 _
  have p0 : (fun j => f ((Rect.unit ![0, 0] ![1024, 2048] inb_S6144x2048_S1024x2048_0_0).idx j)) = part f 0 := ld_part f 0 _
  have p1 : (fun j => f ((Rect.unit ![1024, 0] ![1024, 2048] inb_S6144x2048_S1024x2048_1024_0).idx j)) = part f 1 := ld_part f 1 _
  have p2 : (fun j => f ((Rect.unit ![2048, 0] ![1024, 2048] inb_S6144x2048_S1024x2048_2048_0).idx j)) = part f 2 := ld_part f 2 _
  have p3 : (fun j => f ((Rect.unit ![3072, 0] ![1024, 2048] inb_S6144x2048_S1024x2048_3072_0).idx j)) = part f 3 := ld_part f 3 _
  have p4 : (fun j => f ((Rect.unit ![4096, 0] ![1024, 2048] inb_S6144x2048_S1024x2048_4096_0).idx j)) = part f 4 := ld_part f 4 _
  have p5 : (fun j => f ((Rect.unit ![5120, 0] ![1024, 2048] inb_S6144x2048_S1024x2048_5120_0).idx j)) = part f 5 := ld_part f 5 _
  rw [c0, c1, c2, c3, c4, c5, ← p0, ← p1, ← p2, ← p3, ← p4, ← p5]
  rfl

/-- A sum over all the columns, block by block. -/
theorem sum_blocks (f : Fin 6144 → EReal) :
    ∑ k : Fin 6144, f k = ∑ q : Fin 6, ∑ k : Fin 1024, f ⟨1024 * q.val + k.val, by omega⟩ := by
  rw [← Fintype.sum_prod_type' (fun (q : Fin 6) (k : Fin 1024) => f ⟨1024 * q.val + k.val, by omega⟩)]
  refine (Fintype.sum_equiv (finProdFinEquiv (m := 6) (n := 1024)) _ _ fun x => congrArg f (Fin.ext ?_)).symm
  show 1024 * x.1.val + x.2.val = x.2.val + 1024 * x.1.val
  omega

/-- The blocks of columns added one after another are all the columns. -/
theorem blocks_at (x : Vec Ideal S256x2048 .f32) (a : Vec Ideal S256x6144 .bf16) (w : Vec Ideal S6144x2048 .bf16) (b : Fin 256) (l : Fin 2048) :
    k0_pay5 (k0_pay3 x (cols a 0) (part w 0) (cols a 1) (part w 1)) (k0_pay4 (cols a 2)) (part w 2) (cols a 3) (part w 3) (cols a 4) (part w 4) (ix2 b l)
        + ∑ k : Fin 1024, k0_pay6 (cols a 5) (ix2 b k) * part w 5 (ix2 k l)
      = fed x a w b l := by
  unfold fed
  rw [sum_blocks]
  pointwise [k0_pay5, k0_pay3, k0_pay4, k0_pay6]
  simp only [Fin.sum_univ_six, add_assoc]
  rfl

/-! ## The arrays -/

variable (m : (ℓ : Loc nD τ sig) → Buf (Elt Ideal) ℓ)

/-- The activations. -/
abbrev actIn (c : Dev nD) : Vec Ideal S2x4096x6144 .f32 := m ((c : Thread nD τ).loc main_arg0)
/-- The weights. -/
abbrev wIn (c : Dev nD) : Vec Ideal S6144x2048 .f32 := m ((c : Thread nD τ).loc main_arg1)
/-- The layer's rows before the feed-forward. -/
abbrev xIn (c : Dev nD) : Vec Ideal S2x4096x2048 .f32 := m ((c : Thread nD τ).loc main_arg2)
/-- The scale of the normalisation. -/
abbrev gIn (c : Dev nD) : Vec Ideal S2048 .f32 := m ((c : Thread nD τ).loc main_arg3)

theorem v1_at (c : Dev nD) (r : Fin 8192) (k : Fin 6144) :
    (V m c main_v1 : Vec Ideal S8192x6144 .bf16) (ix2 r k) = actIn m c (ix3 ⟨r.val / 4096, by omega⟩ ⟨r.val % 4096, by omega⟩ k) := by
  unfold_abbrev_sides
  after_reads_at

theorem v2_eq (c : Dev nD) : (V m c main_v2 : Vec Ideal S6144x2048 .bf16) = wIn m c := by
  refine funext fun y => ?_
  obtain ⟨k, l, rfl⟩ : ∃ (k : Fin 6144) (l : Fin 2048), y = ix2 k l := ⟨y 0, y 1, eq_ix2 y⟩
  unfold_abbrev_sides
  after_reads_at

theorem v3_at (c : Dev nD) (r : Fin 8192) (k : Fin 2048) :
    (V m c main_v3 : Vec Ideal S8192x2048 .f32) (ix2 r k) = xIn m c (ix3 ⟨r.val / 4096, by omega⟩ ⟨r.val % 4096, by omega⟩ k) := by
  unfold_abbrev_sides
  after_reads_at

theorem v4_at (c : Dev nD) (k : Fin 2048) :
    (V m c main_v4 : Vec Ideal S1x2048 .f32) (ix2 0 k) = gIn m c (ix1 k) := by
  unfold_abbrev_sides
  after_reads_at

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![t.val, 0] := by decide +kernel

theorem point_lt (t : Fin cfg0.N) : t.val < 32 := t.isLt

theorem blk0 (c : Dev nD) (t : Fin cfg0.N) (b : Fin 256) (k : Fin 6144) (r : Fin 8192) (hr : r.val = 256 * t.val + b.val) :
    (iblk m c 0 t : Vec Ideal S256x6144 .bf16) (ix2 b k) = actIn m c (ix3 ⟨r.val / 4096, by omega⟩ ⟨r.val % 4096, by omega⟩ k) := by
  rw [← v1_at m c]
  have hb : 256 * t.val + b.val < 8192 := hr ▸ r.isLt
  obtain rfl : r = ⟨256 * t.val + b.val, hb⟩ := Fin.ext hr
  blk_ext [iblk, idx0 t]

theorem blk1 (c : Dev nD) (t : Fin cfg0.N) (b : Fin 256) (k : Fin 2048) (r : Fin 8192) (hr : r.val = 256 * t.val + b.val) :
    (iblk m c 1 t : Vec Ideal S256x2048 .f32) (ix2 b k) = xIn m c (ix3 ⟨r.val / 4096, by omega⟩ ⟨r.val % 4096, by omega⟩ k) := by
  rw [← v3_at m c]
  have hb : 256 * t.val + b.val < 8192 := hr ▸ r.isLt
  obtain rfl : r = ⟨256 * t.val + b.val, hb⟩ := Fin.ext hr
  blk_ext [iblk, idx1 t]

theorem blk2 (c : Dev nD) (t : Fin cfg0.N) (k : Fin 2048) :
    (iblk m c 2 t : Vec Ideal S1x2048 .f32) (ix2 0 k) = gIn m c (ix1 k) := by
  rw [← v4_at m c]
  blk_ext [iblk, idx2 t]

/-- The scratch holds the weights after every point. -/
theorem scratch_at (c : Dev nD) : ∀ (n : ℕ) (hn : n < cfg0.N), (outsAt0 m c n hn).2 = wIn m c
  | 0, hn => by
    rw [outsAt0_A m c ⟨0, hn⟩ rfl (by simp)]
    dsimp only
    rw [scratch_A]
    exact v2_eq m c
  | n + 1, hn => by
    have := point_lt ⟨n + 1, hn⟩
    rw [outsAt0_B m c ⟨n + 1, hn⟩ (by dsimp only at this ⊢; omega) (by simp)]
    exact Eq.trans (b := (outsAt0 m c n (Nat.lt_of_succ_lt hn)).2) rfl (scratch_at c n _)

/-- The layer's rows: the feed-forward's products added to its input, and normalised. -/
def result (act : Vec Ideal S2x4096x6144 .f32) (w : Vec Ideal S6144x2048 .f32) (x : Vec Ideal S2x4096x2048 .f32) (g : Vec Ideal S2048 .f32) : Vec Ideal S8192x2048 .f32 := fun y =>
  normed (fun l => x (ix3 ⟨(y 0).val / 4096, by have := (y 0).isLt; simp at this; omega⟩ ⟨(y 0).val % 4096, by omega⟩ l)
      + ∑ k : Fin 6144, act (ix3 ⟨(y 0).val / 4096, by have := (y 0).isLt; simp at this; omega⟩ ⟨(y 0).val % 4096, by omega⟩ k) * w (ix2 k l))
    (fun l => g (ix1 l)) (y 1)

/-- What a grid point stores, given its blocks. -/
theorem stored (c : Dev nD) (t : Fin cfg0.N) (b : Fin 256) (l : Fin 2048) :
    (outsAt0 m c t.val t.isLt).1 (ix2 b l) = normed (fed (iblk m c 1 t) (iblk m c 0 t) (wIn m c) b) (fun l => gIn m c (ix1 l)) l := by
  refine Eq.trans (b := normed (fed (iblk m c 1 t) (iblk m c 0 t) (wIn m c) b) (fun l => (iblk m c 2 t : Vec Ideal S1x2048 .f32) (ix2 0 l)) l) ?_
    (congrArg (fun g => normed _ g l) (funext fun l => blk2 m c t l))
  have ht := point_lt t
  by_cases h0 : t.val = 0
  · rw [outsAt0_A m c t (by omega) (by omega)]
    dsimp only
    rw [out_A, pay1_at]
    refine congrArg (fun f => normed f _ l) (funext fun l => (blocks_at _ _ _ b l).trans ?_)
    exact congrArg (fun w => fed (iblk m c 1 t) (iblk m c 0 t) w b l) (v2_eq m c)
  · rw [outsAt0_B m c t (by omega) (by omega)]
    dsimp only
    rw [out_B, pay2_at]
    exact congrArg (fun w => normed (fed (iblk m c 1 t) (iblk m c 0 t) w b) _ l) (scratch_at m c (t.val - 1) _)

/-- A grid point's block is its part of the layer's rows. -/
theorem point_block (c : Dev nD) (t : Fin cfg0.N) (y : S256x2048.Idx) (r : Fin 8192) (l : Fin 2048)
    (hr : r.val = t.val * 256 + (y 0).val) (hl : l.val = (y 1).val) :
    (outsAt0 m c t.val t.isLt).1 y = result (actIn m c) (wIn m c) (xIn m c) (gIn m c) (ix2 r l) := by
  obtain ⟨b, a, rfl⟩ : ∃ (b : Fin 256) (a : Fin 2048), y = ix2 b a := ⟨y 0, y 1, eq_ix2 y⟩
  replace hr : r.val = 256 * t.val + b.val := hr.trans (by show t.val * 256 + b.val = _; omega)
  obtain rfl : l = a := Fin.ext hl
  rw [stored, result]
  refine congrArg (fun f => normed f _ l) (funext fun l => ?_)
  exact congrArg₂ (· + ·) (blk1 m c t b l r hr) (Finset.sum_congr rfl fun k _ => congrArg (· * _) (blk0 m c t b k r hr))

/-- The kernel's result. -/
theorem final (c : Dev nD) : (dats m 0 c).arrAt 3 cfg0.N = result (actIn m c) (wIn m c) (xIn m c) (gIn m c) := by
  refine (dats m 0 c).arrAt_eq_of_covers 3 _ (by decide +kernel) fun t hf y => ?_
  blk_simp
  refine Eq.trans (b := (outsAt0 m c t.val t.isLt).1 y) ?_ ((point_block m c t y (((cfg0.win 3).blk t).view.emb y 0) (((cfg0.win 3).blk t).view.emb y 1) ?_ ?_).trans ?_)
  · exact congrFun (after0_3 m c t) y
  · blk_simp [idx3 t]
  · blk_simp [idx3 t]
  · exact congrArg (result (actIn m c) (wIn m c) (xIn m c) (gIn m c)) (eq_ix2 ((win0_3.blk t).view.emb y)).symm

/-! ## The reference -/

/-- The reference's products added to its rows. -/
def added (act : Vec Ideal S2x4096x6144 .f32) (w : Vec Ideal S6144x2048 .f32) (x : Vec Ideal S2x4096x2048 .f32) : Vec Ideal S2x4096x2048 .f32 :=
  addf (F := Ideal) (φ := .f32) x (Host.dotGeneral (F := Ideal) (φ₁ := .f32) (φ₂ := .f32) Cert.Reference3Ideal.dot_S2x4096x6144_S6144x2048_S2x4096x2048_2_0_01_1_n_n none act w)

/-- One over the root of the reference's mean square of each row. -/
def inverse (f : Vec Ideal S2x4096x2048 .f32) : Vec Ideal Cert.Reference3Ideal.S2x4096x1 .f32 :=
  Host.rsqrt (F := Ideal) (addf (F := Ideal) (φ := .f32) (Host.divf (F := Ideal) (φ := .f32) (broadcastInDim Cert.Reference3Ideal.S2x4096x1 ![0, 1] Cert.Reference3Ideal.Gen.bcast_S2x4096_S2x4096x1_0_1
      (Host.reduceAdd (F := Ideal) (mulf (F := Ideal) (φ := .f32) f f) (constant (F := Ideal) Cert.Reference3Ideal.S_ .f32 0x00000000#32) Cert.Reference3Ideal.Gen.reducesTo_S2x4096x2048_S2x4096_d2 Cert.Reference3Ideal.Gen.h_S_))
    (broadcastInDim Cert.Reference3Ideal.S2x4096x1 ![] Cert.Reference3Ideal.Gen.bcast_S_S2x4096x1 (constant (F := Ideal) Cert.Reference3Ideal.S_ .f32 0x45000000#32)))
    (broadcastInDim Cert.Reference3Ideal.S2x4096x1 ![] Cert.Reference3Ideal.Gen.bcast_S_S2x4096x1 (constant (F := Ideal) Cert.Reference3Ideal.S_ .f32 0x358637BD#32)))

/-- The reference's rows, normalised and scaled. -/
def scaled (f : Vec Ideal S2x4096x2048 .f32) (i : Vec Ideal Cert.Reference3Ideal.S2x4096x1 .f32) (g : Vec Ideal S2048 .f32) : Vec Ideal S8192x2048 .f32 :=
  shapeCast (s := Cert.Reference3Ideal.S2x4096x2048) _ (mulf (F := Ideal) (φ := .f32) (mulf (F := Ideal) (φ := .f32) f (broadcastInDim Cert.Reference3Ideal.S2x4096x2048 ![0, 1, 2] Cert.Reference3Ideal.Gen.bcast_S2x4096x1_S2x4096x2048_0_1_2 i))
    (broadcastInDim Cert.Reference3Ideal.S2x4096x2048 ![0, 1, 2] Cert.Reference3Ideal.Gen.bcast_S1x1x2048_S2x4096x2048_0_1_2
      (broadcastInDim Cert.Reference3Ideal.S1x1x2048 ![2] Cert.Reference3Ideal.Gen.bcast_S2048_S1x1x2048_2 g))) Cert.Reference3Ideal.Gen.shapeCasts_S2x4096x2048_S8192x2048

theorem added_at (act : Vec Ideal S2x4096x6144 .f32) (w : Vec Ideal S6144x2048 .f32) (x : Vec Ideal S2x4096x2048 .f32) (b : Fin 2) (s : Fin 4096) (l : Fin 2048) :
    added act w x (ix3 b s l) = x (ix3 b s l) + ∑ k : Fin 6144, act (ix3 b s k) * w (ix2 k l) := by
  pointwise [added]

theorem inverse_at (f : Vec Ideal S2x4096x2048 .f32) (b : Fin 2) (s : Fin 4096) :
    inverse f (ix3 b s 0) = Ideal.rsqrt (Ideal.div (∑ k : Fin 2048, f (ix3 b s k) * f (ix3 b s k)) (Ideal.ofBits .f32 0x45000000#32) + Ideal.ofBits .f32 0x358637BD#32) := by
  pointwise [inverse]

theorem scaled_at (f : Vec Ideal S2x4096x2048 .f32) (i : Vec Ideal Cert.Reference3Ideal.S2x4096x1 .f32) (g : Vec Ideal S2048 .f32) (r : Fin 8192) (l : Fin 2048) :
    scaled f i g (ix2 r l) = f (ix3 ⟨r.val / 4096, by omega⟩ ⟨r.val % 4096, by omega⟩ l) * i (ix3 ⟨r.val / 4096, by omega⟩ ⟨r.val % 4096, by omega⟩ 0) * g (ix1 l) := by
  pointwise [scaled]

/-- They are the layer's rows. -/
theorem value_eq (act : Vec Ideal S2x4096x6144 .f32) (w : Vec Ideal S6144x2048 .f32) (x : Vec Ideal S2x4096x2048 .f32) (g : Vec Ideal S2048 .f32) :
    scaled (added act w x) (inverse (added act w x)) g = result act w x g := by
  refine funext fun y => ?_
  obtain ⟨r, l, rfl⟩ : ∃ (r : Fin 8192) (l : Fin 2048), y = ix2 r l := ⟨y 0, y 1, eq_ix2 y⟩
  rw [scaled_at, inverse_at]
  simp only [added_at]
  rfl

end Cert.Proof.Down

namespace Cert.Proof

open Idealize.ShloMosaic Idealize.SL.Sem

/-- The down projection as compiled: every run ends, arguments unchanged, semaphores at zero. -/
theorem frame_p3 : Cert.quiescent_Kernel3 := fun m ρ _ => Cert.Kernel3.Gen.frame m ρ

/-- The idealized one: the same. -/
theorem frame_pi3 : Cert.quiescent_Kernel3Ideal := fun m ρ _ => Cert.Kernel3Ideal.Gen.frame m ρ

/-- Its reference: the same. -/
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference end with the same rows, from any arguments. -/
theorem algebraic3 : Cert.algebraic_Kernel3Ideal_Reference3Ideal := fun m g m' g' _ hm =>
  ⟨fun c => Down.result (Down.actIn m c) (Down.wIn m c) (Down.xIn m c) (Down.gIn m c),
    (θ_run Cert.Kernel3Ideal.defs _ _).mono (fun r h c => ⟨(h c).1.trans (Down.final m c), (h c).2⟩) (Cert.Kernel3Ideal.Value.run_blocks (F := Ideal) m g),
    (θ_run Cert.Reference3Ideal.defs _ _).mono (fun r h c => ⟨(h c).1.trans ((Down.value_eq _ _ _ _).trans (by
      rw [(hm c).1, (hm c).2.1, (hm c).2.2.1, (hm c).2.2.2])), (h c).2⟩) (Cert.Reference3Ideal.Value.run (F := Ideal) m' g')⟩

end Cert.Proof

end
-- ==== Proof.Rows.InProj.lean ====
/- The input projection: what the kernel of `in_proj_main` leaves, and that it is the reference's result. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Adequacy
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.WholeRead
public import Idealize.ShloMosaic.Lib.Pointwise

@[expose] public section

set_option maxRecDepth 16384

noncomputable section

namespace Cert.Proof.InProj

open Cert.Kernel4Ideal Cert.Kernel4Ideal.Gen
open Idealize.ShloMosaic Idealize.ShloMosaic.TcCoe
open Idealize.SL.Sem
open Idealize.ShloMosaic.Pipeline (Dat Cfg Window)

/-- The first column, among the input weights, of the kernel's column group `g`: four groups of gates, then the
    stick-breaking queries and keys, the sparse queries and keys, and the indexer's queries. -/
def start (g : ℕ) : ℕ :=
  if g < 4 then 7248 + 1024 * g else if g < 6 then 1024 * (g - 4) else if g < 8 then 3072 + 1024 * (g - 6) else 6144

theorem start_le (g : ℕ) : start g + 1024 ≤ 11344 := by unfold start; split_ifs <;> omega

theorem start_gate (l : ℕ) (h : l < 4096) : start (l / 1024) + l % 1024 = 7248 + l := by
  rw [start, if_pos (by omega)]; omega

theorem start_stick (l : ℕ) (h : 4096 ≤ l) (h' : l < 6144) : start (l / 1024) + l % 1024 = l - 4096 := by
  rw [start, if_neg (by omega), if_pos (by omega)]; omega

theorem start_sparse (l : ℕ) (h : 6144 ≤ l) (h' : l < 8192) : start (l / 1024) + l % 1024 = 3072 + (l - 6144) := by
  rw [start, if_neg (by omega), if_neg (by omega), if_pos (by omega)]; omega

theorem start_index (l : ℕ) (h : 8192 ≤ l) (h' : l < 9216) : start (l / 1024) + l % 1024 = 6144 + (l - 8192) := by
  rw [start, if_neg (by omega), if_neg (by omega), if_neg (by omega)]; omega

theorem hz : (![0, 0] : Fin 2 → ℕ) = fun _ => 0 := by funext a; fin_cases a <;> rfl

/-- The first grid point of a column group rounds the group's weights once. -/
theorem scratch_A (c : Dev nD) (i : grid0.Coords) (arg2 : Memref sig .tc .vmem S2048x2048 .bf16) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S1024x2048 .bf16) (harg5 : arg5.IsWhole) (hc0 : cond0_0 i)
    (x0 : Vec Ideal S2048x2048 .bf16) (x1 : Vec Ideal S1024x2048 .f32) :
    sout0_A_0 c i arg2 harg2 arg3 harg3 arg4 harg4 arg5 harg5 hc0 x0 x1 = k0_pay1 x1 := by
  unfold sout0_A_0
  rw [View.read_writes_eq_canon _ _ _ (scover0_A_0 c i arg2 harg2 arg3 harg3 arg4 harg4 arg5 harg5 hc0 x0 x1)]
  unfold kernelRun0_A
  dsimp only
  sl_unfold_words
  rw [View.canon_unit_zero hz]
  simp only [View.readAt_eq_ld, harg3.read_unread, View.ld_unit_zero (S := S1024x2048) hz]

/-- … and multiplies its block of rows by them. -/
theorem out_A (c : Dev nD) (i : grid0.Coords) (arg2 : Memref sig .tc .vmem S2048x2048 .bf16) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S1024x2048 .bf16) (harg5 : arg5.IsWhole) (hc0 : cond0_0 i)
    (x0 : Vec Ideal S2048x2048 .bf16) (x1 : Vec Ideal S1024x2048 .f32) :
    out0_A_2 c i arg2 harg2 arg3 harg3 arg4 harg4 arg5 harg5 hc0 x0 x1 = k0_pay2 x0 (k0_pay1 x1) := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_unit_zero hz]
  simp only [View.readCov_unit_zero (S := S1024x2048) _ hz, View.readAt_eq_ld, harg2.read_unread, harg3.read_unread,
    View.ld_unit_zero (S := S2048x2048) hz, View.ld_unit_zero (S := S1024x2048) hz]

/-- The later points of the group use the rounded weights the first one left. -/
theorem out_B (c : Dev nD) (i : grid0.Coords) (arg2 : Memref sig .tc .vmem S2048x2048 .bf16) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S1024x2048 .bf16) (harg5 : arg5.IsWhole) (hc0 : ¬cond0_0 i)
    (x0 : Vec Ideal S2048x2048 .bf16) (x1 : Vec Ideal S1024x2048 .f32) (xs : Vec Ideal S1024x2048 .bf16) :
    out0_B_2 c i arg2 harg2 arg3 harg3 arg4 harg4 arg5 harg5 hc0 x0 x1 xs = k0_pay2 x0 xs := by
  unfold out0_B_2
  rw [View.read_writes_eq_canon _ _ _ (cover0_B_2 c i arg2 harg2 arg3 harg3 arg4 harg4 arg5 harg5 hc0 x0 x1 xs)]
  unfold kernelRun0_B
  dsimp only
  sl_unfold_words
  rw [View.canon_unit_zero hz]
  simp only [View.readAt_eq_ld, harg2.read_unread, harg5.read_unread,
    View.ld_unit_zero (S := S2048x2048) hz, View.ld_unit_zero (S := S1024x2048) hz]

theorem pay1_at (x : Vec Ideal S1024x2048 .f32) (a : Fin 1024) (k : Fin 2048) : k0_pay1 x (ix2 a k) = x (ix2 a k) := by
  pointwise [k0_pay1]

theorem pay2_at (x : Vec Ideal S2048x2048 .bf16) (w : Vec Ideal S1024x2048 .bf16) (b : Fin 2048) (a : Fin 1024) :
    k0_pay2 x w (ix2 b a) = ∑ k : Fin 2048, x (ix2 b k) * w (ix2 a k) := by
  pointwise [k0_pay2]

variable (m : (ℓ : Loc nD τ sig) → Buf (Elt Ideal) ℓ)

/-- The normalised rows, as the program finds them. -/
abbrev hIn (c : Dev nD) : Vec Ideal S2x4096x2048 .f32 := m ((c : Thread nD τ).loc main_arg0)
/-- The input weights. -/
abbrev wIn (c : Dev nD) : Vec Ideal S2048x11344 .f32 := m ((c : Thread nD τ).loc main_arg1)
/-- The rounded rows, numbered over both sequences. -/
abbrev rowIn (c : Dev nD) : Vec Ideal S8192x2048 .bf16 := V m c main_v1

theorem v1_at (c : Dev nD) (r : Fin 8192) (k : Fin 2048) :
    (V m c main_v1 : Vec Ideal S8192x2048 .bf16) (ix2 r k) = hIn m c (ix3 ⟨r.val / 4096, by omega⟩ ⟨r.val % 4096, by omega⟩ k) := by
  unfold_abbrev_sides
  after_reads_at

theorem v2_at (c : Dev nD) (j : Fin 11344) (k : Fin 2048) :
    (V m c main_v2 : Vec Ideal S11344x2048 .f32) (ix2 j k) = wIn m c (ix2 k j) := by
  unfold_abbrev_sides
  after_reads_at

theorem coord : ∀ t : Fin grid0.N, (grid0.coords t 0).val = t.val / 4 ∧ (grid0.coords t 1).val = t.val % 4 := by decide +kernel
theorem idx0 : ∀ t : Fin grid0.N, win0_0.index t = ![t.val % 4, 0] := by decide +kernel
theorem idx1 : ∀ t : Fin grid0.N, win0_1.index t = ![start (t.val / 4), 0] := by decide +kernel
theorem idx2 : ∀ t : Fin grid0.N, win0_2.index t = ![t.val % 4, t.val / 4] := by decide +kernel

theorem blk0 (c : Dev nD) (t : Fin cfg0.N) (b : Fin 2048) (k : Fin 2048) :
    (iblk m c 0 t : Vec Ideal S2048x2048 .bf16) (ix2 b k)
      = (V m c main_v1 : Vec Ideal S8192x2048 .bf16) (ix2 ⟨2048 * (t.val % 4) + b.val, by omega⟩ k) := by
  blk_ext [iblk, idx0 t]

theorem blk1 (c : Dev nD) (t : Fin cfg0.N) (a : Fin 1024) (k : Fin 2048) :
    (iblk m c 1 t : Vec Ideal S1024x2048 .f32) (ix2 a k)
      = wIn m c (ix2 k ⟨start (t.val / 4) + a.val, by have := start_le (t.val / 4); omega⟩) := by
  rw [← v2_at m c]
  blk_ext [iblk, idx1 t]
  · show win0_1.index t 0 + 1 * a.val = _
    rw [idx1 t]
    simp
  · show win0_1.index t 1 + 1 * k.val = k.val
    rw [idx1 t]
    simp

/-- What a column group's points keep: after any of them, the scratch holds the group's weights. -/
theorem scratch_at (c : Dev nD) : ∀ (n : ℕ) (hn : n < cfg0.N) (a : Fin 1024) (k : Fin 2048),
    (outsAt0 m c n hn).2 (ix2 a k) = wIn m c (ix2 k ⟨start (n / 4) + a.val, by have := start_le (n / 4); omega⟩)
  | 0, hn, a, k => by
    rw [outsAt0_A m c ⟨0, hn⟩ rfl]
    dsimp only
    rw [scratch_A, pay1_at, blk1]
  | n + 1, hn, a, k => by
    by_cases h0 : (n + 1) % 4 = 0
    · rw [outsAt0_A m c ⟨n + 1, hn⟩ h0]
      dsimp only
      rw [scratch_A, pay1_at, blk1]
    · rw [outsAt0_B m c ⟨n + 1, hn⟩ h0]
      refine Eq.trans (b := (outsAt0 m c n (Nat.lt_of_succ_lt hn)).2 (ix2 a k)) rfl ((scratch_at c n _ a k).trans ?_)
      refine congrArg (fun j : Fin 11344 => wIn m c (ix2 k j)) (Fin.ext ?_)
      show start (n / 4) + a.val = start ((n + 1) / 4) + a.val
      rw [show (n + 1) / 4 = n / 4 by omega]

/-- The projected rows: row `r` of the two sequences against the column the kernel's order puts at `j`. -/
def projected (h : Vec Ideal S2x4096x2048 .f32) (w : Vec Ideal S2048x11344 .f32) : Vec Ideal S8192x9216 .bf16 := fun y =>
  ∑ k : Fin 2048, h (ix3 ⟨(y 0).val / 4096, by have := (y 0).isLt; simp at this; omega⟩ ⟨(y 0).val % 4096, by omega⟩ k)
    * w (ix2 k ⟨start ((y 1).val / 1024) + (y 1).val % 1024, by have := start_le ((y 1).val / 1024); omega⟩)

/-- What a grid point leaves in its block. -/
theorem out_at (c : Dev nD) (t : Fin cfg0.N) (b : Fin 2048) (a : Fin 1024) :
    (outsAt0 m c t.val t.isLt).1 (ix2 b a)
      = ∑ k : Fin 2048, rowIn m c (ix2 ⟨2048 * (t.val % 4) + b.val, by omega⟩ k)
          * wIn m c (ix2 k ⟨start (t.val / 4) + a.val, by have := start_le (t.val / 4); omega⟩) := by
  by_cases h0 : t.val % 4 = 0
  · rw [outsAt0_A m c t h0]
    dsimp only
    rw [out_A, pay2_at]
    exact Finset.sum_congr rfl fun k _ => congrArg₂ (· * ·) (blk0 m c t b k) ((pay1_at _ a k).trans (blk1 m c t a k))
  · rw [outsAt0_B m c t h0]
    dsimp only
    rw [out_B, pay2_at]
    refine Finset.sum_congr rfl fun k _ => ?_
    refine congrArg₂ (· * ·) (blk0 m c t b k) ((scratch_at m c (t.val - 1) _ a k).trans ?_)
    refine congrArg (fun j : Fin 11344 => wIn m c (ix2 k j)) (Fin.ext ?_)
    show start ((t.val - 1) / 4) + a.val = start (t.val / 4) + a.val
    rw [show (t.val - 1) / 4 = t.val / 4 by omega]

/-- A grid point's block is its part of the projected rows. -/
theorem point_block (c : Dev nD) (t : Fin cfg0.N) (y : S2048x1024.Idx) (r : Fin 8192) (l : Fin 9216)
    (hr : r.val = t.val % 4 * 2048 + (y 0).val) (hl : l.val = t.val / 4 * 1024 + (y 1).val) :
    (outsAt0 m c t.val t.isLt).1 y = projected (hIn m c) (wIn m c) (ix2 r l) := by
  obtain ⟨b, a, rfl⟩ : ∃ (b : Fin 2048) (a : Fin 1024), y = ix2 b a := ⟨y 0, y 1, eq_ix2 y⟩
  replace hr : r.val = t.val % 4 * 2048 + b.val := hr
  replace hl : l.val = t.val / 4 * 1024 + a.val := hl
  rw [out_at, projected]
  refine Finset.sum_congr rfl fun k _ => congrArg₂ (· * ·) ?_ ?_
  · refine (v1_at m c _ k).trans (congrArg (hIn m c) ?_)
    refine congrArg (fun q : Fin 8192 => (ix3 ⟨q.val / 4096, by omega⟩ ⟨q.val % 4096, by omega⟩ k : S2x4096x2048.Idx)) (Fin.ext ?_)
    show 2048 * (t.val % 4) + b.val = r.val
    omega
  · refine congrArg (fun j : Fin 11344 => wIn m c (ix2 k j)) (Fin.ext ?_)
    show start (t.val / 4) + a.val = start (l.val / 1024) + l.val % 1024
    rw [hl, show (t.val / 4 * 1024 + a.val) / 1024 = t.val / 4 by omega, show (t.val / 4 * 1024 + a.val) % 1024 = a.val by omega]

/-- The kernel's result. -/
theorem final (c : Dev nD) : (dats m 0 c).arrAt 2 cfg0.N = projected (hIn m c) (wIn m c) := by
  refine (dats m 0 c).arrAt_eq_of_covers 2 _ (by decide +kernel) fun t hf y => ?_
  blk_simp
  refine Eq.trans (b := (outsAt0 m c t.val t.isLt).1 y) ?_ ((point_block m c t y (((cfg0.win 2).blk t).view.emb y 0) (((cfg0.win 2).blk t).view.emb y 1) ?_ ?_).trans ?_)
  · exact congrFun (after0_2 m c t) y
  · blk_simp [idx2 t]
  · blk_simp [idx2 t]
  · exact congrArg (projected (hIn m c) (wIn m c)) (eq_ix2 ((win0_2.blk t).view.emb y)).symm

/-! ## The reference -/

/-- A row against a column depends on the column's number alone. -/
theorem column_eq (x : Vec Ideal S2x4096x2048 .f32) (w : Vec Ideal S2048x11344 .f32) (r : Fin 8192) (j j' : Fin 11344) (h : j.val = j'.val) :
    ∑ k : Fin 2048, x (ix3 ⟨r.val / 4096, by omega⟩ ⟨r.val % 4096, by omega⟩ k) * w (ix2 k j)
      = ∑ k : Fin 2048, x (ix3 ⟨r.val / 4096, by omega⟩ ⟨r.val % 4096, by omega⟩ k) * w (ix2 k j') := by
  rw [Fin.ext h]

/-- The reference's result is the projected rows. -/
theorem ref_value (m : (ℓ : Loc Cert.Reference4Ideal.nD Cert.Reference4Ideal.τ Cert.Reference4Ideal.sig) → Buf (Elt Ideal) ℓ) (ρ : Dev Cert.Reference4Ideal.nD → PrngReg) :
    θ_run Cert.Reference4Ideal.defs (onTc (τ := Cert.Reference4Ideal.τ) (Cert.Reference4Ideal.main (F := Ideal))) ⟨m, fun _ => 0, ρ⟩ (fun r => ∀ c : Dev Cert.Reference4Ideal.nD,
      r.2.mem ((c.tc : Thread Cert.Reference4Ideal.nD Cert.Reference4Ideal.τ).loc Cert.Reference4Ideal.main_v11)
          = projected (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)) := by
  refine (θ_run Cert.Reference4Ideal.defs _ _).mono (fun r h c => ⟨(h c).1.trans ?_, (h c).2⟩) (Cert.Reference4Ideal.Value.run (F := Ideal) m ρ)
  generalize m ((c.tc : Thread Cert.Reference4Ideal.nD Cert.Reference4Ideal.τ).loc Cert.Reference4Ideal.main_arg0) = x
  generalize m ((c.tc : Thread Cert.Reference4Ideal.nD Cert.Reference4Ideal.τ).loc Cert.Reference4Ideal.main_arg1) = w
  refine funext fun y => ?_
  obtain ⟨r, l, rfl⟩ : ∃ (r : Fin 8192) (l : Fin 9216), y = ix2 r l := ⟨y 0, y 1, eq_ix2 y⟩
  unfold projected
  pointwise []
  have hl := l.isLt
  by_cases h1 : l.val < 4096
  · rw [dif_pos h1]
    exact column_eq x w r _ _ (start_gate l.val h1).symm
  rw [dif_neg h1]
  by_cases h2 : l.val - 4096 < 1024
  · rw [dif_pos h2]
    exact column_eq x w r _ _ (start_stick l.val (by omega) (by omega)).symm
  rw [dif_neg h2]
  by_cases h3 : l.val - 4096 - 1024 < 1024
  · rw [dif_pos h3]
    exact column_eq x w r _ _ ((start_stick l.val (by omega) (by omega)).trans
      (show l.val - 4096 = 1024 + (l.val - 4096 - 1024) by omega)).symm
  rw [dif_neg h3]
  by_cases h4 : l.val - 4096 - 1024 - 1024 < 1024
  · rw [dif_pos h4]
    exact column_eq x w r _ _ ((start_sparse l.val (by omega) (by omega)).trans
      (show 3072 + (l.val - 6144) = 3072 + (l.val - 4096 - 1024 - 1024) by omega)).symm
  rw [dif_neg h4]
  by_cases h5 : l.val - 4096 - 1024 - 1024 - 1024 < 1024
  · rw [dif_pos h5]
    exact column_eq x w r _ _ ((start_sparse l.val (by omega) (by omega)).trans
      (show 3072 + (l.val - 6144) = 4096 + (l.val - 4096 - 1024 - 1024 - 1024) by omega)).symm
  · rw [dif_neg h5]
    exact column_eq x w r _ _ ((start_index l.val (by omega) (by omega)).trans
      (show 6144 + (l.val - 8192) = 6144 + (l.val - 4096 - 1024 - 1024 - 1024 - 1024) by omega)).symm

end Cert.Proof.InProj

namespace Cert.Proof

open Idealize.ShloMosaic Idealize.SL.Sem

/-- The input projection as compiled: every run ends, arguments unchanged, semaphores at zero. -/
theorem frame_p4 : Cert.quiescent_Kernel4 := fun m ρ _ => Cert.Kernel4.Gen.frame m ρ

/-- The idealized one: the same. -/
theorem frame_pi4 : Cert.quiescent_Kernel4Ideal := fun m ρ _ => Cert.Kernel4Ideal.Gen.frame m ρ

/-- Its reference: the same. -/
theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference end with the same projected rows, from any arguments. -/
theorem algebraic4 : Cert.algebraic_Kernel4Ideal_Reference4Ideal := fun m g m' g' _ hm =>
  ⟨fun c => InProj.projected (InProj.hIn m c) (InProj.wIn m c),
    (θ_run Cert.Kernel4Ideal.defs _ _).mono (fun r h c => ⟨(h c).1.trans (InProj.final m c), (h c).2⟩) (Cert.Kernel4Ideal.Value.run_blocks (F := Ideal) m g),
    (θ_run Cert.Reference4Ideal.defs _ _).mono (fun r h c => ⟨(h c).1.trans (congrArg₂ InProj.projected (hm c).1 (hm c).2), (h c).2⟩) (InProj.ref_value m' g')⟩

end Cert.Proof

end
-- ==== Proof.Rows.Merge.Body.lean ====
module

public import proofs.«01_k».proof.Proof.Gen.Kernel5Ideal.Value
public import Idealize.ShloMosaic.Adequacy
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.WholeRead
public import Idealize.ShloMosaic.Lib.Pointwise

/-! One grid point of the merge and cross-attention kernel: its two blocks of rows, element by element, from the blocks it reads. -/

@[expose] public section
set_option maxRecDepth 16384
noncomputable section
namespace Cert.Proof.Merge

open Cert.Kernel5Ideal Cert.Kernel5Ideal.Gen
open Idealize.ShloMosaic Idealize.ShloMosaic.TcCoe
open Idealize.SL.Sem
open Idealize.ShloMosaic.Pipeline (Dat Cfg Window)

/-- The root-mean-square normalisation of a row, scaled lane by lane. -/
def normed (f : Fin 2048 → EReal) (g : Fin 2048 → EReal) (l : Fin 2048) : EReal :=
  f l * Ideal.rsqrt (Ideal.div (∑ k : Fin 2048, f k * f k) (Ideal.ofBits .f32 0x45000000#32) + Ideal.ofBits .f32 0x358637BD#32) * g l

/-- The factor of the scores. -/
def scale : EReal := Ideal.ofBits .f32 0x3DB504F3#32

/-- A row of queries, scaled. -/
def queries (f g : Fin 2048 → EReal) (w : Fin 2048 → Fin 512 → EReal) (n : Fin 512) : EReal :=
  (∑ k : Fin 2048, normed f g k * w k n) * scale

/-- The greatest of a row of scores. -/
def top (lg : Fin 256 → EReal) : EReal := Finset.fold max (Ideal.ofBits .f32 0xFF800000#32) lg Finset.univ

/-- The values weighted by the exponentials of the scores, divided by the exponentials' sum. -/
def weigh (lg v : Fin 256 → EReal) : EReal :=
  Ideal.div (∑ j : Fin 256, Ideal.exp (lg j - top lg) * v j) (∑ j : Fin 256, Ideal.exp (lg j - top lg))

theorem pay4_at (a : Vec Ideal S512x1024 .bf16) (wa : Vec Ideal S1024x2048 .bf16) (d : Vec Ideal S512x1024 .bf16) (wd : Vec Ideal S1024x2048 .bf16)
    (ga : Vec Ideal S512x2048 .bf16) (ba : Vec Ideal S1x2048 .f32) (gd : Vec Ideal S512x2048 .bf16) (bd : Vec Ideal S1x2048 .f32) (wo : Vec Ideal S2048x2048 .bf16) (b : Fin 512) (l : Fin 2048) :
    k0_pay4 a wa d wd ga ba gd bd wo (ix2 b l) = ∑ j : Fin 2048,
      (Ideal.logistic (ga (ix2 b j) + ba (ix2 0 j)) * (∑ k : Fin 1024, a (ix2 b k) * wa (ix2 k j))
        + Ideal.logistic (gd (ix2 b j) + bd (ix2 0 j)) * (∑ k : Fin 1024, d (ix2 b k) * wd (ix2 k j))) * wo (ix2 j l) := by
  pointwise [k0_pay4]

theorem pay5_at (x p : FVec Ideal S512x2048 .f32) (b : Fin 512) (l : Fin 2048) : k0_pay5 x p (ix2 b l) = x (ix2 b l) + p (ix2 b l) := by
  pointwise [k0_pay5]

theorem pay6_at (x p : FVec Ideal S512x2048 .f32) (g : Vec Ideal S1x2048 .f32) (w : Vec Ideal S2048x512 .bf16) (b : Fin 512) (n : Fin 512) :
    (k0_pay6 x p g w (ix2 b n) : EReal) = queries (fun l => x (ix2 b l) + p (ix2 b l)) (fun l => g (ix2 0 l)) (fun k n => w (ix2 k n)) n := by
  unfold queries normed scale
  pointwise [k0_pay6, k0_pay5]

theorem pay9_at (q : FVec Ideal S512x128 .bf16) (k v : Vec Ideal S256x128 .bf16) (b : Fin 512) (n : Fin 128) :
    (k0_pay9 q k v (ix2 b n) : EReal) = weigh (fun j => ∑ d : Fin 128, q (ix2 b d) * k (ix2 j d)) (fun j => v (ix2 j n)) := by
  unfold weigh top
  pointwise [k0_pay9]

/-- The columns of head `h`. -/
def lane (h : Fin 4) (d : Fin 128) : Fin 512 := ⟨128 * h.val + d.val, by omega⟩

theorem pay7_at (x p : FVec Ideal S512x2048 .f32) (g : Vec Ideal S1x2048 .f32) (w : Vec Ideal S2048x512 .bf16) (k v : Vec Ideal S256x128 .bf16) (b : Fin 512) (n : Fin 128) :
    (k0_pay7 x p g w k v (ix2 b n) : EReal) = weigh (fun j => ∑ d : Fin 128, k0_pay6 x p g w (ix2 b (lane 0 d)) * k (ix2 j d)) (fun j => v (ix2 j n)) := by
  unfold weigh top lane
  generalize hq : k0_pay6 x p g w = q
  pointwise [k0_pay7, hq]

theorem pay8_at (x p : FVec Ideal S512x2048 .f32) (g : Vec Ideal S1x2048 .f32) (w : Vec Ideal S2048x512 .bf16) (b : Fin 512) (n : Fin 128) :
    k0_pay8 x p g w (ix2 b n) = k0_pay6 x p g w (ix2 b (lane 1 n)) := by
  unfold lane
  generalize hq : k0_pay6 x p g w = q
  pointwise [k0_pay8, hq]

theorem pay10_at (q : FVec Ideal S512x512 .bf16) (k v : Vec Ideal S256x128 .bf16) (b : Fin 512) (n : Fin 128) :
    (k0_pay10 q k v (ix2 b n) : EReal) = weigh (fun j => ∑ d : Fin 128, q (ix2 b (lane 2 d)) * k (ix2 j d)) (fun j => v (ix2 j n)) := by
  unfold weigh top lane
  pointwise [k0_pay10]

theorem pay11_at (q : FVec Ideal S512x512 .bf16) (k : Vec Ideal S256x128 .bf16) (b : Fin 512) (j : Fin 256) :
    k0_pay11 q k (ix2 b j) = ∑ d : Fin 128, q (ix2 b (lane 3 d)) * k (ix2 j d) := by
  unfold lane
  pointwise [k0_pay11]

theorem pay12_at (q : FVec Ideal S512x512 .bf16) (k : Vec Ideal S256x128 .bf16) (b : Fin 512) (j : Fin 256) :
    k0_pay12 q k (ix2 b j) = top (fun j => ∑ d : Fin 128, q (ix2 b (lane 3 d)) * k (ix2 j d)) := by
  unfold lane top
  pointwise [k0_pay12, k0_pay11]

/-- Four rows of 128 lanes, one after another. -/
def joined (h0 h1 h2 h3 : Fin 128 → EReal) (n : Fin 512) : EReal :=
  if h : n.val < 128 then h0 ⟨n.val, h⟩ else if h : n.val - 128 < 128 then h1 ⟨n.val - 128, h⟩
  else if h : n.val - 128 - 128 < 128 then h2 ⟨n.val - 128 - 128, h⟩ else h3 ⟨n.val - 128 - 128 - 128, by omega⟩

theorem pay1_at (x : FVec Ideal S512x2048 .f32) (h0 h1 h2 : FVec Ideal S512x128 .bf16) (lg mx : FVec Ideal S512x256 .f32) (v : Vec Ideal S256x128 .bf16) (w : Vec Ideal S512x2048 .bf16) (b : Fin 512) (l : Fin 2048) :
    k0_pay1 x h0 h1 h2 lg mx v w (ix2 b l) = x (ix2 b l) + ∑ n : Fin 512,
      joined (fun n => h0 (ix2 b n)) (fun n => h1 (ix2 b n)) (fun n => h2 (ix2 b n))
        (fun n => Ideal.div (∑ j : Fin 256, Ideal.exp (lg (ix2 b j) - mx (ix2 b j)) * v (ix2 j n)) (∑ j : Fin 256, Ideal.exp (lg (ix2 b j) - mx (ix2 b j)))) n * w (ix2 n l) := by
  pointwise [k0_pay1]
  rfl

theorem pay2_at (x : FVec Ideal S512x2048 .f32) (h0 h1 h2 : FVec Ideal S512x128 .bf16) (lg mx : FVec Ideal S512x256 .f32) (v : Vec Ideal S256x128 .bf16) (w : Vec Ideal S512x2048 .bf16) (g : Vec Ideal S1x2048 .f32) (b : Fin 512) (l : Fin 2048) :
    (k0_pay2 x h0 h1 h2 lg mx v w g (ix2 b l) : EReal) = normed (fun l => k0_pay1 x h0 h1 h2 lg mx v w (ix2 b l)) (fun l => g (ix2 0 l)) l := by
  unfold normed
  generalize hq : k0_pay1 x h0 h1 h2 lg mx v w = q
  pointwise [k0_pay2, hq]

/-- One head's output: head `n / 128`, lane `n`. -/
def head (q : Fin 512 → EReal) (k v : Fin 256 → Fin 512 → EReal) (n : Fin 512) : EReal :=
  weigh (fun j => ∑ d : Fin 128, q (lane ⟨n.val / 128, by omega⟩ d) * k j (lane ⟨n.val / 128, by omega⟩ d)) (fun j => v j n)

theorem joined_head (q : Fin 512 → EReal) (k v : Fin 256 → Fin 512 → EReal) :
    joined (fun d => weigh (fun j => ∑ d : Fin 128, q (lane 0 d) * k j (lane 0 d)) (fun j => v j (lane 0 d)))
      (fun d => weigh (fun j => ∑ d : Fin 128, q (lane 1 d) * k j (lane 1 d)) (fun j => v j (lane 1 d)))
      (fun d => weigh (fun j => ∑ d : Fin 128, q (lane 2 d) * k j (lane 2 d)) (fun j => v j (lane 2 d)))
      (fun d => weigh (fun j => ∑ d : Fin 128, q (lane 3 d) * k j (lane 3 d)) (fun j => v j (lane 3 d))) = head q k v := by
  have key : ∀ (h : Fin 4) (d : Fin 128) (n : Fin 512), n.val = 128 * h.val + d.val →
      weigh (fun j => ∑ d : Fin 128, q (lane h d) * k j (lane h d)) (fun j => v j (lane h d)) = head q k v n := by
    intro h d n e
    obtain rfl : n = lane h d := Fin.ext e
    unfold head
    obtain e : (⟨(lane h d).val / 128, by omega⟩ : Fin 4) = h := Fin.ext (by show (128 * h.val + d.val) / 128 = h.val; omega)
    rw [e]
  funext n
  have hn := n.isLt
  unfold joined
  split_ifs with h0 h1 h2
  · exact key 0 _ n (by show n.val = 128 * 0 + n.val; omega)
  · exact key 1 _ n (by show n.val = 128 * 1 + (n.val - 128); omega)
  · exact key 2 _ n (by show n.val = 128 * 2 + (n.val - 128 - 128); omega)
  · exact key 3 _ n (by show n.val = 128 * 3 + (n.val - 128 - 128 - 128); omega)

/-- The columns of a block that belong to a head. -/
def cut (a : Vec Ideal S256x512 .bf16) (h : Fin 4) : Vec Ideal S256x128 .bf16 := fun y => a (ix2 (y 0) (lane h (y 1)))

theorem ld_cut (a : Vec Ideal S256x512 .bf16) (h : Fin 4) (hb : ∀ i, (![0, 128 * h.val] : Fin 2 → ℕ) i + S256x128.size i ≤ S256x512.size i) :
    View.ld a (Rect.unit ![0, 128 * h.val] S256x128.size hb) = cut a h := funext fun y =>
  congrArg a (funext fun i => Fin.ext (by
    fin_cases i
    · show 0 + 1 * (y 0).val = (y 0).val
      omega
    · show 128 * h.val + 1 * (y 1).val = 128 * h.val + (y 1).val
      omega))

/-- The rows before the cross-attention. -/
def before (x0 x1 : Vec Ideal S512x1024 .bf16) (x2 x3 : Vec Ideal S1024x2048 .bf16) (x4 x5 : Vec Ideal S512x2048 .bf16) (x6 x7 : Vec Ideal S1x2048 .f32) (x8 : Vec Ideal S2048x2048 .bf16) : Vec Ideal S512x2048 .f32 :=
  k0_pay4 x0 x2 x1 x3 x4 x6 x5 x7 x8

/-- The four heads and the last projection, as the kernel takes them. -/
def after (x p : Vec Ideal S512x2048 .f32) (g : Vec Ideal S1x2048 .f32) (w : Vec Ideal S2048x512 .bf16) (k v : Vec Ideal S256x512 .bf16) (wo : Vec Ideal S512x2048 .bf16) : Vec Ideal S512x2048 .f32 :=
  k0_pay1 (k0_pay5 (k0_pay3 x) p) (k0_pay7 (k0_pay3 x) p g w (cut k 0) (cut v 0)) (k0_pay9 (k0_pay8 (k0_pay3 x) p g w) (cut k 1) (cut v 1))
    (k0_pay10 (k0_pay6 (k0_pay3 x) p g w) (cut k 2) (cut v 2)) (k0_pay11 (k0_pay6 (k0_pay3 x) p g w) (cut k 3)) (k0_pay12 (k0_pay6 (k0_pay3 x) p g w) (cut k 3)) (cut v 3) wo

theorem pay3_eq (x : Vec Ideal S512x2048 .f32) : k0_pay3 x = x := by
  refine funext fun y => ?_
  obtain ⟨b, l, rfl⟩ : ∃ (b : Fin 512) (l : Fin 2048), y = ix2 b l := ⟨y 0, y 1, eq_ix2 y⟩
  pointwise [k0_pay3]

theorem after_at (x p : Vec Ideal S512x2048 .f32) (g : Vec Ideal S1x2048 .f32) (w : Vec Ideal S2048x512 .bf16) (k v : Vec Ideal S256x512 .bf16) (wo : Vec Ideal S512x2048 .bf16) (b : Fin 512) (l : Fin 2048) :
    after x p g w k v wo (ix2 b l) = (x (ix2 b l) + p (ix2 b l)) + ∑ n : Fin 512,
      head (queries (fun l => x (ix2 b l) + p (ix2 b l)) (fun l => g (ix2 0 l)) (fun k n => w (ix2 k n))) (fun j n => k (ix2 j n)) (fun j n => v (ix2 j n)) n * wo (ix2 n l) := by
  unfold after
  rw [pay3_eq, pay1_at, pay5_at, ← joined_head]
  simp only [pay7_at, pay9_at, pay8_at, pay10_at, pay11_at, pay12_at, pay6_at]
  rfl

end Cert.Proof.Merge
end
-- ==== Proof.Rows.Merge.Out.lean ====
module

public import proofs.«01_k».proof.Proof.Rows.Merge.Body

/-! What a grid point leaves in its two output blocks, as one term over the blocks it reads. -/

@[expose] public section
set_option maxRecDepth 16384
noncomputable section
namespace Cert.Proof.Merge

open Cert.Kernel5Ideal Cert.Kernel5Ideal.Gen
open Idealize.ShloMosaic Idealize.ShloMosaic.TcCoe
open Idealize.SL.Sem
open Idealize.ShloMosaic.Pipeline (Dat Cfg Window)

theorem hz : (![0, 0] : Fin 2 → ℕ) = fun _ => 0 := by funext a; fin_cases a <;> rfl

theorem cut0 (a : Vec Ideal S256x512 .bf16) : View.ld a (Rect.unit ![0, 0] ![256, 128] inb_S256x512_S256x128_0_0) = cut a 0 := ld_cut a 0 _
theorem cut1 (a : Vec Ideal S256x512 .bf16) : View.ld a (Rect.unit ![0, 128] ![256, 128] inb_S256x512_S256x128_0_128) = cut a 1 := ld_cut a 1 _
theorem cut2 (a : Vec Ideal S256x512 .bf16) : View.ld a (Rect.unit ![0, 256] ![256, 128] inb_S256x512_S256x128_0_256) = cut a 2 := ld_cut a 2 _
theorem cut3 (a : Vec Ideal S256x512 .bf16) : View.ld a (Rect.unit ![0, 384] ![256, 128] inb_S256x512_S256x128_0_384) = cut a 3 := ld_cut a 3 _

variable (m : (ℓ : Loc nD τ sig) → Buf (Elt Ideal) ℓ)

/-- The gated branches, projected. -/
def held (c : Dev nD) (t : Fin cfg0.N) : Vec Ideal S512x2048 .f32 :=
  before (iblk m c 0 t) (iblk m c 1 t) (iblk m c 2 t) (iblk m c 3 t) (X0_4 m c t) (X0_5 m c t) (iblk m c 6 t) (iblk m c 7 t) (iblk m c 8 t)

/-- The rows the point stores. -/
def rows (c : Dev nD) (t : Fin cfg0.N) : Vec Ideal S512x2048 .f32 :=
  after (iblk m c 9 t) (held m c t)
    (iblk m c 10 t) (iblk m c 11 t) (iblk m c 12 t) (iblk m c 13 t) (iblk m c 14 t)

theorem outs_fst (c : Dev nD) (t : Fin cfg0.N) : (outsAt0 m c t).1 = rows m c t := by
  unfold outsAt0 rows after held before
  dsimp only
  unfold out0_A_16
  rw [View.read_writes_eq_canon _ _ _ (cover0_A_16 _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread, (hs0_10 t).read_unread, (hs0_11 t).read_unread, (hs0_12 t).read_unread,
    (hs0_13 t).read_unread, (hs0_14 t).read_unread, (hs0_15 t).read_unread,
    View.ld_unit_zero (S := S512x1024) hz, View.ld_unit_zero (S := S1024x2048) hz, View.ld_unit_zero (S := S512x2048) hz, View.ld_unit_zero (S := S1x2048) hz,
    View.ld_unit_zero (S := S2048x2048) hz, View.ld_unit_zero (S := S2048x512) hz, cut0, cut1, cut2, cut3]

/-- The normalised rows the point stores. -/
def stored (c : Dev nD) (t : Fin cfg0.N) : Vec Ideal S512x2048 .bf16 :=
  k0_pay2 (k0_pay5 (k0_pay3 (iblk m c 9 t)) (held m c t)) (k0_pay7 (k0_pay3 (iblk m c 9 t)) (held m c t) (iblk m c 10 t) (iblk m c 11 t) (cut (iblk m c 12 t) 0) (cut (iblk m c 13 t) 0))
    (k0_pay9 (k0_pay8 (k0_pay3 (iblk m c 9 t)) (held m c t) (iblk m c 10 t) (iblk m c 11 t)) (cut (iblk m c 12 t) 1) (cut (iblk m c 13 t) 1))
    (k0_pay10 (k0_pay6 (k0_pay3 (iblk m c 9 t)) (held m c t) (iblk m c 10 t) (iblk m c 11 t)) (cut (iblk m c 12 t) 2) (cut (iblk m c 13 t) 2))
    (k0_pay11 (k0_pay6 (k0_pay3 (iblk m c 9 t)) (held m c t) (iblk m c 10 t) (iblk m c 11 t)) (cut (iblk m c 12 t) 3)) (k0_pay12 (k0_pay6 (k0_pay3 (iblk m c 9 t)) (held m c t) (iblk m c 10 t) (iblk m c 11 t)) (cut (iblk m c 12 t) 3))
    (cut (iblk m c 13 t) 3) (iblk m c 14 t) (iblk m c 15 t)

theorem outs_snd (c : Dev nD) (t : Fin cfg0.N) : (outsAt0 m c t).2 = stored m c t := by
  unfold outsAt0 stored held before
  dsimp only
  unfold out0_A_17
  rw [View.read_writes_eq_canon _ _ _ (cover0_A_17 _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread, (hs0_10 t).read_unread, (hs0_11 t).read_unread, (hs0_12 t).read_unread,
    (hs0_13 t).read_unread, (hs0_14 t).read_unread, (hs0_15 t).read_unread,
    View.ld_unit_zero (S := S512x1024) hz, View.ld_unit_zero (S := S1024x2048) hz, View.ld_unit_zero (S := S512x2048) hz, View.ld_unit_zero (S := S1x2048) hz,
    View.ld_unit_zero (S := S2048x2048) hz, View.ld_unit_zero (S := S2048x512) hz, cut0, cut1, cut2, cut3]

theorem stored_at (c : Dev nD) (t : Fin cfg0.N) (b : Fin 512) (l : Fin 2048) :
    (stored m c t (ix2 b l) : EReal) = normed (fun l => rows m c t (ix2 b l)) (fun l => (iblk m c 15 t : Vec Ideal S1x2048 .f32) (ix2 0 l)) l := by
  unfold stored
  rw [pay2_at]
  rfl

end Cert.Proof.Merge
end
-- ==== Proof.Rows.Merge.Arrays.lean ====
module

public import proofs.«01_k».proof.Proof.Rows.Merge.Out

/-! The blocks a grid point reads, as the call's arguments, and the arrays the grid leaves. -/

@[expose] public section
set_option maxRecDepth 16384
noncomputable section
namespace Cert.Proof.Merge

open Cert.Kernel5Ideal Cert.Kernel5Ideal.Gen
open Idealize.ShloMosaic Idealize.ShloMosaic.TcCoe
open Idealize.SL.Sem
open Idealize.ShloMosaic.Pipeline (Dat Cfg Window)

/-- The layer's inputs to this step. -/
structure Args where
  /-- the first attention's output -/
  a : Vec Ideal S2x4096x1024 .f32
  /-- the second attention's output -/
  d : Vec Ideal S2x4096x1024 .f32
  /-- their projections -/
  wa : Vec Ideal S1024x2048 .f32
  wd : Vec Ideal S1024x2048 .f32
  /-- the output projection -/
  wo : Vec Ideal S2048x2048 .f32
  /-- the input projection, its last 4096 columns the gates -/
  u : Vec Ideal S2x4096x11344 .f32
  /-- the gates' bias -/
  bg : Vec Ideal S4096 .f32
  /-- the layer's rows -/
  x : Vec Ideal S2x4096x2048 .f32
  /-- the memory's keys and values -/
  kv : Vec Ideal S2x256x1024 .f32
  /-- the scale of the normalisation in front of the queries -/
  gc : Vec Ideal S2048 .f32
  /-- the queries' projection -/
  wq : Vec Ideal S2048x512 .f32
  /-- the projection behind the cross-attention -/
  wc : Vec Ideal S512x2048 .f32
  /-- the scale of the last normalisation -/
  gn : Vec Ideal S2048 .f32

/-- The two branches, gated. -/
def Args.merged (A : Args) (B : Fin 2) (s : Fin 4096) (j : Fin 2048) : EReal :=
  Ideal.logistic (A.u (ix3 B s ⟨7248 + j.val, by omega⟩) + A.bg (ix1 ⟨j.val, by omega⟩)) * (∑ k : Fin 1024, A.a (ix3 B s k) * A.wa (ix2 k j))
    + Ideal.logistic (A.u (ix3 B s ⟨9296 + j.val, by omega⟩) + A.bg (ix1 ⟨2048 + j.val, by omega⟩)) * (∑ k : Fin 1024, A.d (ix3 B s k) * A.wd (ix2 k j))

/-- The rows after the output projection. -/
def Args.mid (A : Args) (B : Fin 2) (s : Fin 4096) (l : Fin 2048) : EReal := A.x (ix3 B s l) + ∑ j : Fin 2048, A.merged B s j * A.wo (ix2 j l)

/-- The rows after the cross-attention. -/
def Args.full (A : Args) (B : Fin 2) (s : Fin 4096) (l : Fin 2048) : EReal :=
  A.mid B s l + ∑ n : Fin 512, head (queries (A.mid B s) (fun l => A.gc (ix1 l)) (fun k n => A.wq (ix2 k n)))
    (fun j n => A.kv (ix3 B j ⟨n.val, by omega⟩)) (fun j n => A.kv (ix3 B j ⟨512 + n.val, by omega⟩)) n * A.wc (ix2 n l)

/-- The layer's rows. -/
def Args.result0 (A : Args) : Vec Ideal S8192x2048 .f32 := fun y =>
  A.full ⟨(y 0).val / 4096, by have := (y 0).isLt; simp at this; omega⟩ ⟨(y 0).val % 4096, by omega⟩ (y 1)

/-- … and their normalisation. -/
def Args.result1 (A : Args) : Vec Ideal S8192x2048 .bf16 := fun y =>
  normed (A.full ⟨(y 0).val / 4096, by have := (y 0).isLt; simp at this; omega⟩ ⟨(y 0).val % 4096, by omega⟩) (fun l => A.gn (ix1 l)) (y 1)

variable (m : (ℓ : Loc nD τ sig) → Buf (Elt Ideal) ℓ)

/-- The call's arguments. -/
def args (c : Dev nD) : Args where
  a := m ((c : Thread nD τ).loc main_arg0)
  d := m ((c : Thread nD τ).loc main_arg1)
  wa := m ((c : Thread nD τ).loc main_arg2)
  wd := m ((c : Thread nD τ).loc main_arg3)
  wo := m ((c : Thread nD τ).loc main_arg4)
  u := m ((c : Thread nD τ).loc main_arg5)
  bg := m ((c : Thread nD τ).loc main_arg6)
  x := m ((c : Thread nD τ).loc main_arg7)
  kv := m ((c : Thread nD τ).loc main_arg8)
  gc := m ((c : Thread nD τ).loc main_arg9)
  wq := m ((c : Thread nD τ).loc main_arg10)
  wc := m ((c : Thread nD τ).loc main_arg11)
  gn := m ((c : Thread nD τ).loc main_arg12)

/-! ## The arrays the host lays out -/

theorem v10_at (c : Dev nD) (r : Fin 8192) (k : Fin 1024) :
    (V m c main_v10 : Vec Ideal S8192x1024 .bf16) (ix2 r k) = (args m c).a (ix3 ⟨r.val / 4096, by omega⟩ ⟨r.val % 4096, by omega⟩ k) := by
  unfold args
  unfold_abbrev_sides
  after_reads_at
theorem v12_at (c : Dev nD) (r : Fin 8192) (k : Fin 1024) :
    (V m c main_v12 : Vec Ideal S8192x1024 .bf16) (ix2 r k) = (args m c).d (ix3 ⟨r.val / 4096, by omega⟩ ⟨r.val % 4096, by omega⟩ k) := by
  unfold args
  unfold_abbrev_sides
  after_reads_at
theorem v13_at (c : Dev nD) (k : Fin 1024) (l : Fin 2048) : (V m c main_v13 : Vec Ideal S1024x2048 .bf16) (ix2 k l) = (args m c).wa (ix2 k l) := by
  unfold args
  unfold_abbrev_sides
  after_reads_at
theorem v14_at (c : Dev nD) (k : Fin 1024) (l : Fin 2048) : (V m c main_v14 : Vec Ideal S1024x2048 .bf16) (ix2 k l) = (args m c).wd (ix2 k l) := by
  unfold args
  unfold_abbrev_sides
  after_reads_at
theorem v15_at (c : Dev nD) (k l : Fin 2048) : (V m c main_v15 : Vec Ideal S2048x2048 .bf16) (ix2 k l) = (args m c).wo (ix2 k l) := by
  unfold args
  unfold_abbrev_sides
  after_reads_at
theorem v8_at (c : Dev nD) (r : Fin 8192) (n : Fin 4096) :
    (V m c main_v8 : Vec Ideal S8192x9216 .bf16) (ix2 r ⟨n.val, by omega⟩) = (args m c).u (ix3 ⟨r.val / 4096, by omega⟩ ⟨r.val % 4096, by omega⟩ ⟨7248 + n.val, by omega⟩) := by
  unfold args
  unfold_abbrev_sides
  after_reads_at
  after_reads_at
theorem v21_at (c : Dev nD) (n : Fin 4096) : (V m c main_v21 : Vec Ideal S1x4096 .f32) (ix2 0 n) = (args m c).bg (ix1 n) := by
  unfold args
  unfold_abbrev_sides
  after_reads_at
theorem v16_at (c : Dev nD) (r : Fin 8192) (k : Fin 2048) :
    (V m c main_v16 : Vec Ideal S8192x2048 .f32) (ix2 r k) = (args m c).x (ix3 ⟨r.val / 4096, by omega⟩ ⟨r.val % 4096, by omega⟩ k) := by
  unfold args
  unfold_abbrev_sides
  after_reads_at
theorem v18_at (c : Dev nD) (r : Fin 512) (k : Fin 1024) :
    (V m c main_v18 : Vec Ideal S512x1024 .bf16) (ix2 r k) = (args m c).kv (ix3 ⟨r.val / 256, by omega⟩ ⟨r.val % 256, by omega⟩ k) := by
  unfold args
  unfold_abbrev_sides
  after_reads_at
theorem v22_at (c : Dev nD) (n : Fin 2048) : (V m c main_v22 : Vec Ideal S1x2048 .f32) (ix2 0 n) = (args m c).gc (ix1 n) := by
  unfold args
  unfold_abbrev_sides
  after_reads_at
theorem v19_at (c : Dev nD) (k : Fin 2048) (l : Fin 512) : (V m c main_v19 : Vec Ideal S2048x512 .bf16) (ix2 k l) = (args m c).wq (ix2 k l) := by
  unfold args
  unfold_abbrev_sides
  after_reads_at
theorem v20_at (c : Dev nD) (k : Fin 512) (l : Fin 2048) : (V m c main_v20 : Vec Ideal S512x2048 .bf16) (ix2 k l) = (args m c).wc (ix2 k l) := by
  unfold args
  unfold_abbrev_sides
  after_reads_at
theorem v23_at (c : Dev nD) (n : Fin 2048) : (V m c main_v23 : Vec Ideal S1x2048 .f32) (ix2 0 n) = (args m c).gn (ix1 n) := by
  unfold args
  unfold_abbrev_sides
  after_reads_at

/-! ## The blocks -/

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 1] := by decide +kernel
theorem idx6 : ∀ t : Fin grid0.N, win0_6.index t = ![0, 0] := by decide +kernel
theorem idx7 : ∀ t : Fin grid0.N, win0_7.index t = ![0, 1] := by decide +kernel
theorem idx8 : ∀ t : Fin grid0.N, win0_8.index t = ![0, 0] := by decide +kernel
theorem idx9 : ∀ t : Fin grid0.N, win0_9.index t = ![t.val, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![t.val / 8, 0] := by decide +kernel
theorem idx13 : ∀ t : Fin grid0.N, win0_13.index t = ![t.val / 8, 1] := by decide +kernel
theorem idx14 : ∀ t : Fin grid0.N, win0_14.index t = ![0, 0] := by decide +kernel
theorem idx15 : ∀ t : Fin grid0.N, win0_15.index t = ![0, 0] := by decide +kernel
theorem idx16 : ∀ t : Fin grid0.N, win0_16.index t = ![t.val, 0] := by decide +kernel
theorem idx17 : ∀ t : Fin grid0.N, win0_17.index t = ![t.val, 0] := by decide +kernel

theorem point_lt (t : Fin cfg0.N) : t.val < 16 := t.isLt

/-- The sequence of a point's rows, and the place in it of its row `b`. -/
def seqOf (t : Fin cfg0.N) : Fin 2 := ⟨t.val / 8, by have := point_lt t; omega⟩
def posOf (t : Fin cfg0.N) (b : Fin 512) : Fin 4096 := ⟨512 * (t.val % 8) + b.val, by omega⟩
/-- The row of the flattened arrays. -/
def rowOf (t : Fin cfg0.N) (b : Fin 512) : Fin 8192 := ⟨512 * t.val + b.val, by have := point_lt t; omega⟩

theorem seq_row (t : Fin cfg0.N) (b : Fin 512) (h : (rowOf t b).val / 4096 < 2) : (⟨(rowOf t b).val / 4096, h⟩ : Fin 2) = seqOf t :=
  Fin.ext (by show (512 * t.val + b.val) / 4096 = t.val / 8; omega)
theorem pos_row (t : Fin cfg0.N) (b : Fin 512) (h : (rowOf t b).val % 4096 < 4096) : (⟨(rowOf t b).val % 4096, h⟩ : Fin 4096) = posOf t b :=
  Fin.ext (by show (512 * t.val + b.val) % 4096 = 512 * (t.val % 8) + b.val; omega)

theorem blk0 (c : Dev nD) (t : Fin cfg0.N) (b : Fin 512) (k : Fin 1024) :
    (iblk m c 0 t : Vec Ideal S512x1024 .bf16) (ix2 b k) = (args m c).a (ix3 (seqOf t) (posOf t b) k) := by
  have e := v10_at m c (rowOf t b) k
  rw [seq_row, pos_row] at e
  rw [← e]
  unfold rowOf
  blk_ext [iblk, idx0 t]

theorem blk4 (c : Dev nD) (t : Fin cfg0.N) (b : Fin 512) (k : Fin 2048) :
    (X0_4 m c t : Vec Ideal S512x2048 .bf16) (ix2 b k) = (args m c).u (ix3 (seqOf t) (posOf t b) ⟨7248 + k.val, by omega⟩) := by
  have e := v8_at m c (rowOf t b) ⟨k.val, by omega⟩
  rw [seq_row, pos_row] at e
  rw [← e]
  unfold rowOf X0_4 Window.fill
  rw [dif_pos (moved0_4 t _)]
  blk_ext [iblk, idx4 t]

theorem blk5 (c : Dev nD) (t : Fin cfg0.N) (b : Fin 512) (k : Fin 2048) :
    (X0_5 m c t : Vec Ideal S512x2048 .bf16) (ix2 b k) = (args m c).u (ix3 (seqOf t) (posOf t b) ⟨9296 + k.val, by omega⟩) := by
  have e := v8_at m c (rowOf t b) ⟨2048 + k.val, by omega⟩
  rw [seq_row, pos_row] at e
  rw [show (⟨9296 + k.val, by omega⟩ : Fin 11344) = ⟨7248 + (2048 + k.val), by omega⟩ from Fin.ext (by dsimp only; omega), ← e]
  unfold rowOf X0_5 Window.fill
  rw [dif_pos (moved0_5 t _)]
  blk_ext [iblk, idx5 t]

theorem blk6 (c : Dev nD) (t : Fin cfg0.N) (k : Fin 2048) :
    (iblk m c 6 t : Vec Ideal S1x2048 .f32) (ix2 0 k) = (args m c).bg (ix1 ⟨k.val, by omega⟩) := by
  rw [← v21_at m c ⟨k.val, by omega⟩]
  blk_ext [iblk, idx6 t]

theorem blk12 (c : Dev nD) (t : Fin cfg0.N) (j : Fin 256) (k : Fin 512) :
    (iblk m c 12 t : Vec Ideal S256x512 .bf16) (ix2 j k) = (args m c).kv (ix3 (seqOf t) j ⟨k.val, by omega⟩) := by
  have ht := point_lt t
  have e := v18_at m c ⟨256 * (t.val / 8) + j.val, by omega⟩ ⟨k.val, by omega⟩
  rw [show (⟨(256 * (t.val / 8) + j.val) / 256, by omega⟩ : Fin 2) = seqOf t from Fin.ext (by show _ = t.val / 8; dsimp only; omega),
    show (⟨(256 * (t.val / 8) + j.val) % 256, by omega⟩ : Fin 256) = j from Fin.ext (by dsimp only; omega)] at e
  rw [← e]
  blk_ext [iblk, idx12 t]

theorem blk1 (c : Dev nD) (t : Fin cfg0.N) (b : Fin 512) (k : Fin 1024) :
    (iblk m c 1 t : Vec Ideal S512x1024 .bf16) (ix2 b k) = (args m c).d (ix3 (seqOf t) (posOf t b) k) := by
  have e := v12_at m c (rowOf t b) k
  rw [seq_row, pos_row] at e
  rw [← e]
  unfold rowOf
  blk_ext [iblk, idx1 t]

theorem blk9 (c : Dev nD) (t : Fin cfg0.N) (b : Fin 512) (k : Fin 2048) :
    (iblk m c 9 t : Vec Ideal S512x2048 .f32) (ix2 b k) = (args m c).x (ix3 (seqOf t) (posOf t b) k) := by
  have e := v16_at m c (rowOf t b) k
  rw [seq_row, pos_row] at e
  rw [← e]
  unfold rowOf
  blk_ext [iblk, idx9 t]

theorem blk13 (c : Dev nD) (t : Fin cfg0.N) (j : Fin 256) (k : Fin 512) :
    (iblk m c 13 t : Vec Ideal S256x512 .bf16) (ix2 j k) = (args m c).kv (ix3 (seqOf t) j ⟨512 + k.val, by omega⟩) := by
  have ht := point_lt t
  have e := v18_at m c ⟨256 * (t.val / 8) + j.val, by omega⟩ ⟨512 + k.val, by omega⟩
  rw [show (⟨(256 * (t.val / 8) + j.val) / 256, by omega⟩ : Fin 2) = seqOf t from Fin.ext (by show _ = t.val / 8; dsimp only; omega),
    show (⟨(256 * (t.val / 8) + j.val) % 256, by omega⟩ : Fin 256) = j from Fin.ext (by dsimp only; omega)] at e
  rw [← e]
  blk_ext [iblk, idx13 t]

theorem blk7 (c : Dev nD) (t : Fin cfg0.N) (k : Fin 2048) :
    (iblk m c 7 t : Vec Ideal S1x2048 .f32) (ix2 0 k) = (args m c).bg (ix1 ⟨2048 + k.val, by omega⟩) := by
  rw [← v21_at m c ⟨2048 + k.val, by omega⟩]
  blk_ext [iblk, idx7 t]

theorem blk2 (c : Dev nD) (t : Fin cfg0.N) (k : Fin 1024) (l : Fin 2048) : (iblk m c 2 t : Vec Ideal S1024x2048 .bf16) (ix2 k l) = (args m c).wa (ix2 k l) := by
  rw [← v13_at m c k l]
  blk_ext [iblk, idx2 t]
theorem blk3 (c : Dev nD) (t : Fin cfg0.N) (k : Fin 1024) (l : Fin 2048) : (iblk m c 3 t : Vec Ideal S1024x2048 .bf16) (ix2 k l) = (args m c).wd (ix2 k l) := by
  rw [← v14_at m c k l]
  blk_ext [iblk, idx3 t]
theorem blk8 (c : Dev nD) (t : Fin cfg0.N) (k l : Fin 2048) : (iblk m c 8 t : Vec Ideal S2048x2048 .bf16) (ix2 k l) = (args m c).wo (ix2 k l) := by
  rw [← v15_at m c k l]
  blk_ext [iblk, idx8 t]
theorem blk10 (c : Dev nD) (t : Fin cfg0.N) (l : Fin 2048) : (iblk m c 10 t : Vec Ideal S1x2048 .f32) (ix2 0 l) = (args m c).gc (ix1 l) := by
  rw [← v22_at m c l]
  blk_ext [iblk, idx10 t]
theorem blk11 (c : Dev nD) (t : Fin cfg0.N) (k : Fin 2048) (n : Fin 512) : (iblk m c 11 t : Vec Ideal S2048x512 .bf16) (ix2 k n) = (args m c).wq (ix2 k n) := by
  rw [← v19_at m c k n]
  blk_ext [iblk, idx11 t]
theorem blk14 (c : Dev nD) (t : Fin cfg0.N) (n : Fin 512) (l : Fin 2048) : (iblk m c 14 t : Vec Ideal S512x2048 .bf16) (ix2 n l) = (args m c).wc (ix2 n l) := by
  rw [← v20_at m c n l]
  blk_ext [iblk, idx14 t]
theorem blk15 (c : Dev nD) (t : Fin cfg0.N) (l : Fin 2048) : (iblk m c 15 t : Vec Ideal S1x2048 .f32) (ix2 0 l) = (args m c).gn (ix1 l) := by
  rw [← v23_at m c l]
  blk_ext [iblk, idx15 t]

/-! ## A point's rows -/

theorem held_at (c : Dev nD) (t : Fin cfg0.N) (b : Fin 512) (l : Fin 2048) :
    held m c t (ix2 b l) = ∑ j : Fin 2048, (args m c).merged (seqOf t) (posOf t b) j * (args m c).wo (ix2 j l) := by
  unfold held before
  refine (pay4_at _ _ _ _ _ _ _ _ _ b l).trans (Finset.sum_congr rfl fun j _ => ?_)
  rw [blk4, blk5, blk6, blk7, blk8]
  unfold Args.merged
  simp only [blk0, blk1, blk2, blk3]

theorem rows_at (c : Dev nD) (t : Fin cfg0.N) (b : Fin 512) (l : Fin 2048) : rows m c t (ix2 b l) = (args m c).full (seqOf t) (posOf t b) l := by
  unfold rows
  refine (after_at _ _ _ _ _ _ _ b l).trans ?_
  unfold Args.full Args.mid
  simp only [held_at, blk9, blk10, blk11, blk12, blk13, blk14]

theorem point0 (c : Dev nD) (t : Fin cfg0.N) (y : S512x2048.Idx) (r : Fin 8192) (l : Fin 2048) (hr : r.val = t.val * 512 + (y 0).val) (hl : l.val = (y 1).val) :
    (outsAt0 m c t).1 y = (args m c).result0 (ix2 r l) := by
  obtain ⟨b, a, rfl⟩ : ∃ (b : Fin 512) (a : Fin 2048), y = ix2 b a := ⟨y 0, y 1, eq_ix2 y⟩
  obtain rfl : r = rowOf t b := Fin.ext (hr.trans (by show t.val * 512 + b.val = 512 * t.val + b.val; omega))
  obtain rfl : l = a := Fin.ext hl
  rw [outs_fst, rows_at, ← seq_row t b (by have := (rowOf t b).isLt; omega), ← pos_row t b (by omega)]
  rfl

theorem point1 (c : Dev nD) (t : Fin cfg0.N) (y : S512x2048.Idx) (r : Fin 8192) (l : Fin 2048) (hr : r.val = t.val * 512 + (y 0).val) (hl : l.val = (y 1).val) :
    (outsAt0 m c t).2 y = (args m c).result1 (ix2 r l) := by
  obtain ⟨b, a, rfl⟩ : ∃ (b : Fin 512) (a : Fin 2048), y = ix2 b a := ⟨y 0, y 1, eq_ix2 y⟩
  obtain rfl : r = rowOf t b := Fin.ext (hr.trans (by show t.val * 512 + b.val = 512 * t.val + b.val; omega))
  obtain rfl : l = a := Fin.ext hl
  rw [outs_snd]
  refine (stored_at m c t b l).trans ?_
  simp only [rows_at, blk15]
  rw [← seq_row t b (by have := (rowOf t b).isLt; omega), ← pos_row t b (by omega)]
  rfl

/-- The rows the kernel leaves. -/
theorem final0 (c : Dev nD) : (dats m 0 c).arrAt 16 cfg0.N = (args m c).result0 := by
  refine (dats m 0 c).arrAt_eq_of_covers 16 _ (by decide +kernel) fun t hf y => ?_
  blk_simp
  refine Eq.trans (b := (outsAt0 m c t).1 y) ?_ ((point0 m c t y (((cfg0.win 16).blk t).view.emb y 0) (((cfg0.win 16).blk t).view.emb y 1) ?_ ?_).trans ?_)
  · exact congrFun (after0_16 m c t) y
  · blk_simp [idx16 t]
  · blk_simp [idx16 t]
  · exact congrArg (args m c).result0 (eq_ix2 ((win0_16.blk t).view.emb y)).symm

/-- … and their normalisation. -/
theorem final1 (c : Dev nD) : (dats m 0 c).arrAt 17 cfg0.N = (args m c).result1 := by
  refine (dats m 0 c).arrAt_eq_of_covers 17 _ (by decide +kernel) fun t hf y => ?_
  blk_simp
  refine Eq.trans (b := (outsAt0 m c t).2 y) ?_ ((point1 m c t y (((cfg0.win 17).blk t).view.emb y 0) (((cfg0.win 17).blk t).view.emb y 1) ?_ ?_).trans ?_)
  · exact congrFun (after0_17 m c t) y
  · blk_simp [idx17 t]
  · blk_simp [idx17 t]
  · exact congrArg (args m c).result1 (eq_ix2 ((win0_17.blk t).view.emb y)).symm

end Cert.Proof.Merge
end
-- ==== Proof.Rows.Merge.Finite.lean ====
module

public import proofs.«01_k».proof.Pre_finite_merge
public import proofs.«01_k».proof.Proof.Rows.Merge.Arrays
public import Idealize.ShloMosaic.Lib.ReduceAll

/-! The precondition in plain terms, and what it gives: every score of the cross-attention is a real number. -/

@[expose] public section
set_option maxRecDepth 16384
noncomputable section
namespace Cert.Proof

open Idealize.ShloMosaic Idealize.ShloMosaic.TcCoe Idealize.SL.Sem

/-- The side conditions of the precondition's operations. -/
theorem facts_finite_merge : Cert.Pre_finite_merge.Facts where
  slices_S2x256x1024_S2x256x512_0_0_0 := by decide
  bcast_S_S2x256x512 := by decide
  reducesTo_S2x256x512_S_d0_1_2 := by decide
  h_S_ := by decide
  bcast_S_S2048 := by decide
  reducesTo_S2048_S_d0 := by decide
  bcast_S_S2048x512 := by decide
  reducesTo_S2048x512_S_d0_1 := by decide

namespace Merge

open Cert.Kernel5Ideal

/-- A value that is a real number. -/
def IsReal (x : EReal) : Prop := ∃ r : ℝ, x = (r : EReal)

theorem isReal_of (x : EReal) (h : IntOp.andi (Ideal.cmp .ogt x (Ideal.ofBits .f32 0xFF800000#32)) (Ideal.cmp .olt x (Ideal.ofBits .f32 0x7F800000#32)) = 1#1) : IsReal x := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  induction x with
  | bot => revert h; simp [Ideal.cmp, IntOp.andi]
  | top => revert h; simp [Ideal.cmp, IntOp.andi]
  | coe r => exact ⟨r, rfl⟩

theorem subsingleton_scalar : Subsingleton (Cert.Pre_finite_merge.S_).Idx := ⟨fun a b => funext fun i => i.elim0⟩

/-- An array all of whose elements pass the test holds real numbers. -/
theorem real_all {s : Shape} {axes : List (Fin s.rank)} (a : FVec Ideal s .f32) (hb : Cert.Pre_finite_merge.S_.BroadcastsInDim s (![] : Fin 0 → Fin s.rank))
    (h : s.ReducesTo axes Cert.Pre_finite_merge.S_) (hu : 0 < Cert.Pre_finite_merge.S_.numel) (j : Cert.Pre_finite_merge.S_.Idx)
    (e : Host.reduce IntOp.andi (andi (cmpf .ogt a (broadcastInDim s ![] hb (constant (F := Ideal) Cert.Pre_finite_merge.S_ .f32 0xFF800000#32)))
      (cmpf .olt a (broadcastInDim s ![] hb (constant (F := Ideal) Cert.Pre_finite_merge.S_ .f32 0x7F800000#32)))) (constantI Cert.Pre_finite_merge.S_ 1 1#1) h hu j = 1#1)
    (i : s.Idx) : IsReal (a i) := by
  haveI := subsingleton_scalar
  exact isReal_of _ (Host.reduce_andi_all _ _ h hu j e i)

theorem both {x y : BitVec 1} (h : IntOp.andi x y = 1#1) : x = 1#1 ∧ y = 1#1 := by
  revert x y; decide

/-- The keys, the scale in front of the queries and the queries' projection are real. -/
structure Args.Real (A : Args) : Prop where
  k : ∀ (B : Fin 2) (j : Fin 256) (n : Fin 512), IsReal (A.kv (ix3 B j ⟨n.val, by omega⟩))
  gc : ∀ i, IsReal (A.gc i)
  wq : ∀ i, IsReal (A.wq i)

attribute [local instance] facts_finite_merge

theorem real_of_finite (A : Args)
    (h : Cert.Pre_finite_merge.fn (F := Ideal) A.a A.d A.wa A.wd A.wo A.u A.bg A.x A.kv A.gc A.wq A.wc A.gn = fun _ => 1#1) : A.Real := by
  have h0 := congrFun h ix0
  unfold Cert.Pre_finite_merge.fn Cert.Pre_finite_merge.fn_part1 at h0
  obtain ⟨h0, hwq⟩ := both h0
  obtain ⟨h0, hgc⟩ := both h0
  obtain ⟨_, hk⟩ := both h0
  refine ⟨fun B j n => ?_, real_all _ _ _ _ _ hgc, real_all _ _ _ _ _ hwq⟩
  have e := real_all _ _ _ _ _ hk (ix3 B j n)
  revert e
  clean_types
  pointwise []
  exact id

/-! ## Real numbers stay real -/

theorem IsReal.add {x y : EReal} : IsReal x → IsReal y → IsReal (x + y)
  | ⟨a, ha⟩, ⟨b, hb⟩ => ⟨a + b, by rw [ha, hb, EReal.coe_add]⟩
theorem IsReal.mul {x y : EReal} : IsReal x → IsReal y → IsReal (x * y)
  | ⟨a, ha⟩, ⟨b, hb⟩ => ⟨a * b, by rw [ha, hb, EReal.coe_mul]⟩
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self ..)).add (ih fun i hi => h i (Finset.mem_insert_of_mem hi))

/-- A square is not negative. -/
theorem sq_nonneg (x : EReal) : 0 ≤ x * x := by
  induction x with
  | bot => simp
  | top => simp
  | coe r => rw [← EReal.coe_mul]; exact_mod_cast mul_self_nonneg r

/-- A normalised row is real, whatever the row: the mean square, the small constant added, is positive, so that its inverse
root is a real number, and zero where the row holds an infinity. -/
theorem normed_real (f g : Fin 2048 → EReal) (hg : ∀ l, IsReal (g l)) (l : Fin 2048) : IsReal (normed f g l) := by
  have hc : Ideal.ofBits .f32 0x45000000#32 = ((2048 : ℝ) : EReal) := by
    simp [Ideal.ofBits, Ideal.ieee, -EReal.coe_mul]; norm_num
  obtain ⟨e, he, hpos⟩ : ∃ e : ℝ, Ideal.ofBits .f32 0x358637BD#32 = (e : EReal) ∧ 0 < e := by
    refine ⟨_, by simp [Ideal.ofBits, Ideal.ieee, -EReal.coe_mul]; rfl, by norm_num⟩
  unfold normed
  by_cases hf : ∀ l, IsReal (f l)
  case neg =>
    obtain ⟨k, hk⟩ := not_forall.mp hf
    have ht : f k * f k = ⊤ := by
      revert hk
      induction f k with
      | bot => intro _; simp
      | top => intro _; simp
      | coe r => exact fun h => absurd ⟨r, rfl⟩ h
    have hs : (∑ k : Fin 2048, f k * f k) = ⊤ := top_le_iff.mp (ht ▸ Finset.single_le_sum (f := fun k => f k * f k) (fun i _ => sq_nonneg (f i)) (Finset.mem_univ k))
    have hd : Ideal.div (∑ k : Fin 2048, f k * f k) (Ideal.ofBits .f32 0x45000000#32) = ⊤ := by
      unfold Ideal.div
      rw [hs, hc, if_neg (by norm_cast), ← EReal.coe_inv, EReal.top_mul_coe_of_pos (by norm_num)]
    rw [hd, he, EReal.top_add_coe]
    refine ⟨0, ?_⟩
    show f l * 0 * g l = _
    simp
  refine ((hf l).mul ?_).mul (hg l)
  choose r hr using hf
  have hs : (∑ k : Fin 2048, f k * f k) = ((∑ k : Fin 2048, r k * r k : ℝ) : EReal) := by
    simp only [hr, ← EReal.coe_mul]
    exact (map_sum (⟨⟨Real.toEReal, EReal.coe_zero⟩, EReal.coe_add⟩ : ℝ →+ EReal) _ _).symm
  have h0 : (0 : ℝ) ≤ ∑ k : Fin 2048, r k * r k := Finset.sum_nonneg fun k _ => mul_self_nonneg _
  have hd : Ideal.div (∑ k : Fin 2048, f k * f k) (Ideal.ofBits .f32 0x45000000#32) = ((((∑ k : Fin 2048, r k * r k) * (2048 : ℝ)⁻¹ : ℝ)) : EReal) := by
    unfold Ideal.div
    rw [hs, hc, if_neg (by norm_cast), EReal.coe_mul, EReal.coe_inv]
  rw [hd, he, ← EReal.coe_add]
  have hp : (0 : ℝ) < (∑ k : Fin 2048, r k * r k) * (2048 : ℝ)⁻¹ + e := by positivity
  show IsReal (if _ then _ else _)
  rw [if_neg (not_lt.mpr hp.le), if_neg hp.ne']
  exact ⟨_, rfl⟩

theorem scale_real : ∃ c : ℝ, scale = (c : EReal) ∧ 0 < c := by
  unfold scale
  refine ⟨_, by simp [Ideal.ofBits, Ideal.ieee, -EReal.coe_mul]; rfl, by norm_num⟩

end Merge

end Cert.Proof
end
-- ==== Proof.Rows.Merge.Ref.lean ====
module

public import proofs.«01_k».proof.Proof.Rows.Merge.Arrays
public import proofs.«01_k».proof.Proof.Gen.Reference5Ideal.Run
public import Idealize.ShloMosaic.Lib.KernelVsHost

/-! The reference's merge and cross-attention, element by element. -/

@[expose] public section
set_option maxRecDepth 16384
noncomputable section
namespace Cert.Proof.Merge

open Cert.Reference5Ideal Cert.Reference5Ideal.Gen
open Idealize.ShloMosaic Idealize.ShloMosaic.TcCoe
open Idealize.SL.Sem

/-- The gates. -/
def rGates (u : Vec Ideal S2x4096x11344 .f32) (bg : Vec Ideal S4096 .f32) : Vec Ideal S2x4096x4096 .f32 :=
  Host.divf (F := Ideal) (φ := .f32) (broadcastInDim S2x4096x4096 ![] bcast_S_S2x4096x4096 (constant (F := Ideal) S_ .f32 0x3F800000#32))
    (addf (F := Ideal) (φ := .f32) (broadcastInDim S2x4096x4096 ![] bcast_S_S2x4096x4096 (constant (F := Ideal) S_ .f32 0x3F800000#32))
      (Host.exp (F := Ideal) (φ := .f32) (Host.negf (F := Ideal) (φ := .f32) (addf (F := Ideal) (φ := .f32) (extractStridedSlice S2x4096x4096 ![0, 0, 7248] u slices_S2x4096x11344_S2x4096x4096_0_0_7248)
        (broadcastInDim S2x4096x4096 ![0, 1, 2] bcast_S1x1x4096_S2x4096x4096_0_1_2 (broadcastInDim S1x1x4096 ![2] bcast_S4096_S1x1x4096_2 bg))))))

/-- The rows after the output projection. -/
def rMid (g : Vec Ideal S2x4096x4096 .f32) (a d : Vec Ideal S2x4096x1024 .f32) (wa wd : Vec Ideal S1024x2048 .f32) (wo : Vec Ideal S2048x2048 .f32) (x : Vec Ideal S2x4096x2048 .f32) : Vec Ideal S2x4096x2048 .f32 :=
  addf (F := Ideal) (φ := .f32) x (Host.dotGeneral (F := Ideal) (φ₁ := .f32) (φ₂ := .f32) dot_S2x4096x2048_S2048x2048_S2x4096x2048_2_0_01_1_n_n none
    (addf (F := Ideal) (φ := .f32) (mulf (F := Ideal) (φ := .f32) (extractStridedSlice S2x4096x2048 ![0, 0, 0] g slices_S2x4096x4096_S2x4096x2048_0_0_0)
        (Host.dotGeneral (F := Ideal) (φ₁ := .f32) (φ₂ := .f32) dot_S2x4096x1024_S1024x2048_S2x4096x2048_2_0_01_1_n_n none a wa))
      (mulf (F := Ideal) (φ := .f32) (extractStridedSlice S2x4096x2048 ![0, 0, 2048] g slices_S2x4096x4096_S2x4096x2048_0_0_2048)
        (Host.dotGeneral (F := Ideal) (φ₁ := .f32) (φ₂ := .f32) dot_S2x4096x1024_S1024x2048_S2x4096x2048_2_0_01_1_n_n none d wd))) wo)

/-- One over the root of a row's mean square. -/
def rInv (f : Vec Ideal S2x4096x2048 .f32) : Vec Ideal S2x4096x1 .f32 :=
  Host.rsqrt (F := Ideal) (addf (F := Ideal) (φ := .f32) (Host.divf (F := Ideal) (φ := .f32) (broadcastInDim S2x4096x1 ![0, 1] bcast_S2x4096_S2x4096x1_0_1
      (Host.reduceAdd (F := Ideal) (mulf (F := Ideal) (φ := .f32) f f) (constant (F := Ideal) S_ .f32 0x00000000#32) reducesTo_S2x4096x2048_S2x4096_d2 h_S_))
    (broadcastInDim S2x4096x1 ![] bcast_S_S2x4096x1 (constant (F := Ideal) S_ .f32 0x45000000#32)))
    (broadcastInDim S2x4096x1 ![] bcast_S_S2x4096x1 (constant (F := Ideal) S_ .f32 0x358637BD#32)))

/-- The rows normalised and scaled. -/
def rNorm (f : Vec Ideal S2x4096x2048 .f32) (i : Vec Ideal S2x4096x1 .f32) (g : Vec Ideal S2048 .f32) : Vec Ideal S2x4096x2048 .f32 :=
  mulf (F := Ideal) (φ := .f32) (mulf (F := Ideal) (φ := .f32) f (broadcastInDim S2x4096x2048 ![0, 1, 2] bcast_S2x4096x1_S2x4096x2048_0_1_2 i))
    (broadcastInDim S2x4096x2048 ![0, 1, 2] bcast_S1x1x2048_S2x4096x2048_0_1_2 (broadcastInDim S1x1x2048 ![2] bcast_S2048_S1x1x2048_2 g))

/-- The scores. -/
def rScores (n : Vec Ideal S2x4096x2048 .f32) (wq : Vec Ideal S2048x512 .f32) (kv : Vec Ideal S2x256x1024 .f32) : Vec Ideal S2x4x4096x256 .f32 :=
  mulf (F := Ideal) (φ := .f32) (Host.dotGeneral (F := Ideal) (φ₁ := .f32) (φ₂ := .f32) dot_S2x4096x4x128_S2x256x4x128_S2x4x4096x256_3_3_1_1_02_02 none
      (shapeCast (s := S2x4096x512) S2x4096x4x128 (Host.dotGeneral (F := Ideal) (φ₁ := .f32) (φ₂ := .f32) dot_S2x4096x2048_S2048x512_S2x4096x512_2_0_01_1_n_n none n wq) shapeCasts_S2x4096x512_S2x4096x4x128)
      (shapeCast (s := S2x256x512) S2x256x4x128 (extractStridedSlice S2x256x512 ![0, 0, 0] kv slices_S2x256x1024_S2x256x512_0_0_0) shapeCasts_S2x256x512_S2x256x4x128))
    (broadcastInDim S2x4x4096x256 ![] bcast_S_S2x4x4096x256 (constant (F := Ideal) S_ .f32 0x3DB504F3#32))

/-- The greatest score of each row. -/
def rTop (lg : Vec Ideal S2x4x4096x256 .f32) : Vec Ideal S2x4x4096 .f32 :=
  Host.reduce (FloatOps.maximumf (F := Ideal) (φ := .f32)) lg (constant (F := Ideal) S_ .f32 0xFF800000#32) reducesTo_S2x4x4096x256_S2x4x4096_d3 h_S_

/-- The scores' exponentials, the greatest taken off. -/
def rExp (lg : Vec Ideal S2x4x4096x256 .f32) (g : Vec Ideal S2x4x4096 .f32) : Vec Ideal S2x4x4096x256 .f32 :=
  Host.exp (F := Ideal) (φ := .f32) (subf (F := Ideal) (φ := .f32) lg (broadcastInDim S2x4x4096x256 ![0, 1, 2, 3] bcast_S2x4x4096x1_S2x4x4096x256_0_1_2_3
    (broadcastInDim S2x4x4096x1 ![0, 1, 2] bcast_S2x4x4096_S2x4x4096x1_0_1_2 (maximumf (F := Ideal) (φ := .f32) (broadcastInDim S2x4x4096 ![] bcast_S_S2x4x4096 (constant (F := Ideal) S_ .f32 0xFF800000#32)) g))))

/-- The exponentials' shares. -/
def rShare (p : Vec Ideal S2x4x4096x256 .f32) : Vec Ideal S2x4x4096x256 .f32 :=
  Host.divf (F := Ideal) (φ := .f32) p (broadcastInDim S2x4x4096x256 ![0, 1, 2, 3] bcast_S2x4x4096x1_S2x4x4096x256_0_1_2_3
    (broadcastInDim S2x4x4096x1 ![0, 1, 2] bcast_S2x4x4096_S2x4x4096x1_0_1_2 (Host.reduceAdd (F := Ideal) (φ := .f32) p (constant (F := Ideal) S_ .f32 0x00000000#32) reducesTo_S2x4x4096x256_S2x4x4096_d3 h_S_)))

/-- The heads' outputs, side by side. -/
def rHeads (p : Vec Ideal S2x4x4096x256 .f32) (kv : Vec Ideal S2x256x1024 .f32) : Vec Ideal S2x4096x512 .f32 :=
  shapeCast (s := S2x4096x4x128) S2x4096x512 (transpose S2x4096x4x128 [0, 3, 1, 2] (Host.dotGeneral (F := Ideal) (φ₁ := .f32) (φ₂ := .f32) dot_S2x256x4x128_S2x4x4096x256_S2x4x128x4096_1_3_3_2_02_01 none
    (shapeCast (s := S2x256x512) S2x256x4x128 (extractStridedSlice S2x256x512 ![0, 0, 512] kv slices_S2x256x1024_S2x256x512_0_0_512) shapeCasts_S2x256x512_S2x256x4x128) p)
    transposes_S2x4x128x4096_S2x4096x4x128_0_3_1_2) shapeCasts_S2x4096x4x128_S2x4096x512

/-- The rows after the cross-attention. -/
def rFull (f : Vec Ideal S2x4096x2048 .f32) (o : Vec Ideal S2x4096x512 .f32) (wc : Vec Ideal S512x2048 .f32) : Vec Ideal S2x4096x2048 .f32 :=
  addf (F := Ideal) (φ := .f32) f (Host.dotGeneral (F := Ideal) (φ₁ := .f32) (φ₂ := .f32) dot_S2x4096x512_S512x2048_S2x4096x2048_2_0_01_1_n_n none o wc)

/-- The rows of both sequences, one below the other. -/
def rFlat (f : Vec Ideal S2x4096x2048 .f32) : Vec Ideal S8192x2048 .f32 := shapeCast (s := S2x4096x2048) _ f shapeCasts_S2x4096x2048_S8192x2048
def rRound (f : Vec Ideal S8192x2048 .f32) : Vec Ideal S8192x2048 .bf16 := truncf (F := Ideal) (φ := .f32) .bf16 f bitsLt_bf16_f32

theorem rGates_at (u : Vec Ideal S2x4096x11344 .f32) (bg : Vec Ideal S4096 .f32) (B : Fin 2) (s : Fin 4096) (j : Fin 4096) :
    rGates u bg (ix3 B s j) = Ideal.logistic (u (ix3 B s ⟨7248 + j.val, by omega⟩) + bg (ix1 j)) := by
  unfold Ideal.logistic
  pointwise [rGates]

theorem rMid_at (g : Vec Ideal S2x4096x4096 .f32) (a d : Vec Ideal S2x4096x1024 .f32) (wa wd : Vec Ideal S1024x2048 .f32) (wo : Vec Ideal S2048x2048 .f32) (x : Vec Ideal S2x4096x2048 .f32) (B : Fin 2) (s : Fin 4096) (l : Fin 2048) :
    rMid g a d wa wd wo x (ix3 B s l) = x (ix3 B s l) + ∑ j : Fin 2048, (g (ix3 B s ⟨j.val, by omega⟩) * (∑ k : Fin 1024, a (ix3 B s k) * wa (ix2 k j))
      + g (ix3 B s ⟨2048 + j.val, by omega⟩) * (∑ k : Fin 1024, d (ix3 B s k) * wd (ix2 k j))) * wo (ix2 j l) := by
  pointwise [rMid]

theorem rInv_at (f : Vec Ideal S2x4096x2048 .f32) (B : Fin 2) (s : Fin 4096) :
    rInv f (ix3 B s 0) = Ideal.rsqrt (Ideal.div (∑ k : Fin 2048, f (ix3 B s k) * f (ix3 B s k)) (Ideal.ofBits .f32 0x45000000#32) + Ideal.ofBits .f32 0x358637BD#32) := by
  pointwise [rInv]

theorem rNorm_at (f : Vec Ideal S2x4096x2048 .f32) (i : Vec Ideal S2x4096x1 .f32) (g : Vec Ideal S2048 .f32) (B : Fin 2) (s : Fin 4096) (l : Fin 2048) :
    rNorm f i g (ix3 B s l) = f (ix3 B s l) * i (ix3 B s 0) * g (ix1 l) := by
  pointwise [rNorm]

theorem rScores_at (n : Vec Ideal S2x4096x2048 .f32) (wq : Vec Ideal S2048x512 .f32) (kv : Vec Ideal S2x256x1024 .f32) (B : Fin 2) (h : Fin 4) (s : Fin 4096) (j : Fin 256) :
    rScores n wq kv (ix4 B h s j) = (∑ d : Fin 128, (∑ k : Fin 2048, n (ix3 B s k) * wq (ix2 k (lane h d))) * kv (ix3 B j ⟨(lane h d).val, by omega⟩)) * scale := by
  unfold scale lane
  pointwise [rScores]
  simp only [Nat.mul_comm 128]

theorem rTop_at (lg : Vec Ideal S2x4x4096x256 .f32) (B : Fin 2) (h : Fin 4) (s : Fin 4096) :
    rTop lg (ix3 B h s) = top fun j => lg (ix4 B h s j) := by
  unfold rTop top
  rw [hostReduce_maximumf_eq_multiReduction (F := Ideal) (φ := .f32) lg 0xFF800000#32 reducesTo_S2x4x4096x256_S2x4x4096_d3 h_S_ (by decide) (.inl rfl) rfl]
  pointwise []

theorem rExp_at (lg : Vec Ideal S2x4x4096x256 .f32) (g : Vec Ideal S2x4x4096 .f32) (B : Fin 2) (h : Fin 4) (s : Fin 4096) (j : Fin 256) :
    rExp lg g (ix4 B h s j) = Ideal.exp (lg (ix4 B h s j) - max (Ideal.ofBits .f32 0xFF800000#32) (g (ix3 B h s))) := by
  pointwise [rExp]

theorem rShare_at (p : Vec Ideal S2x4x4096x256 .f32) (B : Fin 2) (h : Fin 4) (s : Fin 4096) (j : Fin 256) :
    rShare p (ix4 B h s j) = Ideal.div (p (ix4 B h s j)) (∑ j : Fin 256, p (ix4 B h s j)) := by
  pointwise [rShare]

theorem rHeads_at (p : Vec Ideal S2x4x4096x256 .f32) (kv : Vec Ideal S2x256x1024 .f32) (B : Fin 2) (s : Fin 4096) (n : Fin 512) :
    rHeads p kv (ix3 B s n) = ∑ j : Fin 256, kv (ix3 B j ⟨512 + n.val, by omega⟩) * p (ix4 B ⟨n.val / 128, by omega⟩ s j) := by
  pointwise [rHeads]

theorem rFull_at (f : Vec Ideal S2x4096x2048 .f32) (o : Vec Ideal S2x4096x512 .f32) (wc : Vec Ideal S512x2048 .f32) (B : Fin 2) (s : Fin 4096) (l : Fin 2048) :
    rFull f o wc (ix3 B s l) = f (ix3 B s l) + ∑ n : Fin 512, o (ix3 B s n) * wc (ix2 n l) := by
  pointwise [rFull]

theorem rFlat_at (f : Vec Ideal S2x4096x2048 .f32) (r : Fin 8192) (l : Fin 2048) : rFlat f (ix2 r l) = f (ix3 ⟨r.val / 4096, by omega⟩ ⟨r.val % 4096, by omega⟩ l) := by
  pointwise [rFlat]

theorem rRound_at (f : Vec Ideal S8192x2048 .f32) (r : Fin 8192) (l : Fin 2048) : (rRound f (ix2 r l) : EReal) = f (ix2 r l) := by
  pointwise [rRound]

end Cert.Proof.Merge
end
-- ==== Proof.Rows.Merge.Value.lean ====
module

public import proofs.«01_k».proof.Defs
public import proofs.«01_k».proof.Proof.Rows.Merge.Finite
public import proofs.«01_k».proof.Proof.Rows.Merge.Ref
public import proofs.«01_k».proof.Proof.Gen.Kernel5.Frame

/-! The merge and cross-attention call: kernel and reference end with the same rows.

The kernel scales the queries and divides the weighted sum once; the reference scales the scores and divides every exponential.
Both agree where the scores are real numbers. -/

@[expose] public section
set_option maxRecDepth 16384
noncomputable section
namespace Cert.Proof.Merge

open Idealize.ShloMosaic Idealize.ShloMosaic.TcCoe Idealize.SL.Sem
open Cert.Reference5Ideal

/-- A factor that is a nonnegative real number goes into a sum. -/
theorem sum_mul_coe {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih => rw [Finset.sum_insert ha, Finset.sum_insert ha, EReal.right_distrib_of_nonneg_of_ne_top (by exact_mod_cast hc) (EReal.coe_ne_top c), ih]

theorem low : Ideal.ofBits .f32 0xFF800000#32 = (⊥ : EReal) := by simp [Ideal.ofBits, Ideal.ieee]

/-- The greatest of real scores is one of them. -/
theorem top_real (lg : Fin 256 → EReal) (h : ∀ j, IsReal (lg j)) : IsReal (top lg) := by
  have e : top lg = Finset.univ.sup lg := by unfold top; rw [low]; rfl
  obtain ⟨i, _, hi⟩ := Finset.exists_mem_eq_sup Finset.univ Finset.univ_nonempty lg
  rw [e, hi]
  exact h i

/-- The weighted values, every exponential divided first. -/
theorem weigh_eq (lg v : Fin 256 → EReal) (h : ∀ j, IsReal (lg j)) :
    weigh lg v = ∑ j : Fin 256, v j * Ideal.div (Ideal.exp (lg j - max (Ideal.ofBits .f32 0xFF800000#32) (top lg)))
      (∑ j : Fin 256, Ideal.exp (lg j - max (Ideal.ofBits .f32 0xFF800000#32) (top lg))) := by
  obtain ⟨t, ht⟩ := top_real lg h
  rw [low, max_eq_right bot_le]
  unfold weigh
  choose r hr using h
  have hE : ∀ j, Ideal.exp (lg j - top lg) = ((Real.exp (r j - t) : ℝ) : EReal) := fun j => by rw [hr, ht, ← EReal.coe_sub]; rfl
  have hS : (∑ j : Fin 256, Ideal.exp (lg j - top lg)) = ((∑ j : Fin 256, Real.exp (r j - t) : ℝ) : EReal) := by
    simp only [hE]
    exact (map_sum (⟨⟨Real.toEReal, EReal.coe_zero⟩, EReal.coe_add⟩ : ℝ →+ EReal) _ _).symm
  have hp : (0 : ℝ) < ∑ j : Fin 256, Real.exp (r j - t) := Finset.sum_pos (fun _ _ => Real.exp_pos _) Finset.univ_nonempty
  have hd : ∀ x : EReal, Ideal.div x (∑ j : Fin 256, Ideal.exp (lg j - top lg)) = x * (((∑ j : Fin 256, Real.exp (r j - t))⁻¹ : ℝ) : EReal) := fun x => by
    unfold Ideal.div
    rw [hS, if_neg (by exact_mod_cast hp.ne'), EReal.coe_inv]
  simp only [hd]
  rw [sum_mul_coe _ _ _ (inv_nonneg.mpr hp.le)]
  exact Finset.sum_congr rfl fun j _ => by rw [mul_comm _ (v j), mul_assoc]

/-! ## The reference's results as the layer's rows -/

/-- The reference's rows after the output projection, … -/
def refMid (A : Args) : Vec Ideal S2x4096x2048 .f32 := rMid (rGates A.u A.bg) A.a A.d A.wa A.wd A.wo A.x
/-- … its scores, … -/
def refScores (A : Args) : Vec Ideal S2x4x4096x256 .f32 := rScores (rNorm (refMid A) (rInv (refMid A)) A.gc) A.wq A.kv
/-- … and its rows after the cross-attention. -/
def refFull (A : Args) : Vec Ideal S2x4096x2048 .f32 := rFull (refMid A) (rHeads (rShare (rExp (refScores A) (rTop (refScores A)))) A.kv) A.wc

theorem refMid_at (A : Args) (B : Fin 2) (s : Fin 4096) (l : Fin 2048) : refMid A (ix3 B s l) = A.mid B s l := by
  have e : ∀ j : Fin 2048, (⟨7248 + (2048 + j.val), by omega⟩ : Fin 11344) = ⟨9296 + j.val, by omega⟩ := fun j => Fin.ext (by show 7248 + (2048 + j.val) = 9296 + j.val; omega)
  unfold refMid Args.mid Args.merged
  rw [rMid_at]
  simp only [rGates_at, e]

theorem rNormed (f : Vec Ideal S2x4096x2048 .f32) (g : Vec Ideal S2048 .f32) (B : Fin 2) (s : Fin 4096) (l : Fin 2048) :
    rNorm f (rInv f) g (ix3 B s l) = normed (fun l => f (ix3 B s l)) (fun l => g (ix1 l)) l := by
  rw [rNorm_at, rInv_at]
  rfl

theorem refScores_at (A : Args) (B : Fin 2) (h : Fin 4) (s : Fin 4096) (j : Fin 256) :
    refScores A (ix4 B h s j) = ∑ d : Fin 128, queries (A.mid B s) (fun l => A.gc (ix1 l)) (fun k n => A.wq (ix2 k n)) (lane h d) * A.kv (ix3 B j ⟨(lane h d).val, by omega⟩) := by
  obtain ⟨c, hc, hp⟩ := scale_real
  unfold refScores
  rw [rScores_at]
  simp only [rNormed, refMid_at]
  unfold queries
  rw [hc, sum_mul_coe _ _ c hp.le]
  exact Finset.sum_congr rfl fun d _ => mul_right_comm _ _ _

theorem refScores_real {A : Args} (hA : A.Real) (B : Fin 2) (h : Fin 4) (s : Fin 4096) (j : Fin 256) : IsReal (refScores A (ix4 B h s j)) := by
  obtain ⟨c, hc, _⟩ := scale_real
  rw [refScores_at]
  refine IsReal.sum _ _ fun d _ => IsReal.mul ?_ (hA.k B j (lane h d))
  exact IsReal.mul (IsReal.sum _ _ fun k _ => (normed_real _ _ (fun l => hA.gc _) k).mul (hA.wq _)) ⟨c, hc⟩

theorem refFull_at {A : Args} (hA : A.Real) (B : Fin 2) (s : Fin 4096) (l : Fin 2048) : refFull A (ix3 B s l) = A.full B s l := by
  unfold refFull Args.full
  rw [rFull_at, refMid_at]
  refine congrArg (A.mid B s l + ·) (Finset.sum_congr rfl fun n _ => congrArg (· * A.wc (ix2 n l)) ?_)
  rw [rHeads_at]
  simp only [rShare_at, rExp_at, rTop_at]
  refine (weigh_eq (fun j => refScores A (ix4 B ⟨n.val / 128, by omega⟩ s j)) (fun j => A.kv (ix3 B j ⟨512 + n.val, by omega⟩)) (fun j => refScores_real hA ..)).symm.trans ?_
  unfold head
  exact congrArg (weigh · _) (funext fun j => refScores_at ..)

theorem value0 {A : Args} (hA : A.Real) : rFlat (refFull A) = A.result0 := by
  refine funext fun y => ?_
  obtain ⟨r, l, rfl⟩ : ∃ (r : Fin 8192) (l : Fin 2048), y = ix2 r l := ⟨y 0, y 1, eq_ix2 y⟩
  rw [rFlat_at, refFull_at hA]
  rfl

theorem value1 {A : Args} (hA : A.Real) : rRound (rFlat (rNorm (refFull A) (rInv (refFull A)) A.gn)) = A.result1 := by
  refine funext fun y => ?_
  obtain ⟨r, l, rfl⟩ : ∃ (r : Fin 8192) (l : Fin 2048), y = ix2 r l := ⟨y 0, y 1, eq_ix2 y⟩
  refine (rRound_at ..).trans ?_
  rw [rFlat_at, rNormed]
  simp only [refFull_at hA]
  rfl

/-- The reference's arguments. -/
def refArgs (m : (ℓ : Loc nD τ sig) → Buf (Elt Ideal) ℓ) (c : Dev nD) : Args where
  a := m ((c.tc : Thread nD τ).loc main_arg0)
  d := m ((c.tc : Thread nD τ).loc main_arg1)
  wa := m ((c.tc : Thread nD τ).loc main_arg2)
  wd := m ((c.tc : Thread nD τ).loc main_arg3)
  wo := m ((c.tc : Thread nD τ).loc main_arg4)
  u := m ((c.tc : Thread nD τ).loc main_arg5)
  bg := m ((c.tc : Thread nD τ).loc main_arg6)
  x := m ((c.tc : Thread nD τ).loc main_arg7)
  kv := m ((c.tc : Thread nD τ).loc main_arg8)
  gc := m ((c.tc : Thread nD τ).loc main_arg9)
  wq := m ((c.tc : Thread nD τ).loc main_arg10)
  wc := m ((c.tc : Thread nD τ).loc main_arg11)
  gn := m ((c.tc : Thread nD τ).loc main_arg12)

theorem res0 (m : (ℓ : Loc nD τ sig) → Buf (Elt Ideal) ℓ) (c : Dev nD) : Cert.Reference5Ideal.Value.res_out0 m c = rFlat (refFull (refArgs m c)) := by
  unfold Cert.Reference5Ideal.Value.res_out0 Cert.Reference5Ideal.Value.res_main_v57
  rfl

theorem res1 (m : (ℓ : Loc nD τ sig) → Buf (Elt Ideal) ℓ) (c : Dev nD) :
    Cert.Reference5Ideal.Value.res_out1 m c = rRound (rFlat (rNorm (refFull (refArgs m c)) (rInv (refFull (refArgs m c))) (refArgs m c).gn)) := by
  unfold Cert.Reference5Ideal.Value.res_out1 Cert.Reference5Ideal.Value.res_main_v72
  rfl

end Cert.Proof.Merge

namespace Cert.Proof

open Idealize.ShloMosaic Idealize.SL.Sem

/-- The merge and cross-attention as compiled: every run ends, arguments unchanged, semaphores at zero. -/
theorem frame_p5 : Cert.quiescent_Kernel5 := fun m ρ _ => Cert.Kernel5.Gen.frame m ρ

/-- The idealized one: the same. -/
theorem frame_pi5 : Cert.quiescent_Kernel5Ideal := fun m ρ _ => Cert.Kernel5Ideal.Gen.frame m ρ

/-- Its reference: the same. -/
theorem frame_ri5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Kernel and reference end with the same rows, from arguments whose keys, scale and projection of the queries are real numbers. -/
theorem algebraic5 : Cert.algebraic_Kernel5Ideal_Reference5Ideal_pre_finite_merge (hPre_finite_merge := facts_finite_merge) := fun m g m' g' hpre hm => by
  have hA : ∀ c, (Merge.args m c).Real := fun c => Merge.real_of_finite _ (hpre c)
  have hargs : ∀ c, Merge.refArgs m' c = Merge.args m c := fun c => by
    obtain ⟨h0, h1, h2, h3, h4, h5, h6, h7, h8, h9, h10, h11, h12⟩ := hm c
    unfold Merge.refArgs Merge.args
    congr 1
  exact ⟨fun c => (Merge.args m c).result0, fun c => (Merge.args m c).result1,
    (θ_run Cert.Kernel5Ideal.defs _ _).mono (fun r h c => ⟨(h c).1.trans (Merge.final0 m c), (h c).2.1.trans (Merge.final1 m c), (h c).2.2⟩)
      (Cert.Kernel5Ideal.Value.run_blocks (F := Ideal) m g),
    (θ_run Cert.Reference5Ideal.defs _ _).mono (fun r h c =>
      ⟨(h c).1.trans ((Merge.res0 m' c).trans (by rw [hargs c]; exact Merge.value0 (hA c))),
        (h c).2.1.trans ((Merge.res1 m' c).trans (by rw [hargs c]; exact Merge.value1 (hA c))), (h c).2.2⟩)
      (Cert.Reference5Ideal.Value.run (F := Ideal) m' g')⟩

end Cert.Proof

end
-- ==== Proof.Rows.Up.Run.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Ring
public import Idealize.ShloMosaic.Lib.Tactic
public import Idealize.ShloMosaic.Lib.WordCmp

/-! The up-projection's body: its run at the first row tile of a group of columns, and at the others. -/

@[expose] public section

set_option maxRecDepth 16384

noncomputable section

namespace Cert.Proof.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row tile is the first of its group of columns: the body rounds the group's weights into scratch. -/
abbrev first (i : grid0.Coords) : Prop := (Scalar.cmpi .ne (Scalar.extui (Scalar.cmpi .eq (BitVec.ofNat 32 (i 1).val) 0#32)) 0#32) = 1#1

section Runs

variable (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x2048 .f32) (harg9 : arg9.IsWhole) (arg10 : Memref sig .tc .vmem S1024x512 .bf16) (harg10 : arg10.IsWhole) (arg11 : Memref sig .tc .vmem S64x2048 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S2x8x512 .f32) (harg14 : arg14.IsWhole)
    (x0 : Vec F S1024x2048 .bf16) (x1 : Vec F S2048x512 .f32) (x2 : Vec F S2048x512 .f32) (x3 : Vec F S3x512 .f32) (x4 : Vec F S3x512 .f32) (x5 : Vec F S1x512 .f32) (x6 : Vec F S1x512 .f32) (x7 : Vec F S64x2048 .f32)

set_option maxHeartbeats 2000000 in
/-- A first row tile: from the columns carried over (`xs2`), which it reads but does not use, the body ends with the two outputs and the three scratches written. -/
def runA (hc : first i) (xs2 : Vec F S2x8x512 .f32) :
    Σ' (L8 : List (View.Piece (Elt F) S1024x512 .bf16)) (L9 : List (View.Piece (Elt F) S64x2048 .bf16)) (LS0 : List (View.Piece (Elt F) S2048x512 .bf16)) (LS1 : List (View.Piece (Elt F) S2048x512 .bf16)), { LS2 : List (View.Piece (Elt F) S2x8x512 .f32) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ d, owns c.tc arg10 fullShare d) ∗ (∃ d, owns c.tc arg11 fullShare d) ∗ (∃ d, owns c.tc arg12 fullShare d) ∗ (∃ d, owns c.tc arg13 fullShare d) ∗ owns c.tc arg14 fullShare xs2
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0_ffn_up_conv_gate i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_ffn_up_conv_gate_eq_skeleton]; unfold cc0_ffn_up_conv_gate_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs2
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]; · iexists _; iexact HS0
    isplitl [HS1]; · iexists _; iexact HS1
    iexists _; iexact HS2

set_option maxHeartbeats 2000000 in
/-- Any other row tile: the rounded weights stay as they are. -/
def runB (hc : ¬first i) (xs0 xs1 : Vec F S2048x512 .bf16) (xs2 : Vec F S2x8x512 .f32) :
    Σ' (L8 : List (View.Piece (Elt F) S1024x512 .bf16)) (L9 : List (View.Piece (Elt F) S64x2048 .bf16)), { LS2 : List (View.Piece (Elt F) S2x8x512 .f32) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ d, owns c.tc arg10 fullShare d) ∗ (∃ d, owns c.tc arg11 fullShare d) ∗ owns c.tc arg12 fullShare xs0 ∗ owns c.tc arg13 fullShare xs1 ∗ owns c.tc arg14 fullShare xs2
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns c.tc arg12 fullShare xs0 ∗ owns c.tc arg13 fullShare xs1 ∗ (∃ f, arg14.view.loc (c : Thread nD τ) ↦[arg14.view.set]{fullShare} arg14.view.writes (Elt F) f LS2)) -∗ K ⟨⟩))
          ⊢ wp frame (wpE (defs₀ (F := F)) Variants.none c none) E (cc0_ffn_up_conv_gate i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_ffn_up_conv_gate_eq_skeleton]; unfold cc0_ffn_up_conv_gate_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hfs2
    obtain rfl := harg12.eq_unread hfs0; obtain rfl := harg13.eq_unread hfs1
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [HS0]
    · iexists _; isplitr; · ipureintro; exact harg12.read_unread _
      iexact HS0
    isplitl [HS1]
    · iexists _; isplitr; · ipureintro; exact harg13.read_unread _
      iexact HS1
    iexists _; iexact HS2

end Runs

end Cert.Proof.Up

end
-- ==== Proof.Rows.Up.Frame.lean ====
module

public import proofs.«01_k».proof.Proof.Rows.Up.Run
public import Idealize.ShloMosaic.Lib.Pipeline.Value
public import Idealize.ShloMosaic.Lib.Pipeline.ReadBack

/-! The frame of the up-projection: what each grid point leaves, the pipeline's obligation of the body, and the run of the
    program. -/

@[expose] public section

set_option maxRecDepth 16384

noncomputable section

namespace Cert.Proof.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row `k` of the convolution's weights. -/
abbrev tap2 (w : Vec F S3x512 .f32) : Vec F S1x512 .f32 := View.ld w (Rect.unit (s := S3x512) ![2, 0] S1x512.size inb_S3x512_S1x512_2_0)
abbrev tap1 (w : Vec F S3x512 .f32) : Vec F S1x512 .f32 := View.ld w (Rect.unit (s := S3x512) ![1, 0] S1x512.size inb_S3x512_S1x512_1_0)
abbrev tap0 (w : Vec F S3x512 .f32) : Vec F S1x512 .f32 := View.ld w (Rect.unit (s := S3x512) ![0, 0] S1x512.size inb_S3x512_S1x512_0_0)

/-- The convolved columns of a row tile: of its projection `x · w`, with the last rows of the tile before it. -/
def conv (i : grid0.Coords) (x : Vec F S1024x2048 .bf16) (w : Vec F S2048x512 .bf16) (b : Vec F S1x512 .f32) (cw : Vec F S3x512 .f32)
    (tail : Vec F S1x8x512 .f32) : Vec F S1024x512 .f32 :=
  k0_pay9 (k0_pay6 x w) (k0_pay7 i tail) b (tap2 cw) (tap0 cw) (tap1 cw)

/-- What a point leaves in the carried rows: the last eight of each of the two projections. -/
def carried (x : Vec F S1024x2048 .bf16) (wa wv : Vec F S2048x512 .bf16) : Vec F S2x8x512 .f32 :=
  View.canon [(⟨Rect.unit (s := S2x8x512) ![1, 0, 0] S1x8x512.size inb_S2x8x512_S1x8x512_1_0_0, k0_pay8 x wv⟩ : View.Piece (Elt F) S2x8x512 .f32),
    ⟨Rect.unit (s := S2x8x512) ![0, 0, 0] S1x8x512.size inb_S2x8x512_S1x8x512_0_0_0, k0_pay8 x wa⟩]

/-- What a point leaves in its output block. -/
def outV (i : grid0.Coords) (x0 : Vec F S1024x2048 .bf16) (x3 x4 : Vec F S3x512 .f32) (x5 x6 : Vec F S1x512 .f32)
    (wa wv : Vec F S2048x512 .bf16) (h : Vec F S2x8x512 .f32) : Vec F S1024x512 .bf16 :=
  k0_pay1 (conv i x0 wa x5 x3 (View.ld h (Rect.unit (s := S2x8x512) ![0, 0, 0] S1x8x512.size inb_S2x8x512_S1x8x512_0_0_0)))
    (conv i x0 wv x6 x4 (View.ld h (Rect.unit (s := S2x8x512) ![1, 0, 0] S1x8x512.size inb_S2x8x512_S1x8x512_1_0_0)))
    (k0_pay15 (conv i x0 wa x5 x3 (View.ld h (Rect.unit (s := S2x8x512) ![0, 0, 0] S1x8x512.size inb_S2x8x512_S1x8x512_0_0_0))))

/-- The first tile of a sequence does not use the rows carried over. -/
theorem tail_unused (i : grid0.Coords) (h : (i 1).val = 0) (v v' : Vec F S1x8x512 .f32) : k0_pay7 i v = k0_pay7 i v' := by
  unfold k0_pay7; rw [h]; rfl

theorem outV_unused (i : grid0.Coords) (h : (i 1).val = 0) (x0 : Vec F S1024x2048 .bf16) (x3 x4 : Vec F S3x512 .f32) (x5 x6 : Vec F S1x512 .f32)
    (wa wv : Vec F S2048x512 .bf16) (s s' : Vec F S2x8x512 .f32) : outV i x0 x3 x4 x5 x6 wa wv s = outV i x0 x3 x4 x5 x6 wa wv s' := by
  unfold outV conv
  rw [tail_unused i h (View.ld s (Rect.unit (s := S2x8x512) ![0, 0, 0] S1x8x512.size inb_S2x8x512_S1x8x512_0_0_0)) (View.ld s' (Rect.unit (s := S2x8x512) ![0, 0, 0] S1x8x512.size inb_S2x8x512_S1x8x512_0_0_0)),
    tail_unused i h (View.ld s (Rect.unit (s := S2x8x512) ![1, 0, 0] S1x8x512.size inb_S2x8x512_S1x8x512_1_0_0)) (View.ld s' (Rect.unit (s := S2x8x512) ![1, 0, 0] S1x8x512.size inb_S2x8x512_S1x8x512_1_0_0))]

section Body

variable (c : Dev nD) (i : grid0.Coords) (arg2 : Memref sig .tc .vmem S1024x2048 .bf16) (harg2 : arg2.IsWhole) (arg3 : Memref sig .tc .vmem S2048x512 .f32) (harg3 : arg3.IsWhole) (arg4 : Memref sig .tc .vmem S2048x512 .f32) (harg4 : arg4.IsWhole) (arg5 : Memref sig .tc .vmem S3x512 .f32) (harg5 : arg5.IsWhole) (arg6 : Memref sig .tc .vmem S3x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x2048 .f32) (harg9 : arg9.IsWhole) (arg10 : Memref sig .tc .vmem S1024x512 .bf16) (harg10 : arg10.IsWhole) (arg11 : Memref sig .tc .vmem S64x2048 .bf16) (harg11 : arg11.IsWhole) (arg12 : Memref sig .tc .vmem S2048x512 .bf16) (harg12 : arg12.IsWhole) (arg13 : Memref sig .tc .vmem S2048x512 .bf16) (harg13 : arg13.IsWhole) (arg14 : Memref sig .tc .vmem S2x8x512 .f32) (harg14 : arg14.IsWhole)
    (x0 : Vec F S1024x2048 .bf16) (x1 : Vec F S2048x512 .f32) (x2 : Vec F S2048x512 .f32) (x3 : Vec F S3x512 .f32) (x4 : Vec F S3x512 .f32) (x5 : Vec F S1x512 .f32) (x6 : Vec F S1x512 .f32) (x7 : Vec F S64x2048 .f32)

theorem pay14_eq : k0_pay14 (F := F) = k0_pay9 := rfl
theorem pay10_eq (x : Vec F S1024x2048 .bf16) (w : Vec F S2048x512 .bf16) : k0_pay10 (k0_pay5 x) w = k0_pay6 x w := rfl
theorem pay13_eq (x : Vec F S1024x2048 .bf16) (w : Vec F S2048x512 .bf16) : k0_pay13 (k0_pay12 (k0_pay5 x) w) = k0_pay8 x w := rfl
theorem pay11_eq (i : grid0.Coords) (v : Vec F S1x8x512 .f32) :
    k0_pay11 (Scalar.cmpi .eq (Scalar.select (Scalar.andi (Scalar.xori (Scalar.cmpi .slt (Scalar.remsi (BitVec.ofNat 32 (i 1).val) 4#32) 0#32) 0#1) (Scalar.cmpi .ne (Scalar.remsi (BitVec.ofNat 32 (i 1).val) 4#32) 0#32))
      (Scalar.addi (Scalar.remsi (BitVec.ofNat 32 (i 1).val) 4#32) 4#32) (Scalar.remsi (BitVec.ofNat 32 (i 1).val) 4#32)) 0#32) v = k0_pay7 i v := rfl
theorem zero2 : (![0, 0] : Fin 2 → ℕ) = fun _ => 0 := by funext a; fin_cases a <;> rfl

theorem coverA_8 (hc : first i) (xs2 : Vec F S2x8x512 .f32) (y : S1024x512.Idx) :
    ∃ p ∈ (runA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs2).1, y ∈ p.1.set :=
  View.cover_of_tiledL _ S1024x512.size (by sl_kernel_rfl) y

theorem valueA_8 (hc : first i) (xs2 : Vec F S2x8x512 .f32) : View.canon (runA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs2).1 = outV i x0 x3 x4 x5 x6 (k0_pay3 x1) (k0_pay4 x2) xs2 := by
  unfold runA
  dsimp only
  sl_unfold_words
  rw [View.canon_unit_zero zero2]
  simp only [View.readAt_eq_ld, harg2.read_unread, harg3.read_unread, harg4.read_unread, harg5.read_unread, harg6.read_unread, harg7.read_unread, harg8.read_unread, harg9.read_unread, harg12.read_unread, harg13.read_unread, harg14.read_unread, View.readCov_unit_zero (S := S2048x512) _ zero2, pay10_eq, pay11_eq, pay13_eq, pay14_eq, View.ld_unit_zero (S := S1024x2048) zero2, View.ld_unit_zero (S := S2048x512) zero2, View.ld_unit_zero (S := S1x512) zero2, View.ld_unit_zero (S := S64x2048) zero2]
  rfl

theorem coverA_9 (hc : first i) (xs2 : Vec F S2x8x512 .f32) (y : S64x2048.Idx) :
    ∃ p ∈ (runA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs2).2.1, y ∈ p.1.set :=
  View.cover_of_tiledL _ S64x2048.size (by sl_kernel_rfl) y

theorem valueA_9 (hc : first i) (xs2 : Vec F S2x8x512 .f32) : View.canon (runA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs2).2.1 = k0_pay2 x7 := by
  unfold runA
  dsimp only
  sl_unfold_words
  rw [View.canon_unit_zero zero2]
  simp only [View.readAt_eq_ld, harg9.read_unread, View.ld_unit_zero (S := S64x2048) zero2]

theorem coverA_S0 (hc : first i) (xs2 : Vec F S2x8x512 .f32) (y : S2048x512.Idx) :
    ∃ p ∈ (runA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs2).2.2.1, y ∈ p.1.set :=
  View.cover_of_tiledL _ S2048x512.size (by sl_kernel_rfl) y

theorem valueA_S0 (hc : first i) (xs2 : Vec F S2x8x512 .f32) : View.canon (runA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs2).2.2.1 = k0_pay3 x1 := by
  unfold runA
  dsimp only
  sl_unfold_words
  rw [View.canon_unit_zero zero2]
  simp only [View.readAt_eq_ld, harg3.read_unread, View.ld_unit_zero (S := S2048x512) zero2]

theorem coverA_S1 (hc : first i) (xs2 : Vec F S2x8x512 .f32) (y : S2048x512.Idx) :
    ∃ p ∈ (runA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs2).2.2.2.1, y ∈ p.1.set :=
  View.cover_of_tiledL _ S2048x512.size (by sl_kernel_rfl) y

theorem valueA_S1 (hc : first i) (xs2 : Vec F S2x8x512 .f32) : View.canon (runA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs2).2.2.2.1 = k0_pay4 x2 := by
  unfold runA
  dsimp only
  sl_unfold_words
  rw [View.canon_unit_zero zero2]
  simp only [View.readAt_eq_ld, harg4.read_unread, View.ld_unit_zero (S := S2048x512) zero2]

theorem coverA_S2 (hc : first i) (xs2 : Vec F S2x8x512 .f32) (y : S2x8x512.Idx) :
    ∃ p ∈ (runA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs2).2.2.2.2.1, y ∈ p.1.set :=
  View.cover_of_tiledL (runA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs2).2.2.2.2.1 S1x8x512.size (by sl_kernel_rfl) y

theorem valueA_S2 (hc : first i) (xs2 : Vec F S2x8x512 .f32) : View.canon (runA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs2).2.2.2.2.1 = carried x0 (k0_pay3 x1) (k0_pay4 x2) := by
  unfold runA
  dsimp only
  sl_unfold_words
  simp only [View.readAt_eq_ld, harg2.read_unread, harg3.read_unread, harg4.read_unread, harg5.read_unread, harg6.read_unread, harg7.read_unread, harg8.read_unread, harg9.read_unread, harg12.read_unread, harg13.read_unread, harg14.read_unread, View.readCov_unit_zero (S := S2048x512) _ zero2, pay10_eq, pay11_eq, pay13_eq, pay14_eq, View.ld_unit_zero (S := S1024x2048) zero2, View.ld_unit_zero (S := S2048x512) zero2, View.ld_unit_zero (S := S1x512) zero2, View.ld_unit_zero (S := S64x2048) zero2]
  rfl

set_option maxHeartbeats 1000000 in
/-- The body at a first row tile. -/
theorem bodyA (hc : first i) (xs2 : Vec F S2x8x512 .f32) (E : Set ℕ) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ d, owns c.tc arg10 fullShare d) ∗ (∃ d, owns c.tc arg11 fullShare d) ∗ (∃ d, owns c.tc arg12 fullShare d) ∗ (∃ d, owns c.tc arg13 fullShare d) ∗ owns c.tc arg14 fullShare xs2
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare (outV i x0 x3 x4 x5 x6 (k0_pay3 x1) (k0_pay4 x2) xs2) ∗ owns c.tc arg11 fullShare (k0_pay2 x7) ∗ owns c.tc arg12 fullShare (k0_pay3 x1) ∗ owns c.tc arg13 fullShare (k0_pay4 x2) ∗ owns c.tc arg14 fullShare (carried x0 (k0_pay3 x1) (k0_pay4 x2))) -∗ K ⟨⟩))
      ⊢ wp frame (wpE (defs₀ (F := F)) Variants.none c none) E (cc0_ffn_up_conv_gate i arg2 harg2 arg3 harg3 arg4 harg4 arg5 harg5 arg6 harg6 arg7 harg7 arg8 harg8 arg9 harg9 arg10 harg10 arg11 harg11 arg12 harg12 arg13 harg13 arg14 harg14) K := by
  iintro ⟨H0, H1, H2, H3, H4, H5, H6, H7, H8, H9, HS0, HS1, HS2, Hk⟩
  iapply ((runA c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs2).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, ⟨%e8, H8⟩, ⟨%e9, H9⟩, ⟨%e0, HS0⟩, ⟨%e1, HS1⟩, ⟨%e2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact Eq.trans (View.read_writes_eq_canon _ _ _ fun _ => coverA_8 ..) (valueA_8 ..)
  isplitl [H9]
  · unfold owns; iexists _; isplitr
    swap; · iexact H9
    ipureintro; exact Eq.trans (View.read_writes_eq_canon _ _ _ fun _ => coverA_9 ..) (valueA_9 ..)
  isplitl [HS0]
  · unfold owns; iexists _; isplitr
    swap; · iexact HS0
    ipureintro; exact Eq.trans (View.read_writes_eq_canon _ _ _ fun _ => coverA_S0 ..) (valueA_S0 ..)
  isplitl [HS1]
  · unfold owns; iexists _; isplitr
    swap; · iexact HS1
    ipureintro; exact Eq.trans (View.read_writes_eq_canon _ _ _ fun _ => coverA_S1 ..) (valueA_S1 ..)
  unfold owns; iexists _; isplitr
  swap; · iexact HS2
  ipureintro; exact Eq.trans (View.read_writes_eq_canon _ _ _ fun _ => coverA_S2 ..) (valueA_S2 ..)

theorem coverB_8 (hc : ¬first i) (xs0 xs1 : Vec F S2048x512 .bf16) (xs2 : Vec F S2x8x512 .f32) (y : S1024x512.Idx) :
    ∃ p ∈ (runB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs0 xs1 xs2).1, y ∈ p.1.set :=
  View.cover_of_tiledL _ S1024x512.size (by sl_kernel_rfl) y

theorem valueB_8 (hc : ¬first i) (xs0 xs1 : Vec F S2048x512 .bf16) (xs2 : Vec F S2x8x512 .f32) : View.canon (runB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs0 xs1 xs2).1 = outV i x0 x3 x4 x5 x6 xs0 xs1 xs2 := by
  unfold runB
  dsimp only
  sl_unfold_words
  rw [View.canon_unit_zero zero2]
  simp only [View.readAt_eq_ld, harg2.read_unread, harg3.read_unread, harg4.read_unread, harg5.read_unread, harg6.read_unread, harg7.read_unread, harg8.read_unread, harg9.read_unread, harg12.read_unread, harg13.read_unread, harg14.read_unread, View.readCov_unit_zero (S := S2048x512) _ zero2, pay10_eq, pay11_eq, pay13_eq, pay14_eq, View.ld_unit_zero (S := S1024x2048) zero2, View.ld_unit_zero (S := S2048x512) zero2, View.ld_unit_zero (S := S1x512) zero2, View.ld_unit_zero (S := S64x2048) zero2]
  rfl

theorem coverB_9 (hc : ¬first i) (xs0 xs1 : Vec F S2048x512 .bf16) (xs2 : Vec F S2x8x512 .f32) (y : S64x2048.Idx) :
    ∃ p ∈ (runB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs0 xs1 xs2).2.1, y ∈ p.1.set :=
  View.cover_of_tiledL _ S64x2048.size (by sl_kernel_rfl) y

theorem valueB_9 (hc : ¬first i) (xs0 xs1 : Vec F S2048x512 .bf16) (xs2 : Vec F S2x8x512 .f32) : View.canon (runB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs0 xs1 xs2).2.1 = k0_pay2 x7 := by
  unfold runB
  dsimp only
  sl_unfold_words
  rw [View.canon_unit_zero zero2]
  simp only [View.readAt_eq_ld, harg9.read_unread, View.ld_unit_zero (S := S64x2048) zero2]

theorem coverB_S2 (hc : ¬first i) (xs0 xs1 : Vec F S2048x512 .bf16) (xs2 : Vec F S2x8x512 .f32) (y : S2x8x512.Idx) :
    ∃ p ∈ (runB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs0 xs1 xs2).2.2.1, y ∈ p.1.set :=
  View.cover_of_tiledL (runB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs0 xs1 xs2).2.2.1 S1x8x512.size (by sl_kernel_rfl) y

theorem valueB_S2 (hc : ¬first i) (xs0 xs1 : Vec F S2048x512 .bf16) (xs2 : Vec F S2x8x512 .f32) : View.canon (runB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs0 xs1 xs2).2.2.1 = carried x0 xs0 xs1 := by
  unfold runB
  dsimp only
  sl_unfold_words
  simp only [View.readAt_eq_ld, harg2.read_unread, harg3.read_unread, harg4.read_unread, harg5.read_unread, harg6.read_unread, harg7.read_unread, harg8.read_unread, harg9.read_unread, harg12.read_unread, harg13.read_unread, harg14.read_unread, View.readCov_unit_zero (S := S2048x512) _ zero2, pay10_eq, pay11_eq, pay13_eq, pay14_eq, View.ld_unit_zero (S := S1024x2048) zero2, View.ld_unit_zero (S := S2048x512) zero2, View.ld_unit_zero (S := S1x512) zero2, View.ld_unit_zero (S := S64x2048) zero2]
  rfl

set_option maxHeartbeats 1000000 in
/-- The body at any other row tile. -/
theorem bodyB (hc : ¬first i) (xs0 xs1 : Vec F S2048x512 .bf16) (xs2 : Vec F S2x8x512 .f32) (E : Set ℕ) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ d, owns c.tc arg10 fullShare d) ∗ (∃ d, owns c.tc arg11 fullShare d) ∗ owns c.tc arg12 fullShare xs0 ∗ owns c.tc arg13 fullShare xs1 ∗ owns c.tc arg14 fullShare xs2
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare (outV i x0 x3 x4 x5 x6 xs0 xs1 xs2) ∗ owns c.tc arg11 fullShare (k0_pay2 x7) ∗ owns c.tc arg12 fullShare xs0 ∗ owns c.tc arg13 fullShare xs1 ∗ owns c.tc arg14 fullShare (carried x0 xs0 xs1)) -∗ K ⟨⟩))
      ⊢ wp frame (wpE (defs₀ (F := F)) Variants.none c none) E (cc0_ffn_up_conv_gate i arg2 harg2 arg3 harg3 arg4 harg4 arg5 harg5 arg6 harg6 arg7 harg7 arg8 harg8 arg9 harg9 arg10 harg10 arg11 harg11 arg12 harg12 arg13 harg13 arg14 harg14) K := by
  iintro ⟨H0, H1, H2, H3, H4, H5, H6, H7, H8, H9, HS0, HS1, HS2, Hk⟩
  iapply ((runB c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 hc xs0 xs1 xs2).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, H7, ⟨%e8, H8⟩, ⟨%e9, H9⟩, HS0, HS1, ⟨%e2, HS2⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact Eq.trans (View.read_writes_eq_canon _ _ _ fun _ => coverB_8 ..) (valueB_8 ..)
  isplitl [H9]
  · unfold owns; iexists _; isplitr
    swap; · iexact H9
    ipureintro; exact Eq.trans (View.read_writes_eq_canon _ _ _ fun _ => coverB_9 ..) (valueB_9 ..)
  isplitl [HS0]
  · iexact HS0
  isplitl [HS1]
  · iexact HS1
  unfold owns; iexists _; isplitr
  swap; · iexact HS2
  ipureintro; exact Eq.trans (View.read_writes_eq_canon _ _ _ fun _ => coverB_S2 ..) (valueB_S2 ..)

end Body

variable (m : (ℓ : Loc nD τ sig) → Buf (Elt F) ℓ) (ρ : Dev nD → PrngReg)

/-- Core `c`'s buffers when the kernel is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the kernel: the host operations. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

/-- The argument arrays. -/
def argRefs : List (Ref sig .tc) := [main_arg0, main_arg1, main_arg2, main_arg3, main_arg4]

/-- No host operation writes an argument array: the kernel finds each as it was at the start. -/
theorem V_arg (c : Dev nD) : ∀ b ∈ argRefs, V m c b = m ((c : Thread nD τ).loc b) := by
  intro b hb
  refine StableHlo.after_of_forall_not_mem (b := Proc.devRef .tc b) _ _ (List.forall_iff_forall_mem.mp ?_)
  simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by revert b; decide)

/-- Window `w`'s block at point `t`, of its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rounded weights a point's group of columns works with. -/
def wab (c : Dev nD) (t : Fin cfg0.N) : Vec F S2048x512 .bf16 := k0_pay3 (iblk m c 1 t)
def wvb (c : Dev nD) (t : Fin cfg0.N) : Vec F S2048x512 .bf16 := k0_pay4 (iblk m c 2 t)

/-- The rows point `t` leaves for the next one. -/
def rows (c : Dev nD) (t : Fin cfg0.N) : Vec F S2x8x512 .f32 := carried (iblk m c 0 t) (wab m c t) (wvb m c t)

/-- The point before (the first point its own). -/
abbrev prev (t : Fin cfg0.N) : Fin cfg0.N := ⟨t.val - 1, Nat.lt_of_le_of_lt (Nat.sub_le _ _) t.isLt⟩

/-- What point `t` leaves in its output block. -/
def outAt (c : Dev nD) (t : Fin cfg0.N) : Vec F S1024x512 .bf16 :=
  outV (grid0.coords t) (iblk m c 0 t) (iblk m c 3 t) (iblk m c 4 t) (iblk m c 5 t) (iblk m c 6 t) (wab m c t) (wvb m c t) (rows m c (prev t))

abbrev sc0 : Memref sig .tc .vmem S2048x512 .bf16 := Memref.whole cc0_scratch0
abbrev sc1 : Memref sig .tc .vmem S2048x512 .bf16 := Memref.whole cc0_scratch1
abbrev sc2 : Memref sig .tc .vmem S2x8x512 .f32 := Memref.whole cc0_scratch2

theorem PhiA_eq (c : Dev nD) :
    (Pipeline.ΦA spec0 c : sProp 𝕄)
      = iprop(iprop((∃ d, owns c.tc sc0 fullShare d) ∗ (∃ d, owns c.tc sc1 fullShare d) ∗ (∃ d, owns c.tc sc2 fullShare d)) ∗ (∃ r, prngReg c r)) := by
  unfold Pipeline.ΦA; rw [scopedRest0_eq]; simp only [sc0, sc1, sc2, owns_whole]; try rfl

/-- The scratch before position `n`: at the start anything; afterwards what the point before left. -/
def PhiS (c : Dev nD) : (n : ℕ) → n ≤ cfg0.N → sProp 𝕄
  | 0, _ => Pipeline.ΦA spec0 c
  | n + 1, hn => iprop(iprop(owns c.tc sc0 fullShare (wab m c ⟨n, hn⟩) ∗ owns c.tc sc1 fullShare (wvb m c ⟨n, hn⟩) ∗ owns c.tc sc2 fullShare (rows m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (t : Fin cfg0.N) :
    PhiS m c (t.val + 1) t.isLt = iprop(iprop(owns c.tc sc0 fullShare (wab m c t) ∗ owns c.tc sc1 fullShare (wvb m c t) ∗ owns c.tc sc2 fullShare (rows m c t)) ∗ (∃ r, prngReg c r)) := rfl

theorem PhiS_pos (c : Dev nD) (n : ℕ) (h : n ≤ cfg0.N) (hz : n ≠ 0) :
    PhiS m c n h = iprop(iprop(owns c.tc sc0 fullShare (wab m c ⟨n - 1, by omega⟩) ∗ owns c.tc sc1 fullShare (wvb m c ⟨n - 1, by omega⟩) ∗ owns c.tc sc2 fullShare (rows m c ⟨n - 1, by omega⟩)) ∗ (∃ r, prngReg c r)) := by
  cases n with
  | zero => exact absurd rfl hz
  | succ n => rfl

/-- The proof data: each array as the kernel finds it, the inputs' buffers left at their blocks, the outputs' at what
    the point leaves, the scratch at what the point before left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
    | ⟨9, _⟩ => k0_pay2 (iblk m c 7 t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

/-- An input's buffer holds its block whenever the body begins. -/
theorem before_in (c : Dev nD) (w : Fin cfg0.W) (hw : (cfg0.win w).isOut = false) (hlive : ∀ i, cfg0.idle w i = false)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((dats m 0 c).after w t) = (dats m 0 c).blockOf w t) (t : Fin cfg0.N) (d) :
    (dats m 0 c).before w t d = (dats m 0 c).fetched w t d :=
  (dats m 0 c).before_in_eq_fetched w hw hlive hclip hkeep t d

theorem fetched_1 (c : Dev nD) (t : Fin cfg0.N) (d) : (dats m 0 c).fetched 1 t d = iblk m c 1 t := by
  unfold Dat.fetched Dat.blockOf iblk; dsimp only [dats]; try rfl
theorem fetched_2 (c : Dev nD) (t : Fin cfg0.N) (d) : (dats m 0 c).fetched 2 t d = iblk m c 2 t := by
  unfold Dat.fetched Dat.blockOf iblk; dsimp only [dats]; try rfl
theorem before_0 (c : Dev nD) (t : Fin cfg0.N) (d) : (dats m 0 c).before 0 t d = iblk m c 0 t :=
  before_in m c 0 rfl (fun _ => rfl) (fun _ _ _ => rfl) (fun _ => by unfold Dat.blockOf; dsimp only [dats]; rfl) t d
theorem before_1 (c : Dev nD) (t : Fin cfg0.N) (d) : (dats m 0 c).before 1 t d = iblk m c 1 t :=
  before_in m c 1 rfl (fun _ => rfl) (fun _ _ _ => rfl) (fun _ => by unfold Dat.blockOf; dsimp only [dats]; rfl) t d
theorem before_2 (c : Dev nD) (t : Fin cfg0.N) (d) : (dats m 0 c).before 2 t d = iblk m c 2 t :=
  before_in m c 2 rfl (fun _ => rfl) (fun _ _ _ => rfl) (fun _ => by unfold Dat.blockOf; dsimp only [dats]; rfl) t d
theorem before_3 (c : Dev nD) (t : Fin cfg0.N) (d) : (dats m 0 c).before 3 t d = iblk m c 3 t :=
  before_in m c 3 rfl (fun _ => rfl) (fun _ _ _ => rfl) (fun _ => by unfold Dat.blockOf; dsimp only [dats]; rfl) t d
theorem before_4 (c : Dev nD) (t : Fin cfg0.N) (d) : (dats m 0 c).before 4 t d = iblk m c 4 t :=
  before_in m c 4 rfl (fun _ => rfl) (fun _ _ _ => rfl) (fun _ => by unfold Dat.blockOf; dsimp only [dats]; rfl) t d
theorem before_5 (c : Dev nD) (t : Fin cfg0.N) (d) : (dats m 0 c).before 5 t d = iblk m c 5 t :=
  before_in m c 5 rfl (fun _ => rfl) (fun _ _ _ => rfl) (fun _ => by unfold Dat.blockOf; dsimp only [dats]; rfl) t d
theorem before_6 (c : Dev nD) (t : Fin cfg0.N) (d) : (dats m 0 c).before 6 t d = iblk m c 6 t :=
  before_in m c 6 rfl (fun _ => rfl) (fun _ _ _ => rfl) (fun _ => by unfold Dat.blockOf; dsimp only [dats]; rfl) t d
theorem before_7 (c : Dev nD) (t : Fin cfg0.N) (d) : (dats m 0 c).before 7 t d = iblk m c 7 t :=
  before_in m c 7 rfl (fun _ => rfl) (fun _ _ _ => rfl) (fun _ => by unfold Dat.blockOf; dsimp only [dats]; rfl) t d
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]
theorem after_9 (c : Dev nD) (t : Fin cfg0.N) : (dats m 0 c).after 9 t = k0_pay2 (iblk m c 7 t) := by dsimp only [dats]

/-- Within a group of columns the weights' blocks do not move. -/
theorem index_1 : ∀ t : Fin grid0.N, ¬t.val % 8 = 0 → win0_1.index t = win0_1.index ⟨t.val - 1, Nat.lt_of_le_of_lt (Nat.sub_le _ _) t.isLt⟩ := by
  decide +kernel
theorem index_2 : ∀ t : Fin grid0.N, ¬t.val % 8 = 0 → win0_2.index t = win0_2.index ⟨t.val - 1, Nat.lt_of_le_of_lt (Nat.sub_le _ _) t.isLt⟩ := by
  decide +kernel

theorem wab_prev (c : Dev nD) (t : Fin cfg0.N) (h : ¬t.val % 8 = 0) : wab m c (prev t) = wab m c t := by
  unfold wab
  rw [← fetched_1 m c t (fun _ => Classical.arbitrary _), ← fetched_1 m c (prev t) (fun _ => Classical.arbitrary _),
    (dats m 0 c).fetched_congr 1 (t := t) (t' := prev t) (index_1 t h) rfl]
theorem wvb_prev (c : Dev nD) (t : Fin cfg0.N) (h : ¬t.val % 8 = 0) : wvb m c (prev t) = wvb m c t := by
  unfold wvb
  rw [← fetched_2 m c t (fun _ => Classical.arbitrary _), ← fetched_2 m c (prev t) (fun _ => Classical.arbitrary _),
    (dats m 0 c).fetched_congr 2 (t := t) (t' := prev t) (index_2 t h) rfl]

theorem coord1 (t : Fin cfg0.N) : (grid0.coords t 1).val = t.val % 8 := by
  have e : (grid0.coords t 1).val = t.val / 1 % 8 := Pipeline.Grid.coords_val t 1 (by decide) rfl
  rw [e, Nat.div_one]

theorem first_iff : ∀ t : Fin cfg0.N, first (grid0.coords t) ↔ t.val % 8 = 0 :=
  (fun t => by
    have ht : t.val < 96 := Nat.lt_of_lt_of_eq t.isLt N_0
    have e1 : (grid0.coords t 1).val = t.val / 1 % 8 := Pipeline.Grid.coords_val t 1 (by decide) rfl
    simp only [first, e1]
    word_cmp
   : ∀ t : Fin grid0.N, first (grid0.coords t) ↔ t.val % 8 = 0)

/-- At a first row tile the rows carried over do not matter. -/
theorem outAt_first (c : Dev nD) (t : Fin cfg0.N) (h : t.val % 8 = 0) (xs : Vec F S2x8x512 .f32) :
    outV (grid0.coords t) (iblk m c 0 t) (iblk m c 3 t) (iblk m c 4 t) (iblk m c 5 t) (iblk m c 6 t) (k0_pay3 (iblk m c 1 t)) (k0_pay4 (iblk m c 2 t)) xs = outAt m c t :=
  outV_unused (grid0.coords t) ((coord1 t).trans h) _ _ _ _ _ _ _ _ _

/-- What the body is called with at point `t`, window by window, and what it returns. -/
def bodyPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d))
    ∗ (∃ d, owns c.tc (st0_7 t) fullShare ((dats m 0 c).before 7 t d))
    ∗ (∃ d, owns c.tc (st0_8 t) fullShare ((dats m 0 c).before 8 t d))
    ∗ (∃ d, owns c.tc (st0_9 t) fullShare ((dats m 0 c).before 9 t d)))

def bodyPost (c : Dev nD) (t : Fin cfg0.N) : sProp 𝕄 :=
  iprop((dats m 0 c).Φ t.succ ∗ (dats m 0 c).owesAt () t.succ
    ∗ owns c.tc (st0_0 t) fullShare ((dats m 0 c).after 0 t)
    ∗ owns c.tc (st0_1 t) fullShare ((dats m 0 c).after 1 t)
    ∗ owns c.tc (st0_2 t) fullShare ((dats m 0 c).after 2 t)
    ∗ owns c.tc (st0_3 t) fullShare ((dats m 0 c).after 3 t)
    ∗ owns c.tc (st0_4 t) fullShare ((dats m 0 c).after 4 t)
    ∗ owns c.tc (st0_5 t) fullShare ((dats m 0 c).after 5 t)
    ∗ owns c.tc (st0_6 t) fullShare ((dats m 0 c).after 6 t)
    ∗ owns c.tc (st0_7 t) fullShare ((dats m 0 c).after 7 t)
    ∗ owns c.tc (st0_8 t) fullShare ((dats m 0 c).after 8 t)
    ∗ owns c.tc (st0_9 t) fullShare ((dats m 0 c).after 9 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8, after_9]
  rw [show (dats m 0 c).Φ t.succ = PhiS m c (t.val + 1) t.isLt from rfl, PhiS_succ, Phi_castSucc m c t]
  by_cases h0 : t.val % 8 = 0
  · by_cases hz : t.val = 0
    · rw [PhiS_zero m c _ _ hz, PhiA_eq]
      iintro ⟨⟨⟨HS0, HS1, ⟨%xs, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      rw [← outAt_first m c t h0 xs]
      iapply (bodyA c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((first_iff t).mpr h0) xs Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      iintro ⟨H0, H1, H2, H3, H4, H5, H6, H7, H8, H9, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      rw [← outAt_first m c t h0 (rows m c ⟨t.val - 1, by omega⟩)]
      iapply (bodyA c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((first_iff t).mpr h0) (rows m c ⟨t.val - 1, by omega⟩) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexists _; iexact HS0
      isplitl [HS1]; · iexists _; iexact HS1
      isplitl [HS2]; · iexact HS2
      iintro ⟨H0, H1, H2, H3, H4, H5, H6, H7, H8, H9, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · have hz : t.val ≠ 0 := fun h => h0 (by rw [h])
    rw [PhiS_pos m c _ _ hz, wab_prev m c t h0, wvb_prev m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyB c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (fun h => h0 ((first_iff t).mp h)) (wab m c t) (wvb m c t) (rows m c (prev t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]

/-- At the end the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 96 := N_0; omega), PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

set_option backward.isDefEq.respectTransparency.types false in
/-- Every run of the program ends, with each array the kernel stages at what the pipeline computes from the proof data,
    every other array as the kernel found it, and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiet m ρ)

/-- The host takes the kernel's operands out of the activations and the biases; no window stages those two. -/
theorem arr_ne0 : ∀ w : Fin 10, (spec0 w).arr.view.ref ≠ main_arg0 := by decide
theorem arr_ne3 : ∀ w : Fin 10, (spec0 w).arr.view.ref ≠ main_arg3 := by decide

/-- The frame: every run ends, with the five arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) arr_ne0)).trans (V_arg m c main_arg0 (by decide)),
      ((h.1 c).1 1).trans (((dats m 0 c).arrAt_in 1 rfl _).trans ((A_eq m c 1).trans (V_arg m c main_arg1 (by decide)))),
      ((h.1 c).1 3).trans (((dats m 0 c).arrAt_in 3 rfl _).trans ((A_eq m c 3).trans (V_arg m c main_arg2 (by decide)))),
      ((h.1 c).2 main_arg3 (Pipeline.mem_restRefs_of main_arg3 (by decide) arr_ne3)).trans (V_arg m c main_arg3 (by decide)),
      ((h.1 c).1 7).trans (((dats m 0 c).arrAt_in 7 rfl _).trans ((A_eq m c 7).trans (V_arg m c main_arg4 (by decide))))⟩, h.2⟩) (run_quiet m ρ)

end Cert.Proof.Up

end
-- ==== Proof.Rows.Up.Body.lean ====
module

public import proofs.«01_k».proof.Proof.Rows.Up.Frame
public import Idealize.ShloMosaic.Adequacy
public import Idealize.ShloMosaic.Lib.Claim
public import Idealize.ShloMosaic.Lib.Pipeline.ValueKit
public import Idealize.ShloMosaic.Lib.StableHlo.ReadAt
public import Idealize.ShloMosaic.Lib.WholeRead
public import Idealize.ShloMosaic.Lib.Pointwise

/-! What one grid point of the up-projection computes, element by element. -/

@[expose] public section
set_option maxRecDepth 16384
noncomputable section
namespace Cert.Proof.Up

open Cert.Kernel2Ideal Cert.Kernel2Ideal.Gen
open Idealize.ShloMosaic Idealize.ShloMosaic.TcCoe
open Idealize.SL.Sem
open Idealize.ShloMosaic.Pipeline (Dat Cfg Window)

theorem pay6_at (x : Vec Ideal S1024x2048 .bf16) (w : Vec Ideal S2048x512 .bf16) (b : Fin 1024) (l : Fin 512) :
    k0_pay6 x w (ix2 b l) = ∑ k : Fin 2048, x (ix2 b k) * w (ix2 k l) := by
  pointwise [k0_pay6, k0_pay5]

theorem pay8_at (x : Vec Ideal S1024x2048 .bf16) (w : Vec Ideal S2048x512 .bf16) (q : Fin 8) (l : Fin 512) :
    k0_pay8 x w (ix3 0 q l) = k0_pay6 x w (ix2 ⟨1016 + q.val, by omega⟩ l) := by
  pointwise [k0_pay8]

/-- The gated activation. -/
def gate (a v : EReal) : EReal :=
  a * (Ideal.ofBits .f32 0x3F000000#32 * (Ideal.ofBits .f32 0x3F800000#32 + Ideal.tanh (Ideal.ofBits .f32 0x3F4C422A#32 * (a + Ideal.ofBits .f32 0x3D372713#32 * (a * (a * a)))))) * v

theorem pay1_at (a v : Vec Ideal S1024x512 .f32) (b : Fin 1024) (l : Fin 512) :
    (k0_pay1 (F := Ideal) a v (k0_pay15 a) (ix2 b l) : EReal) = gate (a (ix2 b l)) (v (ix2 b l)) := by
  unfold gate
  pointwise [k0_pay1, k0_pay15]

theorem pay7_at (i : grid0.Coords) (v : Vec Ideal S1x8x512 .f32) (q : Fin 8) (l : Fin 512) :
    k0_pay7 i v (ix2 q l) = if (i 1).val % 4 = 0 then 0 else v (ix3 0 q l) := by
  have h : ∀ n : Fin 8, i 1 = n → k0_pay7 i v (ix2 q l) = if (i 1).val % 4 = 0 then 0 else v (ix3 0 q l) := by
    intro n hn
    unfold k0_pay7
    rw [hn]
    fin_cases n <;> pointwise [] <;> rfl
  exact h _ rfl

theorem select_lt2 (n : ℕ) (hn : n < 8) (x y : EReal) :
    Scalar.select (IntOp.cmpi CmpIPredicate.slt (BitVec.ofNat 32 n) 2#32) x y = if n < 2 then x else y := by
  interval_cases n <;> rfl

theorem select_lt1 (n : ℕ) (hn : n < 8) (x y : EReal) :
    Scalar.select (IntOp.cmpi CmpIPredicate.slt (BitVec.ofNat 32 n) 1#32) x y = if n < 1 then x else y := by
  interval_cases n <;> rfl

theorem pay9_at (u : Vec Ideal S1024x512 .f32) (tl : Vec Ideal S8x512 .f32) (b w2 w0 w1 : Vec Ideal S1x512 .f32) (r : Fin 1024) (l : Fin 512) :
    k0_pay9 u tl b w2 w0 w1 (ix2 r l)
      = b (ix2 0 l) + w2 (ix2 0 l) * u (ix2 r l)
        + w0 (ix2 0 l) * (if h : r.val < 2 then tl (ix2 ⟨r.val + 6, by omega⟩ l) else u (ix2 ⟨r.val - 2, by omega⟩ l))
        + w1 (ix2 0 l) * (if h : r.val < 1 then tl (ix2 ⟨r.val + 7, by omega⟩ l) else u (ix2 ⟨r.val - 1, by omega⟩ l)) := by
  pointwise [k0_pay9]
  by_cases h8 : r.val < 8
  · rw [dif_pos h8, dif_pos h8]
    rw [select_lt2 _ h8, select_lt1 _ h8]
    refine congrArg₂ (· + ·) (congrArg₂ (· + ·) rfl (congrArg (w0 (ix2 0 l) * ·) ?_)) (congrArg (w1 (ix2 0 l) * ·) ?_)
    · by_cases h : r.val < 2
      · rw [if_pos h, dif_pos h]
        exact congrArg (fun a => tl (ix2 a l)) (Fin.ext (by dsimp only; omega))
      · rw [if_neg h, dif_neg h]
        exact congrArg (fun a => u (ix2 a l)) (Fin.ext (by dsimp only; omega))
    · by_cases h : r.val < 1
      · rw [if_pos h, dif_pos h]
        exact congrArg (fun a => tl (ix2 a l)) (Fin.ext (by dsimp only; omega))
      · rw [if_neg h, dif_neg h]
        exact congrArg (fun a => u (ix2 a l)) (Fin.ext (by dsimp only; omega))
  · rw [dif_neg h8, dif_neg h8, dif_neg (by omega), dif_neg (by omega)]
    refine congrArg₂ (· + ·) (congrArg₂ (· + ·) rfl (congrArg (w0 (ix2 0 l) * ·) ?_)) (congrArg (w1 (ix2 0 l) * ·) ?_) <;>
      exact congrArg (fun a => u (ix2 a l)) (Fin.ext (by dsimp only; omega))

/-! ## The mathematics -/

/-- The up-projection of a position of a sequence, at one channel. -/
def proj (h : Vec Ideal S2x4096x2048 .f32) (w : Vec Ideal S2048x12288 .f32) (b : Fin 2) (s : Fin 4096) (n : Fin 12288) : EReal :=
  ∑ k : Fin 2048, h (ix3 b s k) * w (ix2 k n)

/-- The same `d` positions earlier; zero before the sequence's start. -/
def ago (d : ℕ) (h : Vec Ideal S2x4096x2048 .f32) (w : Vec Ideal S2048x12288 .f32) (b : Fin 2) (s : Fin 4096) (n : Fin 12288) : EReal :=
  if s.val < d then 0 else proj h w b ⟨s.val - d, by omega⟩ n

/-- The causal convolution over three positions. -/
def mixed (h : Vec Ideal S2x4096x2048 .f32) (w : Vec Ideal S2048x12288 .f32) (cw : Vec Ideal S3x12288 .f32) (cb : Vec Ideal S12288 .f32) (b : Fin 2) (s : Fin 4096) (n : Fin 12288) : EReal :=
  cb (ix1 n) + cw (ix2 2 n) * proj h w b s n + cw (ix2 0 n) * ago 2 h w b s n + cw (ix2 1 n) * ago 1 h w b s n

/-- The gated activations, row by row. -/
def result (h : Vec Ideal S2x4096x2048 .f32) (w : Vec Ideal S2048x12288 .f32) (cw : Vec Ideal S3x12288 .f32) (cb : Vec Ideal S12288 .f32) : Vec Ideal S8192x6144 .bf16 := fun y =>
  have h0 : (y 0).val < 8192 := (y 0).isLt
  have h1 : (y 1).val < 6144 := (y 1).isLt
  gate (mixed h w cw cb ⟨(y 0).val / 4096, by omega⟩ ⟨(y 0).val % 4096, by omega⟩ ⟨(y 1).val, by omega⟩)
    (mixed h w cw cb ⟨(y 0).val / 4096, by omega⟩ ⟨(y 0).val % 4096, by omega⟩ ⟨6144 + (y 1).val, by omega⟩)

/-! ## A block's convolution -/

theorem tap2_at (w : Vec Ideal S3x512 .f32) (l : Fin 512) : tap2 w (ix2 0 l) = w (ix2 2 l) :=
  View.ld_unit_apply_of w _ _ _ _ _ (fun a => by fin_cases a <;> simp)
theorem tap1_at (w : Vec Ideal S3x512 .f32) (l : Fin 512) : tap1 w (ix2 0 l) = w (ix2 1 l) :=
  View.ld_unit_apply_of w _ _ _ _ _ (fun a => by fin_cases a <;> simp)
theorem tap0_at (w : Vec Ideal S3x512 .f32) (l : Fin 512) : tap0 w (ix2 0 l) = w (ix2 0 l) :=
  View.ld_unit_apply_of w _ _ _ _ _ (fun a => by fin_cases a <;> simp)

/-- The first half of the rows carried over. -/
theorem carried_0 (x : Vec Ideal S1024x2048 .bf16) (wa wv : Vec Ideal S2048x512 .bf16) :
    View.ld (carried x wa wv) (Rect.unit (s := S2x8x512) ![0, 0, 0] S1x8x512.size inb_S2x8x512_S1x8x512_0_0_0) = k0_pay8 x wa := by
  refine funext fun y => ?_
  unfold carried
  rw [View.ld_apply, View.canon_cons, Rect.overlay_of_not_mem]
  · exact View.canon_cons_emb _ _ _ y
  · rw [Rect.mem_set_unit]
    intro h
    have h0 := (h 0).1
    simp at h0

/-- The second half. -/
theorem carried_1 (x : Vec Ideal S1024x2048 .bf16) (wa wv : Vec Ideal S2048x512 .bf16) :
    View.ld (carried x wa wv) (Rect.unit (s := S2x8x512) ![1, 0, 0] S1x8x512.size inb_S2x8x512_S1x8x512_1_0_0) = k0_pay8 x wv :=
  funext fun y => View.canon_cons_emb _ _ _ y

/-- A block's convolution is the layer's, given that its products, and the rows carried over, are the projection's. -/
theorem conv_mixed (i : grid0.Coords) (x : Vec Ideal S1024x2048 .bf16) (w : Vec Ideal S2048x512 .bf16) (b : Vec Ideal S1x512 .f32) (cw : Vec Ideal S3x512 .f32) (tail : Vec Ideal S1x8x512 .f32)
    (H : Vec Ideal S2x4096x2048 .f32) (W : Vec Ideal S2048x12288 .f32) (CW : Vec Ideal S3x12288 .f32) (CB : Vec Ideal S12288 .f32) (B : Fin 2) (n : Fin 12288) (l : Fin 512)
    (hu : ∀ (r : Fin 1024) (s : Fin 4096), s.val = 1024 * ((i 1).val % 4) + r.val → k0_pay6 x w (ix2 r l) = proj H W B s n)
    (ht : ∀ (q : Fin 8) (s : Fin 4096), s.val + 8 = 1024 * ((i 1).val % 4) + q.val → tail (ix3 0 q l) = proj H W B s n)
    (hb : b (ix2 0 l) = CB (ix1 n)) (hc : ∀ k : Fin 3, cw (ix2 k l) = CW (ix2 k n))
    (r : Fin 1024) (s : Fin 4096) (hs : s.val = 1024 * ((i 1).val % 4) + r.val) :
    conv i x w b cw tail (ix2 r l) = mixed H W CW CB B s n := by
  have hago : ∀ (d : ℕ) (hd : d ≤ 2), (if h : r.val < d then k0_pay7 i tail (ix2 ⟨r.val + (8 - d), by omega⟩ l) else k0_pay6 x w (ix2 ⟨r.val - d, by omega⟩ l)) = ago d H W B s n := by
    intro d hd
    unfold ago
    by_cases h : r.val < d
    · rw [dif_pos h, pay7_at]
      by_cases h4 : (i 1).val % 4 = 0
      · rw [if_pos h4, if_pos (by omega)]
      · rw [if_neg h4, if_neg (by omega)]
        exact ht _ _ (by dsimp only; omega)
    · rw [dif_neg h, if_neg (by omega)]
      exact hu _ _ (by dsimp only; omega)
  unfold conv mixed
  rw [pay9_at, tap2_at, tap1_at, tap0_at, hb, hc, hc, hc, hu r s hs]
  exact congrArg₂ (· + ·) (congrArg₂ (· + ·) rfl (congrArg (CW (ix2 0 n) * ·) (hago 2 (by omega)))) (congrArg (CW (ix2 1 n) * ·) (hago 1 (by omega)))

end Cert.Proof.Up

end
-- ==== Proof.Rows.Up.Ref.lean ====
module

public import proofs.«01_k».proof.Proof.Rows.Up.Body
public import proofs.«01_k».proof.Proof.Gen.Reference2Ideal.Run

/-! The reference's up-projection, convolution and gate, element by element. -/

@[expose] public section
set_option maxRecDepth 16384
noncomputable section
namespace Cert.Proof.Up

open Cert.Reference2Ideal Cert.Reference2Ideal.Gen
open Idealize.ShloMosaic Idealize.ShloMosaic.TcCoe
open Idealize.SL.Sem

/-- The reference's projection, two rows of zeros in front of each sequence. -/
def padded (h : Vec Ideal S2x4096x2048 .f32) (w : Vec Ideal S2048x12288 .f32) : Vec Ideal S2x4098x12288 .f32 :=
  pad S2x4098x12288 ![0, 2, 0] ![0, 0, 0] ![0, 0, 0] (Host.dotGeneral (F := Ideal) (φ₁ := .f32) (φ₂ := .f32) dot_S2x4096x2048_S2048x12288_S2x4096x12288_2_0_01_1_n_n none h w)
    (sitofp (F := Ideal) .f32 (constantI S_ 32 0#32)) pads_S2x4096x12288_S2x4098x12288_000_200_000 h_S_

/-- The reference's convolution. -/
def summed (p : Vec Ideal S2x4098x12288 .f32) (cw : Vec Ideal S3x12288 .f32) (cb : Vec Ideal S12288 .f32) : Vec Ideal S2x4096x12288 .f32 :=
  addf (F := Ideal) (φ := .f32) (addf (F := Ideal) (φ := .f32) (addf (F := Ideal) (φ := .f32)
      (broadcastInDim S2x4096x12288 ![0, 1, 2] bcast_S1x1x12288_S2x4096x12288_0_1_2 (broadcastInDim S1x1x12288 ![2] bcast_S12288_S1x1x12288_2 cb))
      (mulf (F := Ideal) (φ := .f32) (broadcastInDim S2x4096x12288 ![0, 1, 2] bcast_S1x1x12288_S2x4096x12288_0_1_2 (broadcastInDim S1x1x12288 ![2] bcast_S12288_S1x1x12288_2 (shapeCast (s := S1x12288) _ (extractStridedSlice S1x12288 ![0, 0] cw slices_S3x12288_S1x12288_0_0) shapeCasts_S1x12288_S12288)))
        (extractStridedSlice S2x4096x12288 ![0, 0, 0] p slices_S2x4098x12288_S2x4096x12288_0_0_0)))
      (mulf (F := Ideal) (φ := .f32) (broadcastInDim S2x4096x12288 ![0, 1, 2] bcast_S1x1x12288_S2x4096x12288_0_1_2 (broadcastInDim S1x1x12288 ![2] bcast_S12288_S1x1x12288_2 (shapeCast (s := S1x12288) _ (extractStridedSlice S1x12288 ![1, 0] cw slices_S3x12288_S1x12288_1_0) shapeCasts_S1x12288_S12288)))
        (extractStridedSlice S2x4096x12288 ![0, 1, 0] p slices_S2x4098x12288_S2x4096x12288_0_1_0)))
    (mulf (F := Ideal) (φ := .f32) (broadcastInDim S2x4096x12288 ![0, 1, 2] bcast_S1x1x12288_S2x4096x12288_0_1_2 (broadcastInDim S1x1x12288 ![2] bcast_S12288_S1x1x12288_2 (shapeCast (s := S1x12288) _ (extractStridedSlice S1x12288 ![2, 0] cw slices_S3x12288_S1x12288_2_0) shapeCasts_S1x12288_S12288)))
      (extractStridedSlice S2x4096x12288 ![0, 2, 0] p slices_S2x4098x12288_S2x4096x12288_0_2_0))

/-- The reference's gate. -/
def gated (a v : Vec Ideal S2x4096x6144 .f32) : Vec Ideal S8192x6144 .bf16 :=
  truncf (F := Ideal) (φ := .f32) .bf16 (shapeCast (s := S2x4096x6144) _ (mulf (F := Ideal) (φ := .f32) (mulf (F := Ideal) (φ := .f32) a
    (mulf (F := Ideal) (φ := .f32) (broadcastInDim S2x4096x6144 ![] bcast_S_S2x4096x6144 (constant (F := Ideal) S_ .f32 0x3F000000#32))
      (addf (F := Ideal) (φ := .f32) (broadcastInDim S2x4096x6144 ![] bcast_S_S2x4096x6144 (constant (F := Ideal) S_ .f32 0x3F800000#32))
        (Host.tanh (F := Ideal) (φ := .f32) (mulf (F := Ideal) (φ := .f32) (broadcastInDim S2x4096x6144 ![] bcast_S_S2x4096x6144 (constant (F := Ideal) S_ .f32 0x3F4C422A#32))
          (addf (F := Ideal) (φ := .f32) a (mulf (F := Ideal) (φ := .f32) (broadcastInDim S2x4096x6144 ![] bcast_S_S2x4096x6144 (constant (F := Ideal) S_ .f32 0x3D372713#32)) (mulf (F := Ideal) (φ := .f32) (mulf (F := Ideal) (φ := .f32) a a) a))))))))
    v) shapeCasts_S2x4096x6144_S8192x6144) bitsLt_bf16_f32

/-- The two halves of the channels. -/
def half0 (f : Vec Ideal S2x4096x12288 .f32) : Vec Ideal S2x4096x6144 .f32 := extractStridedSlice S2x4096x6144 ![0, 0, 0] f slices_S2x4096x12288_S2x4096x6144_0_0_0
def half1 (f : Vec Ideal S2x4096x12288 .f32) : Vec Ideal S2x4096x6144 .f32 := extractStridedSlice S2x4096x6144 ![0, 0, 6144] f slices_S2x4096x12288_S2x4096x6144_0_0_6144

theorem padded_at (h : Vec Ideal S2x4096x2048 .f32) (w : Vec Ideal S2048x12288 .f32) (b : Fin 2) (p : Fin 4098) (n : Fin 12288) :
    padded h w (ix3 b p n) = if hp : p.val < 2 then 0 else proj h w b ⟨p.val - 2, by omega⟩ n := by
  unfold proj
  pointwise [padded]
  by_cases hp : p.val < 2
  · rw [dif_neg (by omega), dif_pos hp]
    exact congrArg (fun z : ℝ => (z : EReal)) (by simp : (((0#32 : BitVec 32).toInt : ℤ) : ℝ) = 0)
  · rw [dif_pos (by omega), dif_neg hp]

theorem summed_at (p : Vec Ideal S2x4098x12288 .f32) (cw : Vec Ideal S3x12288 .f32) (cb : Vec Ideal S12288 .f32) (b : Fin 2) (s : Fin 4096) (n : Fin 12288) :
    summed p cw cb (ix3 b s n) = cb (ix1 n) + cw (ix2 0 n) * p (ix3 b ⟨s.val, by omega⟩ n) + cw (ix2 1 n) * p (ix3 b ⟨1 + s.val, by omega⟩ n) + cw (ix2 2 n) * p (ix3 b ⟨2 + s.val, by omega⟩ n) := by
  pointwise [summed]

theorem half0_at (f : Vec Ideal S2x4096x12288 .f32) (b : Fin 2) (s : Fin 4096) (l : Fin 6144) : half0 f (ix3 b s l) = f (ix3 b s ⟨l.val, by omega⟩) := by
  pointwise [half0]
theorem half1_at (f : Vec Ideal S2x4096x12288 .f32) (b : Fin 2) (s : Fin 4096) (l : Fin 6144) : half1 f (ix3 b s l) = f (ix3 b s ⟨6144 + l.val, by omega⟩) := by
  pointwise [half1]

theorem gated_at (a v : Vec Ideal S2x4096x6144 .f32) (r : Fin 8192) (l : Fin 6144) :
    (gated a v (ix2 r l) : EReal) = gate (a (ix3 ⟨r.val / 4096, by omega⟩ ⟨r.val % 4096, by omega⟩ l)) (v (ix3 ⟨r.val / 4096, by omega⟩ ⟨r.val % 4096, by omega⟩ l)) := by
  unfold gate
  rw [mul_comm (a (ix3 ⟨r.val / 4096, by omega⟩ ⟨r.val % 4096, by omega⟩ l)) (a (ix3 ⟨r.val / 4096, by omega⟩ ⟨r.val % 4096, by omega⟩ l) * _)]
  pointwise [gated]

/-- The reference's convolution is the layer's. -/
theorem summed_mixed (h : Vec Ideal S2x4096x2048 .f32) (w : Vec Ideal S2048x12288 .f32) (cw : Vec Ideal S3x12288 .f32) (cb : Vec Ideal S12288 .f32) (b : Fin 2) (s : Fin 4096) (n : Fin 12288) :
    summed (padded h w) cw cb (ix3 b s n) = mixed h w cw cb b s n := by
  rw [summed_at, padded_at, padded_at, padded_at]
  unfold mixed ago
  have e2 : (if hp : s.val < 2 then (0 : EReal) else proj h w b ⟨s.val - 2, by omega⟩ n) = if s.val < 2 then 0 else proj h w b ⟨s.val - 2, by omega⟩ n := rfl
  have e1 : (if hp : 1 + s.val < 2 then (0 : EReal) else proj h w b ⟨1 + s.val - 2, by omega⟩ n) = if s.val < 1 then 0 else proj h w b ⟨s.val - 1, by omega⟩ n := by
    by_cases hs : s.val < 1
    · rw [dif_pos (by omega), if_pos hs]
    · rw [dif_neg (by omega), if_neg hs]
      exact congrArg (fun s => proj h w b s n) (Fin.ext (by dsimp only; omega))
  have e0 : (if hp : 2 + s.val < 2 then (0 : EReal) else proj h w b ⟨2 + s.val - 2, by omega⟩ n) = proj h w b s n := by
    rw [dif_neg (by omega)]
    exact congrArg (fun s => proj h w b s n) (Fin.ext (by dsimp only; omega))
  refine (congrArg₂ (· + ·) (congrArg₂ (· + ·) (congrArg (fun x => cb (ix1 n) + cw (ix2 0 n) * x) e2) (congrArg (cw (ix2 1 n) * ·) e1)) (congrArg (cw (ix2 2 n) * ·) e0)).trans ?_
  rw [add_right_comm _ _ (cw (ix2 2 n) * _), add_right_comm _ _ (cw (ix2 2 n) * _)]

/-- The reference's result is the layer's. -/
theorem value_eq (h : Vec Ideal S2x4096x2048 .f32) (w : Vec Ideal S2048x12288 .f32) (cw : Vec Ideal S3x12288 .f32) (cb : Vec Ideal S12288 .f32) :
    gated (half0 (summed (padded h w) cw cb)) (half1 (summed (padded h w) cw cb)) = result h w cw cb := by
  refine funext fun y => ?_
  obtain ⟨r, l, rfl⟩ : ∃ (r : Fin 8192) (l : Fin 6144), y = ix2 r l := ⟨y 0, y 1, eq_ix2 y⟩
  refine (gated_at _ _ r l).trans ?_
  rw [half0_at, half1_at, summed_mixed, summed_mixed]
  rfl

theorem res_eq (m : (ℓ : Loc nD τ sig) → Buf (Elt Ideal) ℓ) (c : Dev nD) :
    Cert.Reference2Ideal.Value.res_main_v42 m c = result (m ((c.tc : Thread nD τ).loc main_arg0)) (m ((c.tc : Thread nD τ).loc main_arg1)) (m ((c.tc : Thread nD τ).loc main_arg2)) (m ((c.tc : Thread nD τ).loc main_arg3)) := by
  unfold Cert.Reference2Ideal.Value.res_main_v42
  exact value_eq (m ((c.tc : Thread nD τ).loc main_arg0)) (m ((c.tc : Thread nD τ).loc main_arg1)) (m ((c.tc : Thread nD τ).loc main_arg2)) (m ((c.tc : Thread nD τ).loc main_arg3))

end Cert.Proof.Up

end
-- ==== Proof.Rows.Up.Value.lean ====
module

public import proofs.«01_k».proof.Defs
public import proofs.«01_k».proof.Proof.Rows.Up.Body
public import proofs.«01_k».proof.Proof.Rows.Up.Ref

/-! The up-projection's arrays after the run, against the reference's. -/

@[expose] public section
set_option maxRecDepth 16384
noncomputable section
namespace Cert.Proof.Up

open Cert.Kernel2Ideal Cert.Kernel2Ideal.Gen
open Idealize.ShloMosaic Idealize.ShloMosaic.TcCoe
open Idealize.SL.Sem
open Idealize.ShloMosaic.Pipeline (Dat Cfg Window)

variable (m : (ℓ : Loc nD τ sig) → Buf (Elt Ideal) ℓ)

/-- The layer's rows before the feed-forward. -/
abbrev hIn (c : Dev nD) : Vec Ideal S2x4096x2048 .f32 := m ((c : Thread nD τ).loc main_arg0)
/-- The weights up. -/
abbrev wIn (c : Dev nD) : Vec Ideal S2048x12288 .f32 := m ((c : Thread nD τ).loc main_arg1)
/-- The convolution's taps. -/
abbrev cwIn (c : Dev nD) : Vec Ideal S3x12288 .f32 := m ((c : Thread nD τ).loc main_arg2)
/-- The convolution's bias. -/
abbrev cbIn (c : Dev nD) : Vec Ideal S12288 .f32 := m ((c : Thread nD τ).loc main_arg3)
/-- The weights down. -/
abbrev dIn (c : Dev nD) : Vec Ideal S6144x2048 .f32 := m ((c : Thread nD τ).loc main_arg4)

theorem v1_at (c : Dev nD) (r : Fin 8192) (k : Fin 2048) :
    (V m c main_v1 : Vec Ideal S8192x2048 .bf16) (ix2 r k) = hIn m c (ix3 ⟨r.val / 4096, by omega⟩ ⟨r.val % 4096, by omega⟩ k) := by
  unfold_abbrev_sides
  after_reads_at

theorem v2_at (c : Dev nD) (n : Fin 12288) :
    (V m c main_v2 : Vec Ideal S1x12288 .f32) (ix2 0 n) = cbIn m c (ix1 n) := by
  unfold_abbrev_sides
  after_reads_at

theorem idx0 : ∀ t : Fin grid0.N, win0_0.index t = ![t.val % 8, 0] := by decide +kernel
theorem idx1 : ∀ t : Fin grid0.N, win0_1.index t = ![0, t.val / 8] := by decide +kernel
theorem idx2 : ∀ t : Fin grid0.N, win0_2.index t = ![0, 12 + t.val / 8] := by decide +kernel
theorem idx3 : ∀ t : Fin grid0.N, win0_3.index t = ![0, t.val / 8] := by decide +kernel
theorem idx4 : ∀ t : Fin grid0.N, win0_4.index t = ![0, 12 + t.val / 8] := by decide +kernel
theorem idx5 : ∀ t : Fin grid0.N, win0_5.index t = ![0, t.val / 8] := by decide +kernel
theorem idx6 : ∀ t : Fin grid0.N, win0_6.index t = ![0, 12 + t.val / 8] := by decide +kernel
theorem idx7 : ∀ t : Fin grid0.N, win0_7.index t = ![t.val, 0] := by decide +kernel
theorem idx8 : ∀ t : Fin grid0.N, win0_8.index t = ![t.val % 8, t.val / 8] := by decide +kernel
theorem idx9 : ∀ t : Fin grid0.N, win0_9.index t = ![t.val, 0] := by decide +kernel

theorem point_lt (t : Fin cfg0.N) : t.val < 96 := t.isLt

theorem blk0 (c : Dev nD) (t : Fin cfg0.N) (b : Fin 1024) (k : Fin 2048) (r : Fin 8192) (hr : r.val = 1024 * (t.val % 8) + b.val) :
    (iblk m c 0 t : Vec Ideal S1024x2048 .bf16) (ix2 b k) = hIn m c (ix3 ⟨r.val / 4096, by omega⟩ ⟨r.val % 4096, by omega⟩ k) := by
  rw [← v1_at m c]
  have hb : 1024 * (t.val % 8) + b.val < 8192 := hr ▸ r.isLt
  obtain rfl : r = ⟨1024 * (t.val % 8) + b.val, hb⟩ := Fin.ext hr
  blk_ext [iblk, idx0 t]

theorem blk1 (c : Dev nD) (t : Fin cfg0.N) (k : Fin 2048) (l : Fin 512) (n : Fin 12288) (hn : n.val = 512 * (t.val / 8) + l.val) :
    (iblk m c 1 t : Vec Ideal S2048x512 .f32) (ix2 k l) = wIn m c (ix2 k n) := by
  rw [← show V m c main_arg1 = wIn m c from V_arg m c main_arg1 (by decide)]
  have hb : 512 * (t.val / 8) + l.val < 12288 := hn ▸ n.isLt
  obtain rfl : n = ⟨512 * (t.val / 8) + l.val, hb⟩ := Fin.ext hn
  blk_ext [iblk, idx1 t]

theorem blk2 (c : Dev nD) (t : Fin cfg0.N) (k : Fin 2048) (l : Fin 512) (n : Fin 12288) (hn : n.val = 512 * (12 + t.val / 8) + l.val) :
    (iblk m c 2 t : Vec Ideal S2048x512 .f32) (ix2 k l) = wIn m c (ix2 k n) := by
  rw [← show V m c main_arg1 = wIn m c from V_arg m c main_arg1 (by decide)]
  have hb : 512 * (12 + t.val / 8) + l.val < 12288 := hn ▸ n.isLt
  obtain rfl : n = ⟨512 * (12 + t.val / 8) + l.val, hb⟩ := Fin.ext hn
  blk_ext [iblk, idx2 t]

theorem blk3 (c : Dev nD) (t : Fin cfg0.N) (k : Fin 3) (l : Fin 512) (n : Fin 12288) (hn : n.val = 512 * (t.val / 8) + l.val) :
    (iblk m c 3 t : Vec Ideal S3x512 .f32) (ix2 k l) = cwIn m c (ix2 k n) := by
  rw [← show V m c main_arg2 = cwIn m c from V_arg m c main_arg2 (by decide)]
  have hb : 512 * (t.val / 8) + l.val < 12288 := hn ▸ n.isLt
  obtain rfl : n = ⟨512 * (t.val / 8) + l.val, hb⟩ := Fin.ext hn
  blk_ext [iblk, idx3 t]

theorem blk4 (c : Dev nD) (t : Fin cfg0.N) (k : Fin 3) (l : Fin 512) (n : Fin 12288) (hn : n.val = 512 * (12 + t.val / 8) + l.val) :
    (iblk m c 4 t : Vec Ideal S3x512 .f32) (ix2 k l) = cwIn m c (ix2 k n) := by
  rw [← show V m c main_arg2 = cwIn m c from V_arg m c main_arg2 (by decide)]
  have hb : 512 * (12 + t.val / 8) + l.val < 12288 := hn ▸ n.isLt
  obtain rfl : n = ⟨512 * (12 + t.val / 8) + l.val, hb⟩ := Fin.ext hn
  blk_ext [iblk, idx4 t]

theorem blk5 (c : Dev nD) (t : Fin cfg0.N) (l : Fin 512) (n : Fin 12288) (hn : n.val = 512 * (t.val / 8) + l.val) :
    (iblk m c 5 t : Vec Ideal S1x512 .f32) (ix2 0 l) = cbIn m c (ix1 n) := by
  rw [← v2_at m c]
  have hb : 512 * (t.val / 8) + l.val < 12288 := hn ▸ n.isLt
  obtain rfl : n = ⟨512 * (t.val / 8) + l.val, hb⟩ := Fin.ext hn
  blk_ext [iblk, idx5 t]

theorem blk6 (c : Dev nD) (t : Fin cfg0.N) (l : Fin 512) (n : Fin 12288) (hn : n.val = 512 * (12 + t.val / 8) + l.val) :
    (iblk m c 6 t : Vec Ideal S1x512 .f32) (ix2 0 l) = cbIn m c (ix1 n) := by
  rw [← v2_at m c]
  have hb : 512 * (12 + t.val / 8) + l.val < 12288 := hn ▸ n.isLt
  obtain rfl : n = ⟨512 * (12 + t.val / 8) + l.val, hb⟩ := Fin.ext hn
  blk_ext [iblk, idx6 t]

theorem blk7 (c : Dev nD) (t : Fin cfg0.N) (b : Fin 64) (l : Fin 2048) (n : Fin 6144) (hn : n.val = 64 * t.val + b.val) :
    (iblk m c 7 t : Vec Ideal S64x2048 .f32) (ix2 b l) = dIn m c (ix2 n l) := by
  rw [← show V m c main_arg4 = dIn m c from V_arg m c main_arg4 (by decide)]
  have hb : 64 * t.val + b.val < 6144 := hn ▸ n.isLt
  obtain rfl : n = ⟨64 * t.val + b.val, hb⟩ := Fin.ext hn
  blk_ext [iblk, idx7 t]

theorem wab_at (c : Dev nD) (t : Fin cfg0.N) (k : Fin 2048) (l : Fin 512) : (wab m c t (ix2 k l) : EReal) = (iblk m c 1 t : Vec Ideal S2048x512 .f32) (ix2 k l) := by
  unfold wab
  pointwise [k0_pay3]

theorem wvb_at (c : Dev nD) (t : Fin cfg0.N) (k : Fin 2048) (l : Fin 512) : (wvb m c t (ix2 k l) : EReal) = (iblk m c 2 t : Vec Ideal S2048x512 .f32) (ix2 k l) := by
  unfold wvb
  pointwise [k0_pay4]

/-- A point's products are the projection's, in either half of the channels. -/
theorem prod_a (c : Dev nD) (t : Fin cfg0.N) (r : Fin 1024) (l : Fin 512) (B : Fin 2) (s : Fin 4096) (n : Fin 12288)
    (hn : n.val = 512 * (t.val / 8) + l.val) (hs : 4096 * B.val + s.val = 1024 * (t.val % 8) + r.val) :
    k0_pay6 (iblk m c 0 t : Vec Ideal S1024x2048 .bf16) (wab m c t) (ix2 r l) = proj (hIn m c) (wIn m c) B s n := by
  rw [pay6_at]
  refine Finset.sum_congr rfl fun k _ => congrArg₂ (· * ·) ((blk0 m c t r k ⟨4096 * B.val + s.val, by omega⟩ hs).trans ?_) ((wab_at m c t k l).trans (blk1 m c t k l n hn))
  exact congrArg₂ (fun B s => hIn m c (ix3 B s k)) (Fin.ext (by dsimp only; omega)) (Fin.ext (by dsimp only; omega))

theorem prod_v (c : Dev nD) (t : Fin cfg0.N) (r : Fin 1024) (l : Fin 512) (B : Fin 2) (s : Fin 4096) (n : Fin 12288)
    (hn : n.val = 512 * (12 + t.val / 8) + l.val) (hs : 4096 * B.val + s.val = 1024 * (t.val % 8) + r.val) :
    k0_pay6 (iblk m c 0 t : Vec Ideal S1024x2048 .bf16) (wvb m c t) (ix2 r l) = proj (hIn m c) (wIn m c) B s n := by
  rw [pay6_at]
  refine Finset.sum_congr rfl fun k _ => congrArg₂ (· * ·) ((blk0 m c t r k ⟨4096 * B.val + s.val, by omega⟩ hs).trans ?_) ((wvb_at m c t k l).trans (blk2 m c t k l n hn))
  exact congrArg₂ (fun B s => hIn m c (ix3 B s k)) (Fin.ext (by dsimp only; omega)) (Fin.ext (by dsimp only; omega))

/-- What a point stores, at an index of its block. -/
theorem stored (c : Dev nD) (t : Fin cfg0.N) (b : Fin 1024) (l : Fin 512) (r : Fin 8192) (n : Fin 6144)
    (hr : r.val = 1024 * (t.val % 8) + b.val) (hn : n.val = 512 * (t.val / 8) + l.val) :
    (outAt m c t (ix2 b l) : EReal) = result (hIn m c) (wIn m c) (cwIn m c) (cbIn m c) (ix2 r n) := by
  have ht := point_lt t
  have hi := coord1 t
  unfold outAt outV
  refine (pay1_at _ _ b l).trans ?_
  unfold rows
  rw [carried_0, carried_1]
  have hB : t.val % 8 / 4 < 2 := by omega
  have ea := conv_mixed (grid0.coords t) (iblk m c 0 t) (wab m c t) (iblk m c 5 t) (iblk m c 3 t) (k0_pay8 (iblk m c 0 (prev t)) (wab m c (prev t)))
    (hIn m c) (wIn m c) (cwIn m c) (cbIn m c) ⟨t.val % 8 / 4, hB⟩ ⟨n.val, by omega⟩ l
    (fun r s hs => prod_a m c t r l _ s _ hn (by rw [hi] at hs; dsimp only; omega))
    (fun q s hs => by
      rw [hi] at hs
      have hp : (prev t).val = t.val - 1 := rfl
      exact (pay8_at _ _ q l).trans (prod_a m c (prev t) ⟨1016 + q.val, by omega⟩ l _ s _ (by dsimp only; omega) (by dsimp only; omega)))
    (blk5 m c t l _ hn) (fun k => blk3 m c t k l _ hn) b ⟨r.val % 4096, by omega⟩ (by rw [hi]; dsimp only; omega)
  have ev := conv_mixed (grid0.coords t) (iblk m c 0 t) (wvb m c t) (iblk m c 6 t) (iblk m c 4 t) (k0_pay8 (iblk m c 0 (prev t)) (wvb m c (prev t)))
    (hIn m c) (wIn m c) (cwIn m c) (cbIn m c) ⟨t.val % 8 / 4, hB⟩ ⟨6144 + n.val, by omega⟩ l
    (fun r s hs => prod_v m c t r l _ s _ (by dsimp only; omega) (by rw [hi] at hs; dsimp only; omega))
    (fun q s hs => by
      rw [hi] at hs
      have hp : (prev t).val = t.val - 1 := rfl
      exact (pay8_at _ _ q l).trans (prod_v m c (prev t) ⟨1016 + q.val, by omega⟩ l _ s _ (by dsimp only; omega) (by dsimp only; omega)))
    (blk6 m c t l _ (by dsimp only; omega)) (fun k => blk4 m c t k l _ (by dsimp only; omega)) b ⟨r.val % 4096, by omega⟩ (by rw [hi]; dsimp only; omega)
  refine (congrArg₂ gate ea ev).trans ?_
  have hq : (⟨t.val % 8 / 4, hB⟩ : Fin 2) = ⟨r.val / 4096, by omega⟩ := Fin.ext (by dsimp only; omega)
  rw [hq]
  rfl

theorem point_block (c : Dev nD) (t : Fin cfg0.N) (y : S1024x512.Idx) (r : Fin 8192) (n : Fin 6144)
    (hr : r.val = (t.val % 8) * 1024 + (y 0).val) (hn : n.val = (t.val / 8) * 512 + (y 1).val) :
    outAt m c t y = result (hIn m c) (wIn m c) (cwIn m c) (cbIn m c) (ix2 r n) := by
  obtain ⟨b, l, rfl⟩ : ∃ (b : Fin 1024) (l : Fin 512), y = ix2 b l := ⟨y 0, y 1, eq_ix2 y⟩
  exact stored m c t b l r n (hr.trans (by show t.val % 8 * 1024 + b.val = _; omega)) (hn.trans (by show t.val / 8 * 512 + l.val = _; omega))

/-- The kernel's activations. -/
theorem final8 (c : Dev nD) : (dats m 0 c).arrAt 8 cfg0.N = result (hIn m c) (wIn m c) (cwIn m c) (cbIn m c) := by
  refine (dats m 0 c).arrAt_eq_of_covers 8 _ (by decide +kernel) fun t hf y => ?_
  blk_simp
  refine Eq.trans (b := outAt m c t y) ?_ ((point_block m c t y (((cfg0.win 8).blk t).view.emb y 0) (((cfg0.win 8).blk t).view.emb y 1) ?_ ?_).trans ?_)
  · exact congrFun (after_8 m c t) y
  · blk_simp [idx8 t]
  · blk_simp [idx8 t]
  · exact congrArg (result (hIn m c) (wIn m c) (cwIn m c) (cbIn m c)) (eq_ix2 ((win0_8.blk t).view.emb y)).symm

/-- The weights down, rounded: over the reals, the weights. -/
def down (w : Vec Ideal S6144x2048 .f32) : Vec Ideal S6144x2048 .bf16 := truncf (F := Ideal) (φ := .f32) .bf16 w bitsLt_bf16_f32

theorem point_block9 (c : Dev nD) (t : Fin cfg0.N) (y : S64x2048.Idx) (r : Fin 6144) (n : Fin 2048)
    (hr : r.val = t.val * 64 + (y 0).val) (hn : n.val = (y 1).val) :
    k0_pay2 (iblk m c 7 t) y = down (dIn m c) (ix2 r n) := by
  obtain ⟨b, l, rfl⟩ : ∃ (b : Fin 64) (l : Fin 2048), y = ix2 b l := ⟨y 0, y 1, eq_ix2 y⟩
  obtain rfl : n = l := Fin.ext hn
  exact blk7 m c t b n r (hr.trans (by show t.val * 64 + b.val = _; omega))

theorem final9 (c : Dev nD) : (dats m 0 c).arrAt 9 cfg0.N = down (dIn m c) := by
  refine (dats m 0 c).arrAt_eq_of_covers 9 _ (by decide +kernel) fun t hf y => ?_
  blk_simp
  refine Eq.trans (b := k0_pay2 (iblk m c 7 t) y) ?_ ((point_block9 m c t y (((cfg0.win 9).blk t).view.emb y 0) (((cfg0.win 9).blk t).view.emb y 1) ?_ ?_).trans ?_)
  · exact congrFun (after_9 m c t) y
  · blk_simp [idx9 t]
  · blk_simp [idx9 t]
  · exact congrArg (down (dIn m c)) (eq_ix2 ((win0_9.blk t).view.emb y)).symm

/-- The kernel's run: both its results, and its arguments kept. -/
theorem run_value (ρ : Dev nD → PrngReg) : θ_run defs (onTc (τ := τ) (main (F := Ideal))) ⟨m, fun _ => 0, ρ⟩ (fun r => ∀ c : Dev nD,
      r.2.mem ((c : Thread nD τ).loc main_v3_0) = result (hIn m c) (wIn m c) (cwIn m c) (cbIn m c)
      ∧ r.2.mem ((c : Thread nD τ).loc main_v3_1) = down (dIn m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨((h c).1 8).trans (final8 m c), ((h c).1 9).trans (final9 m c),
      ((h c).2 main_arg0 (Pipeline.mem_restRefs_of main_arg0 (by decide) arr_ne0)).trans (V_arg m c main_arg0 (by decide)),
      ((h c).1 1).trans (((dats m 0 c).arrAt_in 1 rfl _).trans ((A_eq m c 1).trans (V_arg m c main_arg1 (by decide)))),
      ((h c).1 3).trans (((dats m 0 c).arrAt_in 3 rfl _).trans ((A_eq m c 3).trans (V_arg m c main_arg2 (by decide)))),
      ((h c).2 main_arg3 (Pipeline.mem_restRefs_of main_arg3 (by decide) arr_ne3)).trans (V_arg m c main_arg3 (by decide)),
      ((h c).1 7).trans (((dats m 0 c).arrAt_in 7 rfl _).trans ((A_eq m c 7).trans (V_arg m c main_arg4 (by decide))))⟩) (run_main m ρ)

end Cert.Proof.Up

namespace Cert.Proof

open Idealize.ShloMosaic Idealize.SL.Sem

/-- The idealized up-projection: every run ends, arguments unchanged, semaphores at zero. -/
theorem frame_pi2 : Cert.quiescent_Kernel2Ideal := fun m ρ _ => Up.frame (F := Ideal) m ρ

/-- Its reference: the same. -/
theorem frame_ri2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- Kernel and reference end with the same activations and the same rounded weights, from any arguments. -/
theorem algebraic2 : Cert.algebraic_Kernel2Ideal_Reference2Ideal := fun m g m' g' _ hm =>
  ⟨fun c => Up.result (Up.hIn m c) (Up.wIn m c) (Up.cwIn m c) (Up.cbIn m c), fun c => Up.down (Up.dIn m c),
    Up.run_value m g,
    (θ_run Cert.Reference2Ideal.defs _ _).mono (fun r h c => ⟨(h c).1.trans ((Up.res_eq m' c).trans (by
      rw [(hm c).1, (hm c).2.1, (hm c).2.2.1, (hm c).2.2.2.1])), (h c).2.1.trans (by rw [(hm c).2.2.2.2]; rfl), (h c).2.2⟩) (Cert.Reference2Ideal.Value.run (F := Ideal) m' g')⟩

end Cert.Proof

end
-- ==== Proof.Rows.Values.lean ====
/- The value columns of the input projection: what the kernel of `in_proj_values` leaves, and that it is the reference's result. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Adequacy
public import Idealize.ShloMosaic.Lib.Claim
public import Idealize.ShloMosaic.Lib.Pipeline.ReadBack
public import Idealize.ShloMosaic.Lib.Pipeline.ValueKit
public import Idealize.ShloMosaic.Lib.StableHlo.ReadAt
public import Idealize.ShloMosaic.Lib.WholeRead
public import Idealize.ShloMosaic.Lib.Pointwise

@[expose] public section
set_option maxRecDepth 16384
noncomputable section
namespace Cert.Proof.Values

open Cert.Kernel6Ideal Cert.Kernel6Ideal.Gen
open Idealize.ShloMosaic Idealize.ShloMosaic.TcCoe
open Idealize.SL.Sem
open Idealize.ShloMosaic.Pipeline (Dat Cfg Window)

/-- The first value column, among the input weights, of the branch `g`. -/
def start (g : ℕ) : ℕ := if g = 0 then 2048 else 5120

theorem start_le (g : ℕ) : start g + 1024 ≤ 11344 := by unfold start; split_ifs <;> omega

theorem hz : (![0, 0] : Fin 2 → ℕ) = fun _ => 0 := by funext a; fin_cases a <;> rfl

/-- Column `a` of the group's weights against row `r` of the block of rows. -/
def product (w : Vec Ideal S1024x2048 .bf16) (x : Vec Ideal S2048x2048 .bf16) (a : Fin 1024) (r : Fin 2048) : EReal :=
  ∑ k : Fin 2048, w (ix2 a k) * x (ix2 r k)

/-- The products of a grid point, in eight tiles of 256 rows. -/
def tiles (w : Vec Ideal S1024x2048 .bf16) (x : Vec Ideal S2048x2048 .bf16) : Vec Ideal S1x8x1024x256 .bf16 := fun y =>
  product w x (y 2) ⟨256 * (y 1).val + (y 3).val, by have := (y 1).isLt; have := (y 3).isLt; simp at *; omega⟩

/-- One tile. -/
theorem tile (w : Vec Ideal S1024x2048 .bf16) (x : Vec Ideal S2048x2048 .bf16) (j : ℕ) (hj : j < 8) (h : ∀ a, (![0, j, 0, 0] : Fin 4 → ℕ) a + S1x1x1024x256.size a ≤ S1x8x1024x256.size a)
    (p : Vec Ideal S1x1x1024x256 .bf16) (hp : ∀ (a : Fin 1024) (q : Fin 256), p (ix4 0 0 a q) = product w x a ⟨256 * j + q.val, by omega⟩)
    (z : S1x1x1024x256.Idx) : p z = tiles w x ((Rect.unit (s := S1x8x1024x256) ![0, j, 0, 0] S1x1x1024x256.size h).emb z) := by
  obtain ⟨a, q, rfl⟩ : ∃ (a : Fin 1024) (q : Fin 256), z = ix4 0 0 a q := ⟨z 2, z 3, (eq_ix4 z).trans (congrArg₂ (ix4 · · (z 2) (z 3)) (Subsingleton.elim (α := Fin 1) _ _) (Subsingleton.elim (α := Fin 1) _ _))⟩
  refine (hp a q).trans (congrArg₂ (product w x) (Fin.ext ?_) (Fin.ext ?_))
  · show a.val = 0 + 1 * a.val
    omega
  · show 256 * j + q.val = 256 * (j + 1 * 0) + (0 + 1 * q.val)
    omega

/-- The eight stores of a grid point. -/
def pieces (w : Vec Ideal S1024x2048 .bf16) (x : Vec Ideal S2048x2048 .bf16) : List (View.Piece (Elt Ideal) S1x8x1024x256 .bf16) :=
  [⟨Rect.unit ![0, 7, 0, 0] S1x1x1024x256.size inb_S1x8x1024x256_S1x1x1024x256_0_7_0_0, k0_pay4 (k0_pay6 w x)⟩,
   ⟨Rect.unit ![0, 6, 0, 0] S1x1x1024x256.size inb_S1x8x1024x256_S1x1x1024x256_0_6_0_0, k0_pay3 (k0_pay6 w x)⟩,
   ⟨Rect.unit ![0, 5, 0, 0] S1x1x1024x256.size inb_S1x8x1024x256_S1x1x1024x256_0_5_0_0, k0_pay2 (k0_pay6 w x)⟩,
   ⟨Rect.unit ![0, 4, 0, 0] S1x1x1024x256.size inb_S1x8x1024x256_S1x1x1024x256_0_4_0_0, k0_pay1 (k0_pay11 w x)⟩,
   ⟨Rect.unit ![0, 3, 0, 0] S1x1x1024x256.size inb_S1x8x1024x256_S1x1x1024x256_0_3_0_0, k0_pay10 w x⟩,
   ⟨Rect.unit ![0, 2, 0, 0] S1x1x1024x256.size inb_S1x8x1024x256_S1x1x1024x256_0_2_0_0, k0_pay9 w x⟩,
   ⟨Rect.unit ![0, 1, 0, 0] S1x1x1024x256.size inb_S1x8x1024x256_S1x1x1024x256_0_1_0_0, k0_pay8 w x⟩,
   ⟨Rect.unit ![0, 0, 0, 0] S1x1x1024x256.size inb_S1x8x1024x256_S1x1x1024x256_0_0_0_0, k0_pay7 w x⟩]

/-- Together they are the eight tiles. -/
theorem canon_pieces (w : Vec Ideal S1024x2048 .bf16) (x : Vec Ideal S2048x2048 .bf16) : View.canon (pieces w x) = tiles w x := by
  refine funext fun y => View.canon_append_of_piecesOf (tiles w x) [] (pieces w x) ⟨?_, ?_, ?_, ?_, ?_, ?_, ?_, ?_, trivial⟩ y
    (View.cover_of_tiledL (pieces w x) S1x1x1024x256.size (by sl_kernel_rfl) y)
  · exact tile w x 7 (by omega) inb_S1x8x1024x256_S1x1x1024x256_0_7_0_0 _ fun a q => by unfold product; pointwise [k0_pay4, k0_pay6]
  · exact tile w x 6 (by omega) inb_S1x8x1024x256_S1x1x1024x256_0_6_0_0 _ fun a q => by unfold product; pointwise [k0_pay3, k0_pay6]
  · exact tile w x 5 (by omega) inb_S1x8x1024x256_S1x1x1024x256_0_5_0_0 _ fun a q => by unfold product; pointwise [k0_pay2, k0_pay6]
  · exact tile w x 4 (by omega) inb_S1x8x1024x256_S1x1x1024x256_0_4_0_0 _ fun a q => by unfold product; pointwise [k0_pay1, k0_pay11, k0_pay6]
  · exact tile w x 3 (by omega) inb_S1x8x1024x256_S1x1x1024x256_0_3_0_0 _ fun a q => by unfold product; pointwise [k0_pay10, k0_pay6]
  · exact tile w x 2 (by omega) inb_S1x8x1024x256_S1x1x1024x256_0_2_0_0 _ fun a q => by unfold product; pointwise [k0_pay9, k0_pay6]
  · exact tile w x 1 (by omega) inb_S1x8x1024x256_S1x1x1024x256_0_1_0_0 _ fun a q => by unfold product; pointwise [k0_pay8, k0_pay6]
  · exact tile w x 0 (by omega) inb_S1x8x1024x256_S1x1x1024x256_0_0_0_0 _ fun a q => by unfold product; pointwise [k0_pay7, k0_pay6]

section Point
variable (c : Dev nD) (i : grid0.Coords) (arg2 : Memref sig .tc .vmem S1024x2048 .f32) (harg2 : arg2.IsWhole) (arg3 : Memref sig .tc .vmem S2048x2048 .bf16) (harg3 : arg3.IsWhole)
  (arg4 : Memref sig .tc .vmem S1x8x1024x256 .bf16) (harg4 : arg4.IsWhole) (arg5 : Memref sig .tc .vmem S1024x2048 .bf16) (harg5 : arg5.IsWhole) (x0 : Vec Ideal S1024x2048 .f32) (x1 : Vec Ideal S2048x2048 .bf16)

/-- The first grid point of a branch rounds its weights once. -/
theorem scratch_A (hc0 : cond0_0 i) : sout0_A_0 c i arg2 harg2 arg3 harg3 arg4 harg4 arg5 harg5 hc0 x0 x1 = k0_pay5 x0 := by
  unfold sout0_A_0
  rw [View.read_writes_junk_eq_canon]
  unfold kernelRun0_A
  dsimp only
  sl_unfold_words
  rw [View.canon_unit_zero hz]
  simp only [View.readAt_eq_ld, harg2.read_unread, View.ld_unit_zero (S := S1024x2048) hz]

/-- … and multiplies its block of rows by them. -/
theorem out_A (hc0 : cond0_0 i) : out0_A_2 c i arg2 harg2 arg3 harg3 arg4 harg4 arg5 harg5 hc0 x0 x1 = tiles (k0_pay5 x0) x1 := by
  unfold out0_A_2
  rw [View.read_writes_junk_eq_canon]
  unfold kernelRun0_A
  dsimp only
  sl_unfold_words
  simp only [View.readCov_unit_zero (S := S1024x2048) _ hz, View.readAt_eq_ld, harg2.read_unread, harg3.read_unread,
    View.ld_unit_zero (S := S2048x2048) hz, View.ld_unit_zero (S := S1024x2048) hz]
  exact canon_pieces (k0_pay5 x0) x1

/-- The later points of the branch use the rounded weights the first one left. -/
theorem out_B (hc0 : ¬cond0_0 i) (xs : Vec Ideal S1024x2048 .bf16) : out0_B_2 c i arg2 harg2 arg3 harg3 arg4 harg4 arg5 harg5 hc0 x0 x1 xs = tiles xs x1 := by
  unfold out0_B_2
  rw [View.read_writes_junk_eq_canon]
  unfold kernelRun0_B
  dsimp only
  sl_unfold_words
  simp only [View.readAt_eq_ld, harg3.read_unread, harg5.read_unread,
    View.ld_unit_zero (S := S2048x2048) hz, View.ld_unit_zero (S := S1024x2048) hz]
  exact canon_pieces xs x1

end Point

theorem pay5_at (x : Vec Ideal S1024x2048 .f32) (a : Fin 1024) (k : Fin 2048) : k0_pay5 x (ix2 a k) = x (ix2 a k) := by
  pointwise [k0_pay5]

variable (m : (ℓ : Loc nD τ sig) → Buf (Elt Ideal) ℓ)

/-- The normalised rows, as the program finds them. -/
abbrev hIn (c : Dev nD) : Vec Ideal S2x4096x2048 .f32 := m ((c : Thread nD τ).loc main_arg0)
/-- The input weights. -/
abbrev wIn (c : Dev nD) : Vec Ideal S2048x11344 .f32 := m ((c : Thread nD τ).loc main_arg1)

theorem v1_at (c : Dev nD) (r : Fin 8192) (k : Fin 2048) :
    (V m c main_v1 : Vec Ideal S8192x2048 .bf16) (ix2 r k) = hIn m c (ix3 ⟨r.val / 4096, by omega⟩ ⟨r.val % 4096, by omega⟩ k) := by
  unfold_abbrev_sides
  after_reads_at

theorem v2_at (c : Dev nD) (j : Fin 11344) (k : Fin 2048) :
    (V m c main_v2 : Vec Ideal S11344x2048 .f32) (ix2 j k) = wIn m c (ix2 k j) := by
  unfold_abbrev_sides
  after_reads_at

theorem idx0 : ∀ t : Fin grid0.N, win0_0.index t = ![start (t.val / 4), 0] := by decide +kernel
theorem idx1 : ∀ t : Fin grid0.N, win0_1.index t = ![t.val % 4, 0] := by decide +kernel
theorem idx2 : ∀ t : Fin grid0.N, win0_2.index t = ![t.val / 4, t.val % 4, 0, 0] := by decide +kernel

theorem blk0 (c : Dev nD) (t : Fin cfg0.N) (a : Fin 1024) (k : Fin 2048) :
    (iblk m c 0 t : Vec Ideal S1024x2048 .f32) (ix2 a k)
      = wIn m c (ix2 k ⟨start (t.val / 4) + a.val, by have := start_le (t.val / 4); omega⟩) := by
  rw [← v2_at m c]
  blk_ext [iblk, idx0 t]
  · show win0_0.index t 0 + 1 * a.val = _
    rw [idx0 t]
    simp
  · show win0_0.index t 1 + 1 * k.val = k.val
    rw [idx0 t]
    simp

theorem blk1 (c : Dev nD) (t : Fin cfg0.N) (b : Fin 2048) (k : Fin 2048) :
    (iblk m c 1 t : Vec Ideal S2048x2048 .bf16) (ix2 b k)
      = (V m c main_v1 : Vec Ideal S8192x2048 .bf16) (ix2 ⟨2048 * (t.val % 4) + b.val, by omega⟩ k) := by
  blk_ext [iblk, idx1 t]

/-- What a branch's points keep: after any of them, the scratch holds the branch's weights. -/
theorem scratch_at (c : Dev nD) : ∀ (n : ℕ) (hn : n < cfg0.N) (a : Fin 1024) (k : Fin 2048),
    (outsAt0 m c n hn).2 (ix2 a k) = wIn m c (ix2 k ⟨start (n / 4) + a.val, by have := start_le (n / 4); omega⟩)
  | 0, hn, a, k => by
    rw [outsAt0_A m c ⟨0, hn⟩ rfl]
    dsimp only
    rw [scratch_A, pay5_at, blk0]
  | n + 1, hn, a, k => by
    by_cases h0 : (n + 1) % 4 = 0
    · rw [outsAt0_A m c ⟨n + 1, hn⟩ h0]
      dsimp only
      rw [scratch_A, pay5_at, blk0]
    · rw [outsAt0_B m c ⟨n + 1, hn⟩ h0]
      refine Eq.trans (b := (outsAt0 m c n (Nat.lt_of_succ_lt hn)).2 (ix2 a k)) rfl ((scratch_at c n _ a k).trans ?_)
      refine congrArg (fun j : Fin 11344 => wIn m c (ix2 k j)) (Fin.ext ?_)
      show start (n / 4) + a.val = start ((n + 1) / 4) + a.val
      rw [show (n + 1) / 4 = n / 4 by omega]

/-- Value `a` of branch `g` of row `r` of the two sequences. -/
def value (h : Vec Ideal S2x4096x2048 .f32) (w : Vec Ideal S2048x11344 .f32) (g : ℕ) (a : Fin 1024) (r : Fin 8192) : EReal :=
  ∑ k : Fin 2048, w (ix2 k ⟨start g + a.val, by have := start_le g; omega⟩) * h (ix3 ⟨r.val / 4096, by omega⟩ ⟨r.val % 4096, by omega⟩ k)

/-- The values of both branches, in tiles of 256 rows. -/
def values (h : Vec Ideal S2x4096x2048 .f32) (w : Vec Ideal S2048x11344 .f32) : Vec Ideal S2x32x1024x256 .bf16 := fun y =>
  value h w (y 0).val (y 2) ⟨256 * (y 1).val + (y 3).val, by have := (y 1).isLt; have := (y 3).isLt; simp at *; omega⟩

/-- What a grid point leaves in its block. -/
theorem out_at (c : Dev nD) (t : Fin cfg0.N) (y : S1x8x1024x256.Idx) (r : Fin 8192) (hr : r.val = 2048 * (t.val % 4) + (256 * (y 1).val + (y 3).val)) :
    (outsAt0 m c t.val t.isLt).1 y = value (hIn m c) (wIn m c) (t.val / 4) (y 2) r := by
  have hx : ∀ (b : Fin 2048) (k : Fin 2048), r.val = 2048 * (t.val % 4) + b.val →
      (iblk m c 1 t : Vec Ideal S2048x2048 .bf16) (ix2 b k) = hIn m c (ix3 ⟨r.val / 4096, by omega⟩ ⟨r.val % 4096, by omega⟩ k) := fun b k hb => by
    rw [blk1, ← v1_at m c r k]
    exact congrArg (fun q : Fin 8192 => (V m c main_v1 : Vec Ideal S8192x2048 .bf16) (ix2 q k)) (Fin.ext hb.symm)
  by_cases h0 : t.val % 4 = 0
  · rw [outsAt0_A m c t h0]
    dsimp only
    rw [out_A]
    unfold tiles product value
    exact Finset.sum_congr rfl fun k _ => congrArg₂ (· * ·) ((pay5_at _ (y 2) k).trans (blk0 m c t (y 2) k)) (hx ⟨256 * (y 1).val + (y 3).val, by have := (y 1).isLt; have := (y 3).isLt; simp at *; omega⟩ k hr)
  · rw [outsAt0_B m c t h0]
    dsimp only
    rw [out_B]
    unfold tiles product value
    refine Finset.sum_congr rfl fun k _ => congrArg₂ (· * ·) ((scratch_at m c (t.val - 1) _ (y 2) k).trans ?_) (hx ⟨256 * (y 1).val + (y 3).val, by have := (y 1).isLt; have := (y 3).isLt; simp at *; omega⟩ k hr)
    refine congrArg (fun j : Fin 11344 => wIn m c (ix2 k j)) (Fin.ext ?_)
    show start ((t.val - 1) / 4) + (y 2).val = start (t.val / 4) + (y 2).val
    rw [show (t.val - 1) / 4 = t.val / 4 by omega]

/-- What a grid point leaves, at the place of the result it goes to. -/
theorem point_block (c : Dev nD) (t : Fin cfg0.N) (y : S1x8x1024x256.Idx) (g : Fin 2) (T : Fin 32) (a : Fin 1024) (q : Fin 256)
    (hg : g.val = t.val / 4) (hT : T.val = t.val % 4 * 8 + (y 1).val) (ha : a.val = (y 2).val) (hq : q.val = (y 3).val) :
    (outsAt0 m c t.val t.isLt).1 y = values (hIn m c) (wIn m c) (ix4 g T a q) := by
  rw [out_at m c t y ⟨256 * T.val + q.val, by omega⟩ (by dsimp only; omega), ← hg, show y 2 = a from Fin.ext ha.symm]
  rfl

/-- The kernel's result. -/
theorem final (c : Dev nD) : (dats m 0 c).arrAt 2 cfg0.N = values (hIn m c) (wIn m c) := by
  refine (dats m 0 c).arrAt_eq_of_covers 2 _ (by decide +kernel) fun t hf y => ?_
  blk_simp
  refine Eq.trans (b := (outsAt0 m c t.val t.isLt).1 y) ?_ ((point_block m c t y (((cfg0.win 2).blk t).view.emb y 0) (((cfg0.win 2).blk t).view.emb y 1)
    (((cfg0.win 2).blk t).view.emb y 2) (((cfg0.win 2).blk t).view.emb y 3) ?_ ?_ ?_ ?_).trans ?_)
  · exact congrFun (after0_2 m c t) y
  · blk_simp [idx2 t]
  · blk_simp [idx2 t]
  · blk_simp [idx2 t]
  · blk_simp [idx2 t]
  · exact congrArg (values (hIn m c) (wIn m c)) (eq_ix4 ((win0_2.blk t).view.emb y)).symm

/-! ## The reference -/

/-- The reference's sum for a value is the kernel's. -/
theorem value_comm (x : Vec Ideal S2x4096x2048 .f32) (w : Vec Ideal S2048x11344 .f32) (g : ℕ) (a : Fin 1024) (r : Fin 8192) (j : Fin 11344) (i : Fin 2) (s : Fin 4096)
    (hj : j.val = start g + a.val) (hi : i.val = r.val / 4096) (hs : s.val = r.val % 4096) :
    ∑ k : Fin 2048, x (ix3 i s k) * w (ix2 k j) = value x w g a r := by
  rw [show j = ⟨start g + a.val, by have := start_le g; omega⟩ from Fin.ext hj, show i = ⟨r.val / 4096, by omega⟩ from Fin.ext hi,
    show s = ⟨r.val % 4096, by omega⟩ from Fin.ext hs]
  exact Finset.sum_congr rfl fun k _ => mul_comm _ _

/-- The reference's result is the values. -/
theorem ref_value (m : (ℓ : Loc Cert.Reference6Ideal.nD Cert.Reference6Ideal.τ Cert.Reference6Ideal.sig) → Buf (Elt Ideal) ℓ) (ρ : Dev Cert.Reference6Ideal.nD → PrngReg) :
    θ_run Cert.Reference6Ideal.defs (onTc (τ := Cert.Reference6Ideal.τ) (Cert.Reference6Ideal.main (F := Ideal))) ⟨m, fun _ => 0, ρ⟩ (fun r => ∀ c : Dev Cert.Reference6Ideal.nD,
      r.2.mem ((c.tc : Thread Cert.Reference6Ideal.nD Cert.Reference6Ideal.τ).loc Cert.Reference6Ideal.main_v11)
          = values (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))
      ∧ r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)) := by
  refine (θ_run Cert.Reference6Ideal.defs _ _).mono (fun r h c => ⟨(h c).1.trans ?_, (h c).2⟩) (Cert.Reference6Ideal.Value.run (F := Ideal) m ρ)
  generalize m ((c.tc : Thread Cert.Reference6Ideal.nD Cert.Reference6Ideal.τ).loc Cert.Reference6Ideal.main_arg0) = x
  generalize m ((c.tc : Thread Cert.Reference6Ideal.nD Cert.Reference6Ideal.τ).loc Cert.Reference6Ideal.main_arg1) = w
  refine funext fun y => ?_
  obtain ⟨g, T, a, q, rfl⟩ : ∃ (g : Fin 2) (T : Fin 32) (a : Fin 1024) (q : Fin 256), y = ix4 g T a q := ⟨y 0, y 1, y 2, y 3, eq_ix4 y⟩
  refine Eq.trans ?_ (show value x w g.val a ⟨256 * T.val + q.val, by omega⟩ = _ from rfl)
  pointwise []
  have hg := g.isLt
  by_cases h : g.val < 1
  · rw [dif_pos h]
    exact value_comm x w g.val a _ _ _ _ (by rw [start, if_pos (by omega)]) (by dsimp only; omega) (by dsimp only; omega)
  · rw [dif_neg h]
    exact value_comm x w g.val a _ _ _ _ (by rw [start, if_neg (by omega)]) (by dsimp only; omega) (by dsimp only; omega)

end Cert.Proof.Values

namespace Cert.Proof

open Idealize.ShloMosaic Idealize.SL.Sem

/-- The value projection as compiled: every run ends, arguments unchanged, semaphores at zero. -/
theorem frame_p6 : Cert.quiescent_Kernel6 := fun m ρ _ => Cert.Kernel6.Gen.frame m ρ

/-- The idealized one: the same. -/
theorem frame_pi6 : Cert.quiescent_Kernel6Ideal := fun m ρ _ => Cert.Kernel6Ideal.Gen.frame m ρ

/-- Its reference: the same. -/
theorem frame_ri6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Kernel and reference end with the same values, from any arguments. -/
theorem algebraic6 : Cert.algebraic_Kernel6Ideal_Reference6Ideal := fun m g m' g' _ hm =>
  ⟨fun c => Values.values (Values.hIn m c) (Values.wIn m c),
    (θ_run Cert.Kernel6Ideal.defs _ _).mono (fun r h c => ⟨(h c).1.trans (Values.final m c), (h c).2⟩) (Cert.Kernel6Ideal.Value.run_blocks (F := Ideal) m g),
    (θ_run Cert.Reference6Ideal.defs _ _).mono (fun r h c => ⟨(h c).1.trans (congrArg₂ Values.values (hm c).1 (hm c).2), (h c).2⟩) (Values.ref_value m' g')⟩

end Cert.Proof

end
-- ==== Proof.lean ====
/- The proof of the certificate's claim: the claims of Proof/Claims.lean, Proof/Value/Algebraic.lean and Proof/Rows, behind the
witnesses of the programs' stated facts. -/
module

public import proofs.«01_k».proof.Defs
public import proofs.«01_k».proof.Proof.Claims
public import proofs.«01_k».proof.Proof.Value.Algebraic
public import proofs.«01_k».proof.Proof.Rows.Down
public import proofs.«01_k».proof.Proof.Rows.InProj
public import proofs.«01_k».proof.Proof.Rows.Merge.Value
public import proofs.«01_k».proof.Proof.Rows.Up.Value
public import proofs.«01_k».proof.Proof.Rows.UpK.Frame
public import proofs.«01_k».proof.Proof.Rows.Values
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Launch
public import proofs.«01_k».proof.Proof.Gen.Kernel2.Skeleton
public import proofs.«01_k».proof.Proof.Gen.Kernel2.Points
public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    facts_finite, facts_finite_merge, frame_p, frame_pi,
    fun m g _ => frame_pi m g trivial, frame_ri, fun m g _ => frame_ri m g trivial, frame_p2, frame_pi2, frame_ri2, frame_p3, frame_pi3, frame_ri3, frame_p4, frame_pi4, frame_ri4,
    frame_p5, frame_pi5, fun m g _ => frame_pi5 m g trivial, frame_ri5, fun m g _ => frame_ri5 m g trivial, frame_p6, frame_pi6, frame_ri6,
    preserves, algebraic, trivial, algebraic2, trivial, algebraic3, trivial, algebraic4, trivial, algebraic5, trivial, algebraic6⟩

end Cert.Proof

end
